-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_gate [hPre_finite_gate : Cert.Pre_finite_gate.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_gate.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_gate [hPre_finite_gate : Cert.Pre_finite_gate.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_gate.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_projection [hPre_finite_projection : Cert.Pre_finite_projection.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_projection.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_projection [hPre_finite_projection : Cert.Pre_finite_projection.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_projection.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_even_projection [hPre_finite_even_projection : Cert.Pre_finite_even_projection.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_even_projection.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_even_projection [hPre_finite_even_projection : Cert.Pre_finite_even_projection.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_even_projection.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite_gate [hKernel2Ideal : Cert.Kernel2Ideal.Facts] [hPre_finite_gate : Cert.Pre_finite_gate.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_gate m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite_gate [hReference2Ideal : Cert.Reference2Ideal.Facts] [hPre_finite_gate : Cert.Pre_finite_gate.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_gate m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Kernel4Ideal_pre_finite_projection [hKernel4Ideal : Cert.Kernel4Ideal.Facts] [hPre_finite_projection : Cert.Pre_finite_projection.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_projection m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Reference4Ideal_pre_finite_projection [hReference4Ideal : Cert.Reference4Ideal.Facts] [hPre_finite_projection : Cert.Pre_finite_projection.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_projection m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Kernel8Ideal_pre_finite_even_projection [hKernel8Ideal : Cert.Kernel8Ideal.Facts] [hPre_finite_even_projection : Cert.Pre_finite_even_projection.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_even_projection m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Reference8Ideal_pre_finite_even_projection [hReference8Ideal : Cert.Reference8Ideal.Facts] [hPre_finite_even_projection : Cert.Pre_finite_even_projection.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_even_projection m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "fq_scale" .f32 0x3E0293EE#32 (((Real.log 2)⁻¹ * (11863283 / 134217728) : ℝ) : EReal)
  ∧ IdealRules.named_const.Statement Cert.KernelIdeal.κ "mask" .f32 0xF149F2CA#32 ⊥

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite_gate [hKernel2Ideal : Cert.Kernel2Ideal.Facts] [hReference2Ideal : Cert.Reference2Ideal.Facts] [hPre_finite_gate : Cert.Pre_finite_gate.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_gate m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v10) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal_pre_finite_projection [hKernel4Ideal : Cert.Kernel4Ideal.Facts] [hReference4Ideal : Cert.Reference4Ideal.Facts] [hPre_finite_projection : Cert.Pre_finite_projection.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_projection m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v13) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal_pre_finite_even_projection [hKernel8Ideal : Cert.Kernel8Ideal.Facts] [hReference8Ideal : Cert.Reference8Ideal.Facts] [hPre_finite_even_projection : Cert.Pre_finite_even_projection.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_even_projection m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v18)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v18) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v76) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)) →
    ∃ (v0 : (c : Dev Cert.Kernel9Ideal.nD) → Buf (Elt Ideal) ((c.tc : Thread Cert.Kernel9Ideal.nD Cert.Kernel9Ideal.τ).loc Cert.Kernel9Ideal.main_v10_0)) (v1 : (c : Dev Cert.Kernel9Ideal.nD) → Buf (Elt Ideal) ((c.tc : Thread Cert.Kernel9Ideal.nD Cert.Kernel9Ideal.τ).loc Cert.Kernel9Ideal.main_v10_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v10_0) = v0 c
          ∧ r.2.mem ((c.tc : Thread Cert.Kernel9Ideal.nD Cert.Kernel9Ideal.τ).loc Cert.Kernel9Ideal.main_v10_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v53) = v0 c
          ∧ r.2.mem ((c.tc : Thread Cert.Reference9Ideal.nD Cert.Reference9Ideal.τ).loc Cert.Reference9Ideal.main_v55) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v9) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v8)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v8) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v9) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite_logits : Cert.Pre_finite_logits.Facts) (hPre_finite_gate : Cert.Pre_finite_gate.Facts) (hPre_finite_projection : Cert.Pre_finite_projection.Facts) (hPre_finite_even_projection : Cert.Pre_finite_even_projection.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ quiescent_Kernel2 (hKernel2 := hKernel2)
    ∧ quiescent_Kernel2Ideal (hKernel2Ideal := hKernel2Ideal)
    ∧ quiescent_Kernel2Ideal_pre_finite_gate (hKernel2Ideal := hKernel2Ideal) (hPre_finite_gate := hPre_finite_gate)
    ∧ quiescent_Reference2Ideal (hReference2Ideal := hReference2Ideal)
    ∧ quiescent_Reference2Ideal_pre_finite_gate (hReference2Ideal := hReference2Ideal) (hPre_finite_gate := hPre_finite_gate)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_projection (hKernel4Ideal := hKernel4Ideal) (hPre_finite_projection := hPre_finite_projection)
    ∧ quiescent_Reference4Ideal (hReference4Ideal := hReference4Ideal)
    ∧ quiescent_Reference4Ideal_pre_finite_projection (hReference4Ideal := hReference4Ideal) (hPre_finite_projection := hPre_finite_projection)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite_even_projection (hKernel8Ideal := hKernel8Ideal) (hPre_finite_even_projection := hPre_finite_even_projection)
    ∧ quiescent_Reference8Ideal (hReference8Ideal := hReference8Ideal)
    ∧ quiescent_Reference8Ideal_pre_finite_even_projection (hReference8Ideal := hReference8Ideal) (hPre_finite_even_projection := hPre_finite_even_projection)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal_pre_finite_logits (hKernelIdeal := hKernelIdeal) (hReferenceIdeal := hReferenceIdeal) (hPre_finite_logits := hPre_finite_logits)
    ∧ preserves_Kernel2_Kernel2Ideal
    ∧ algebraic_Kernel2Ideal_Reference2Ideal_pre_finite_gate (hKernel2Ideal := hKernel2Ideal) (hReference2Ideal := hReference2Ideal) (hPre_finite_gate := hPre_finite_gate)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_projection (hKernel4Ideal := hKernel4Ideal) (hReference4Ideal := hReference4Ideal) (hPre_finite_projection := hPre_finite_projection)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite_even_projection (hKernel8Ideal := hKernel8Ideal) (hReference8Ideal := hReference8Ideal) (hPre_finite_even_projection := hPre_finite_even_projection)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_finite_even_projection.lean ====
abbrev S1x16384x4096 : Shape := ⟨3, ![1, 16384, 4096]⟩
abbrev S1x4096x14352 : Shape := ⟨3, ![1, 4096, 14352]⟩
abbrev S_ : Shape := ⟨0, ![]⟩

class Facts : Prop where
  bcast_S_S1x16384x4096 : S_.BroadcastsInDim S1x16384x4096 (![] : Fin 0 → Fin S1x16384x4096.rank)
  reducesTo_S1x16384x4096_S_d0_1_2 : S1x16384x4096.ReducesTo [0, 1, 2] S_
  h_S_ : 0 < S_.numel
  bcast_S_S1x4096x14352 : S_.BroadcastsInDim S1x4096x14352 (![] : Fin 0 → Fin S1x4096x14352.rank)
  reducesTo_S1x4096x14352_S_d0_1_2 : S1x4096x14352.ReducesTo [0, 1, 2] S_

variable [Facts]

def fn {F : FTy → Type} [FloatOps F] (main_arg0 : FVec F S1x16384x4096 .f32) (main_arg1 : FVec F S1x4096x14352 .f32) : IVec S_ 1 :=
  let main_v0 : FVec F S1x16384x4096 .f32 := Host.absf main_arg0
  let main_cst : FVec F S_ .f32 := constant S_ .f32 0x7F800000#32
  let main_v1 : FVec F S1x16384x4096 .f32 := broadcastInDim S1x16384x4096 ![] bcast_S_S1x16384x4096 main_cst
  let main_v2 : IVec S1x16384x4096 1 := cmpf .olt main_v0 main_v1
  let main_c : IVec S_ 1 := constantI S_ 1 1#1
  let main_v3 : IVec S_ 1 := (fun x v => Host.reduce IntOp.andi x v reducesTo_S1x16384x4096_S_d0_1_2 h_S_) main_v2 main_c
  let main_v4 : FVec F S1x4096x14352 .f32 := Host.absf main_arg1
  let main_cst_0 : FVec F S_ .f32 := constant S_ .f32 0x7F800000#32
  let main_v5 : FVec F S1x4096x14352 .f32 := broadcastInDim S1x4096x14352 ![] bcast_S_S1x4096x14352 main_cst_0
  let main_v6 : IVec S1x4096x14352 1 := cmpf .olt main_v4 main_v5
  let main_c_1 : IVec S_ 1 := constantI S_ 1 1#1
  let main_v7 : IVec S_ 1 := (fun x v => Host.reduce IntOp.andi x v reducesTo_S1x4096x14352_S_d0_1_2 h_S_) main_v6 main_c_1
  let main_v8 : IVec S_ 1 := andi main_v3 main_v7
  main_v8
-- ==== Pre_finite_gate.lean ====
abbrev S1x16384x4096 : Shape := ⟨3, ![1, 16384, 4096]⟩
abbrev S2x4096x11008 : Shape := ⟨3, ![2, 4096, 11008]⟩
abbrev S_ : Shape := ⟨0, ![]⟩

class Facts : Prop where
  bcast_S_S1x16384x4096 : S_.BroadcastsInDim S1x16384x4096 (![] : Fin 0 → Fin S1x16384x4096.rank)
  reducesTo_S1x16384x4096_S_d0_1_2 : S1x16384x4096.ReducesTo [0, 1, 2] S_
  h_S_ : 0 < S_.numel
  bcast_S_S2x4096x11008 : S_.BroadcastsInDim S2x4096x11008 (![] : Fin 0 → Fin S2x4096x11008.rank)
  reducesTo_S2x4096x11008_S_d0_1_2 : S2x4096x11008.ReducesTo [0, 1, 2] S_

variable [Facts]

def fn {F : FTy → Type} [FloatOps F] (main_arg0 : FVec F S1x16384x4096 .f32) (main_arg1 : FVec F S2x4096x11008 .f32) (main_arg2 : FVec F S2x4096x11008 .f32) : IVec S_ 1 :=
  let main_v0 : FVec F S1x16384x4096 .f32 := Host.absf main_arg0
  let main_cst : FVec F S_ .f32 := constant S_ .f32 0x7F800000#32
  let main_v1 : FVec F S1x16384x4096 .f32 := broadcastInDim S1x16384x4096 ![] bcast_S_S1x16384x4096 main_cst
  let main_v2 : IVec S1x16384x4096 1 := cmpf .olt main_v0 main_v1
  let main_c : IVec S_ 1 := constantI S_ 1 1#1
  let main_v3 : IVec S_ 1 := (fun x v => Host.reduce IntOp.andi x v reducesTo_S1x16384x4096_S_d0_1_2 h_S_) main_v2 main_c
  let main_v4 : FVec F S2x4096x11008 .f32 := Host.absf main_arg1
  let main_cst_0 : FVec F S_ .f32 := constant S_ .f32 0x7F800000#32
  let main_v5 : FVec F S2x4096x11008 .f32 := broadcastInDim S2x4096x11008 ![] bcast_S_S2x4096x11008 main_cst_0
  let main_v6 : IVec S2x4096x11008 1 := cmpf .olt main_v4 main_v5
  let main_c_1 : IVec S_ 1 := constantI S_ 1 1#1
  let main_v7 : IVec S_ 1 := (fun x v => Host.reduce IntOp.andi x v reducesTo_S2x4096x11008_S_d0_1_2 h_S_) main_v6 main_c_1
  let main_v8 : IVec S_ 1 := andi main_v3 main_v7
  main_v8
-- ==== Pre_finite_logits.lean ====
abbrev S1x16384x2048 : Shape := ⟨3, ![1, 16384, 2048]⟩
abbrev S16384x128 : Shape := ⟨2, ![16384, 128]⟩
abbrev S_ : Shape := ⟨0, ![]⟩

class Facts : Prop where
  bcast_S_S1x16384x2048 : S_.BroadcastsInDim S1x16384x2048 (![] : Fin 0 → Fin S1x16384x2048.rank)
  reducesTo_S1x16384x2048_S_d0_1_2 : S1x16384x2048.ReducesTo [0, 1, 2] S_
  h_S_ : 0 < S_.numel
  bcast_S_S16384x128 : S_.BroadcastsInDim S16384x128 (![] : Fin 0 → Fin S16384x128.rank)
  reducesTo_S16384x128_S_d0_1 : S16384x128.ReducesTo [0, 1] S_

variable [Facts]

def fn {F : FTy → Type} [FloatOps F] (main_arg0 : FVec F S1x16384x2048 .f32) (main_arg1 : FVec F S1x16384x2048 .f32) (main_arg2 : FVec F S1x16384x2048 .f32) (main_arg3 : FVec F S16384x128 .f32) : IVec S_ 1 :=
  let main_v0 : FVec F S1x16384x2048 .f32 := Host.absf main_arg0
  let main_cst : FVec F S_ .f32 := constant S_ .f32 0x7F800000#32
  let main_v1 : FVec F S1x16384x2048 .f32 := broadcastInDim S1x16384x2048 ![] bcast_S_S1x16384x2048 main_cst
  let main_v2 : IVec S1x16384x2048 1 := cmpf .olt main_v0 main_v1
  let main_c : IVec S_ 1 := constantI S_ 1 1#1
  let main_v3 : IVec S_ 1 := (fun x v => Host.reduce IntOp.andi x v reducesTo_S1x16384x2048_S_d0_1_2 h_S_) main_v2 main_c
  let main_v4 : FVec F S1x16384x2048 .f32 := Host.absf main_arg1
  let main_cst_0 : FVec F S_ .f32 := constant S_ .f32 0x7F800000#32
  let main_v5 : FVec F S1x16384x2048 .f32 := broadcastInDim S1x16384x2048 ![] bcast_S_S1x16384x2048 main_cst_0
  let main_v6 : IVec S1x16384x2048 1 := cmpf .olt main_v4 main_v5
  let main_c_1 : IVec S_ 1 := constantI S_ 1 1#1
  let main_v7 : IVec S_ 1 := (fun x v => Host.reduce IntOp.andi x v reducesTo_S1x16384x2048_S_d0_1_2 h_S_) main_v6 main_c_1
  let main_v8 : IVec S_ 1 := andi main_v3 main_v7
  let main_v9 : FVec F S16384x128 .f32 := Host.absf main_arg3
  let main_cst_2 : FVec F S_ .f32 := constant S_ .f32 0x7F800000#32
  let main_v10 : FVec F S16384x128 .f32 := broadcastInDim S16384x128 ![] bcast_S_S16384x128 main_cst_2
  let main_v11 : IVec S16384x128 1 := cmpf .olt main_v9 main_v10
  let main_c_3 : IVec S_ 1 := constantI S_ 1 1#1
  let main_v12 : IVec S_ 1 := (fun x v => Host.reduce IntOp.andi x v reducesTo_S16384x128_S_d0_1 h_S_) main_v11 main_c_3
  let main_v13 : IVec S_ 1 := andi main_v8 main_v12
  main_v13
-- ==== Pre_finite_projection.lean ====
abbrev S1x16384x4096 : Shape := ⟨3, ![1, 16384, 4096]⟩
abbrev S1x4096x18560 : Shape := ⟨3, ![1, 4096, 18560]⟩
abbrev S_ : Shape := ⟨0, ![]⟩

class Facts : Prop where
  bcast_S_S1x16384x4096 : S_.BroadcastsInDim S1x16384x4096 (![] : Fin 0 → Fin S1x16384x4096.rank)
  reducesTo_S1x16384x4096_S_d0_1_2 : S1x16384x4096.ReducesTo [0, 1, 2] S_
  h_S_ : 0 < S_.numel
  bcast_S_S1x4096x18560 : S_.BroadcastsInDim S1x4096x18560 (![] : Fin 0 → Fin S1x4096x18560.rank)
  reducesTo_S1x4096x18560_S_d0_1_2 : S1x4096x18560.ReducesTo [0, 1, 2] S_

variable [Facts]

def fn {F : FTy → Type} [FloatOps F] (main_arg0 : FVec F S1x16384x4096 .f32) (main_arg1 : FVec F S1x4096x18560 .f32) : IVec S_ 1 :=
  let main_v0 : FVec F S1x16384x4096 .f32 := Host.absf main_arg0
  let main_cst : FVec F S_ .f32 := constant S_ .f32 0x7F800000#32
  let main_v1 : FVec F S1x16384x4096 .f32 := broadcastInDim S1x16384x4096 ![] bcast_S_S1x16384x4096 main_cst
  let main_v2 : IVec S1x16384x4096 1 := cmpf .olt main_v0 main_v1
  let main_c : IVec S_ 1 := constantI S_ 1 1#1
  let main_v3 : IVec S_ 1 := (fun x v => Host.reduce IntOp.andi x v reducesTo_S1x16384x4096_S_d0_1_2 h_S_) main_v2 main_c
  let main_v4 : FVec F S1x4096x18560 .f32 := Host.absf main_arg1
  let main_cst_0 : FVec F S_ .f32 := constant S_ .f32 0x7F800000#32
  let main_v5 : FVec F S1x4096x18560 .f32 := broadcastInDim S1x4096x18560 ![] bcast_S_S1x4096x18560 main_cst_0
  let main_v6 : IVec S1x4096x18560 1 := cmpf .olt main_v4 main_v5
  let main_c_1 : IVec S_ 1 := constantI S_ 1 1#1
  let main_v7 : IVec S_ 1 := (fun x v => Host.reduce IntOp.andi x v reducesTo_S1x4096x18560_S_d0_1_2 h_S_) main_v6 main_c_1
  let main_v8 : IVec S_ 1 := andi main_v3 main_v7
  main_v8
-- ==== Kernel.lean ====
abbrev S1x16384x2048 : Shape := ⟨3, ![1, 16384, 2048]⟩
abbrev S16384x128 : Shape := ⟨2, ![16384, 128]⟩
abbrev S16384x2048 : Shape := ⟨2, ![16384, 2048]⟩
abbrev S_ : Shape := ⟨0, ![]⟩
abbrev S16384x8192 : Shape := ⟨2, ![16384, 8192]⟩
abbrev S16384x14336 : Shape := ⟨2, ![16384, 14336]⟩
abbrev S16384x4096 : Shape := ⟨2, ![16384, 4096]⟩
abbrev S512x2048 : Shape := ⟨2, ![512, 2048]⟩
abbrev S512x128 : Shape := ⟨2, ![512, 128]⟩
abbrev S512x4096 : Shape := ⟨2, ![512, 4096]⟩
abbrev S512x1 : Shape := ⟨2, ![512, 1]⟩
abbrev S1024x256 : Shape := ⟨2, ![1024, 256]⟩
abbrev S16384x256 : Shape := ⟨2, ![16384, 256]⟩
abbrev S1024x128 : Shape := ⟨2, ![1024, 128]⟩
abbrev S1024x512 : Shape := ⟨2, ![1024, 512]⟩
abbrev S512x256 : Shape := ⟨2, ![512, 256]⟩
abbrev S1024 : Shape := ⟨1, ![1024]⟩
abbrev S1024x1 : Shape := ⟨2, ![1024, 1]⟩

abbrev nBuf : Space → Nat
  | .hbm => 17
  | .vmem => 26
  | .smem => 0
  | _ => 0

abbrev bufTy : (tb : Table) → Fin (tcTables nBuf tb) → BufTy
  | .hbm, ⟨0, _⟩ => ⟨S1x16384x2048, .f32⟩
  | .hbm, ⟨1, _⟩ => ⟨S1x16384x2048, .f32⟩
  | .hbm, ⟨2, _⟩ => ⟨S1x16384x2048, .f32⟩
  | .hbm, ⟨3, _⟩ => ⟨S16384x128, .f32⟩
  | .hbm, ⟨4, _⟩ => ⟨S16384x2048, .f32⟩
  | .hbm, ⟨5, _⟩ => ⟨S16384x2048, .bf16⟩
  | .hbm, ⟨6, _⟩ => ⟨S16384x2048, .f32⟩
  | .hbm, ⟨7, _⟩ => ⟨S16384x2048, .bf16⟩
  | .hbm, ⟨8, _⟩ => ⟨S16384x2048, .f32⟩
  | .hbm, ⟨9, _⟩ => ⟨S16384x2048, .bf16⟩
  | .hbm, ⟨10, _⟩ => ⟨S_, .bf16⟩
  | .hbm, ⟨11, _⟩ => ⟨S16384x8192, .bf16⟩
  | .hbm, ⟨12, _⟩ => ⟨S16384x14336, .bf16⟩
  | .hbm, ⟨13, _⟩ => ⟨S16384x4096, .bf16⟩
  | .hbm, ⟨14, _⟩ => ⟨S16384x4096, .bf16⟩
  | .hbm, ⟨15, _⟩ => ⟨S16384x4096, .bf16⟩
  | .hbm, ⟨16, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x128, .f32⟩
  | .local _ .vmem, ⟨7, _⟩ => ⟨S512x128, .f32⟩
  | .local _ .vmem, ⟨8, _⟩ => ⟨S512x4096, .bf16⟩
  | .local _ .vmem, ⟨9, _⟩ => ⟨S512x4096, .bf16⟩
  | .local _ .vmem, ⟨10, _⟩ => ⟨S512x4096, .bf16⟩
  | .local _ .vmem, ⟨11, _⟩ => ⟨S512x4096, .bf16⟩
  | .local _ .vmem, ⟨12, _⟩ => ⟨S512x4096, .bf16⟩
  | .local _ .vmem, ⟨13, _⟩ => ⟨S512x4096, .bf16⟩
  | .local _ .vmem, ⟨14, _⟩ => ⟨S1024x256, .bf16⟩
  | .local _ .vmem, ⟨15, _⟩ => ⟨S1024x256, .bf16⟩
  | .local _ .vmem, ⟨16, _⟩ => ⟨S16384x256, .bf16⟩
  | .local _ .vmem, ⟨17, _⟩ => ⟨S16384x256, .bf16⟩
  | .local _ .vmem, ⟨18, _⟩ => ⟨S16384x256, .bf16⟩
  | .local _ .vmem, ⟨19, _⟩ => ⟨S16384x256, .bf16⟩
  | .local _ .vmem, ⟨20, _⟩ => ⟨S1024x128, .bf16⟩
  | .local _ .vmem, ⟨21, _⟩ => ⟨S1024x128, .bf16⟩
  | .local _ .vmem, ⟨22, _⟩ => ⟨S1024x512, .f32⟩
  | .local _ .vmem, ⟨23, _⟩ => ⟨S1024x512, .f32⟩
  | .local _ .vmem, ⟨24, _⟩ => ⟨S1024x128, .f32⟩
  | .local _ .vmem, ⟨25, _⟩ => ⟨S1024x256, .f32⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_scratch0 : Ref sig .tc := ⟨.vmem, 22, rfl⟩
abbrev cc1_scratch1 : Ref sig .tc := ⟨.vmem, 23, rfl⟩
abbrev cc1_scratch2 : Ref sig .tc := ⟨.vmem, 24, rfl⟩
abbrev cc1_scratch3 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![16, 16], ![false, false]⟩

def k1_mult1 : BitVec 32 :=
  let c0_i32 : BitVec 32 := 0#32
  c0_i32
@[reducible] def k1_t1_loop (i : grid1.Coords) : Scf.Loop 32 :=
  let c0_i32_11 : BitVec 32 := 0#32
  let arg1 : BitVec 32 := BitVec.ofNat 32 (i 1).val
  let v18 : BitVec 32 := Scalar.subi arg1 c0_i32_11
  let c1_i32 : BitVec 32 := 1#32
  let v20 : BitVec 32 := Scalar.divsi v18 c1_i32
  let v21 : BitVec 32 := Scalar.muli v20 c1_i32
  let v22 : BitVec 32 := Scalar.addi c0_i32_11 v21
  let c1_i32_12 : BitVec 32 := 1#32
  ⟨c0_i32_11, v22, c1_i32_12⟩
def k1_mult2 (i : grid1.Coords) (k1_t1 : Fin (k1_t1_loop i).trips) : BitVec 32 :=
  let c2_i32_67 : BitVec 32 := 2#32
  let c0_i32_11 : BitVec 32 := 0#32
  let c1_i32_12 : BitVec 32 := 1#32
  let arg10 : BitVec 32 := Scf.iv c0_i32_11 c1_i32_12 k1_t1
  let v146 : BitVec 32 := Scalar.muli c2_i32_67 arg10
  let c1_i32_68 : BitVec 32 := 1#32
  let v147 : BitVec 32 := Scalar.addi v146 c1_i32_68
  let c512_i32_69 : BitVec 32 := 512#32
  let v148 : BitVec 32 := Scalar.muli v147 c512_i32_69
  v148
def k1_off1 (i : grid1.Coords) (k1_t1 : Fin (k1_t1_loop i).trips) (c1_i32_68 : BitVec 32) : Fin 2 → Nat :=
  let c2_i32_67 : BitVec 32 := 2#32
  let c0_i32_11 : BitVec 32 := 0#32
  let c1_i32_12 : BitVec 32 := 1#32
  let arg10 : BitVec 32 := Scf.iv c0_i32_11 c1_i32_12 k1_t1
  let v146 : BitVec 32 := Scalar.muli c2_i32_67 arg10
  let v147 : BitVec 32 := Scalar.addi v146 c1_i32_68
  let c512_i32_69 : BitVec 32 := 512#32
  let v148 : BitVec 32 := Scalar.muli v147 c512_i32_69
  let v149 : BitVec 32 := v148
  let v150 : Index := Scalar.indexCast v149
  let c0_70 : Index := 0#32
  ![v150.toNat, 0]
def k1_mult3 (i : grid1.Coords) (k1_t1 : Fin (k1_t1_loop i).trips) : BitVec 32 :=
  let c2_i32_74 : BitVec 32 := 2#32
  let c0_i32_11 : BitVec 32 := 0#32
  let c1_i32_12 : BitVec 32 := 1#32
  let arg10 : BitVec 32 := Scf.iv c0_i32_11 c1_i32_12 k1_t1
  let v157 : BitVec 32 := Scalar.muli c2_i32_74 arg10
  let c512_i32_75 : BitVec 32 := 512#32
  let v158 : BitVec 32 := Scalar.muli v157 c512_i32_75
  v158
def k1_off2 (i : grid1.Coords) (k1_t1 : Fin (k1_t1_loop i).trips) : Fin 2 → Nat :=
  let c2_i32_74 : BitVec 32 := 2#32
  let c0_i32_11 : BitVec 32 := 0#32
  let c1_i32_12 : BitVec 32 := 1#32
  let arg10 : BitVec 32 := Scf.iv c0_i32_11 c1_i32_12 k1_t1
  let v157 : BitVec 32 := Scalar.muli c2_i32_74 arg10
  let c512_i32_75 : BitVec 32 := 512#32
  let v158 : BitVec 32 := Scalar.muli v157 c512_i32_75
  let v159 : BitVec 32 := v158
  let v182 : Index := Scalar.indexCast v159
  let c0_81 : Index := 0#32
  ![v182.toNat, 0]
def k1_mult4 (i : grid1.Coords) (k1_t1 : Fin (k1_t1_loop i).trips) : BitVec 32 :=
  let c2_i32_93 : BitVec 32 := 2#32
  let c0_i32_11 : BitVec 32 := 0#32
  let c1_i32_12 : BitVec 32 := 1#32
  let arg10 : BitVec 32 := Scf.iv c0_i32_11 c1_i32_12 k1_t1
  let v203 : BitVec 32 := Scalar.muli c2_i32_93 arg10
  let c2_i32_94 : BitVec 32 := 2#32
  let v204 : BitVec 32 := Scalar.addi v203 c2_i32_94
  let c512_i32_95 : BitVec 32 := 512#32
  let v205 : BitVec 32 := Scalar.muli v204 c512_i32_95
  v205
def k1_mult5 (i : grid1.Coords) (k1_t1 : Fin (k1_t1_loop i).trips) : BitVec 32 :=
  let c2_i32_100 : BitVec 32 := 2#32
  let c0_i32_11 : BitVec 32 := 0#32
  let c1_i32_12 : BitVec 32 := 1#32
  let arg10 : BitVec 32 := Scf.iv c0_i32_11 c1_i32_12 k1_t1
  let v214 : BitVec 32 := Scalar.muli c2_i32_100 arg10
  let c1_i32_101 : BitVec 32 := 1#32
  let v215 : BitVec 32 := Scalar.addi v214 c1_i32_101
  let c512_i32_102 : BitVec 32 := 512#32
  let v216 : BitVec 32 := Scalar.muli v215 c512_i32_102
  v216
@[reducible] def k1_t2_loop (i : grid1.Coords) : Scf.Loop 32 :=
  let c0_i32_11 : BitVec 32 := 0#32
  let arg1 : BitVec 32 := BitVec.ofNat 32 (i 1).val
  let v18 : BitVec 32 := Scalar.subi arg1 c0_i32_11
  let c1_i32 : BitVec 32 := 1#32
  let v20 : BitVec 32 := Scalar.divsi v18 c1_i32
  let v21 : BitVec 32 := Scalar.muli v20 c1_i32
  let v22 : BitVec 32 := Scalar.addi c0_i32_11 v21
  let v19 : BitVec 32 := Scalar.addi c0_i32_11 v18
  let c1_i32_13 : BitVec 32 := 1#32
  ⟨v22, v19, c1_i32_13⟩
def k1_mult6 (i : grid1.Coords) (k1_t2 : Fin (k1_t2_loop i).trips) : BitVec 32 :=
  let c2_i32_67 : BitVec 32 := 2#32
  let c0_i32_11 : BitVec 32 := 0#32
  let arg1 : BitVec 32 := BitVec.ofNat 32 (i 1).val
  let v18 : BitVec 32 := Scalar.subi arg1 c0_i32_11
  let c1_i32 : BitVec 32 := 1#32
  let v20 : BitVec 32 := Scalar.divsi v18 c1_i32
  let v21 : BitVec 32 := Scalar.muli v20 c1_i32
  let v22 : BitVec 32 := Scalar.addi c0_i32_11 v21
  let c1_i32_13 : BitVec 32 := 1#32
  let arg10 : BitVec 32 := Scf.iv v22 c1_i32_13 k1_t2
  let v146 : BitVec 32 := Scalar.muli c2_i32_67 arg10
  let c1_i32_68 : BitVec 32 := 1#32
  let v147 : BitVec 32 := Scalar.addi v146 c1_i32_68
  let c512_i32_69 : BitVec 32 := 512#32
  let v148 : BitVec 32 := Scalar.muli v147 c512_i32_69
  v148
def k1_off3 (i : grid1.Coords) (k1_t2 : Fin (k1_t2_loop i).trips) (c1_i32_68 : BitVec 32) : Fin 2 → Nat :=
  let c2_i32_67 : BitVec 32 := 2#32
  let c0_i32_11 : BitVec 32 := 0#32
  let arg1 : BitVec 32 := BitVec.ofNat 32 (i 1).val
  let v18 : BitVec 32 := Scalar.subi arg1 c0_i32_11
  let c1_i32 : BitVec 32 := 1#32
  let v20 : BitVec 32 := Scalar.divsi v18 c1_i32
  let v21 : BitVec 32 := Scalar.muli v20 c1_i32
  let v22 : BitVec 32 := Scalar.addi c0_i32_11 v21
  let c1_i32_13 : BitVec 32 := 1#32
  let arg10 : BitVec 32 := Scf.iv v22 c1_i32_13 k1_t2
  let v146 : BitVec 32 := Scalar.muli c2_i32_67 arg10
  let v147 : BitVec 32 := Scalar.addi v146 c1_i32_68
  let c512_i32_69 : BitVec 32 := 512#32
  let v148 : BitVec 32 := Scalar.muli v147 c512_i32_69
  let v149 : BitVec 32 := v148
  let v150 : Index := Scalar.indexCast v149
  let c0_70 : Index := 0#32
  ![v150.toNat, 0]
def k1_mult7 (i : grid1.Coords) (k1_t2 : Fin (k1_t2_loop i).trips) : BitVec 32 :=
  let c2_i32_74 : BitVec 32 := 2#32
  let c0_i32_11 : BitVec 32 := 0#32
  let arg1 : BitVec 32 := BitVec.ofNat 32 (i 1).val
  let v18 : BitVec 32 := Scalar.subi arg1 c0_i32_11
  let c1_i32 : BitVec 32 := 1#32
  let v20 : BitVec 32 := Scalar.divsi v18 c1_i32
  let v21 : BitVec 32 := Scalar.muli v20 c1_i32
  let v22 : BitVec 32 := Scalar.addi c0_i32_11 v21
  let c1_i32_13 : BitVec 32 := 1#32
  let arg10 : BitVec 32 := Scf.iv v22 c1_i32_13 k1_t2
  let v157 : BitVec 32 := Scalar.muli c2_i32_74 arg10
  let c512_i32_75 : BitVec 32 := 512#32
  let v158 : BitVec 32 := Scalar.muli v157 c512_i32_75
  v158
def k1_off4 (i : grid1.Coords) (k1_t2 : Fin (k1_t2_loop i).trips) : Fin 2 → Nat :=
  let c2_i32_74 : BitVec 32 := 2#32
  let c0_i32_11 : BitVec 32 := 0#32
  let arg1 : BitVec 32 := BitVec.ofNat 32 (i 1).val
  let v18 : BitVec 32 := Scalar.subi arg1 c0_i32_11
  let c1_i32 : BitVec 32 := 1#32
  let v20 : BitVec 32 := Scalar.divsi v18 c1_i32
  let v21 : BitVec 32 := Scalar.muli v20 c1_i32
  let v22 : BitVec 32 := Scalar.addi c0_i32_11 v21
  let c1_i32_13 : BitVec 32 := 1#32
  let arg10 : BitVec 32 := Scf.iv v22 c1_i32_13 k1_t2
  let v157 : BitVec 32 := Scalar.muli c2_i32_74 arg10
  let c512_i32_75 : BitVec 32 := 512#32
  let v158 : BitVec 32 := Scalar.muli v157 c512_i32_75
  let v159 : BitVec 32 := v158
  let v182 : Index := Scalar.indexCast v159
  let c0_81 : Index := 0#32
  ![v182.toNat, 0]
def k1_mult8 (i : grid1.Coords) (k1_t2 : Fin (k1_t2_loop i).trips) : BitVec 32 :=
  let c2_i32_93 : BitVec 32 := 2#32
  let c0_i32_11 : BitVec 32 := 0#32
  let arg1 : BitVec 32 := BitVec.ofNat 32 (i 1).val
  let v18 : BitVec 32 := Scalar.subi arg1 c0_i32_11
  let c1_i32 : BitVec 32 := 1#32
  let v20 : BitVec 32 := Scalar.divsi v18 c1_i32
  let v21 : BitVec 32 := Scalar.muli v20 c1_i32
  let v22 : BitVec 32 := Scalar.addi c0_i32_11 v21
  let c1_i32_13 : BitVec 32 := 1#32
  let arg10 : BitVec 32 := Scf.iv v22 c1_i32_13 k1_t2
  let v203 : BitVec 32 := Scalar.muli c2_i32_93 arg10
  let c2_i32_94 : BitVec 32 := 2#32
  let v204 : BitVec 32 := Scalar.addi v203 c2_i32_94
  let c512_i32_95 : BitVec 32 := 512#32
  let v205 : BitVec 32 := Scalar.muli v204 c512_i32_95
  v205
def k1_mult9 (i : grid1.Coords) (k1_t2 : Fin (k1_t2_loop i).trips) : BitVec 32 :=
  let c2_i32_100 : BitVec 32 := 2#32
  let c0_i32_11 : BitVec 32 := 0#32
  let arg1 : BitVec 32 := BitVec.ofNat 32 (i 1).val
  let v18 : BitVec 32 := Scalar.subi arg1 c0_i32_11
  let c1_i32 : BitVec 32 := 1#32
  let v20 : BitVec 32 := Scalar.divsi v18 c1_i32
  let v21 : BitVec 32 := Scalar.muli v20 c1_i32
  let v22 : BitVec 32 := Scalar.addi c0_i32_11 v21
  let c1_i32_13 : BitVec 32 := 1#32
  let arg10 : BitVec 32 := Scf.iv v22 c1_i32_13 k1_t2
  let v214 : BitVec 32 := Scalar.muli c2_i32_100 arg10
  let c1_i32_101 : BitVec 32 := 1#32
  let v215 : BitVec 32 := Scalar.addi v214 c1_i32_101
  let c512_i32_102 : BitVec 32 := 512#32
  let v216 : BitVec 32 := Scalar.muli v215 c512_i32_102
  v216
def k1_mult10 (i : grid1.Coords) : BitVec 32 :=
  let c2_i32 : BitVec 32 := 2#32
  let arg1 : BitVec 32 := BitVec.ofNat 32 (i 1).val
  let v23 : BitVec 32 := Scalar.muli c2_i32 arg1
  let c1_i32_14 : BitVec 32 := 1#32
  let v24 : BitVec 32 := Scalar.addi v23 c1_i32_14
  let c512_i32 : BitVec 32 := 512#32
  let v25 : BitVec 32 := Scalar.muli v24 c512_i32
  v25
def k1_off5 (i : grid1.Coords) : Fin 2 → Nat :=
  let c2_i32 : BitVec 32 := 2#32
  let arg1 : BitVec 32 := BitVec.ofNat 32 (i 1).val
  let v23 : BitVec 32 := Scalar.muli c2_i32 arg1
  let c1_i32_14 : BitVec 32 := 1#32
  let v24 : BitVec 32 := Scalar.addi v23 c1_i32_14
  let c512_i32 : BitVec 32 := 512#32
  let v25 : BitVec 32 := Scalar.muli v24 c512_i32
  let v26 : BitVec 32 := v25
  let v27 : Index := Scalar.indexCast v26
  let c0_15 : Index := 0#32
  ![v27.toNat, 0]
def k1_mult11 (i : grid1.Coords) : BitVec 32 :=
  let c2_i32_19 : BitVec 32 := 2#32
  let arg1 : BitVec 32 := BitVec.ofNat 32 (i 1).val
  let v34 : BitVec 32 := Scalar.muli c2_i32_19 arg1
  let c512_i32_20 : BitVec 32 := 512#32
  let v35 : BitVec 32 := Scalar.muli v34 c512_i32_20
  v35
def k1_off6 (i : grid1.Coords) : Fin 2 → Nat :=
  let c2_i32_19 : BitVec 32 := 2#32
  let arg1 : BitVec 32 := BitVec.ofNat 32 (i 1).val
  let v34 : BitVec 32 := Scalar.muli c2_i32_19 arg1
  let c512_i32_20 : BitVec 32 := 512#32
  let v35 : BitVec 32 := Scalar.muli v34 c512_i32_20
  let v36 : BitVec 32 := v35
  let v66 : Index := Scalar.indexCast v36
  let c0_28 : Index := 0#32
  ![v66.toNat, 0]
def k1_mult12 (i : grid1.Coords) : BitVec 32 :=
  let c2_i32_39 : BitVec 32 := 2#32
  let arg1 : BitVec 32 := BitVec.ofNat 32 (i 1).val
  let v87 : BitVec 32 := Scalar.muli c2_i32_39 arg1
  let c1_i32_40 : BitVec 32 := 1#32
  let v88 : BitVec 32 := Scalar.addi v87 c1_i32_40
  let c512_i32_41 : BitVec 32 := 512#32
  let v89 : BitVec 32 := Scalar.muli v88 c512_i32_41
  v89
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S16384x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S16384x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== KernelIdeal.lean ====
variable {F : FTy → Type} [FloatOps F] [Named F]
def κ : String → Option EReal := fun
  | "fq_scale" => some (((Real.log 2)⁻¹ * (11863283 / 134217728) : ℝ) : EReal)
  | "log2e" => some (((Real.log 2)⁻¹ : ℝ) : EReal)
  | "mask" => some ⊥
  | _ => none
-- ==== ReferenceIdeal.lean ====
abbrev S1x16384x2048 : Shape := ⟨3, ![1, 16384, 2048]⟩
abbrev S16384x128 : Shape := ⟨2, ![16384, 128]⟩
abbrev S1x16384x16x128 : Shape := ⟨4, ![1, 16384, 16, 128]⟩
abbrev S16384x16 : Shape := ⟨2, ![16384, 16]⟩
abbrev S1x16384x16 : Shape := ⟨3, ![1, 16384, 16]⟩
abbrev S1x16x16384 : Shape := ⟨3, ![1, 16, 16384]⟩
abbrev S1x16x16384x16384 : Shape := ⟨4, ![1, 16, 16384, 16384]⟩
abbrev S_ : Shape := ⟨0, ![]⟩
abbrev S1x16x16384x1 : Shape := ⟨4, ![1, 16, 16384, 1]⟩
abbrev S1x16x1x16384 : Shape := ⟨4, ![1, 16, 1, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S1x16x128x16384 : Shape := ⟨4, ![1, 16, 128, 16384]⟩
abbrev S16384x2048 : Shape := ⟨2, ![16384, 2048]⟩

abbrev nBuf : Space → Nat
  | .hbm => 49
  | .vmem => 0
  | .smem => 0
  | _ => 0

abbrev bufTy : (tb : Table) → Fin (tcTables nBuf tb) → BufTy
  | .hbm, ⟨0, _⟩ => ⟨S1x16384x2048, .f32⟩
  | .hbm, ⟨1, _⟩ => ⟨S1x16384x2048, .f32⟩
  | .hbm, ⟨2, _⟩ => ⟨S1x16384x2048, .f32⟩
  | .hbm, ⟨3, _⟩ => ⟨S16384x128, .f32⟩
  | .hbm, ⟨4, _⟩ => ⟨S1x16384x16x128, .f32⟩
  | .hbm, ⟨5, _⟩ => ⟨S1x16384x16x128, .f32⟩
  | .hbm, ⟨6, _⟩ => ⟨S1x16384x16x128, .f32⟩
  | .hbm, ⟨7, _⟩ => ⟨S16384x16, .f32⟩
  | .hbm, ⟨8, _⟩ => ⟨S1x16384x16, .f32⟩
  | .hbm, ⟨9, _⟩ => ⟨S1x16x16384, .f32⟩
  | .hbm, ⟨10, _⟩ => ⟨S1x16x16384x16384, .f32⟩
  | .hbm, ⟨11, _⟩ => ⟨S_, .f32⟩
  | .hbm, ⟨12, _⟩ => ⟨S1x16x16384x16384, .f32⟩
  | .hbm, ⟨13, _⟩ => ⟨S1x16x16384x16384, .f32⟩
  | .hbm, ⟨14, _⟩ => ⟨S1x16x16384x1, .f32⟩
  | .hbm, ⟨15, _⟩ => ⟨S1x16x16384x16384, .f32⟩
  | .hbm, ⟨16, _⟩ => ⟨S1x16x16384x16384, .f32⟩
  | .hbm, ⟨17, _⟩ => ⟨S1x16x1x16384, .f32⟩
  | .hbm, ⟨18, _⟩ => ⟨S1x16x16384x16384, .f32⟩
  | .hbm, ⟨19, _⟩ => ⟨S1x16x16384x16384, .f32⟩
  | .hbm, ⟨20, _⟩ => ⟨S16384, .i32⟩
  | .hbm, ⟨21, _⟩ => ⟨S1x16384, .i32⟩
  | .hbm, ⟨22, _⟩ => ⟨S16384x1, .i32⟩
  | .hbm, ⟨23, _⟩ => ⟨S16384x16384, .i32⟩
  | .hbm, ⟨24, _⟩ => ⟨S16384x16384, .i32⟩
  | .hbm, ⟨25, _⟩ => ⟨S16384x16384, .i1⟩
  | .hbm, ⟨26, _⟩ => ⟨S_, .f32⟩
  | .hbm, ⟨27, _⟩ => ⟨S_, .f32⟩
  | .hbm, ⟨28, _⟩ => ⟨S1x16x16384x16384, .i1⟩
  | .hbm, ⟨29, _⟩ => ⟨S1x16x16384x16384, .f32⟩
  | .hbm, ⟨30, _⟩ => ⟨S1x16x16384x16384, .f32⟩
  | .hbm, ⟨31, _⟩ => ⟨S_, .f32⟩
  | .hbm, ⟨32, _⟩ => ⟨S1x16x16384, .f32⟩
  | .hbm, ⟨33, _⟩ => ⟨S_, .f32⟩
  | .hbm, ⟨34, _⟩ => ⟨S1x16x16384, .f32⟩
  | .hbm, ⟨35, _⟩ => ⟨S1x16x16384, .f32⟩
  | .hbm, ⟨36, _⟩ => ⟨S1x16x16384x1, .f32⟩
  | .hbm, ⟨37, _⟩ => ⟨S1x16x16384x16384, .f32⟩
  | .hbm, ⟨38, _⟩ => ⟨S1x16x16384x16384, .f32⟩
  | .hbm, ⟨39, _⟩ => ⟨S1x16x16384x16384, .f32⟩
  | .hbm, ⟨40, _⟩ => ⟨S_, .f32⟩
  | .hbm, ⟨41, _⟩ => ⟨S1x16x16384, .f32⟩
  | .hbm, ⟨42, _⟩ => ⟨S1x16x16384x1, .f32⟩
  | .hbm, ⟨43, _⟩ => ⟨S1x16x16384x16384, .f32⟩
  | .hbm, ⟨44, _⟩ => ⟨S1x16x16384x16384, .f32⟩
  | .hbm, ⟨45, _⟩ => ⟨S1x16x128x16384, .f32⟩
  | .hbm, ⟨46, _⟩ => ⟨S1x16384x16x128, .f32⟩
  | .hbm, ⟨47, _⟩ => ⟨S16384x2048, .f32⟩
  | .hbm, ⟨48, _⟩ => ⟨S16384x2048, .bf16⟩
  | _, _ => ⟨S1x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Kernel2.lean ====
abbrev S1x16384x4096 : Shape := ⟨3, ![1, 16384, 4096]⟩
abbrev S2x4096x11008 : Shape := ⟨3, ![2, 4096, 11008]⟩
abbrev S_ : Shape := ⟨0, ![]⟩
abbrev S2x4096x11264 : Shape := ⟨3, ![2, 4096, 11264]⟩
abbrev S16384x4096 : Shape := ⟨2, ![16384, 4096]⟩
abbrev S16384x11264 : Shape := ⟨2, ![16384, 11264]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 14
  | .vmem => 8
  | .smem => 0
  | _ => 0

abbrev bufTy : (tb : Table) → Fin (tcTables nBuf tb) → BufTy
  | .hbm, ⟨0, _⟩ => ⟨S1x16384x4096, .f32⟩
  | .hbm, ⟨1, _⟩ => ⟨S2x4096x11008, .f32⟩
  | .hbm, ⟨2, _⟩ => ⟨S2x4096x11008, .f32⟩
  | .hbm, ⟨3, _⟩ => ⟨S2x4096x11008, .bf16⟩
  | .hbm, ⟨4, _⟩ => ⟨S_, .i32⟩
  | .hbm, ⟨5, _⟩ => ⟨S_, .bf16⟩
  | .hbm, ⟨6, _⟩ => ⟨S2x4096x11264, .bf16⟩
  | .hbm, ⟨7, _⟩ => ⟨S2x4096x11008, .bf16⟩
  | .hbm, ⟨8, _⟩ => ⟨S_, .i32⟩
  | .hbm, ⟨9, _⟩ => ⟨S_, .bf16⟩
  | .hbm, ⟨10, _⟩ => ⟨S2x4096x11264, .bf16⟩
  | .hbm, ⟨11, _⟩ => ⟨S16384x4096, .f32⟩
  | .hbm, ⟨12, _⟩ => ⟨S16384x4096, .bf16⟩
  | .hbm, ⟨13, _⟩ => ⟨S16384x11264, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x4096x512, .bf16⟩
  | .local _ .vmem, ⟨5, _⟩ => ⟨S1x4096x512, .bf16⟩
  | .local _ .vmem, ⟨6, _⟩ => ⟨S1024x512, .bf16⟩
  | .local _ .vmem, ⟨7, _⟩ => ⟨S1024x512, .bf16⟩
  | _, _ => ⟨S1x16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S1x16384x4096 : Shape := ⟨3, ![1, 16384, 4096]⟩
abbrev S2x4096x11008 : Shape := ⟨3, ![2, 4096, 11008]⟩
abbrev S16384x4096 : Shape := ⟨2, ![16384, 4096]⟩
abbrev S1x4096x11008 : Shape := ⟨3, ![1, 4096, 11008]⟩
abbrev S4096x11008 : Shape := ⟨2, ![4096, 11008]⟩
abbrev S16384x11008 : Shape := ⟨2, ![16384, 11008]⟩
abbrev S_ : Shape := ⟨0, ![]⟩
abbrev S16384x11264 : Shape := ⟨2, ![16384, 11264]⟩

abbrev nBuf : Space → Nat
  | .hbm => 24
  | .vmem => 0
  | .smem => 0
  | _ => 0

abbrev bufTy : (tb : Table) → Fin (tcTables nBuf tb) → BufTy
  | .hbm, ⟨0, _⟩ => ⟨S1x16384x4096, .f32⟩
  | .hbm, ⟨1, _⟩ => ⟨S2x4096x11008, .f32⟩
  | .hbm, ⟨2, _⟩ => ⟨S2x4096x11008, .f32⟩
  | .hbm, ⟨3, _⟩ => ⟨S16384x4096, .f32⟩
  | .hbm, ⟨4, _⟩ => ⟨S1x4096x11008, .f32⟩
  | .hbm, ⟨5, _⟩ => ⟨S4096x11008, .f32⟩
  | .hbm, ⟨6, _⟩ => ⟨S16384x11008, .f32⟩
  | .hbm, ⟨7, _⟩ => ⟨S16384x11008, .f32⟩
  | .hbm, ⟨8, _⟩ => ⟨S16384x11008, .f32⟩
  | .hbm, ⟨9, _⟩ => ⟨S_, .f32⟩
  | .hbm, ⟨10, _⟩ => ⟨S16384x11008, .f32⟩
  | .hbm, ⟨11, _⟩ => ⟨S16384x11008, .f32⟩
  | .hbm, ⟨12, _⟩ => ⟨S_, .f32⟩
  | .hbm, ⟨13, _⟩ => ⟨S16384x11008, .f32⟩
  | .hbm, ⟨14, _⟩ => ⟨S16384x11008, .f32⟩
  | .hbm, ⟨15, _⟩ => ⟨S16384x11008, .f32⟩
  | .hbm, ⟨16, _⟩ => ⟨S1x4096x11008, .f32⟩
  | .hbm, ⟨17, _⟩ => ⟨S4096x11008, .f32⟩
  | .hbm, ⟨18, _⟩ => ⟨S16384x11008, .f32⟩
  | .hbm, ⟨19, _⟩ => ⟨S16384x11008, .f32⟩
  | .hbm, ⟨20, _⟩ => ⟨S_, .i32⟩
  | .hbm, ⟨21, _⟩ => ⟨S_, .f32⟩
  | .hbm, ⟨22, _⟩ => ⟨S16384x11264, .f32⟩
  | .hbm, ⟨23, _⟩ => ⟨S16384x11264, .bf16⟩
  | _, _ => ⟨S1x16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_call1_v0 : Ref sig .tc := ⟨.hbm, 21, rfl⟩
abbrev main_v9 : Ref sig .tc := ⟨.hbm, 22, rfl⟩
abbrev main_v10 : Ref sig .tc := ⟨.hbm, 23, rfl⟩

abbrev nD : Nat := 1
abbrev τ : Topo := Topo.v7x

variable {F : FTy → Type} [FloatOps F]
-- ==== Kernel3.lean ====
abbrev S1x16384x11008 : Shape := ⟨3, ![1, 16384, 11008]⟩
abbrev S2x11008x4096 : Shape := ⟨3, ![2, 11008, 4096]⟩
abbrev S1x16384x4096 : Shape := ⟨3, ![1, 16384, 4096]⟩
abbrev S16384x11008 : Shape := ⟨2, ![16384, 11008]⟩
abbrev S_ : Shape := ⟨0, ![]⟩
abbrev S16384x11264 : Shape := ⟨2, ![16384, 11264]⟩
abbrev S2x11264x4096 : Shape := ⟨3, ![2, 11264, 4096]⟩
abbrev S16384x4096 : Shape := ⟨2, ![16384, 4096]⟩
abbrev S1024x2816 : Shape := ⟨2, ![1024, 2816]⟩
abbrev S1x2816x1024 : Shape := ⟨3, ![1, 2816, 1024]⟩
abbrev S1024x1024 : Shape := ⟨2, ![1024, 1024]⟩
abbrev S2816x1024 : Shape := ⟨2, ![2816, 1024]⟩

abbrev nBuf : Space → Nat
  | .hbm => 14
  | .vmem => 9
  | .smem => 0
  | _ => 0

abbrev bufTy : (tb : Table) → Fin (tcTables nBuf tb) → BufTy
  | .hbm, ⟨0, _⟩ => ⟨S1x16384x11008, .f32⟩
  | .hbm, ⟨1, _⟩ => ⟨S2x11008x4096, .f32⟩
  | .hbm, ⟨2, _⟩ => ⟨S1x16384x4096, .f32⟩
  | .hbm, ⟨3, _⟩ => ⟨S16384x11008, .f32⟩
  | .hbm, ⟨4, _⟩ => ⟨S16384x11008, .bf16⟩
  | .hbm, ⟨5, _⟩ => ⟨S_, .i32⟩
  | .hbm, ⟨6, _⟩ => ⟨S_, .bf16⟩
  | .hbm, ⟨7, _⟩ => ⟨S16384x11264, .bf16⟩
  | .hbm, ⟨8, _⟩ => ⟨S2x11008x4096, .bf16⟩
  | .hbm, ⟨9, _⟩ => ⟨S_, .i32⟩
  | .hbm, ⟨10, _⟩ => ⟨S_, .bf16⟩
  | .hbm, ⟨11, _⟩ => ⟨S2x11264x4096, .bf16⟩
  | .hbm, ⟨12, _⟩ => ⟨S16384x4096, .f32⟩
  | .hbm, ⟨13, _⟩ => ⟨S16384x4096, .f32⟩
  | .local _ .vmem, ⟨0, _⟩ => ⟨S1024x2816, .bf16⟩
  | .local _ .vmem, ⟨1, _⟩ => ⟨S1024x2816, .bf16⟩
  | .local _ .vmem, ⟨2, _⟩ => ⟨S1x2816x1024, .bf16⟩
  | .local _ .vmem, ⟨3, _⟩ => ⟨S1x2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S1x16384x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call1_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S1x16384x11008 : Shape := ⟨3, ![1, 16384, 11008]⟩
abbrev S2x11008x4096 : Shape := ⟨3, ![2, 11008, 4096]⟩
abbrev S1x16384x4096 : Shape := ⟨3, ![1, 16384, 4096]⟩
abbrev S1x11008x4096 : Shape := ⟨3, ![1, 11008, 4096]⟩
abbrev S11008x4096 : Shape := ⟨2, ![11008, 4096]⟩
abbrev S16384x4096 : Shape := ⟨2, ![16384, 4096]⟩

abbrev nBuf : Space → Nat
  | .hbm => 8
  | .vmem => 0
  | .smem => 0
  | _ => 0

abbrev bufTy : (tb : Table) → Fin (tcTables nBuf tb) → BufTy
  | .hbm, ⟨0, _⟩ => ⟨S1x16384x11008, .f32⟩
  | .hbm, ⟨1, _⟩ => ⟨S2x11008x4096, .f32⟩
  | .hbm, ⟨2, _⟩ => ⟨S1x16384x4096, .f32⟩
  | .hbm, ⟨3, _⟩ => ⟨S1x11008x4096, .f32⟩
  | .hbm, ⟨4, _⟩ => ⟨S11008x4096, .f32⟩
  | .hbm, ⟨5, _⟩ => ⟨S1x16384x4096, .f32⟩
  | .hbm, ⟨6, _⟩ => ⟨S1x16384x4096, .f32⟩
  | .hbm, ⟨7, _⟩ => ⟨S16384x4096, .f32⟩
  | _, _ => ⟨S1x16384x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S1x16384x4096 : Shape := ⟨3, ![1, 16384, 4096]⟩
abbrev S1x4096x18560 : Shape := ⟨3, ![1, 4096, 18560]⟩
abbrev S16384x4096 : Shape := ⟨2, ![16384, 4096]⟩
abbrev S16384x18432 : Shape := ⟨2, ![16384, 18432]⟩
abbrev S2048x4096 : Shape := ⟨2, ![2048, 4096]⟩
abbrev S1x4096x512 : Shape := ⟨3, ![1, 4096, 512]⟩
abbrev S2048x512 : Shape := ⟨2, ![2048, 512]⟩
abbrev S4096x512 : Shape := ⟨2, ![4096, 512]⟩

abbrev nBuf : Space → Nat
  | .hbm => 6
  | .vmem => 6
  | .smem => 0
  | _ => 0

abbrev bufTy : (tb : Table) → Fin (tcTables nBuf tb) → BufTy
  | .hbm, ⟨0, _⟩ => ⟨S1x16384x4096, .f32⟩
  | .hbm, ⟨1, _⟩ => ⟨S1x4096x18560, .f32⟩
  | .hbm, ⟨2, _⟩ => ⟨S16384x4096, .f32⟩
  | .hbm, ⟨3, _⟩ => ⟨S16384x4096, .bf16⟩
  | .hbm, ⟨4, _⟩ => ⟨S1x4096x18560, .bf16⟩
  | .hbm, ⟨5, _⟩ => ⟨S16384x18432, .bf16⟩
  | .local _ .vmem, ⟨0, _⟩ => ⟨S2048x4096, .bf16⟩
  | .local _ .vmem, ⟨1, _⟩ => ⟨S2048x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S2048x512, .bf16⟩
  | .local _ .vmem, ⟨5, _⟩ => ⟨S2048x512, .bf16⟩
  | _, _ => ⟨S1x16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 36], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S1x16384x4096 : Shape := ⟨3, ![1, 16384, 4096]⟩
abbrev S1x4096x18560 : Shape := ⟨3, ![1, 4096, 18560]⟩
abbrev S4096x18560 : Shape := ⟨2, ![4096, 18560]⟩
abbrev S1x16384x18560 : Shape := ⟨3, ![1, 16384, 18560]⟩
abbrev S16384x18560 : Shape := ⟨2, ![16384, 18560]⟩
abbrev S16384x8192 : Shape := ⟨2, ![16384, 8192]⟩
abbrev S16384x10240 : Shape := ⟨2, ![16384, 10240]⟩
abbrev S16384x128 : Shape := ⟨2, ![16384, 128]⟩
abbrev S_ : Shape := ⟨0, ![]⟩
abbrev S16384x18432 : Shape := ⟨2, ![16384, 18432]⟩

abbrev nBuf : Space → Nat
  | .hbm => 19
  | .vmem => 0
  | .smem => 0
  | _ => 0

abbrev bufTy : (tb : Table) → Fin (tcTables nBuf tb) → BufTy
  | .hbm, ⟨0, _⟩ => ⟨S1x16384x4096, .f32⟩
  | .hbm, ⟨1, _⟩ => ⟨S1x4096x18560, .f32⟩
  | .hbm, ⟨2, _⟩ => ⟨S4096x18560, .f32⟩
  | .hbm, ⟨3, _⟩ => ⟨S1x16384x18560, .f32⟩
  | .hbm, ⟨4, _⟩ => ⟨S16384x18560, .f32⟩
  | .hbm, ⟨5, _⟩ => ⟨S16384x8192, .f32⟩
  | .hbm, ⟨6, _⟩ => ⟨S16384x10240, .f32⟩
  | .hbm, ⟨7, _⟩ => ⟨S16384x128, .f32⟩
  | .hbm, ⟨8, _⟩ => ⟨S16384x8192, .f32⟩
  | .hbm, ⟨9, _⟩ => ⟨S16384x8192, .f32⟩
  | .hbm, ⟨10, _⟩ => ⟨S_, .f32⟩
  | .hbm, ⟨11, _⟩ => ⟨S16384x8192, .f32⟩
  | .hbm, ⟨12, _⟩ => ⟨S16384x8192, .f32⟩
  | .hbm, ⟨13, _⟩ => ⟨S_, .f32⟩
  | .hbm, ⟨14, _⟩ => ⟨S16384x8192, .f32⟩
  | .hbm, ⟨15, _⟩ => ⟨S16384x8192, .f32⟩
  | .hbm, ⟨16, _⟩ => ⟨S16384x8192, .f32⟩
  | .hbm, ⟨17, _⟩ => ⟨S16384x18432, .f32⟩
  | .hbm, ⟨18, _⟩ => ⟨S16384x18432, .bf16⟩
  | _, _ => ⟨S1x16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== Kernel5.lean ====
abbrev S1x16384x8192 : Shape := ⟨3, ![1, 16384, 8192]⟩
abbrev S1x8192x4096 : Shape := ⟨3, ![1, 8192, 4096]⟩
abbrev S1x16384x4096 : Shape := ⟨3, ![1, 16384, 4096]⟩
abbrev S16384x8192 : Shape := ⟨2, ![16384, 8192]⟩
abbrev S16384x4096 : Shape := ⟨2, ![16384, 4096]⟩
abbrev S1024x8192 : Shape := ⟨2, ![1024, 8192]⟩
abbrev S1x8192x256 : Shape := ⟨3, ![1, 8192, 256]⟩
abbrev S1024x256 : Shape := ⟨2, ![1024, 256]⟩
abbrev S8192x256 : Shape := ⟨2, ![8192, 256]⟩

abbrev nBuf : Space → Nat
  | .hbm => 8
  | .vmem => 8
  | .smem => 0
  | _ => 0

abbrev bufTy : (tb : Table) → Fin (tcTables nBuf tb) → BufTy
  | .hbm, ⟨0, _⟩ => ⟨S1x16384x8192, .f32⟩
  | .hbm, ⟨1, _⟩ => ⟨S1x8192x4096, .f32⟩
  | .hbm, ⟨2, _⟩ => ⟨S1x16384x4096, .f32⟩
  | .hbm, ⟨3, _⟩ => ⟨S16384x8192, .f32⟩
  | .hbm, ⟨4, _⟩ => ⟨S16384x8192, .bf16⟩
  | .hbm, ⟨5, _⟩ => ⟨S1x8192x4096, .bf16⟩
  | .hbm, ⟨6, _⟩ => ⟨S16384x4096, .f32⟩
  | .hbm, ⟨7, _⟩ => ⟨S16384x4096, .f32⟩
  | .local _ .vmem, ⟨0, _⟩ => ⟨S1024x8192, .bf16⟩
  | .local _ .vmem, ⟨1, _⟩ => ⟨S1024x8192, .bf16⟩
  | .local _ .vmem, ⟨2, _⟩ => ⟨S1x8192x256, .bf16⟩
  | .local _ .vmem, ⟨3, _⟩ => ⟨S1x8192x256, .bf16⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | _, _ => ⟨S1x16384x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S1x16384x8192 : Shape := ⟨3, ![1, 16384, 8192]⟩
abbrev S1x8192x4096 : Shape := ⟨3, ![1, 8192, 4096]⟩
abbrev S1x16384x4096 : Shape := ⟨3, ![1, 16384, 4096]⟩
abbrev S8192x4096 : Shape := ⟨2, ![8192, 4096]⟩
abbrev S16384x4096 : Shape := ⟨2, ![16384, 4096]⟩

abbrev nBuf : Space → Nat
  | .hbm => 7
  | .vmem => 0
  | .smem => 0
  | _ => 0

abbrev bufTy : (tb : Table) → Fin (tcTables nBuf tb) → BufTy
  | .hbm, ⟨0, _⟩ => ⟨S1x16384x8192, .f32⟩
  | .hbm, ⟨1, _⟩ => ⟨S1x8192x4096, .f32⟩
  | .hbm, ⟨2, _⟩ => ⟨S1x16384x4096, .f32⟩
  | .hbm, ⟨3, _⟩ => ⟨S8192x4096, .f32⟩
  | .hbm, ⟨4, _⟩ => ⟨S1x16384x4096, .f32⟩
  | .hbm, ⟨5, _⟩ => ⟨S1x16384x4096, .f32⟩
  | .hbm, ⟨6, _⟩ => ⟨S16384x4096, .f32⟩
  | _, _ => ⟨S1x16384x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S1x16384x2048 : Shape := ⟨3, ![1, 16384, 2048]⟩
abbrev S1x4096x4096 : Shape := ⟨3, ![1, 4096, 4096]⟩
abbrev S1x16384x4096 : Shape := ⟨3, ![1, 16384, 4096]⟩
abbrev S16384x2048 : Shape := ⟨2, ![16384, 2048]⟩
abbrev S16384x4096 : Shape := ⟨2, ![16384, 4096]⟩
abbrev S1024x2048 : Shape := ⟨2, ![1024, 2048]⟩
abbrev S1x4096x1024 : Shape := ⟨3, ![1, 4096, 1024]⟩
abbrev S1024x1024 : Shape := ⟨2, ![1024, 1024]⟩
abbrev S1x2048x1024 : Shape := ⟨3, ![1, 2048, 1024]⟩
abbrev S2048x1024 : Shape := ⟨2, ![2048, 1024]⟩

abbrev nBuf : Space → Nat
  | .hbm => 11
  | .vmem => 10
  | .smem => 0
  | _ => 0

abbrev bufTy : (tb : Table) → Fin (tcTables nBuf tb) → BufTy
  | .hbm, ⟨0, _⟩ => ⟨S1x16384x2048, .f32⟩
  | .hbm, ⟨1, _⟩ => ⟨S1x16384x2048, .f32⟩
  | .hbm, ⟨2, _⟩ => ⟨S1x4096x4096, .f32⟩
  | .hbm, ⟨3, _⟩ => ⟨S1x16384x4096, .f32⟩
  | .hbm, ⟨4, _⟩ => ⟨S16384x2048, .f32⟩
  | .hbm, ⟨5, _⟩ => ⟨S16384x2048, .bf16⟩
  | .hbm, ⟨6, _⟩ => ⟨S16384x2048, .f32⟩
  | .hbm, ⟨7, _⟩ => ⟨S16384x2048, .bf16⟩
  | .hbm, ⟨8, _⟩ => ⟨S1x4096x4096, .bf16⟩
  | .hbm, ⟨9, _⟩ => ⟨S16384x4096, .f32⟩
  | .hbm, ⟨10, _⟩ => ⟨S16384x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x4096x1024, .bf16⟩
  | .local _ .vmem, ⟨5, _⟩ => ⟨S1x4096x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference6Ideal.lean ====
abbrev S1x16384x2048 : Shape := ⟨3, ![1, 16384, 2048]⟩
abbrev S1x4096x4096 : Shape := ⟨3, ![1, 4096, 4096]⟩
abbrev S1x16384x4096 : Shape := ⟨3, ![1, 16384, 4096]⟩
abbrev S4096x4096 : Shape := ⟨2, ![4096, 4096]⟩
abbrev S16384x4096 : Shape := ⟨2, ![16384, 4096]⟩

abbrev nBuf : Space → Nat
  | .hbm => 9
  | .vmem => 0
  | .smem => 0
  | _ => 0

abbrev bufTy : (tb : Table) → Fin (tcTables nBuf tb) → BufTy
  | .hbm, ⟨0, _⟩ => ⟨S1x16384x2048, .f32⟩
  | .hbm, ⟨1, _⟩ => ⟨S1x16384x2048, .f32⟩
  | .hbm, ⟨2, _⟩ => ⟨S1x4096x4096, .f32⟩
  | .hbm, ⟨3, _⟩ => ⟨S1x16384x4096, .f32⟩
  | .hbm, ⟨4, _⟩ => ⟨S1x16384x4096, .f32⟩
  | .hbm, ⟨5, _⟩ => ⟨S4096x4096, .f32⟩
  | .hbm, ⟨6, _⟩ => ⟨S1x16384x4096, .f32⟩
  | .hbm, ⟨7, _⟩ => ⟨S1x16384x4096, .f32⟩
  | .hbm, ⟨8, _⟩ => ⟨S16384x4096, .f32⟩
  | _, _ => ⟨S1x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel7.lean ====
abbrev S1x16384x4096 : Shape := ⟨3, ![1, 16384, 4096]⟩
abbrev S4096 : Shape := ⟨1, ![4096]⟩
abbrev S16384x4096 : Shape := ⟨2, ![16384, 4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S1x16384x4096, .f32⟩
  | .hbm, ⟨1, _⟩ => ⟨S4096, .f32⟩
  | .hbm, ⟨2, _⟩ => ⟨S16384x4096, .f32⟩
  | .hbm, ⟨3, _⟩ => ⟨S1x4096, .f32⟩
  | .hbm, ⟨4, _⟩ => ⟨S16384x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | _, _ => ⟨S1x16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S1x16384x4096 : Shape := ⟨3, ![1, 16384, 4096]⟩
abbrev S4096 : Shape := ⟨1, ![4096]⟩
abbrev S16384x4096 : Shape := ⟨2, ![16384, 4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S1x16384x4096, .f32⟩
  | .hbm, ⟨1, _⟩ => ⟨S4096, .f32⟩
  | .hbm, ⟨2, _⟩ => ⟨S16384x4096, .f32⟩
  | .hbm, ⟨3, _⟩ => ⟨S16384x4096, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x4096, .f32⟩
  | .hbm, ⟨15, _⟩ => ⟨S16384x4096, .f32⟩
  | .hbm, ⟨16, _⟩ => ⟨S1x4096, .f32⟩
  | .hbm, ⟨17, _⟩ => ⟨S16384x4096, .f32⟩
  | .hbm, ⟨18, _⟩ => ⟨S16384x4096, .f32⟩
  | _, _ => ⟨S1x16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel8.lean ====
abbrev S1x16384x4096 : Shape := ⟨3, ![1, 16384, 4096]⟩
abbrev S1x4096x14352 : Shape := ⟨3, ![1, 4096, 14352]⟩
abbrev S128 : Shape := ⟨1, ![128]⟩
abbrev S_ : Shape := ⟨0, ![]⟩
abbrev S16384 : Shape := ⟨1, ![16384]⟩
abbrev S16384x1 : Shape := ⟨2, ![16384, 1]⟩
abbrev S1x128 : Shape := ⟨2, ![1, 128]⟩
abbrev S16384x128 : Shape := ⟨2, ![16384, 128]⟩
abbrev S16384x4096 : Shape := ⟨2, ![16384, 4096]⟩
abbrev S16384x14336 : Shape := ⟨2, ![16384, 14336]⟩
abbrev S2048x4096 : Shape := ⟨2, ![2048, 4096]⟩
abbrev S1x4096x512 : Shape := ⟨3, ![1, 4096, 512]⟩
abbrev S2048x128 : Shape := ⟨2, ![2048, 128]⟩
abbrev S2048x512 : Shape := ⟨2, ![2048, 512]⟩
abbrev S4096x512 : Shape := ⟨2, ![4096, 512]⟩

abbrev nBuf : Space → Nat
  | .hbm => 23
  | .vmem => 10
  | .smem => 0
  | _ => 0

abbrev bufTy : (tb : Table) → Fin (tcTables nBuf tb) → BufTy
  | .hbm, ⟨0, _⟩ => ⟨S1x16384x4096, .f32⟩
  | .hbm, ⟨1, _⟩ => ⟨S1x4096x14352, .f32⟩
  | .hbm, ⟨2, _⟩ => ⟨S128, .f32⟩
  | .hbm, ⟨3, _⟩ => ⟨S128, .f32⟩
  | .hbm, ⟨4, _⟩ => ⟨S_, .f32⟩
  | .hbm, ⟨5, _⟩ => ⟨S128, .f32⟩
  | .hbm, ⟨6, _⟩ => ⟨S128, .f32⟩
  | .hbm, ⟨7, _⟩ => ⟨S_, .f32⟩
  | .hbm, ⟨8, _⟩ => ⟨S128, .f32⟩
  | .hbm, ⟨9, _⟩ => ⟨S128, .f32⟩
  | .hbm, ⟨10, _⟩ => ⟨S16384, .i32⟩
  | .hbm, ⟨11, _⟩ => ⟨S16384, .f32⟩
  | .hbm, ⟨12, _⟩ => ⟨S16384x1, .f32⟩
  | .hbm, ⟨13, _⟩ => ⟨S1x128, .f32⟩
  | .hbm, ⟨14, _⟩ => ⟨S16384x128, .f32⟩
  | .hbm, ⟨15, _⟩ => ⟨S16384x128, .f32⟩
  | .hbm, ⟨16, _⟩ => ⟨S16384x128, .f32⟩
  | .hbm, ⟨17, _⟩ => ⟨S16384x128, .f32⟩
  | .hbm, ⟨18, _⟩ => ⟨S16384x128, .f32⟩
  | .hbm, ⟨19, _⟩ => ⟨S16384x4096, .f32⟩
  | .hbm, ⟨20, _⟩ => ⟨S16384x4096, .bf16⟩
  | .hbm, ⟨21, _⟩ => ⟨S1x4096x14352, .bf16⟩
  | .hbm, ⟨22, _⟩ => ⟨S16384x14336, .bf16⟩
  | .local _ .vmem, ⟨0, _⟩ => ⟨S2048x4096, .bf16⟩
  | .local _ .vmem, ⟨1, _⟩ => ⟨S2048x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x512, .bf16⟩
  | .local _ .vmem, ⟨9, _⟩ => ⟨S2048x512, .bf16⟩
  | _, _ => ⟨S1x16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 28], ![false, false]⟩

def k0_cond1 (i : grid0.Coords) : BitVec 1 :=
  let arg1 : BitVec 32 := BitVec.ofNat 32 (i 1).val
  let c0_i32 : BitVec 32 := 0#32
  let v5 : BitVec 1 := Scalar.cmpi .sge arg1 c0_i32
  let c8_i32 : BitVec 32 := 8#32
  let v6 : BitVec 1 := Scalar.cmpi .slt arg1 c8_i32
  let v7 : BitVec 1 := Scalar.andi v5 v6
  let v8 : BitVec 32 := Scalar.extui v7
  let c0_i32_4 : BitVec 32 := 0#32
  let v9 : BitVec 1 := Scalar.cmpi .ne v8 c0_i32_4
  v9

def k0_cond2 (i : grid0.Coords) : BitVec 1 :=
  let arg1 : BitVec 32 := BitVec.ofNat 32 (i 1).val
  let c8_i32_5 : BitVec 32 := 8#32
  let v10 : BitVec 1 := Scalar.cmpi .sge arg1 c8_i32_5
  let c12_i32 : BitVec 32 := 12#32
  let v11 : BitVec 1 := Scalar.cmpi .slt arg1 c12_i32
  let v12 : BitVec 1 := Scalar.andi v10 v11
  let v13 : BitVec 32 := Scalar.extui v12
  let c0_i32_6 : BitVec 32 := 0#32
  let v14 : BitVec 1 := Scalar.cmpi .ne v13 c0_i32_6
  v14

def k0_cond3 (i : grid0.Coords) : BitVec 1 :=
  let arg1 : BitVec 32 := BitVec.ofNat 32 (i 1).val
  let c12_i32_7 : BitVec 32 := 12#32
  let v15 : BitVec 1 := Scalar.cmpi .sge arg1 c12_i32_7
  let c16_i32 : BitVec 32 := 16#32
  let v16 : BitVec 1 := Scalar.cmpi .slt arg1 c16_i32
  let v17 : BitVec 1 := Scalar.andi v15 v16
  let v18 : BitVec 32 := Scalar.extui v17
  let c0_i32_8 : BitVec 32 := 0#32
  let v19 : BitVec 1 := Scalar.cmpi .ne v18 c0_i32_8
  v19

def k0_cond4 (i : grid0.Coords) : BitVec 1 :=
  let arg1 : BitVec 32 := BitVec.ofNat 32 (i 1).val
  let c16_i32_9 : BitVec 32 := 16#32
  let v20 : BitVec 1 := Scalar.cmpi .sge arg1 c16_i32_9
  let c20_i32 : BitVec 32 := 20#32
  let v21 : BitVec 1 := Scalar.cmpi .slt arg1 c20_i32
  let v22 : BitVec 1 := Scalar.andi v20 v21
  let v23 : BitVec 32 := Scalar.extui v22
  let c0_i32_10 : BitVec 32 := 0#32
  let v24 : BitVec 1 := Scalar.cmpi .ne v23 c0_i32_10
  v24

def k0_cond5 (i : grid0.Coords) : BitVec 1 :=
  let arg1 : BitVec 32 := BitVec.ofNat 32 (i 1).val
  let c20_i32_11 : BitVec 32 := 20#32
  let v25 : BitVec 1 := Scalar.cmpi .sge arg1 c20_i32_11
  let c28_i32 : BitVec 32 := 28#32
  let v26 : BitVec 1 := Scalar.cmpi .slt arg1 c28_i32
  let v27 : BitVec 1 := Scalar.andi v25 v26
  let v28 : BitVec 32 := Scalar.extui v27
  let c0_i32_12 : BitVec 32 := 0#32
  let v29 : BitVec 1 := Scalar.cmpi .ne v28 c0_i32_12
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference8Ideal.lean ====
abbrev S1x16384x4096 : Shape := ⟨3, ![1, 16384, 4096]⟩
abbrev S1x4096x14352 : Shape := ⟨3, ![1, 4096, 14352]⟩
abbrev S4096x14352 : Shape := ⟨2, ![4096, 14352]⟩
abbrev S1x16384x14352 : Shape := ⟨3, ![1, 16384, 14352]⟩
abbrev S1x16384x2048 : Shape := ⟨3, ![1, 16384, 2048]⟩
abbrev S1x16384x6144 : Shape := ⟨3, ![1, 16384, 6144]⟩
abbrev S1x16384x16 : Shape := ⟨3, ![1, 16384, 16]⟩
abbrev S16384 : Shape := ⟨1, ![16384]⟩
abbrev S1x16384x8x256 : Shape := ⟨4, ![1, 16384, 8, 256]⟩
abbrev S128 : Shape := ⟨1, ![128]⟩
abbrev S_ : Shape := ⟨0, ![]⟩
abbrev S16384x1 : Shape := ⟨2, ![16384, 1]⟩
abbrev S1x128 : Shape := ⟨2, ![1, 128]⟩
abbrev S16384x128 : Shape := ⟨2, ![16384, 128]⟩
abbrev S1x16384x1x128 : Shape := ⟨4, ![1, 16384, 1, 128]⟩
abbrev S1x16384x8x128 : Shape := ⟨4, ![1, 16384, 8, 128]⟩
abbrev S1x16384x14336 : Shape := ⟨3, ![1, 16384, 14336]⟩
abbrev S16384x14336 : Shape := ⟨2, ![16384, 14336]⟩

abbrev nBuf : Space → Nat
  | .hbm => 92
  | .vmem => 0
  | .smem => 0
  | _ => 0

abbrev bufTy : (tb : Table) → Fin (tcTables nBuf tb) → BufTy
  | .hbm, ⟨0, _⟩ => ⟨S1x16384x4096, .f32⟩
  | .hbm, ⟨1, _⟩ => ⟨S1x4096x14352, .f32⟩
  | .hbm, ⟨2, _⟩ => ⟨S4096x14352, .f32⟩
  | .hbm, ⟨3, _⟩ => ⟨S1x16384x14352, .f32⟩
  | .hbm, ⟨4, _⟩ => ⟨S1x16384x2048, .f32⟩
  | .hbm, ⟨5, _⟩ => ⟨S1x16384x2048, .f32⟩
  | .hbm, ⟨6, _⟩ => ⟨S1x16384x2048, .f32⟩
  | .hbm, ⟨7, _⟩ => ⟨S1x16384x2048, .f32⟩
  | .hbm, ⟨8, _⟩ => ⟨S1x16384x6144, .f32⟩
  | .hbm, ⟨9, _⟩ => ⟨S1x16384x16, .f32⟩
  | .hbm, ⟨10, _⟩ => ⟨S16384, .i32⟩
  | .hbm, ⟨11, _⟩ => ⟨S1x16384x8x256, .f32⟩
  | .hbm, ⟨12, _⟩ => ⟨S128, .f32⟩
  | .hbm, ⟨13, _⟩ => ⟨S128, .f32⟩
  | .hbm, ⟨14, _⟩ => ⟨S_, .f32⟩
  | .hbm, ⟨15, _⟩ => ⟨S128, .f32⟩
  | .hbm, ⟨16, _⟩ => ⟨S128, .f32⟩
  | .hbm, ⟨17, _⟩ => ⟨S_, .f32⟩
  | .hbm, ⟨18, _⟩ => ⟨S128, .f32⟩
  | .hbm, ⟨19, _⟩ => ⟨S128, .f32⟩
  | .hbm, ⟨20, _⟩ => ⟨S16384, .f32⟩
  | .hbm, ⟨21, _⟩ => ⟨S16384x1, .f32⟩
  | .hbm, ⟨22, _⟩ => ⟨S1x128, .f32⟩
  | .hbm, ⟨23, _⟩ => ⟨S16384x128, .f32⟩
  | .hbm, ⟨24, _⟩ => ⟨S16384x128, .f32⟩
  | .hbm, ⟨25, _⟩ => ⟨S16384x128, .f32⟩
  | .hbm, ⟨26, _⟩ => ⟨S16384x128, .f32⟩
  | .hbm, ⟨27, _⟩ => ⟨S1x16384x1x128, .f32⟩
  | .hbm, ⟨28, _⟩ => ⟨S16384x128, .f32⟩
  | .hbm, ⟨29, _⟩ => ⟨S1x16384x1x128, .f32⟩
  | .hbm, ⟨30, _⟩ => ⟨S1x16384x8x128, .f32⟩
  | .hbm, ⟨31, _⟩ => ⟨S1x16384x8x128, .f32⟩
  | .hbm, ⟨32, _⟩ => ⟨S1x16384x8x128, .f32⟩
  | .hbm, ⟨33, _⟩ => ⟨S1x16384x8x128, .f32⟩
  | .hbm, ⟨34, _⟩ => ⟨S1x16384x8x128, .f32⟩
  | .hbm, ⟨35, _⟩ => ⟨S1x16384x8x128, .f32⟩
  | .hbm, ⟨36, _⟩ => ⟨S1x16384x8x128, .f32⟩
  | .hbm, ⟨37, _⟩ => ⟨S1x16384x8x128, .f32⟩
  | .hbm, ⟨38, _⟩ => ⟨S1x16384x8x128, .f32⟩
  | .hbm, ⟨39, _⟩ => ⟨S1x16384x8x128, .f32⟩
  | .hbm, ⟨40, _⟩ => ⟨S1x16384x8x128, .f32⟩
  | .hbm, ⟨41, _⟩ => ⟨S1x16384x8x128, .f32⟩
  | .hbm, ⟨42, _⟩ => ⟨S1x16384x8x256, .f32⟩
  | .hbm, ⟨43, _⟩ => ⟨S1x16384x2048, .f32⟩
  | .hbm, ⟨44, _⟩ => ⟨S1x16384x8x256, .f32⟩
  | .hbm, ⟨45, _⟩ => ⟨S128, .f32⟩
  | .hbm, ⟨46, _⟩ => ⟨S128, .f32⟩
  | .hbm, ⟨47, _⟩ => ⟨S_, .f32⟩
  | .hbm, ⟨48, _⟩ => ⟨S128, .f32⟩
  | .hbm, ⟨49, _⟩ => ⟨S128, .f32⟩
  | .hbm, ⟨50, _⟩ => ⟨S_, .f32⟩
  | .hbm, ⟨51, _⟩ => ⟨S128, .f32⟩
  | .hbm, ⟨52, _⟩ => ⟨S128, .f32⟩
  | .hbm, ⟨53, _⟩ => ⟨S16384, .f32⟩
  | .hbm, ⟨54, _⟩ => ⟨S16384x1, .f32⟩
  | .hbm, ⟨55, _⟩ => ⟨S1x128, .f32⟩
  | .hbm, ⟨56, _⟩ => ⟨S16384x128, .f32⟩
  | .hbm, ⟨57, _⟩ => ⟨S16384x128, .f32⟩
  | .hbm, ⟨58, _⟩ => ⟨S16384x128, .f32⟩
  | .hbm, ⟨59, _⟩ => ⟨S16384x128, .f32⟩
  | .hbm, ⟨60, _⟩ => ⟨S1x16384x1x128, .f32⟩
  | .hbm, ⟨61, _⟩ => ⟨S16384x128, .f32⟩
  | .hbm, ⟨62, _⟩ => ⟨S1x16384x1x128, .f32⟩
  | .hbm, ⟨63, _⟩ => ⟨S1x16384x8x128, .f32⟩
  | .hbm, ⟨64, _⟩ => ⟨S1x16384x8x128, .f32⟩
  | .hbm, ⟨65, _⟩ => ⟨S1x16384x8x128, .f32⟩
  | .hbm, ⟨66, _⟩ => ⟨S1x16384x8x128, .f32⟩
  | .hbm, ⟨67, _⟩ => ⟨S1x16384x8x128, .f32⟩
  | .hbm, ⟨68, _⟩ => ⟨S1x16384x8x128, .f32⟩
  | .hbm, ⟨69, _⟩ => ⟨S1x16384x8x128, .f32⟩
  | .hbm, ⟨70, _⟩ => ⟨S1x16384x8x128, .f32⟩
  | .hbm, ⟨71, _⟩ => ⟨S1x16384x8x128, .f32⟩
  | .hbm, ⟨72, _⟩ => ⟨S1x16384x8x128, .f32⟩
  | .hbm, ⟨73, _⟩ => ⟨S1x16384x8x128, .f32⟩
  | .hbm, ⟨74, _⟩ => ⟨S1x16384x8x128, .f32⟩
  | .hbm, ⟨75, _⟩ => ⟨S1x16384x8x256, .f32⟩
  | .hbm, ⟨76, _⟩ => ⟨S_, .f32⟩
  | .hbm, ⟨77, _⟩ => ⟨S1x16384x8x256, .f32⟩
  | .hbm, ⟨78, _⟩ => ⟨S1x16384x8x256, .f32⟩
  | .hbm, ⟨79, _⟩ => ⟨S1x16384x2048, .f32⟩
  | .hbm, ⟨80, _⟩ => ⟨S1x16384x2048, .f32⟩
  | .hbm, ⟨81, _⟩ => ⟨S1x16384x2048, .f32⟩
  | .hbm, ⟨82, _⟩ => ⟨S_, .f32⟩
  | .hbm, ⟨83, _⟩ => ⟨S1x16384x2048, .f32⟩
  | .hbm, ⟨84, _⟩ => ⟨S1x16384x2048, .f32⟩
  | .hbm, ⟨85, _⟩ => ⟨S_, .f32⟩
  | .hbm, ⟨86, _⟩ => ⟨S1x16384x2048, .f32⟩
  | .hbm, ⟨87, _⟩ => ⟨S1x16384x2048, .f32⟩
  | .hbm, ⟨88, _⟩ => ⟨S1x16384x2048, .f32⟩
  | .hbm, ⟨89, _⟩ => ⟨S1x16384x14336, .f32⟩
  | .hbm, ⟨90, _⟩ => ⟨S16384x14336, .f32⟩
  | .hbm, ⟨91, _⟩ => ⟨S16384x14336, .bf16⟩
  | _, _ => ⟨S1x16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_cst_1 : Ref sig .tc := ⟨.hbm, 47, rfl⟩
abbrev main_v43 : Ref sig .tc := ⟨.hbm, 48, rfl⟩
abbrev main_v44 : Ref sig .tc := ⟨.hbm, 49, rfl⟩
abbrev main_cst_2 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_cst_3 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_call0_v0 : Ref sig .tc := ⟨.hbm, 80, rfl⟩
abbrev main_call0_v1 : Ref sig .tc := ⟨.hbm, 81, rfl⟩
abbrev main_call0_cst : Ref sig .tc := ⟨.hbm, 82, rfl⟩
abbrev main_call0_v2 : Ref sig .tc := ⟨.hbm, 83, rfl⟩
abbrev main_call0_v3 : Ref sig .tc := ⟨.hbm, 84, rfl⟩
abbrev main_call0_cst_0 : Ref sig .tc := ⟨.hbm, 85, rfl⟩
abbrev main_call0_v4 : Ref sig .tc := ⟨.hbm, 86, rfl⟩
abbrev main_call0_v5 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩

abbrev nD : Nat := 1
abbrev τ : Topo := Topo.v7x

variable {F : FTy → Type} [FloatOps F]
-- ==== Kernel9.lean ====
abbrev S1x16384x4096 : Shape := ⟨3, ![1, 16384, 4096]⟩
abbrev S4096 : Shape := ⟨1, ![4096]⟩
abbrev S1x256x512 : Shape := ⟨3, ![1, 256, 512]⟩
abbrev S2x4096x512 : Shape := ⟨3, ![2, 4096, 512]⟩
abbrev S2x512x4096 : Shape := ⟨3, ![2, 512, 4096]⟩
abbrev S256x4x128 : Shape := ⟨3, ![256, 4, 128]⟩
abbrev S4x128x256 : Shape := ⟨3, ![4, 128, 256]⟩
abbrev S16384x4096 : Shape := ⟨2, ![16384, 4096]⟩
abbrev S256x512 : Shape := ⟨2, ![256, 512]⟩
abbrev S1x4096 : Shape := ⟨2, ![1, 4096]⟩
abbrev S512x4096 : Shape := ⟨2, ![512, 4096]⟩
abbrev S1x4096x512 : Shape := ⟨3, ![1, 4096, 512]⟩
abbrev S1x512x4096 : Shape := ⟨3, ![1, 512, 4096]⟩
abbrev S512 : Shape := ⟨1, ![512]⟩
abbrev S512x1 : Shape := ⟨2, ![512, 1]⟩
abbrev S4096x512 : Shape := ⟨2, ![4096, 512]⟩
abbrev S512x512 : Shape := ⟨2, ![512, 512]⟩
abbrev S512x128 : Shape := ⟨2, ![512, 128]⟩
abbrev S1x128x256 : Shape := ⟨3, ![1, 128, 256]⟩
abbrev S128x256 : Shape := ⟨2, ![128, 256]⟩
abbrev S512x256 : Shape := ⟨2, ![512, 256]⟩
abbrev S256x128 : Shape := ⟨2, ![256, 128]⟩

abbrev nBuf : Space → Nat
  | .hbm => 19
  | .vmem => 12
  | .smem => 0
  | _ => 0

abbrev bufTy : (tb : Table) → Fin (tcTables nBuf tb) → BufTy
  | .hbm, ⟨0, _⟩ => ⟨S1x16384x4096, .f32⟩
  | .hbm, ⟨1, _⟩ => ⟨S4096, .f32⟩
  | .hbm, ⟨2, _⟩ => ⟨S4096, .f32⟩
  | .hbm, ⟨3, _⟩ => ⟨S1x256x512, .f32⟩
  | .hbm, ⟨4, _⟩ => ⟨S1x256x512, .f32⟩
  | .hbm, ⟨5, _⟩ => ⟨S2x4096x512, .f32⟩
  | .hbm, ⟨6, _⟩ => ⟨S2x512x4096, .f32⟩
  | .hbm, ⟨7, _⟩ => ⟨S1x256x512, .bf16⟩
  | .hbm, ⟨8, _⟩ => ⟨S256x4x128, .bf16⟩
  | .hbm, ⟨9, _⟩ => ⟨S4x128x256, .bf16⟩
  | .hbm, ⟨10, _⟩ => ⟨S16384x4096, .f32⟩
  | .hbm, ⟨11, _⟩ => ⟨S2x4096x512, .bf16⟩
  | .hbm, ⟨12, _⟩ => ⟨S256x512, .f32⟩
  | .hbm, ⟨13, _⟩ => ⟨S256x512, .bf16⟩
  | .hbm, ⟨14, _⟩ => ⟨S2x512x4096, .bf16⟩
  | .hbm, ⟨15, _⟩ => ⟨S1x4096, .f32⟩
  | .hbm, ⟨16, _⟩ => ⟨S1x4096, .f32⟩
  | .hbm, ⟨17, _⟩ => ⟨S16384x4096, .f32⟩
  | .hbm, ⟨18, _⟩ => ⟨S16384x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x4096, .f32⟩
  | .local _ .vmem, ⟨4, _⟩ => ⟨S1x4096x512, .bf16⟩
  | .local _ .vmem, ⟨5, _⟩ => ⟨S4x128x256, .bf16⟩
  | .local _ .vmem, ⟨6, _⟩ => ⟨S256x512, .bf16⟩
  | .local _ .vmem, ⟨7, _⟩ => ⟨S1x512x4096, .bf16⟩
  | .local _ .vmem, ⟨8, _⟩ => ⟨S512x4096, .f32⟩
  | .local _ .vmem, ⟨9, _⟩ => ⟨S512x4096, .f32⟩
  | .local _ .vmem, ⟨10, _⟩ => ⟨S512x4096, .bf16⟩
  | .local _ .vmem, ⟨11, _⟩ => ⟨S512x4096, .bf16⟩
  | _, _ => ⟨S1x16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference9Ideal.lean ====
abbrev S1x16384x4096 : Shape := ⟨3, ![1, 16384, 4096]⟩
abbrev S4096 : Shape := ⟨1, ![4096]⟩
abbrev S1x256x512 : Shape := ⟨3, ![1, 256, 512]⟩
abbrev S2x4096x512 : Shape := ⟨3, ![2, 4096, 512]⟩
abbrev S2x512x4096 : Shape := ⟨3, ![2, 512, 4096]⟩
abbrev S_ : Shape := ⟨0, ![]⟩
abbrev S1x16384 : Shape := ⟨2, ![1, 16384]⟩
abbrev S1x16384x1 : Shape := ⟨3, ![1, 16384, 1]⟩
abbrev S1x1x4096 : Shape := ⟨3, ![1, 1, 4096]⟩
abbrev S1x4096x512 : Shape := ⟨3, ![1, 4096, 512]⟩
abbrev S4096x512 : Shape := ⟨2, ![4096, 512]⟩
abbrev S1x16384x512 : Shape := ⟨3, ![1, 16384, 512]⟩
abbrev S1x16384x4x128 : Shape := ⟨4, ![1, 16384, 4, 128]⟩
abbrev S1x256x4x128 : Shape := ⟨4, ![1, 256, 4, 128]⟩
abbrev S1x4x16384x256 : Shape := ⟨4, ![1, 4, 16384, 256]⟩
abbrev S1x4x16384 : Shape := ⟨3, ![1, 4, 16384]⟩
abbrev S1x4x16384x1 : Shape := ⟨4, ![1, 4, 16384, 1]⟩
abbrev S1x4x128x16384 : Shape := ⟨4, ![1, 4, 128, 16384]⟩
abbrev S1x512x4096 : Shape := ⟨3, ![1, 512, 4096]⟩
abbrev S512x4096 : Shape := ⟨2, ![512, 4096]⟩
abbrev S16384x4096 : Shape := ⟨2, ![16384, 4096]⟩

abbrev nBuf : Space → Nat
  | .hbm => 73
  | .vmem => 0
  | .smem => 0
  | _ => 0

abbrev bufTy : (tb : Table) → Fin (tcTables nBuf tb) → BufTy
  | .hbm, ⟨0, _⟩ => ⟨S1x16384x4096, .f32⟩
  | .hbm, ⟨1, _⟩ => ⟨S4096, .f32⟩
  | .hbm, ⟨2, _⟩ => ⟨S4096, .f32⟩
  | .hbm, ⟨3, _⟩ => ⟨S1x256x512, .f32⟩
  | .hbm, ⟨4, _⟩ => ⟨S1x256x512, .f32⟩
  | .hbm, ⟨5, _⟩ => ⟨S2x4096x512, .f32⟩
  | .hbm, ⟨6, _⟩ => ⟨S2x512x4096, .f32⟩
  | .hbm, ⟨7, _⟩ => ⟨S1x16384x4096, .f32⟩
  | .hbm, ⟨8, _⟩ => ⟨S_, .f32⟩
  | .hbm, ⟨9, _⟩ => ⟨S1x16384, .f32⟩
  | .hbm, ⟨10, _⟩ => ⟨S1x16384x1, .f32⟩
  | .hbm, ⟨11, _⟩ => ⟨S_, .f32⟩
  | .hbm, ⟨12, _⟩ => ⟨S1x16384x1, .f32⟩
  | .hbm, ⟨13, _⟩ => ⟨S1x16384x1, .f32⟩
  | .hbm, ⟨14, _⟩ => ⟨S_, .f32⟩
  | .hbm, ⟨15, _⟩ => ⟨S1x16384x1, .f32⟩
  | .hbm, ⟨16, _⟩ => ⟨S1x16384x1, .f32⟩
  | .hbm, ⟨17, _⟩ => ⟨S1x16384x1, .f32⟩
  | .hbm, ⟨18, _⟩ => ⟨S1x16384x4096, .f32⟩
  | .hbm, ⟨19, _⟩ => ⟨S1x16384x4096, .f32⟩
  | .hbm, ⟨20, _⟩ => ⟨S1x1x4096, .f32⟩
  | .hbm, ⟨21, _⟩ => ⟨S1x16384x4096, .f32⟩
  | .hbm, ⟨22, _⟩ => ⟨S1x16384x4096, .f32⟩
  | .hbm, ⟨23, _⟩ => ⟨S1x4096x512, .f32⟩
  | .hbm, ⟨24, _⟩ => ⟨S4096x512, .f32⟩
  | .hbm, ⟨25, _⟩ => ⟨S1x16384x512, .f32⟩
  | .hbm, ⟨26, _⟩ => ⟨S1x16384x4x128, .f32⟩
  | .hbm, ⟨27, _⟩ => ⟨S1x256x4x128, .f32⟩
  | .hbm, ⟨28, _⟩ => ⟨S1x256x4x128, .f32⟩
  | .hbm, ⟨29, _⟩ => ⟨S1x4x16384x256, .f32⟩
  | .hbm, ⟨30, _⟩ => ⟨S_, .f32⟩
  | .hbm, ⟨31, _⟩ => ⟨S1x4x16384x256, .f32⟩
  | .hbm, ⟨32, _⟩ => ⟨S1x4x16384x256, .f32⟩
  | .hbm, ⟨33, _⟩ => ⟨S_, .f32⟩
  | .hbm, ⟨34, _⟩ => ⟨S1x4x16384, .f32⟩
  | .hbm, ⟨35, _⟩ => ⟨S_, .f32⟩
  | .hbm, ⟨36, _⟩ => ⟨S1x4x16384, .f32⟩
  | .hbm, ⟨37, _⟩ => ⟨S1x4x16384, .f32⟩
  | .hbm, ⟨38, _⟩ => ⟨S1x4x16384x1, .f32⟩
  | .hbm, ⟨39, _⟩ => ⟨S1x4x16384x256, .f32⟩
  | .hbm, ⟨40, _⟩ => ⟨S1x4x16384x256, .f32⟩
  | .hbm, ⟨41, _⟩ => ⟨S1x4x16384x256, .f32⟩
  | .hbm, ⟨42, _⟩ => ⟨S_, .f32⟩
  | .hbm, ⟨43, _⟩ => ⟨S1x4x16384, .f32⟩
  | .hbm, ⟨44, _⟩ => ⟨S1x4x16384x1, .f32⟩
  | .hbm, ⟨45, _⟩ => ⟨S1x4x16384x256, .f32⟩
  | .hbm, ⟨46, _⟩ => ⟨S1x4x16384x256, .f32⟩
  | .hbm, ⟨47, _⟩ => ⟨S1x4x128x16384, .f32⟩
  | .hbm, ⟨48, _⟩ => ⟨S1x16384x4x128, .f32⟩
  | .hbm, ⟨49, _⟩ => ⟨S1x16384x512, .f32⟩
  | .hbm, ⟨50, _⟩ => ⟨S1x512x4096, .f32⟩
  | .hbm, ⟨51, _⟩ => ⟨S512x4096, .f32⟩
  | .hbm, ⟨52, _⟩ => ⟨S1x16384x4096, .f32⟩
  | .hbm, ⟨53, _⟩ => ⟨S1x16384x4096, .f32⟩
  | .hbm, ⟨54, _⟩ => ⟨S1x16384x4096, .f32⟩
  | .hbm, ⟨55, _⟩ => ⟨S_, .f32⟩
  | .hbm, ⟨56, _⟩ => ⟨S1x16384, .f32⟩
  | .hbm, ⟨57, _⟩ => ⟨S1x16384x1, .f32⟩
  | .hbm, ⟨58, _⟩ => ⟨S_, .f32⟩
  | .hbm, ⟨59, _⟩ => ⟨S1x16384x1, .f32⟩
  | .hbm, ⟨60, _⟩ => ⟨S1x16384x1, .f32⟩
  | .hbm, ⟨61, _⟩ => ⟨S_, .f32⟩
  | .hbm, ⟨62, _⟩ => ⟨S1x16384x1, .f32⟩
  | .hbm, ⟨63, _⟩ => ⟨S1x16384x1, .f32⟩
  | .hbm, ⟨64, _⟩ => ⟨S1x16384x1, .f32⟩
  | .hbm, ⟨65, _⟩ => ⟨S1x16384x4096, .f32⟩
  | .hbm, ⟨66, _⟩ => ⟨S1x16384x4096, .f32⟩
  | .hbm, ⟨67, _⟩ => ⟨S1x1x4096, .f32⟩
  | .hbm, ⟨68, _⟩ => ⟨S1x16384x4096, .f32⟩
  | .hbm, ⟨69, _⟩ => ⟨S1x16384x4096, .f32⟩
  | .hbm, ⟨70, _⟩ => ⟨S16384x4096, .f32⟩
  | .hbm, ⟨71, _⟩ => ⟨S16384x4096, .f32⟩
  | .hbm, ⟨72, _⟩ => ⟨S16384x4096, .bf16⟩
  | _, _ => ⟨S1x16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩

abbrev nD : Nat := 1
abbrev τ : Topo := Topo.v7x

variable {F : FTy → Type} [FloatOps F]
-- ==== Kernel10.lean ====
abbrev S1x16384x4096 : Shape := ⟨3, ![1, 16384, 4096]⟩
abbrev S1x4096x18560 : Shape := ⟨3, ![1, 4096, 18560]⟩
abbrev S128 : Shape := ⟨1, ![128]⟩
abbrev S16384x4096 : Shape := ⟨2, ![16384, 4096]⟩
abbrev S1x128 : Shape := ⟨2, ![1, 128]⟩
abbrev S16384x128 : Shape := ⟨2, ![16384, 128]⟩
abbrev S1024x4096 : Shape := ⟨2, ![1024, 4096]⟩
abbrev S1x4096x128 : Shape := ⟨3, ![1, 4096, 128]⟩
abbrev S1024x128 : Shape := ⟨2, ![1024, 128]⟩
abbrev S4096x128 : Shape := ⟨2, ![4096, 128]⟩

abbrev nBuf : Space → Nat
  | .hbm => 8
  | .vmem => 6
  | .smem => 0
  | _ => 0

abbrev bufTy : (tb : Table) → Fin (tcTables nBuf tb) → BufTy
  | .hbm, ⟨0, _⟩ => ⟨S1x16384x4096, .f32⟩
  | .hbm, ⟨1, _⟩ => ⟨S1x4096x18560, .f32⟩
  | .hbm, ⟨2, _⟩ => ⟨S128, .f32⟩
  | .hbm, ⟨3, _⟩ => ⟨S16384x4096, .f32⟩
  | .hbm, ⟨4, _⟩ => ⟨S16384x4096, .bf16⟩
  | .hbm, ⟨5, _⟩ => ⟨S1x4096x18560, .bf16⟩
  | .hbm, ⟨6, _⟩ => ⟨S1x128, .f32⟩
  | .hbm, ⟨7, _⟩ => ⟨S16384x128, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x128, .bf16⟩
  | .local _ .vmem, ⟨3, _⟩ => ⟨S1x128, .f32⟩
  | .local _ .vmem, ⟨4, _⟩ => ⟨S1024x128, .f32⟩
  | .local _ .vmem, ⟨5, _⟩ => ⟨S1024x128, .f32⟩
  | _, _ => ⟨S1x16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c144_i32 : BitVec 32 := 144#32
  let v0 : BitVec 32 := Scalar.addi arg1 c144_i32
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference10Ideal.lean ====
abbrev S1x16384x4096 : Shape := ⟨3, ![1, 16384, 4096]⟩
abbrev S1x4096x18560 : Shape := ⟨3, ![1, 4096, 18560]⟩
abbrev S128 : Shape := ⟨1, ![128]⟩
abbrev S4096x18560 : Shape := ⟨2, ![4096, 18560]⟩
abbrev S1x16384x18560 : Shape := ⟨3, ![1, 16384, 18560]⟩
abbrev S16384x18560 : Shape := ⟨2, ![16384, 18560]⟩
abbrev S16384x8192 : Shape := ⟨2, ![16384, 8192]⟩
abbrev S16384x10240 : Shape := ⟨2, ![16384, 10240]⟩
abbrev S16384x128 : Shape := ⟨2, ![16384, 128]⟩
abbrev S1x128 : Shape := ⟨2, ![1, 128]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S1x16384x4096, .f32⟩
  | .hbm, ⟨1, _⟩ => ⟨S1x4096x18560, .f32⟩
  | .hbm, ⟨2, _⟩ => ⟨S128, .f32⟩
  | .hbm, ⟨3, _⟩ => ⟨S4096x18560, .f32⟩
  | .hbm, ⟨4, _⟩ => ⟨S1x16384x18560, .f32⟩
  | .hbm, ⟨5, _⟩ => ⟨S16384x18560, .f32⟩
  | .hbm, ⟨6, _⟩ => ⟨S16384x8192, .f32⟩
  | .hbm, ⟨7, _⟩ => ⟨S16384x10240, .f32⟩
  | .hbm, ⟨8, _⟩ => ⟨S16384x128, .f32⟩
  | .hbm, ⟨9, _⟩ => ⟨S1x128, .f32⟩
  | .hbm, ⟨10, _⟩ => ⟨S16384x128, .f32⟩
  | .hbm, ⟨11, _⟩ => ⟨S16384x128, .f32⟩
  | .hbm, ⟨12, _⟩ => ⟨S_, .f32⟩
  | .hbm, ⟨13, _⟩ => ⟨S16384x128, .f32⟩
  | .hbm, ⟨14, _⟩ => ⟨S16384x128, .f32⟩
  | .hbm, ⟨15, _⟩ => ⟨S16384x128, .f32⟩
  | .hbm, ⟨16, _⟩ => ⟨S16384x128, .f32⟩
  | .hbm, ⟨17, _⟩ => ⟨S16384x128, .i1⟩
  | .hbm, ⟨18, _⟩ => ⟨S16384x128, .f32⟩
  | .hbm, ⟨19, _⟩ => ⟨S16384x128, .f32⟩
  | .hbm, ⟨20, _⟩ => ⟨S16384x128, .f32⟩
  | .hbm, ⟨21, _⟩ => ⟨S16384x128, .f32⟩
  | .hbm, ⟨22, _⟩ => ⟨S16384x128, .f32⟩
  | .hbm, ⟨23, _⟩ => ⟨S16384x128, .f32⟩
  | .hbm, ⟨24, _⟩ => ⟨S16384x128, .f32⟩
  | .hbm, ⟨25, _⟩ => ⟨S16384x128, .f32⟩
  | _, _ => ⟨S1x16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_v9 : Ref sig .tc := ⟨.hbm, 25, rfl⟩

abbrev nD : Nat := 1
abbrev τ : Topo := Topo.v7x

variable {F : FTy → Type} [FloatOps F]
-- ==== Kernel11.lean ====
abbrev S1x256x4096 : Shape := ⟨3, ![1, 256, 4096]⟩
abbrev S2x4096x512 : Shape := ⟨3, ![2, 4096, 512]⟩
abbrev S256x4096 : Shape := ⟨2, ![256, 4096]⟩
abbrev S256x512 : Shape := ⟨2, ![256, 512]⟩
abbrev S1x4096x512 : Shape := ⟨3, ![1, 4096, 512]⟩
abbrev S4096x512 : Shape := ⟨2, ![4096, 512]⟩

abbrev nBuf : Space → Nat
  | .hbm => 6
  | .vmem => 3
  | .smem => 0
  | _ => 0

abbrev bufTy : (tb : Table) → Fin (tcTables nBuf tb) → BufTy
  | .hbm, ⟨0, _⟩ => ⟨S1x256x4096, .f32⟩
  | .hbm, ⟨1, _⟩ => ⟨S2x4096x512, .f32⟩
  | .hbm, ⟨2, _⟩ => ⟨S256x4096, .f32⟩
  | .hbm, ⟨3, _⟩ => ⟨S256x4096, .bf16⟩
  | .hbm, ⟨4, _⟩ => ⟨S2x4096x512, .bf16⟩
  | .hbm, ⟨5, _⟩ => ⟨S256x512, .bf16⟩
  | .local _ .vmem, ⟨0, _⟩ => ⟨S256x4096, .bf16⟩
  | .local _ .vmem, ⟨1, _⟩ => ⟨S1x4096x512, .bf16⟩
  | .local _ .vmem, ⟨2, _⟩ => ⟨S256x512, .bf16⟩
  | _, _ => ⟨S1x256x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference11Ideal.lean ====
abbrev S1x256x4096 : Shape := ⟨3, ![1, 256, 4096]⟩
abbrev S2x4096x512 : Shape := ⟨3, ![2, 4096, 512]⟩
abbrev S1x4096x512 : Shape := ⟨3, ![1, 4096, 512]⟩
abbrev S4096x512 : Shape := ⟨2, ![4096, 512]⟩
abbrev S1x256x512 : Shape := ⟨3, ![1, 256, 512]⟩
abbrev S256x512 : Shape := ⟨2, ![256, 512]⟩

abbrev nBuf : Space → Nat
  | .hbm => 7
  | .vmem => 0
  | .smem => 0
  | _ => 0

abbrev bufTy : (tb : Table) → Fin (tcTables nBuf tb) → BufTy
  | .hbm, ⟨0, _⟩ => ⟨S1x256x4096, .f32⟩
  | .hbm, ⟨1, _⟩ => ⟨S2x4096x512, .f32⟩
  | .hbm, ⟨2, _⟩ => ⟨S1x4096x512, .f32⟩
  | .hbm, ⟨3, _⟩ => ⟨S4096x512, .f32⟩
  | .hbm, ⟨4, _⟩ => ⟨S1x256x512, .f32⟩
  | .hbm, ⟨5, _⟩ => ⟨S256x512, .f32⟩
  | .hbm, ⟨6, _⟩ => ⟨S256x512, .bf16⟩
  | _, _ => ⟨S1x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel12.lean ====
abbrev S1x16384x4096 : Shape := ⟨3, ![1, 16384, 4096]⟩
abbrev S1x4096x14352 : Shape := ⟨3, ![1, 4096, 14352]⟩
abbrev S16 : Shape := ⟨1, ![16]⟩
abbrev S1x4096x16 : Shape := ⟨3, ![1, 4096, 16]⟩
abbrev S4096x16 : Shape := ⟨2, ![4096, 16]⟩
abbrev S_ : Shape := ⟨0, ![]⟩
abbrev S4096x128 : Shape := ⟨2, ![4096, 128]⟩
abbrev S128 : Shape := ⟨1, ![128]⟩
abbrev S1x128 : Shape := ⟨2, ![1, 128]⟩
abbrev S16384x4096 : Shape := ⟨2, ![16384, 4096]⟩
abbrev S16384x128 : Shape := ⟨2, ![16384, 128]⟩
abbrev S1024x4096 : Shape := ⟨2, ![1024, 4096]⟩
abbrev S1024x128 : Shape := ⟨2, ![1024, 128]⟩

abbrev nBuf : Space → Nat
  | .hbm => 16
  | .vmem => 6
  | .smem => 0
  | _ => 0

abbrev bufTy : (tb : Table) → Fin (tcTables nBuf tb) → BufTy
  | .hbm, ⟨0, _⟩ => ⟨S1x16384x4096, .f32⟩
  | .hbm, ⟨1, _⟩ => ⟨S1x4096x14352, .f32⟩
  | .hbm, ⟨2, _⟩ => ⟨S16, .f32⟩
  | .hbm, ⟨3, _⟩ => ⟨S1x4096x14352, .bf16⟩
  | .hbm, ⟨4, _⟩ => ⟨S1x4096x16, .bf16⟩
  | .hbm, ⟨5, _⟩ => ⟨S4096x16, .bf16⟩
  | .hbm, ⟨6, _⟩ => ⟨S_, .i32⟩
  | .hbm, ⟨7, _⟩ => ⟨S_, .bf16⟩
  | .hbm, ⟨8, _⟩ => ⟨S4096x128, .bf16⟩
  | .hbm, ⟨9, _⟩ => ⟨S_, .i32⟩
  | .hbm, ⟨10, _⟩ => ⟨S_, .f32⟩
  | .hbm, ⟨11, _⟩ => ⟨S128, .f32⟩
  | .hbm, ⟨12, _⟩ => ⟨S1x128, .f32⟩
  | .hbm, ⟨13, _⟩ => ⟨S16384x4096, .f32⟩
  | .hbm, ⟨14, _⟩ => ⟨S16384x4096, .bf16⟩
  | .hbm, ⟨15, _⟩ => ⟨S16384x128, .f32⟩
  | .local _ .vmem, ⟨0, _⟩ => ⟨S1024x4096, .bf16⟩
  | .local _ .vmem, ⟨1, _⟩ => ⟨S1024x4096, .bf16⟩
  | .local _ .vmem, ⟨2, _⟩ => ⟨S4096x128, .bf16⟩
  | .local _ .vmem, ⟨3, _⟩ => ⟨S1x128, .f32⟩
  | .local _ .vmem, ⟨4, _⟩ => ⟨S1024x128, .f32⟩
  | .local _ .vmem, ⟨5, _⟩ => ⟨S1024x128, .f32⟩
  | _, _ => ⟨S1x16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_c_0 : Ref sig .tc := ⟨.hbm, 9, rfl⟩
abbrev main_call1_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference12Ideal.lean ====
abbrev S1x16384x4096 : Shape := ⟨3, ![1, 16384, 4096]⟩
abbrev S1x4096x14352 : Shape := ⟨3, ![1, 4096, 14352]⟩
abbrev S16 : Shape := ⟨1, ![16]⟩
abbrev S4096x14352 : Shape := ⟨2, ![4096, 14352]⟩
abbrev S1x16384x14352 : Shape := ⟨3, ![1, 16384, 14352]⟩
abbrev S16384x14352 : Shape := ⟨2, ![16384, 14352]⟩
abbrev S16384x14336 : Shape := ⟨2, ![16384, 14336]⟩
abbrev S16384x16 : Shape := ⟨2, ![16384, 16]⟩
abbrev S1x16 : Shape := ⟨2, ![1, 16]⟩
abbrev S_ : Shape := ⟨0, ![]⟩
abbrev S16384x128 : Shape := ⟨2, ![16384, 128]⟩

abbrev nBuf : Space → Nat
  | .hbm => 30
  | .vmem => 0
  | .smem => 0
  | _ => 0

abbrev bufTy : (tb : Table) → Fin (tcTables nBuf tb) → BufTy
  | .hbm, ⟨0, _⟩ => ⟨S1x16384x4096, .f32⟩
  | .hbm, ⟨1, _⟩ => ⟨S1x4096x14352, .f32⟩
  | .hbm, ⟨2, _⟩ => ⟨S16, .f32⟩
  | .hbm, ⟨3, _⟩ => ⟨S4096x14352, .f32⟩
  | .hbm, ⟨4, _⟩ => ⟨S1x16384x14352, .f32⟩
  | .hbm, ⟨5, _⟩ => ⟨S16384x14352, .f32⟩
  | .hbm, ⟨6, _⟩ => ⟨S16384x14336, .f32⟩
  | .hbm, ⟨7, _⟩ => ⟨S16384x16, .f32⟩
  | .hbm, ⟨8, _⟩ => ⟨S1x16, .f32⟩
  | .hbm, ⟨9, _⟩ => ⟨S16384x16, .f32⟩
  | .hbm, ⟨10, _⟩ => ⟨S16384x16, .f32⟩
  | .hbm, ⟨11, _⟩ => ⟨S_, .i32⟩
  | .hbm, ⟨12, _⟩ => ⟨S_, .f32⟩
  | .hbm, ⟨13, _⟩ => ⟨S16384x128, .f32⟩
  | .hbm, ⟨14, _⟩ => ⟨S16384x128, .f32⟩
  | .hbm, ⟨15, _⟩ => ⟨S_, .f32⟩
  | .hbm, ⟨16, _⟩ => ⟨S16384x128, .f32⟩
  | .hbm, ⟨17, _⟩ => ⟨S16384x128, .f32⟩
  | .hbm, ⟨18, _⟩ => ⟨S16384x128, .f32⟩
  | .hbm, ⟨19, _⟩ => ⟨S16384x128, .f32⟩
  | .hbm, ⟨20, _⟩ => ⟨S16384x128, .i1⟩
  | .hbm, ⟨21, _⟩ => ⟨S16384x128, .f32⟩
  | .hbm, ⟨22, _⟩ => ⟨S16384x128, .f32⟩
  | .hbm, ⟨23, _⟩ => ⟨S16384x128, .f32⟩
  | .hbm, ⟨24, _⟩ => ⟨S16384x128, .f32⟩
  | .hbm, ⟨25, _⟩ => ⟨S16384x128, .f32⟩
  | .hbm, ⟨26, _⟩ => ⟨S16384x128, .f32⟩
  | .hbm, ⟨27, _⟩ => ⟨S16384x128, .f32⟩
  | .hbm, ⟨28, _⟩ => ⟨S16384x128, .f32⟩
  | .hbm, ⟨29, _⟩ => ⟨S16384x128, .f32⟩
  | _, _ => ⟨S1x16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_v8 : Ref sig .tc := ⟨.hbm, 13, rfl⟩
abbrev main_call1_v0 : Ref sig .tc := ⟨.hbm, 14, rfl⟩
abbrev main_call1_call0_cst : Ref sig .tc := ⟨.hbm, 15, rfl⟩
abbrev main_call1_call0_v0 : Ref sig .tc := ⟨.hbm, 16, rfl⟩
abbrev main_call1_call0_v1 : Ref sig .tc := ⟨.hbm, 17, rfl⟩
abbrev main_call1_call0_v2 : Ref sig .tc := ⟨.hbm, 18, rfl⟩
abbrev main_call1_call0_v3 : Ref sig .tc := ⟨.hbm, 19, rfl⟩
abbrev main_call1_call0_v4 : Ref sig .tc := ⟨.hbm, 20, rfl⟩
abbrev main_call1_call0_v5 : Ref sig .tc := ⟨.hbm, 21, rfl⟩
abbrev main_call1_call0_v6 : Ref sig .tc := ⟨.hbm, 22, rfl⟩
abbrev main_call1_call0_v7 : Ref sig .tc := ⟨.hbm, 23, rfl⟩
abbrev main_call1_call0_v8 : Ref sig .tc := ⟨.hbm, 24, rfl⟩
abbrev main_call1_call0_v9 : Ref sig .tc := ⟨.hbm, 25, rfl⟩
abbrev main_call1_call0_v10 : Ref sig .tc := ⟨.hbm, 26, rfl⟩
abbrev main_call1_call0_v11 : Ref sig .tc := ⟨.hbm, 27, rfl⟩
abbrev main_call1_v1 : Ref sig .tc := ⟨.hbm, 28, rfl⟩
abbrev main_v9 : Ref sig .tc := ⟨.hbm, 29, rfl⟩

abbrev nD : Nat := 1
abbrev τ : Topo := Topo.v7x

variable {F : FTy → Type} [FloatOps F]
-- ==== Proof.Fox.Body.lean ====
/- Region 1 of the idealized kernel, one attention block: what the body computes, as functions of the blocks it loads, and the
   run of the body to those values. The running state is the score buffer, the running maximum and the two halves of the
   accumulator (weighted values, weights). -/
module

public import proofs.«01_k».proof.Proof.Gen.KernelIdeal.Skeleton
public import Idealize.ShloMosaic.Lib.Exec
public import Idealize.ShloMosaic.Lib.Tactic
public import Idealize.ShloMosaic.Lib.LoopRemainder
public import Idealize.ShloMosaic.Lib.VecWindow
public import Idealize.ShloMosaic.Lib.Pipeline.Kit
public import Idealize.ShloMosaic.Lib.Pipeline.FrameBody
public import Idealize.ShloMosaic.Lib.Pipeline.ReadBack

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The left half of the accumulator: the weighted values. -/
abbrev rL : Rect S1024x256 := Rect.unit (s := S1024x256) ![0, 0] ![1024, 128] inb_S1024x256_S1024x128_0_0
/-- The right half of the accumulator: the sums of the weights, one copy per lane. -/
abbrev rR : Rect S1024x256 := Rect.unit (s := S1024x256) ![0, 128] ![1024, 128] inb_S1024x256_S1024x128_0_128
/-- The `d`th key block of trip `k` (`d = 1, 2`), rows of the key or value array. -/
abbrev rK (i : grid1.Coords) (k : Fin (k1_t1_loop i).trips) (r : Fin 2) : Rect S16384x256 :=
  Rect.unit (s := S16384x256) (k1_off1 i k (BitVec.ofNat 32 (1 + r.val))) ![512, 256] (k1_off1_inb i k r)
/-- The value block of trip `k`'s first half. -/
abbrev rV (i : grid1.Coords) (k : Fin (k1_t1_loop i).trips) : Rect S16384x256 :=
  Rect.unit (s := S16384x256) (k1_off2 i k) ![512, 256] (k1_off2_inb i k)

/-- What a trip carries: the scores computed ahead, the running maximum, the weighted values and the weights. -/
structure St (F : FTy → Type) where
  /-- the scores computed ahead -/
  s : Vec F S1024x512 .f32
  /-- the running maximum -/
  m : Vec F S1024x128 .f32
  /-- the weighted values -/
  a : Vec F S1024x128 .f32
  /-- the weights -/
  b : Vec F S1024x128 .f32

/-- One trip on the blocks it loads: the scores `z.s` are used up while those of the block `K1` are computed, then those
    while the block `K2`'s are. -/
def tripSt (v0 : Vec F S1024x256 .bf16) (K1 K2 Va Vb : Vec F S512x256 .bf16) (z : St F) : St F :=
  let s7 := k1_pay6 (k1_pay22 v0) K1
  let al := k1_pay8 z.s z.m
  let pv := k1_pay9 z.s z.m Va
  let m1 := k1_pay12 (k1_pay7 z.s z.m)
  ⟨k1_pay13 (k1_pay22 v0) K2, k1_pay31 s7 m1, k1_pay29 s7 m1 Vb (k1_pay10 al pv z.a), k1_pay30 s7 m1 Vb (k1_pay11 al pv z.b)⟩

/-- The state before trip `k`, from the state at the loop's entry. -/
def loopSt (i : grid1.Coords) (v0 : Vec F S1024x256 .bf16) (xk xv : Vec F S16384x256 .bf16) (z : St F) : ℕ → St F
  | 0 => z
  | k + 1 => if h : k < (k1_t1_loop i).trips then
      tripSt v0 (View.ld xk (rK i ⟨k, h⟩ 0)) (View.ld xk (rK i ⟨k, h⟩ 1)) (View.ld xv (rV i ⟨k, h⟩)) (View.ld xv (rK i ⟨k, h⟩ 0))
        (loopSt i v0 xk xv z k)
    else loopSt i v0 xk xv z k

/-- The state after trip `k`. -/
theorem loopSt_succ (i : grid1.Coords) (v0 : Vec F S1024x256 .bf16) (xk xv : Vec F S16384x256 .bf16) (z : St F) (k : Fin (k1_t1_loop i).trips) :
    loopSt i v0 xk xv z (k.val + 1) = tripSt v0 (View.ld xk (rK i k 0)) (View.ld xk (rK i k 1)) (View.ld xv (rV i k)) (View.ld xv (rK i k 0))
      (loopSt i v0 xk xv z k.val) := by
  rw [loopSt, dif_pos k.isLt]

/-- What the four scratch buffers hold, read as a state. -/
abbrev stOf (arg6 : Memref sig .tc .vmem S1024x512 .f32) (arg8 : Memref sig .tc .vmem S1024x128 .f32) (arg9 : Memref sig .tc .vmem S1024x256 .f32)
    (f6 : BufTy.Contents (Elt F) arg6.view.ty) (f8 : BufTy.Contents (Elt F) arg8.view.ty) (f9 : BufTy.Contents (Elt F) arg9.view.ty) : St F :=
  ⟨arg6.view.read (Elt F) f6, arg8.view.read (Elt F) f8, View.ld (arg9.view.read (Elt F) f9) rL, View.ld (arg9.view.read (Elt F) f9) rR⟩

/-- The corner of a rectangle that is the whole array. -/
theorem zz : (![0, 0] : Fin 2 → ℕ) = fun _ => 0 := by
  funext a; fin_cases a <;> rfl

section Reads

variable {κ : Kind} {sp : Space} {e : EltTy} (v : View sig κ sp S1024x256 e) (f : v.ty.Contents (Elt F)) (L : List (View.Piece (Elt F) S1024x256 e))

/-- The left half after a store of the left half. -/
theorem rdLL (w : rL.shape.Idx → Elt F e) : View.ld (v.read (Elt F) (v.writes (Elt F) f (⟨rL, w⟩ :: L))) rL = w :=
  funext fun x => View.read_writes_cons_emb v f rL w L x

/-- The right half after a store of the right half. -/
theorem rdRR (w : rR.shape.Idx → Elt F e) : View.ld (v.read (Elt F) (v.writes (Elt F) f (⟨rR, w⟩ :: L))) rR = w :=
  funext fun x => View.read_writes_cons_emb v f rR w L x

/-- The left half is not touched by a store of the right half. -/
theorem rdLR (w : rR.shape.Idx → Elt F e) : View.ld (v.read (Elt F) (v.writes (Elt F) f (⟨rR, w⟩ :: L))) rL = View.ld (v.read (Elt F) (v.writes (Elt F) f L)) rL :=
  funext fun x => View.read_writes_cons_unit_of_not_mem v f inb_S1024x256_S1024x128_0_128 w L (rL.idx x) rfl 1 (Or.inl (by
    show 0 + 1 * (x 1).val < 128
    have h : (x 1).val < 128 := (x 1).isLt
    omega))

/-- The right half is not touched by a store of the left half. -/
theorem rdRL (w : rL.shape.Idx → Elt F e) : View.ld (v.read (Elt F) (v.writes (Elt F) f (⟨rL, w⟩ :: L))) rR = View.ld (v.read (Elt F) (v.writes (Elt F) f L)) rR :=
  funext fun x => View.read_writes_cons_unit_of_not_mem v f inb_S1024x256_S1024x128_0_0 w L (rR.idx x) rfl 1 (Or.inr (by
    show 0 + 128 ≤ 128 + 1 * (x 1).val
    omega))

end Reads

section Whole

variable {κ : Kind} {sp : Space} {e : EltTy}

/-- A load of the whole score buffer is its contents. -/
theorem ldS (X : S1024x512.Idx → Elt F e) (h) : View.ld X (Rect.unit (s := S1024x512) ![0, 0] ![1024, 512] h) = X := View.ld_unit_zero (S := S1024x512) zz h X

/-- A load of the whole of a buffer of 128 lanes is its contents. -/
theorem ldM (X : S1024x128.Idx → Elt F e) (h) : View.ld X (Rect.unit (s := S1024x128) ![0, 0] ![1024, 128] h) = X := View.ld_unit_zero (S := S1024x128) zz h X

/-- A load of the whole of a buffer of 256 lanes is its contents. -/
theorem ldQ (X : S1024x256.Idx → Elt F e) (h) : View.ld X (Rect.unit (s := S1024x256) ![0, 0] ![1024, 256] h) = X := View.ld_unit_zero (S := S1024x256) zz h X

/-- A store of the whole score buffer is read back. -/
theorem rdS (v : View sig κ sp S1024x512 e) (f : v.ty.Contents (Elt F)) (h) (w : (Rect.unit (s := S1024x512) ![0, 0] ![1024, 512] h).shape.Idx → Elt F e) (L) :
    v.read (Elt F) (v.writes (Elt F) f (⟨Rect.unit (s := S1024x512) ![0, 0] ![1024, 512] h, w⟩ :: L)) = w := View.read_writes_full v f h w L

/-- A store of the whole of a buffer of 128 lanes is read back. -/
theorem rdM (v : View sig κ sp S1024x128 e) (f : v.ty.Contents (Elt F)) (h) (w : (Rect.unit (s := S1024x128) ![0, 0] ![1024, 128] h).shape.Idx → Elt F e) (L) :
    v.read (Elt F) (v.writes (Elt F) f (⟨Rect.unit (s := S1024x128) ![0, 0] ![1024, 128] h, w⟩ :: L)) = w := View.read_writes_full v f h w L

/-- A store of the whole of a buffer of 256 lanes is read back. -/
theorem rdQ (v : View sig κ sp S1024x256 e) (f : v.ty.Contents (Elt F)) (h) (w : (Rect.unit (s := S1024x256) ![0, 0] ![1024, 256] h).shape.Idx → Elt F e) (L) :
    v.read (Elt F) (v.writes (Elt F) f (⟨Rect.unit (s := S1024x256) ![0, 0] ![1024, 256] h, w⟩ :: L)) = w := View.read_writes_full v f h w L

end Whole

set_option maxHeartbeats 4000000 in
/-- One trip's run: the buffers it reads at their contents, the scratch at any contents, to the scratch at contents that
    read as the trip's state. -/
theorem trip_run (𝒱 : Variants) (c : Dev nD) (bd : Option 𝒱.V) (E : Set ℕ) (i : grid1.Coords) (arg2 : Memref sig .tc .vmem S1024x256 .bf16) (harg2 : arg2.IsWhole) (arg3 : Memref sig .tc .vmem S16384x256 .bf16) (harg3 : arg3.IsWhole) (arg4 : Memref sig .tc .vmem S16384x256 .bf16) (harg4 : arg4.IsWhole) (arg5 : Memref sig .tc .vmem S1024x128 .bf16) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x128 .f32) (harg8 : arg8.IsWhole) (arg9 : Memref sig .tc .vmem S1024x256 .f32) (harg9 : arg9.IsWhole)
    (v0 : Vec F S1024x256 .bf16) (X3 : BufTy.Contents (Elt F) arg3.view.ty) (X4 : BufTy.Contents (Elt F) arg4.view.ty) (k : Fin (k1_t1_loop i).trips)
    (f6 : BufTy.Contents (Elt F) arg6.view.ty) (f7 : BufTy.Contents (Elt F) arg7.view.ty) (f8 : BufTy.Contents (Elt F) arg8.view.ty) (f9 : BufTy.Contents (Elt F) arg9.view.ty) :
    iprop((arg3.view.loc (c : Thread nD τ) ↦[arg3.view.set]{fullShare} X3) ∗ (arg4.view.loc (c : Thread nD τ) ↦[arg4.view.set]{fullShare} X4) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9))
      ⊢ (wp frame (wpE (defs₀ (F := F)) 𝒱 (c : Thread nD τ) bd) E (k1_t1_body (F := F) i arg2 harg2 arg3 harg3 arg4 harg4 arg5 harg5 arg6 harg6 arg7 harg7 arg8 harg8 arg9 harg9 v0 k PUnit.unit)
        (fun _ => iprop(∃ g6 g7 g8 g9, (arg3.view.loc (c : Thread nD τ) ↦[arg3.view.set]{fullShare} X3) ∗ (arg4.view.loc (c : Thread nD τ) ↦[arg4.view.set]{fullShare} X4) ∗ (arg6.view.loc (c : Thread nD τ) ↦[arg6.view.set]{fullShare} g6) ∗ (arg7.view.loc (c : Thread nD τ) ↦[arg7.view.set]{fullShare} g7) ∗ (arg8.view.loc (c : Thread nD τ) ↦[arg8.view.set]{fullShare} g8) ∗ (arg9.view.loc (c : Thread nD τ) ↦[arg9.view.set]{fullShare} g9)
          ∗ ⌜stOf arg6 arg8 arg9 g6 g8 g9 = tripSt v0 (View.ld (arg3.view.read (Elt F) X3) (rK i k 0)) (View.ld (arg3.view.read (Elt F) X3) (rK i k 1)) (View.ld (arg4.view.read (Elt F) X4) (rV i k)) (View.ld (arg4.view.read (Elt F) X4) (rK i k 0)) (stOf arg6 arg8 arg9 f6 f8 f9)⌝)) : sProp 𝕄) := by
  unfold k1_t1_body
  iintro ⟨H3, H4, H6, H7, H8, H9⟩
  sl_exec
  sl_step
  iexists _, _, _, _
  isplitl [H3]; · iexact H3
  isplitl [H4]; · iexact H4
  isplitl [H6]; · iexact H6
  isplitl [H7]; · iexact H7
  isplitl [H8]; · iexact H8
  isplitl [H9]; · iexact H9
  ipureintro
  have eS : View.readAt (Elt F) arg6.view (Rect.unit (s := S1024x512) ![0, 0] S1024x512.size inb_S1024x512_S1024x512_0_0).toLoadRect f6 = arg6.view.read (Elt F) f6 := ldS _ _
  have eM : View.readAt (Elt F) arg8.view (Rect.unit (s := S1024x128) ![0, 0] S1024x128.size inb_S1024x128_S1024x128_0_0).toLoadRect f8 = arg8.view.read (Elt F) f8 := ldM _ _
  have e218 : trip_run.sl.v218 i arg3 arg7 v0 X3 k = k1_pay6 (k1_pay22 v0) (View.ld (arg3.view.read (Elt F) X3) (rK i k 0)) := by
    unfold trip_run.sl.v218 trip_run.sl.H7_1; exact View.readCov_full _ _ _ _ _
  have e219 : trip_run.sl.v219 arg6 arg8 f6 f8 = k1_pay12 (k1_pay7 (arg6.view.read (Elt F) f6) (arg8.view.read (Elt F) f8)) := by
    rw [← eS, ← eM]; unfold trip_run.sl.v219 trip_run.sl.H8_1; exact View.readCov_full _ _ _ _ _
  have e244 : trip_run.sl.v244 i arg4 arg6 arg8 arg9 X4 k f6 f8 f9 = k1_pay10 (k1_pay8 (arg6.view.read (Elt F) f6) (arg8.view.read (Elt F) f8))
      (k1_pay9 (arg6.view.read (Elt F) f6) (arg8.view.read (Elt F) f8) (View.ld (arg4.view.read (Elt F) X4) (rV i k))) (View.ld (arg9.view.read (Elt F) f9) rL) := by
    rw [← eS, ← eM]; unfold trip_run.sl.v244 trip_run.sl.H9_2
    exact (rdLR _ _ _ _).trans (rdLL _ _ _ _)
  have e251 : trip_run.sl.v251 i arg3 arg4 arg6 arg7 arg8 arg9 v0 X3 X4 k f6 f8 f9 = k1_pay11 (k1_pay8 (arg6.view.read (Elt F) f6) (arg8.view.read (Elt F) f8))
      (k1_pay9 (arg6.view.read (Elt F) f6) (arg8.view.read (Elt F) f8) (View.ld (arg4.view.read (Elt F) X4) (rV i k))) (View.ld (arg9.view.read (Elt F) f9) rR) := by
    rw [← eS, ← eM]; unfold trip_run.sl.v251 trip_run.sl.H9_3 trip_run.sl.H9_2
    refine (rdRL _ _ _ _).trans (rdRR _ _ _ _)
  unfold stOf tripSt
  rw [e219, e218, e251, rdRR, rdLR, rdS, rdM]
  unfold trip_run.sl.H9_3
  rw [rdLL, e219, e218, e244]
  rfl

/-- THE INVARIANT before trip `k`: the key and value arrays at their contents, the scratch at contents that read as the
    state `loopSt … k` reached from what the loop's entry found in them. -/
abbrev foxInv (c : Dev nD) (i : grid1.Coords) (arg2 : Memref sig .tc .vmem S1024x256 .bf16) (harg2 : arg2.IsWhole) (arg3 : Memref sig .tc .vmem S16384x256 .bf16) (harg3 : arg3.IsWhole) (arg4 : Memref sig .tc .vmem S16384x256 .bf16) (harg4 : arg4.IsWhole) (arg5 : Memref sig .tc .vmem S1024x128 .bf16) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x128 .f32) (harg8 : arg8.IsWhole) (arg9 : Memref sig .tc .vmem S1024x256 .f32) (harg9 : arg9.IsWhole) (v0 : Vec F S1024x256 .bf16) (X3 : BufTy.Contents (Elt F) arg3.view.ty) (X4 : BufTy.Contents (Elt F) arg4.view.ty) (G6 : BufTy.Contents (Elt F) arg6.view.ty) (G8 : BufTy.Contents (Elt F) arg8.view.ty) (G9 : BufTy.Contents (Elt F) arg9.view.ty) (k : ℕ) (_u : PUnit) : sProp 𝕄 :=
  iprop((arg3.view.loc (c : Thread nD τ) ↦[arg3.view.set]{fullShare} X3) ∗ (arg4.view.loc (c : Thread nD τ) ↦[arg4.view.set]{fullShare} X4) ∗ (∃ f7, (arg7.view.loc (c : Thread nD τ) ↦[arg7.view.set]{fullShare} f7)) ∗ (∃ f6 f8 f9, (arg6.view.loc (c : Thread nD τ) ↦[arg6.view.set]{fullShare} f6) ∗ (arg8.view.loc (c : Thread nD τ) ↦[arg8.view.set]{fullShare} f8) ∗ (arg9.view.loc (c : Thread nD τ) ↦[arg9.view.set]{fullShare} f9) ∗ ⌜stOf arg6 arg8 arg9 f6 f8 f9 = loopSt i v0 (arg3.view.read (Elt F) X3) (arg4.view.read (Elt F) X4) (stOf arg6 arg8 arg9 G6 G8 G9) k⌝))

set_option warn.classDefReducibility false in
/-- The loop by that invariant. -/
@[sl_loop] def foxLoop (𝒱 : Variants) (c : Dev nD) (bd : Option 𝒱.V) (E : Set ℕ) (i : grid1.Coords) (arg2 : Memref sig .tc .vmem S1024x256 .bf16) (harg2 : arg2.IsWhole) (arg3 : Memref sig .tc .vmem S16384x256 .bf16) (harg3 : arg3.IsWhole) (arg4 : Memref sig .tc .vmem S16384x256 .bf16) (harg4 : arg4.IsWhole) (arg5 : Memref sig .tc .vmem S1024x128 .bf16) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x128 .f32) (harg8 : arg8.IsWhole) (arg9 : Memref sig .tc .vmem S1024x256 .f32) (harg9 : arg9.IsWhole) (v0 : Vec F S1024x256 .bf16) (X3 : BufTy.Contents (Elt F) arg3.view.ty) (X4 : BufTy.Contents (Elt F) arg4.view.ty) (G6 : BufTy.Contents (Elt F) arg6.view.ty) (G8 : BufTy.Contents (Elt F) arg8.view.ty) (G9 : BufTy.Contents (Elt F) arg9.view.ty) :
    Idealize.ShloMosaic.LoopInv (M := 𝕄) Idealize.ShloMosaic.frame (wpE (defs₀ (F := F)) 𝒱 (c : Thread nD τ) bd) E
      (k1_t1_loop i).lb (k1_t1_loop i).ub (k1_t1_loop i).st (k1_t1_ok i) () (k1_t1_body (F := F) i arg2 harg2 arg3 harg3 arg4 harg4 arg5 harg5 arg6 harg6 arg7 harg7 arg8 harg8 arg9 harg9 v0) where
  inv := foxInv (F := F) c i arg2 harg2 arg3 harg3 arg4 harg4 arg5 harg5 arg6 harg6 arg7 harg7 arg8 harg8 arg9 harg9 v0 X3 X4 G6 G8 G9
  step k acc := by
    iintro ⟨H3, H4, ⟨%f7, H7⟩, ⟨%f6, %f8, %f9, H6, H8, H9, %h⟩⟩
    iapply (wp_wand_r Idealize.ShloMosaic.frame (wpE (defs₀ (F := F)) 𝒱 (c : Thread nD τ) bd) E)
    isplitl [H3 H4 H6 H7 H8 H9]
    · iapply (trip_run (F := F) 𝒱 c bd E i arg2 harg2 arg3 harg3 arg4 harg4 arg5 harg5 arg6 harg6 arg7 harg7 arg8 harg8 arg9 harg9 v0 X3 X4 k f6 f7 f8 f9)
      isplitl [H3]; · iexact H3
      isplitl [H4]; · iexact H4
      isplitl [H6]; · iexact H6
      isplitl [H7]; · iexact H7
      isplitl [H8]; · iexact H8
      iexact H9
    · iintro %_ ⟨%g6, %g7, %g8, %g9, H3, H4, H6, H7, H8, H9, %hg⟩
      isplitl [H3]; · iexact H3
      isplitl [H4]; · iexact H4
      isplitl [H7]; · iexists _; iexact H7
      iexists _, _, _
      isplitl [H6]; · iexact H6
      isplitl [H8]; · iexact H8
      isplitl [H9]; · iexact H9
      ipureintro
      rw [loopSt_succ, ← h]
      exact hg

/-- The first key block. -/
abbrev rK0 : Rect S16384x256 := Rect.unit (s := S16384x256) ![0, 0] ![512, 256] inb_S16384x256_S512x256_0_0
/-- The second block of the diagonal. -/
abbrev rD2 (i : grid1.Coords) : Rect S16384x256 := Rect.unit (s := S16384x256) (k1_off5 i) ![512, 256] (k1_off5_inb i)
/-- The first block of the diagonal. -/
abbrev rD1 (i : grid1.Coords) : Rect S16384x256 := Rect.unit (s := S16384x256) (k1_off6 i) ![512, 256] (k1_off6_inb i)

/-- The state at the loop's entry: the first block's scores, no maximum, nothing accumulated. -/
def initSt (x0 : Vec F S1024x256 .bf16) (xk : Vec F S16384x256 .bf16) : St F :=
  ⟨k1_pay25 x0 (View.ld xk rK0), k1_pay23, View.ld (k1_pay24 (F := F)) rL, View.ld (k1_pay24 (F := F)) rR⟩

/-- The two masked blocks of the diagonal and the quotient, from the state the loop leaves. -/
def diagOut (x0 : Vec F S1024x256 .bf16) (Kd Va Vb : Vec F S512x256 .bf16) (z : St F) : Vec F S1024x128 .bf16 :=
  let s7 := k1_pay39 (k1_pay22 x0) (k1_pay38 Kd) (constant S1024x512 .f32 0x00000000#32)
  let m1 := k1_pay47 (k1_pay41 z.s z.m)
  let a1 := k1_pay45 (k1_pay44 z.s z.m Va z.a)
  let b1 := k1_pay46 (k1_pay42 z.s z.m) (k1_pay43 z.s z.m Va) z.b
  k1_pay5 (k1_pay2 (k1_pay48 s7) (k1_pay49 s7 m1) (k1_pay50 s7 m1) (k1_pay51 s7 m1) (k1_pay52 s7 m1) (k1_pay53 s7) Vb a1)
    (k1_pay3 (k1_pay48 s7) (k1_pay49 s7 m1) (k1_pay50 s7 m1) (k1_pay51 s7 m1) (k1_pay52 s7 m1) (k1_pay53 s7) Vb b1)

/-- What the body computes: the output block, from the query block and the key and value arrays. -/
def foxOut (i : grid1.Coords) (x0 : Vec F S1024x256 .bf16) (xk xv : Vec F S16384x256 .bf16) : Vec F S1024x128 .bf16 :=
  diagOut x0 (View.ld xk (rD2 i)) (View.ld xv (rD1 i)) (View.ld xv (rD2 i)) (loopSt i x0 xk xv (initSt x0 xk) (k1_t1_loop i).trips)

set_option maxHeartbeats 8000000 in
/-- The body's run: the blocks it reads at their contents, everything else at anything, to the output block `foxOut`. -/
theorem body_run (c : Dev nD) (i : grid1.Coords) (arg2 : Memref sig .tc .vmem S1024x256 .bf16) (harg2 : arg2.IsWhole) (arg3 : Memref sig .tc .vmem S16384x256 .bf16) (harg3 : arg3.IsWhole) (arg4 : Memref sig .tc .vmem S16384x256 .bf16) (harg4 : arg4.IsWhole) (arg5 : Memref sig .tc .vmem S1024x128 .bf16) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x128 .f32) (harg8 : arg8.IsWhole) (arg9 : Memref sig .tc .vmem S1024x256 .f32) (harg9 : arg9.IsWhole) (x0 : Vec F S1024x256 .bf16) (x1 : Vec F S16384x256 .bf16) (x2 : Vec F S16384x256 .bf16) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare (foxOut i x0 x1 x2) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
      ⊢ (wp frame (wpE (defs₀ (F := F)) Variants.none c none) E (cc1_fox_attention i arg2 harg2 arg3 harg3 arg4 harg4 arg5 harg5 arg6 harg6 arg7 harg7 arg8 harg8 arg9 harg9) K : sProp 𝕄) := by
  simp only [cc1_fox_attention_eq_skeleton]; unfold cc1_fox_attention_skel
  simp only [k1_part5_eq_skeleton, k1_part6_eq_skeleton, k1_part7_eq_skeleton]
  unfold owns
  iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, ⟨%ds3, %fs3, -, HS3⟩, Hk⟩
  sl_exec
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro
    have eQ : View.readAt (Elt F) arg2.view (Rect.unit (s := S1024x256) ![0, 0] S1024x256.size inb_S1024x256_S1024x256_0_0).toLoadRect f0 = x0 := hf0 ▸ ldQ _ _
    have hz : stOf arg6 arg8 arg9 f6L1 f8L2 f9L3 = loopSt i x0 x1 x2 (initSt x0 x1) (k1_t1_loop i).trips := by
      have e0 : stOf arg6 arg8 arg9 (arg6.view.writes (Elt F) arg6.view.junk (body_run.sl.HS0_1 c arg2 arg3 f0 f1)) (arg8.view.writes (Elt F) arg8.view.junk body_run.sl.HS2_1)
          (arg9.view.writes (Elt F) arg9.view.junk body_run.sl.HS3_1) = initSt x0 x1 := by
        unfold body_run.sl.HS0_1 body_run.sl.HS2_1 body_run.sl.HS3_1 stOf initSt
        rw [rdS, rdM, rdQ, eQ, ← hf1]
        rfl
      rw [hL6, e0, eQ, hf1, hf2]
    have eS : View.readAt (Elt F) arg6.view (Rect.unit (s := S1024x512) ![0, 0] S1024x512.size inb_S1024x512_S1024x512_0_0).toLoadRect f6L1 = arg6.view.read (Elt F) f6L1 := ldS _ _
    have eM : View.readAt (Elt F) arg8.view (Rect.unit (s := S1024x128) ![0, 0] S1024x128.size inb_S1024x128_S1024x128_0_0).toLoadRect f8L2 = arg8.view.read (Elt F) f8L2 := ldM _ _
    have e91 : body_run.sl.v91 c i arg2 arg3 arg7 f0 f1 = k1_pay39 (k1_pay22 x0) (k1_pay38 (View.ld x1 (rD2 i))) (constant S1024x512 .f32 0x00000000#32) := by
      rw [← eQ, ← hf1]; unfold body_run.sl.v91 body_run.sl.HS1_1; exact View.readCov_full _ _ _ _ _
    have e99 : body_run.sl.v99 c arg6 arg8 f6L1 f8L2 = k1_pay47 (k1_pay41 (arg6.view.read (Elt F) f6L1) (arg8.view.read (Elt F) f8L2)) := by
      rw [← eS, ← eM]; unfold body_run.sl.v99 body_run.sl.HS2_1_1; exact View.readCov_full _ _ _ _ _
    have e124 : body_run.sl.v124 c i arg4 arg6 arg8 arg9 f2 f6L1 f8L2 f9L3 = k1_pay45 (k1_pay44 (arg6.view.read (Elt F) f6L1) (arg8.view.read (Elt F) f8L2) (View.ld x2 (rD1 i)) (View.ld (arg9.view.read (Elt F) f9L3) rL)) := by
      rw [← eS, ← eM, ← hf2]; unfold body_run.sl.v124 body_run.sl.HS3_2
      exact (rdLR _ _ _ _).trans (rdLL _ _ _ _)
    have e131 : body_run.sl.v131 c i arg2 arg3 arg4 arg6 arg7 arg8 arg9 f0 f1 f2 f6L1 f8L2 f9L3 = k1_pay46 (k1_pay42 (arg6.view.read (Elt F) f6L1) (arg8.view.read (Elt F) f8L2))
        (k1_pay43 (arg6.view.read (Elt F) f6L1) (arg8.view.read (Elt F) f8L2) (View.ld x2 (rD1 i))) (View.ld (arg9.view.read (Elt F) f9L3) rR) := by
      rw [← eS, ← eM, ← hf2]; unfold body_run.sl.v131 body_run.sl.HS3_3 body_run.sl.HS3_2
      exact (rdRL _ _ _ _).trans (rdRR _ _ _ _)
    refine (rdM _ _ _ _ _).trans ?_
    unfold foxOut diagOut
    rw [← hz, ← hf1, ← hf2]
    unfold body_run.sl.v141 body_run.sl.v142 body_run.sl.HS3_4
    refine congrArg₂ k1_pay5 ((rdLR _ _ _ _).trans ?_) (rdRR _ _ _ _ |>.trans ?_)
    · unfold body_run.sl.HS3_3
      refine (rdLL _ _ _ _).trans ?_
      unfold body_run.sl.r_6 body_run.sl.r_7 body_run.sl.r_8 body_run.sl.r_9 body_run.sl.r_10 body_run.sl.r_11
      rw [e91, e99, e124, ← hf1, ← hf2]; rfl
    · unfold body_run.sl.r_6 body_run.sl.r_7 body_run.sl.r_8 body_run.sl.r_9 body_run.sl.r_10 body_run.sl.r_11
      rw [e91, e99, e131, ← hf1, ← hf2]; rfl
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  · iexists _, _; isplitr; swap; · iexact HS3
    ipureintro; rfl

end Cert.KernelIdeal.Gen

end
-- ==== Proof.Fox.Frame.lean ====
/-
  The run of the forgetting-attention program: two regions (the preparation of the operands, the attention) among
  host operations. Region 1's block contents are `foxOut` of its input blocks (`body_run`); the rest is the launch set-up
  of such a program. It gives what every run ends in: the argument arrays as launched, the result array at the last
  boundary's contents, every counter at zero.
-/
module

public import proofs.«01_k».proof.Proof.Fox.Body

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_fox_prep` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S512x128 := Rect.unit (s := S512x128) ![0, 0] S512x128.size inb_S512x128_S512x128_0_0
abbrev r0_1 : Rect S512x2048 := Rect.unit (s := S512x2048) ![0, 0] S512x128.size inb_S512x2048_S512x128_0_0
abbrev r0_2 : Rect S512x4096 := Rect.unit (s := S512x4096) ![0, 0] S512x128.size inb_S512x4096_S512x128_0_0
abbrev r0_3 : Rect S512x4096 := Rect.unit (s := S512x4096) ![0, 128] S512x128.size inb_S512x4096_S512x128_0_128
abbrev r0_4 : Rect S512x2048 := Rect.unit (s := S512x2048) ![0, 128] S512x128.size inb_S512x2048_S512x128_0_128
abbrev r0_5 : Rect S512x4096 := Rect.unit (s := S512x4096) ![0, 256] S512x128.size inb_S512x4096_S512x128_0_256
abbrev r0_6 : Rect S512x4096 := Rect.unit (s := S512x4096) ![0, 384] S512x128.size inb_S512x4096_S512x128_0_384
abbrev r0_7 : Rect S512x2048 := Rect.unit (s := S512x2048) ![0, 256] S512x128.size inb_S512x2048_S512x128_0_256
abbrev r0_8 : Rect S512x4096 := Rect.unit (s := S512x4096) ![0, 512] S512x128.size inb_S512x4096_S512x128_0_512
abbrev r0_9 : Rect S512x4096 := Rect.unit (s := S512x4096) ![0, 640] S512x128.size inb_S512x4096_S512x128_0_640
abbrev r0_10 : Rect S512x2048 := Rect.unit (s := S512x2048) ![0, 384] S512x128.size inb_S512x2048_S512x128_0_384
abbrev r0_11 : Rect S512x4096 := Rect.unit (s := S512x4096) ![0, 768] S512x128.size inb_S512x4096_S512x128_0_768
abbrev r0_12 : Rect S512x4096 := Rect.unit (s := S512x4096) ![0, 896] S512x128.size inb_S512x4096_S512x128_0_896
abbrev r0_13 : Rect S512x2048 := Rect.unit (s := S512x2048) ![0, 512] S512x128.size inb_S512x2048_S512x128_0_512
abbrev r0_14 : Rect S512x4096 := Rect.unit (s := S512x4096) ![0, 1024] S512x128.size inb_S512x4096_S512x128_0_1024
abbrev r0_15 : Rect S512x4096 := Rect.unit (s := S512x4096) ![0, 1152] S512x128.size inb_S512x4096_S512x128_0_1152
abbrev r0_16 : Rect S512x2048 := Rect.unit (s := S512x2048) ![0, 640] S512x128.size inb_S512x2048_S512x128_0_640
abbrev r0_17 : Rect S512x4096 := Rect.unit (s := S512x4096) ![0, 1280] S512x128.size inb_S512x4096_S512x128_0_1280
abbrev r0_18 : Rect S512x4096 := Rect.unit (s := S512x4096) ![0, 1408] S512x128.size inb_S512x4096_S512x128_0_1408
abbrev r0_19 : Rect S512x2048 := Rect.unit (s := S512x2048) ![0, 768] S512x128.size inb_S512x2048_S512x128_0_768
abbrev r0_20 : Rect S512x4096 := Rect.unit (s := S512x4096) ![0, 1536] S512x128.size inb_S512x4096_S512x128_0_1536
abbrev r0_21 : Rect S512x4096 := Rect.unit (s := S512x4096) ![0, 1664] S512x128.size inb_S512x4096_S512x128_0_1664
abbrev r0_22 : Rect S512x2048 := Rect.unit (s := S512x2048) ![0, 896] S512x128.size inb_S512x2048_S512x128_0_896
abbrev r0_23 : Rect S512x4096 := Rect.unit (s := S512x4096) ![0, 1792] S512x128.size inb_S512x4096_S512x128_0_1792
abbrev r0_24 : Rect S512x4096 := Rect.unit (s := S512x4096) ![0, 1920] S512x128.size inb_S512x4096_S512x128_0_1920
abbrev r0_25 : Rect S512x2048 := Rect.unit (s := S512x2048) ![0, 1024] S512x128.size inb_S512x2048_S512x128_0_1024
abbrev r0_26 : Rect S512x4096 := Rect.unit (s := S512x4096) ![0, 2048] S512x128.size inb_S512x4096_S512x128_0_2048
abbrev r0_27 : Rect S512x4096 := Rect.unit (s := S512x4096) ![0, 2176] S512x128.size inb_S512x4096_S512x128_0_2176
abbrev r0_28 : Rect S512x2048 := Rect.unit (s := S512x2048) ![0, 1152] S512x128.size inb_S512x2048_S512x128_0_1152
abbrev r0_29 : Rect S512x4096 := Rect.unit (s := S512x4096) ![0, 2304] S512x128.size inb_S512x4096_S512x128_0_2304
abbrev r0_30 : Rect S512x4096 := Rect.unit (s := S512x4096) ![0, 2432] S512x128.size inb_S512x4096_S512x128_0_2432
abbrev r0_31 : Rect S512x2048 := Rect.unit (s := S512x2048) ![0, 1280] S512x128.size inb_S512x2048_S512x128_0_1280
abbrev r0_32 : Rect S512x4096 := Rect.unit (s := S512x4096) ![0, 2560] S512x128.size inb_S512x4096_S512x128_0_2560
abbrev r0_33 : Rect S512x4096 := Rect.unit (s := S512x4096) ![0, 2688] S512x128.size inb_S512x4096_S512x128_0_2688
abbrev r0_34 : Rect S512x2048 := Rect.unit (s := S512x2048) ![0, 1408] S512x128.size inb_S512x2048_S512x128_0_1408
abbrev r0_35 : Rect S512x4096 := Rect.unit (s := S512x4096) ![0, 2816] S512x128.size inb_S512x4096_S512x128_0_2816
abbrev r0_36 : Rect S512x4096 := Rect.unit (s := S512x4096) ![0, 2944] S512x128.size inb_S512x4096_S512x128_0_2944
abbrev r0_37 : Rect S512x2048 := Rect.unit (s := S512x2048) ![0, 1536] S512x128.size inb_S512x2048_S512x128_0_1536
abbrev r0_38 : Rect S512x4096 := Rect.unit (s := S512x4096) ![0, 3072] S512x128.size inb_S512x4096_S512x128_0_3072
abbrev r0_39 : Rect S512x4096 := Rect.unit (s := S512x4096) ![0, 3200] S512x128.size inb_S512x4096_S512x128_0_3200
abbrev r0_40 : Rect S512x2048 := Rect.unit (s := S512x2048) ![0, 1664] S512x128.size inb_S512x2048_S512x128_0_1664
abbrev r0_41 : Rect S512x4096 := Rect.unit (s := S512x4096) ![0, 3328] S512x128.size inb_S512x4096_S512x128_0_3328
abbrev r0_42 : Rect S512x4096 := Rect.unit (s := S512x4096) ![0, 3456] S512x128.size inb_S512x4096_S512x128_0_3456
abbrev r0_43 : Rect S512x2048 := Rect.unit (s := S512x2048) ![0, 1792] S512x128.size inb_S512x2048_S512x128_0_1792
abbrev r0_44 : Rect S512x4096 := Rect.unit (s := S512x4096) ![0, 3584] S512x128.size inb_S512x4096_S512x128_0_3584
abbrev r0_45 : Rect S512x4096 := Rect.unit (s := S512x4096) ![0, 3712] S512x128.size inb_S512x4096_S512x128_0_3712
abbrev r0_46 : Rect S512x2048 := Rect.unit (s := S512x2048) ![0, 1920] S512x128.size inb_S512x2048_S512x128_0_1920
abbrev r0_47 : Rect S512x4096 := Rect.unit (s := S512x4096) ![0, 3840] S512x128.size inb_S512x4096_S512x128_0_3840
abbrev r0_48 : Rect S512x4096 := Rect.unit (s := S512x4096) ![0, 3968] S512x128.size inb_S512x4096_S512x128_0_3968

/-! ## What the body leaves in each output window's buffer -/

/-! ### Values of the body that the stores' payloads, spelt out, would write more than once

    Each is a vector the body binds (often a part call's result), stated over the input windows' blocks and
    numbered on from the skeleton's payload functions (`k0_pay269` …, after `k0_pay268`), so that
    `out0_W` and the values after it name it instead of spelling it out (`unfold_out out0_W` opens a canon
    with them, `unfold_payloads` opens them with the payloads); the comment after each is the printed function's
    name for the value (a count appended where that name is bound again). -/

def k0_pay269 (x0 : Vec F S512x2048 .bf16) (x1 : Vec F S512x2048 .bf16) (x2 : Vec F S512x2048 .bf16) (x3 : Vec F S512x128 .f32) : IVec S512x128 32 :=
  iota .tc S512x128 32 [1] iota_S512x128_d1_w32 -- `v0`
def k0_pay270 (x0 : Vec F S512x2048 .bf16) (x1 : Vec F S512x2048 .bf16) (x2 : Vec F S512x2048 .bf16) (x3 : Vec F S512x128 .f32) : FVec F S512x128 .f32 :=
  k0_pay5 (F := F) -- `v1`
def k0_pay271 (x0 : Vec F S512x2048 .bf16) (x1 : Vec F S512x2048 .bf16) (x2 : Vec F S512x2048 .bf16) (x3 : Vec F S512x128 .f32) : FVec F S512x128 .f32 :=
  k0_pay6 (F := F) -- `v2`
def k0_pay272 (x0 : Vec F S512x2048 .bf16) (x1 : Vec F S512x2048 .bf16) (x2 : Vec F S512x2048 .bf16) (x3 : Vec F S512x128 .f32) : FVec F S512x128 .f32 :=
  k0_pay7 (View.ld x3 r0_0) -- `v5`
def k0_pay273 (x0 : Vec F S512x2048 .bf16) (x1 : Vec F S512x2048 .bf16) (x2 : Vec F S512x2048 .bf16) (x3 : Vec F S512x128 .f32) : FVec F S512x1 .bf16 :=
  k0_pay28 (k0_pay272 x0 x1 x2 x3) -- `v73`
def k0_pay274 (x0 : Vec F S512x2048 .bf16) (x1 : Vec F S512x2048 .bf16) (x2 : Vec F S512x2048 .bf16) (x3 : Vec F S512x128 .f32) : FVec F S512x1 .f32 :=
  k0_pay29 (k0_pay272 x0 x1 x2 x3) -- `v75`
def k0_pay275 (x0 : Vec F S512x2048 .bf16) (x1 : Vec F S512x2048 .bf16) (x2 : Vec F S512x2048 .bf16) (x3 : Vec F S512x128 .f32) : FVec F S512x1 .bf16 :=
  k0_pay30 (k0_pay272 x0 x1 x2 x3) -- `v76`
def k0_pay276 (x0 : Vec F S512x2048 .bf16) (x1 : Vec F S512x2048 .bf16) (x2 : Vec F S512x2048 .bf16) (x3 : Vec F S512x128 .f32) : FVec F S512x1 .f32 :=
  k0_pay31 (k0_pay272 x0 x1 x2 x3) -- `v77`
def k0_pay277 (x0 : Vec F S512x2048 .bf16) (x1 : Vec F S512x2048 .bf16) (x2 : Vec F S512x2048 .bf16) (x3 : Vec F S512x128 .f32) : FVec F S512x128 .f32 :=
  k0_pay48 (k0_pay272 x0 x1 x2 x3) -- `v148`
def k0_pay278 (x0 : Vec F S512x2048 .bf16) (x1 : Vec F S512x2048 .bf16) (x2 : Vec F S512x2048 .bf16) (x3 : Vec F S512x128 .f32) : FVec F S512x128 .f32 :=
  k0_pay49 (k0_pay272 x0 x1 x2 x3) -- `v151`
def k0_pay279 (x0 : Vec F S512x2048 .bf16) (x1 : Vec F S512x2048 .bf16) (x2 : Vec F S512x2048 .bf16) (x3 : Vec F S512x128 .f32) : FVec F S512x128 .f32 :=
  k0_pay50 (k0_pay272 x0 x1 x2 x3) -- `v154`
def k0_pay280 (x0 : Vec F S512x2048 .bf16) (x1 : Vec F S512x2048 .bf16) (x2 : Vec F S512x2048 .bf16) (x3 : Vec F S512x128 .f32) : FVec F S512x128 .f32 :=
  k0_pay96 (k0_pay272 x0 x1 x2 x3) -- `v346`
def k0_pay281 (x0 : Vec F S512x2048 .bf16) (x1 : Vec F S512x2048 .bf16) (x2 : Vec F S512x2048 .bf16) (x3 : Vec F S512x128 .f32) : FVec F S512x128 .f32 :=
  k0_pay97 (k0_pay272 x0 x1 x2 x3) -- `v349`
def k0_pay282 (x0 : Vec F S512x2048 .bf16) (x1 : Vec F S512x2048 .bf16) (x2 : Vec F S512x2048 .bf16) (x3 : Vec F S512x128 .f32) : FVec F S512x128 .f32 :=
  k0_pay98 (k0_pay272 x0 x1 x2 x3) -- `v352`
def k0_pay283 (x0 : Vec F S512x2048 .bf16) (x1 : Vec F S512x2048 .bf16) (x2 : Vec F S512x2048 .bf16) (x3 : Vec F S512x128 .f32) : FVec F S512x1 .bf16 :=
  k0_pay146 (k0_pay272 x0 x1 x2 x3) -- `v541`
def k0_pay284 (x0 : Vec F S512x2048 .bf16) (x1 : Vec F S512x2048 .bf16) (x2 : Vec F S512x2048 .bf16) (x3 : Vec F S512x128 .f32) : FVec F S512x128 .f32 :=
  k0_pay147 (k0_pay272 x0 x1 x2 x3) -- `v544`
def k0_pay285 (x0 : Vec F S512x2048 .bf16) (x1 : Vec F S512x2048 .bf16) (x2 : Vec F S512x2048 .bf16) (x3 : Vec F S512x128 .f32) : FVec F S512x1 .f32 :=
  k0_pay148 (k0_pay272 x0 x1 x2 x3) -- `v545`
def k0_pay286 (x0 : Vec F S512x2048 .bf16) (x1 : Vec F S512x2048 .bf16) (x2 : Vec F S512x2048 .bf16) (x3 : Vec F S512x128 .f32) : FVec F S512x128 .f32 :=
  k0_pay162 (k0_pay272 x0 x1 x2 x3) -- `v610`
def k0_pay287 (x0 : Vec F S512x2048 .bf16) (x1 : Vec F S512x2048 .bf16) (x2 : Vec F S512x2048 .bf16) (x3 : Vec F S512x128 .f32) : FVec F S512x128 .f32 :=
  k0_pay163 (k0_pay272 x0 x1 x2 x3) -- `v613`
def k0_pay288 (x0 : Vec F S512x2048 .bf16) (x1 : Vec F S512x2048 .bf16) (x2 : Vec F S512x2048 .bf16) (x3 : Vec F S512x128 .f32) : FVec F S512x128 .f32 :=
  k0_pay164 (k0_pay272 x0 x1 x2 x3) -- `v616`
def k0_pay289 (x0 : Vec F S512x2048 .bf16) (x1 : Vec F S512x2048 .bf16) (x2 : Vec F S512x2048 .bf16) (x3 : Vec F S512x128 .f32) : FVec F S512x1 .bf16 :=
  k0_pay195 (k0_pay272 x0 x1 x2 x3) -- `v733`
def k0_pay290 (x0 : Vec F S512x2048 .bf16) (x1 : Vec F S512x2048 .bf16) (x2 : Vec F S512x2048 .bf16) (x3 : Vec F S512x128 .f32) : FVec F S512x1 .f32 :=
  k0_pay196 (k0_pay272 x0 x1 x2 x3) -- `v735`
def k0_pay291 (x0 : Vec F S512x2048 .bf16) (x1 : Vec F S512x2048 .bf16) (x2 : Vec F S512x2048 .bf16) (x3 : Vec F S512x128 .f32) : FVec F S512x1 .bf16 :=
  k0_pay197 (k0_pay272 x0 x1 x2 x3) -- `v736`
def k0_pay292 (x0 : Vec F S512x2048 .bf16) (x1 : Vec F S512x2048 .bf16) (x2 : Vec F S512x2048 .bf16) (x3 : Vec F S512x128 .f32) : FVec F S512x1 .f32 :=
  k0_pay198 (k0_pay272 x0 x1 x2 x3) -- `v737`
def k0_pay293 (x0 : Vec F S512x2048 .bf16) (x1 : Vec F S512x2048 .bf16) (x2 : Vec F S512x2048 .bf16) (x3 : Vec F S512x128 .f32) : FVec F S512x128 .f32 :=
  k0_pay215 (k0_pay272 x0 x1 x2 x3) -- `v808`
def k0_pay294 (x0 : Vec F S512x2048 .bf16) (x1 : Vec F S512x2048 .bf16) (x2 : Vec F S512x2048 .bf16) (x3 : Vec F S512x128 .f32) : FVec F S512x128 .f32 :=
  k0_pay216 (k0_pay272 x0 x1 x2 x3) -- `v811`
def k0_pay295 (x0 : Vec F S512x2048 .bf16) (x1 : Vec F S512x2048 .bf16) (x2 : Vec F S512x2048 .bf16) (x3 : Vec F S512x128 .f32) : FVec F S512x128 .f32 :=
  k0_pay217 (k0_pay272 x0 x1 x2 x3) -- `v814`
def k0_pay296 (x0 : Vec F S512x2048 .bf16) (x1 : Vec F S512x2048 .bf16) (x2 : Vec F S512x2048 .bf16) (x3 : Vec F S512x128 .f32) : FVec F S512x128 .f32 :=
  k0_pay263 (k0_pay272 x0 x1 x2 x3) -- `v1006`
def k0_pay297 (x0 : Vec F S512x2048 .bf16) (x1 : Vec F S512x2048 .bf16) (x2 : Vec F S512x2048 .bf16) (x3 : Vec F S512x128 .f32) : FVec F S512x128 .f32 :=
  k0_pay264 (k0_pay272 x0 x1 x2 x3) -- `v1009`
def k0_pay298 (x0 : Vec F S512x2048 .bf16) (x1 : Vec F S512x2048 .bf16) (x2 : Vec F S512x2048 .bf16) (x3 : Vec F S512x128 .f32) : FVec F S512x128 .f32 :=
  k0_pay265 (k0_pay272 x0 x1 x2 x3) -- `v1012`

/-- Window 4's staging buffer after the body, from the input windows' blocks: its 32 stores as pieces, LAST
    FIRST (Lib/Pipeline/FrameBody.lean `View.canon`; the payloads are the skeleton's and the values stated above). -/
def out0_4 (x0 : Vec F S512x2048 .bf16) (x1 : Vec F S512x2048 .bf16) (x2 : Vec F S512x2048 .bf16) (x3 : Vec F S512x128 .f32) : Vec F S512x4096 .bf16 :=
  View.canon [⟨r0_48, k0_pay268 (k0_pay269 x0 x1 x2 x3) (k0_pay270 x0 x1 x2 x3) (k0_pay271 x0 x1 x2 x3) (k0_pay296 x0 x1 x2 x3) (k0_pay297 x0 x1 x2 x3) (k0_pay298 x0 x1 x2 x3) 0#32⟩,
    ⟨r0_47, k0_pay267 (View.ld x0 r0_46)⟩,
    ⟨r0_45, k0_pay254 (k0_pay251 (k0_pay269 x0 x1 x2 x3) (k0_pay270 x0 x1 x2 x3) (k0_pay271 x0 x1 x2 x3) (k0_pay272 x0 x1 x2 x3))⟩,
    ⟨r0_44, k0_pay253 (View.ld x0 r0_43)⟩,
    ⟨r0_42, k0_pay239 (k0_pay234 (k0_pay269 x0 x1 x2 x3) (k0_pay270 x0 x1 x2 x3) (k0_pay271 x0 x1 x2 x3) (k0_pay272 x0 x1 x2 x3))⟩,
    ⟨r0_41, k0_pay238 (View.ld x0 r0_40)⟩,
    ⟨r0_39, k0_pay222 (k0_pay269 x0 x1 x2 x3) (k0_pay270 x0 x1 x2 x3) (k0_pay271 x0 x1 x2 x3) (k0_pay293 x0 x1 x2 x3) (k0_pay294 x0 x1 x2 x3) (k0_pay295 x0 x1 x2 x3) (k0_pay218 (k0_pay269 x0 x1 x2 x3)) (k0_pay219 (k0_pay269 x0 x1 x2 x3)) 2#32⟩,
    ⟨r0_38, k0_pay221 (View.ld x0 r0_37)⟩,
    ⟨r0_36, k0_pay206 (k0_pay202 (k0_pay269 x0 x1 x2 x3) (k0_pay270 x0 x1 x2 x3) (k0_pay271 x0 x1 x2 x3) (k0_pay289 x0 x1 x2 x3) (k0_pay290 x0 x1 x2 x3) (k0_pay291 x0 x1 x2 x3) (k0_pay292 x0 x1 x2 x3))⟩,
    ⟨r0_35, k0_pay205 (k0_pay204 (View.ld x0 r0_34))⟩,
    ⟨r0_33, k0_pay189 (k0_pay182 (k0_pay269 x0 x1 x2 x3) (k0_pay270 x0 x1 x2 x3) (k0_pay271 x0 x1 x2 x3) (k0_pay272 x0 x1 x2 x3))⟩,
    ⟨r0_32, k0_pay188 (View.ld x0 r0_31)⟩,
    ⟨r0_30, k0_pay170 (k0_pay286 x0 x1 x2 x3) (k0_pay287 x0 x1 x2 x3) (k0_pay288 x0 x1 x2 x3) (k0_pay165 (k0_pay269 x0 x1 x2 x3)) (k0_pay166 (k0_pay269 x0 x1 x2 x3)) (k0_pay167 (k0_pay269 x0 x1 x2 x3)) (k0_pay168 (k0_pay269 x0 x1 x2 x3) (k0_pay270 x0 x1 x2 x3) (k0_pay271 x0 x1 x2 x3))⟩,
    ⟨r0_29, k0_pay169 (View.ld x0 r0_28)⟩,
    ⟨r0_27, k0_pay153 (k0_pay269 x0 x1 x2 x3) (k0_pay270 x0 x1 x2 x3) (k0_pay271 x0 x1 x2 x3) (k0_pay283 x0 x1 x2 x3) (k0_pay284 x0 x1 x2 x3) (k0_pay285 x0 x1 x2 x3)⟩,
    ⟨r0_26, k0_pay152 (View.ld x0 r0_25)⟩,
    ⟨r0_24, k0_pay137 (k0_pay128 (k0_pay269 x0 x1 x2 x3) (k0_pay270 x0 x1 x2 x3) (k0_pay271 x0 x1 x2 x3) (k0_pay272 x0 x1 x2 x3))⟩,
    ⟨r0_23, k0_pay136 (View.ld x0 r0_22)⟩,
    ⟨r0_21, k0_pay116 (k0_pay113 (k0_pay269 x0 x1 x2 x3) (k0_pay270 x0 x1 x2 x3) (k0_pay271 x0 x1 x2 x3) (k0_pay272 x0 x1 x2 x3))⟩,
    ⟨r0_20, k0_pay115 (View.ld x0 r0_19)⟩,
    ⟨r0_18, k0_pay101 (k0_pay269 x0 x1 x2 x3) (k0_pay270 x0 x1 x2 x3) (k0_pay271 x0 x1 x2 x3) (k0_pay280 x0 x1 x2 x3) (k0_pay281 x0 x1 x2 x3) (k0_pay282 x0 x1 x2 x3) 0#32⟩,
    ⟨r0_17, k0_pay100 (View.ld x0 r0_16)⟩,
    ⟨r0_15, k0_pay87 (k0_pay84 (k0_pay269 x0 x1 x2 x3) (k0_pay270 x0 x1 x2 x3) (k0_pay271 x0 x1 x2 x3) (k0_pay272 x0 x1 x2 x3))⟩,
    ⟨r0_14, k0_pay86 (View.ld x0 r0_13)⟩,
    ⟨r0_12, k0_pay72 (k0_pay67 (k0_pay269 x0 x1 x2 x3) (k0_pay270 x0 x1 x2 x3) (k0_pay271 x0 x1 x2 x3) (k0_pay272 x0 x1 x2 x3))⟩,
    ⟨r0_11, k0_pay71 (View.ld x0 r0_10)⟩,
    ⟨r0_9, k0_pay55 (k0_pay269 x0 x1 x2 x3) (k0_pay270 x0 x1 x2 x3) (k0_pay271 x0 x1 x2 x3) (k0_pay277 x0 x1 x2 x3) (k0_pay278 x0 x1 x2 x3) (k0_pay279 x0 x1 x2 x3) (k0_pay51 (k0_pay269 x0 x1 x2 x3)) (k0_pay52 (k0_pay269 x0 x1 x2 x3)) 2#32⟩,
    ⟨r0_8, k0_pay54 (View.ld x0 r0_7)⟩,
    ⟨r0_6, k0_pay39 (k0_pay35 (k0_pay269 x0 x1 x2 x3) (k0_pay270 x0 x1 x2 x3) (k0_pay271 x0 x1 x2 x3) (k0_pay273 x0 x1 x2 x3) (k0_pay274 x0 x1 x2 x3) (k0_pay275 x0 x1 x2 x3) (k0_pay276 x0 x1 x2 x3))⟩,
    ⟨r0_5, k0_pay38 (k0_pay37 (View.ld x0 r0_4))⟩,
    ⟨r0_3, k0_pay22 (k0_pay15 (View.ld x3 r0_0))⟩,
    ⟨r0_2, k0_pay21 (View.ld x0 r0_1)⟩]

/-- Its stores tile the buffer (checked by evaluation), so they cover it. -/
theorem cover0_4 (p0 : Vec F S512x128 .bf16) (p1 : Vec F S512x128 .bf16) (p2 : Vec F S512x128 .bf16) (p3 : Vec F S512x128 .bf16) (p4 : Vec F S512x128 .bf16) (p5 : Vec F S512x128 .bf16) (p6 : Vec F S512x128 .bf16) (p7 : Vec F S512x128 .bf16) (p8 : Vec F S512x128 .bf16) (p9 : Vec F S512x128 .bf16) (p10 : Vec F S512x128 .bf16) (p11 : Vec F S512x128 .bf16) (p12 : Vec F S512x128 .bf16) (p13 : Vec F S512x128 .bf16) (p14 : Vec F S512x128 .bf16) (p15 : Vec F S512x128 .bf16) (p16 : Vec F S512x128 .bf16) (p17 : Vec F S512x128 .bf16) (p18 : Vec F S512x128 .bf16) (p19 : Vec F S512x128 .bf16) (p20 : Vec F S512x128 .bf16) (p21 : Vec F S512x128 .bf16) (p22 : Vec F S512x128 .bf16) (p23 : Vec F S512x128 .bf16) (p24 : Vec F S512x128 .bf16) (p25 : Vec F S512x128 .bf16) (p26 : Vec F S512x128 .bf16) (p27 : Vec F S512x128 .bf16) (p28 : Vec F S512x128 .bf16) (p29 : Vec F S512x128 .bf16) (p30 : Vec F S512x128 .bf16) (p31 : Vec F S512x128 .bf16) (y : S512x4096.Idx) :
    ∃ pc ∈ ([⟨r0_48, p0⟩, ⟨r0_47, p1⟩, ⟨r0_45, p2⟩, ⟨r0_44, p3⟩, ⟨r0_42, p4⟩, ⟨r0_41, p5⟩, ⟨r0_39, p6⟩, ⟨r0_38, p7⟩, ⟨r0_36, p8⟩, ⟨r0_35, p9⟩, ⟨r0_33, p10⟩, ⟨r0_32, p11⟩, ⟨r0_30, p12⟩, ⟨r0_29, p13⟩, ⟨r0_27, p14⟩, ⟨r0_26, p15⟩, ⟨r0_24, p16⟩, ⟨r0_23, p17⟩, ⟨r0_21, p18⟩, ⟨r0_20, p19⟩, ⟨r0_18, p20⟩, ⟨r0_17, p21⟩, ⟨r0_15, p22⟩, ⟨r0_14, p23⟩, ⟨r0_12, p24⟩, ⟨r0_11, p25⟩, ⟨r0_9, p26⟩, ⟨r0_8, p27⟩, ⟨r0_6, p28⟩, ⟨r0_5, p29⟩, ⟨r0_3, p30⟩, ⟨r0_2, p31⟩] : List (View.Piece (Elt F) S512x4096 .bf16)), y ∈ pc.1.set :=
  View.cover_of_tiled [⟨r0_48, p0⟩, ⟨r0_47, p1⟩, ⟨r0_45, p2⟩, ⟨r0_44, p3⟩, ⟨r0_42, p4⟩, ⟨r0_41, p5⟩, ⟨r0_39, p6⟩, ⟨r0_38, p7⟩, ⟨r0_36, p8⟩, ⟨r0_35, p9⟩, ⟨r0_33, p10⟩, ⟨r0_32, p11⟩, ⟨r0_30, p12⟩, ⟨r0_29, p13⟩, ⟨r0_27, p14⟩, ⟨r0_26, p15⟩, ⟨r0_24, p16⟩, ⟨r0_23, p17⟩, ⟨r0_21, p18⟩, ⟨r0_20, p19⟩, ⟨r0_18, p20⟩, ⟨r0_17, p21⟩, ⟨r0_15, p22⟩, ⟨r0_14, p23⟩, ⟨r0_12, p24⟩, ⟨r0_11, p25⟩, ⟨r0_9, p26⟩, ⟨r0_8, p27⟩, ⟨r0_6, p28⟩, ⟨r0_5, p29⟩, ⟨r0_3, p30⟩, ⟨r0_2, p31⟩] S512x128.size (by rfl) y

/-- Window 5's staging buffer after the body, from the input windows' blocks: its 32 stores as pieces, LAST
    FIRST (Lib/Pipeline/FrameBody.lean `View.canon`; the payloads are the skeleton's and the values stated above). -/
def out0_5 (x0 : Vec F S512x2048 .bf16) (x1 : Vec F S512x2048 .bf16) (x2 : Vec F S512x2048 .bf16) (x3 : Vec F S512x128 .f32) : Vec F S512x4096 .bf16 :=
  View.canon [⟨r0_48, k0_pay2 (k0_pay266 (k0_pay269 x0 x1 x2 x3) (k0_pay270 x0 x1 x2 x3) (k0_pay271 x0 x1 x2 x3) (k0_pay296 x0 x1 x2 x3) (k0_pay297 x0 x1 x2 x3) (k0_pay298 x0 x1 x2 x3))⟩,
    ⟨r0_47, k0_pay1 (View.ld x1 r0_46)⟩,
    ⟨r0_45, k0_pay256 (k0_pay252 (k0_pay269 x0 x1 x2 x3) (k0_pay270 x0 x1 x2 x3) (k0_pay271 x0 x1 x2 x3) (k0_pay272 x0 x1 x2 x3))⟩,
    ⟨r0_44, k0_pay255 (View.ld x1 r0_43)⟩,
    ⟨r0_42, k0_pay241 (k0_pay269 x0 x1 x2 x3) (k0_pay270 x0 x1 x2 x3) (k0_pay271 x0 x1 x2 x3) (k0_pay232 (k0_pay272 x0 x1 x2 x3)) (k0_pay233 (k0_pay272 x0 x1 x2 x3)) (k0_pay235 (k0_pay269 x0 x1 x2 x3)) (k0_pay236 (k0_pay269 x0 x1 x2 x3)) (k0_pay237 (k0_pay272 x0 x1 x2 x3))⟩,
    ⟨r0_41, k0_pay240 (View.ld x1 r0_40)⟩,
    ⟨r0_39, k0_pay224 (k0_pay220 (k0_pay269 x0 x1 x2 x3) (k0_pay270 x0 x1 x2 x3) (k0_pay271 x0 x1 x2 x3) (k0_pay293 x0 x1 x2 x3) (k0_pay294 x0 x1 x2 x3) (k0_pay295 x0 x1 x2 x3))⟩,
    ⟨r0_38, k0_pay223 (View.ld x1 r0_37)⟩,
    ⟨r0_36, k0_pay208 (k0_pay203 (k0_pay269 x0 x1 x2 x3) (k0_pay270 x0 x1 x2 x3) (k0_pay271 x0 x1 x2 x3) (k0_pay289 x0 x1 x2 x3) (k0_pay290 x0 x1 x2 x3) (k0_pay291 x0 x1 x2 x3) (k0_pay292 x0 x1 x2 x3))⟩,
    ⟨r0_35, k0_pay207 (View.ld x1 r0_34)⟩,
    ⟨r0_33, k0_pay191 (k0_pay269 x0 x1 x2 x3) (k0_pay270 x0 x1 x2 x3) (k0_pay271 x0 x1 x2 x3) (k0_pay181 (k0_pay272 x0 x1 x2 x3)) (k0_pay183 (k0_pay269 x0 x1 x2 x3)) (k0_pay184 (k0_pay269 x0 x1 x2 x3)) (k0_pay185 (k0_pay272 x0 x1 x2 x3)) (k0_pay186 (k0_pay269 x0 x1 x2 x3)) (k0_pay187 (k0_pay272 x0 x1 x2 x3))⟩,
    ⟨r0_32, k0_pay190 (View.ld x1 r0_31)⟩,
    ⟨r0_30, k0_pay172 (k0_pay269 x0 x1 x2 x3) (k0_pay270 x0 x1 x2 x3) (k0_pay271 x0 x1 x2 x3) (k0_pay286 x0 x1 x2 x3) (k0_pay287 x0 x1 x2 x3) (k0_pay288 x0 x1 x2 x3)⟩,
    ⟨r0_29, k0_pay171 (View.ld x1 r0_28)⟩,
    ⟨r0_27, k0_pay155 (k0_pay151 (k0_pay269 x0 x1 x2 x3) (k0_pay270 x0 x1 x2 x3) (k0_pay271 x0 x1 x2 x3) (k0_pay283 x0 x1 x2 x3) (k0_pay284 x0 x1 x2 x3) (k0_pay285 x0 x1 x2 x3))⟩,
    ⟨r0_26, k0_pay154 (View.ld x1 r0_25)⟩,
    ⟨r0_24, k0_pay139 (k0_pay270 x0 x1 x2 x3) (k0_pay271 x0 x1 x2 x3) (k0_pay129 (k0_pay269 x0 x1 x2 x3)) (k0_pay130 (k0_pay269 x0 x1 x2 x3)) (k0_pay131 (k0_pay272 x0 x1 x2 x3)) (k0_pay132 (k0_pay269 x0 x1 x2 x3)) (k0_pay133 (k0_pay272 x0 x1 x2 x3)) (k0_pay134 (k0_pay269 x0 x1 x2 x3)) (k0_pay135 (k0_pay272 x0 x1 x2 x3))⟩,
    ⟨r0_23, k0_pay138 (View.ld x1 r0_22)⟩,
    ⟨r0_21, k0_pay118 (k0_pay269 x0 x1 x2 x3) (k0_pay270 x0 x1 x2 x3) (k0_pay271 x0 x1 x2 x3) (k0_pay110 (k0_pay272 x0 x1 x2 x3)) (k0_pay111 (k0_pay272 x0 x1 x2 x3)) (k0_pay112 (k0_pay272 x0 x1 x2 x3)) (k0_pay114 (k0_pay269 x0 x1 x2 x3))⟩,
    ⟨r0_20, k0_pay117 (View.ld x1 r0_19)⟩,
    ⟨r0_18, k0_pay103 (k0_pay99 (k0_pay269 x0 x1 x2 x3) (k0_pay270 x0 x1 x2 x3) (k0_pay271 x0 x1 x2 x3) (k0_pay280 x0 x1 x2 x3) (k0_pay281 x0 x1 x2 x3) (k0_pay282 x0 x1 x2 x3))⟩,
    ⟨r0_17, k0_pay102 (View.ld x1 r0_16)⟩,
    ⟨r0_15, k0_pay89 (k0_pay85 (k0_pay269 x0 x1 x2 x3) (k0_pay270 x0 x1 x2 x3) (k0_pay271 x0 x1 x2 x3) (k0_pay272 x0 x1 x2 x3))⟩,
    ⟨r0_14, k0_pay88 (View.ld x1 r0_13)⟩,
    ⟨r0_12, k0_pay74 (k0_pay269 x0 x1 x2 x3) (k0_pay270 x0 x1 x2 x3) (k0_pay271 x0 x1 x2 x3) (k0_pay65 (k0_pay272 x0 x1 x2 x3)) (k0_pay66 (k0_pay272 x0 x1 x2 x3)) (k0_pay68 (k0_pay269 x0 x1 x2 x3)) (k0_pay69 (k0_pay269 x0 x1 x2 x3)) (k0_pay70 (k0_pay272 x0 x1 x2 x3))⟩,
    ⟨r0_11, k0_pay73 (View.ld x1 r0_10)⟩,
    ⟨r0_9, k0_pay57 (k0_pay53 (k0_pay269 x0 x1 x2 x3) (k0_pay270 x0 x1 x2 x3) (k0_pay271 x0 x1 x2 x3) (k0_pay277 x0 x1 x2 x3) (k0_pay278 x0 x1 x2 x3) (k0_pay279 x0 x1 x2 x3))⟩,
    ⟨r0_8, k0_pay56 (View.ld x1 r0_7)⟩,
    ⟨r0_6, k0_pay41 (k0_pay36 (k0_pay269 x0 x1 x2 x3) (k0_pay270 x0 x1 x2 x3) (k0_pay271 x0 x1 x2 x3) (k0_pay273 x0 x1 x2 x3) (k0_pay274 x0 x1 x2 x3) (k0_pay275 x0 x1 x2 x3) (k0_pay276 x0 x1 x2 x3))⟩,
    ⟨r0_5, k0_pay40 (View.ld x1 r0_4)⟩,
    ⟨r0_3, k0_pay24 (k0_pay269 x0 x1 x2 x3) (k0_pay270 x0 x1 x2 x3) (k0_pay271 x0 x1 x2 x3) (k0_pay14 (View.ld x3 r0_0)) k0_pay16 k0_pay17 (k0_pay18 (View.ld x3 r0_0)) k0_pay19 (k0_pay20 (View.ld x3 r0_0))⟩,
    ⟨r0_2, k0_pay23 (View.ld x1 r0_1)⟩]

/-- Its stores tile the buffer (checked by evaluation), so they cover it. -/
theorem cover0_5 (p0 : Vec F S512x128 .bf16) (p1 : Vec F S512x128 .bf16) (p2 : Vec F S512x128 .bf16) (p3 : Vec F S512x128 .bf16) (p4 : Vec F S512x128 .bf16) (p5 : Vec F S512x128 .bf16) (p6 : Vec F S512x128 .bf16) (p7 : Vec F S512x128 .bf16) (p8 : Vec F S512x128 .bf16) (p9 : Vec F S512x128 .bf16) (p10 : Vec F S512x128 .bf16) (p11 : Vec F S512x128 .bf16) (p12 : Vec F S512x128 .bf16) (p13 : Vec F S512x128 .bf16) (p14 : Vec F S512x128 .bf16) (p15 : Vec F S512x128 .bf16) (p16 : Vec F S512x128 .bf16) (p17 : Vec F S512x128 .bf16) (p18 : Vec F S512x128 .bf16) (p19 : Vec F S512x128 .bf16) (p20 : Vec F S512x128 .bf16) (p21 : Vec F S512x128 .bf16) (p22 : Vec F S512x128 .bf16) (p23 : Vec F S512x128 .bf16) (p24 : Vec F S512x128 .bf16) (p25 : Vec F S512x128 .bf16) (p26 : Vec F S512x128 .bf16) (p27 : Vec F S512x128 .bf16) (p28 : Vec F S512x128 .bf16) (p29 : Vec F S512x128 .bf16) (p30 : Vec F S512x128 .bf16) (p31 : Vec F S512x128 .bf16) (y : S512x4096.Idx) :
    ∃ pc ∈ ([⟨r0_48, p0⟩, ⟨r0_47, p1⟩, ⟨r0_45, p2⟩, ⟨r0_44, p3⟩, ⟨r0_42, p4⟩, ⟨r0_41, p5⟩, ⟨r0_39, p6⟩, ⟨r0_38, p7⟩, ⟨r0_36, p8⟩, ⟨r0_35, p9⟩, ⟨r0_33, p10⟩, ⟨r0_32, p11⟩, ⟨r0_30, p12⟩, ⟨r0_29, p13⟩, ⟨r0_27, p14⟩, ⟨r0_26, p15⟩, ⟨r0_24, p16⟩, ⟨r0_23, p17⟩, ⟨r0_21, p18⟩, ⟨r0_20, p19⟩, ⟨r0_18, p20⟩, ⟨r0_17, p21⟩, ⟨r0_15, p22⟩, ⟨r0_14, p23⟩, ⟨r0_12, p24⟩, ⟨r0_11, p25⟩, ⟨r0_9, p26⟩, ⟨r0_8, p27⟩, ⟨r0_6, p28⟩, ⟨r0_5, p29⟩, ⟨r0_3, p30⟩, ⟨r0_2, p31⟩] : List (View.Piece (Elt F) S512x4096 .bf16)), y ∈ pc.1.set :=
  View.cover_of_tiled [⟨r0_48, p0⟩, ⟨r0_47, p1⟩, ⟨r0_45, p2⟩, ⟨r0_44, p3⟩, ⟨r0_42, p4⟩, ⟨r0_41, p5⟩, ⟨r0_39, p6⟩, ⟨r0_38, p7⟩, ⟨r0_36, p8⟩, ⟨r0_35, p9⟩, ⟨r0_33, p10⟩, ⟨r0_32, p11⟩, ⟨r0_30, p12⟩, ⟨r0_29, p13⟩, ⟨r0_27, p14⟩, ⟨r0_26, p15⟩, ⟨r0_24, p16⟩, ⟨r0_23, p17⟩, ⟨r0_21, p18⟩, ⟨r0_20, p19⟩, ⟨r0_18, p20⟩, ⟨r0_17, p21⟩, ⟨r0_15, p22⟩, ⟨r0_14, p23⟩, ⟨r0_12, p24⟩, ⟨r0_11, p25⟩, ⟨r0_9, p26⟩, ⟨r0_8, p27⟩, ⟨r0_6, p28⟩, ⟨r0_5, p29⟩, ⟨r0_3, p30⟩, ⟨r0_2, p31⟩] S512x128.size (by rfl) y

/-- Window 6's staging buffer after the body, from the input windows' blocks: its 32 stores as pieces, LAST
    FIRST (Lib/Pipeline/FrameBody.lean `View.canon`; the payloads are the skeleton's and the values stated above). -/
def out0_6 (x0 : Vec F S512x2048 .bf16) (x1 : Vec F S512x2048 .bf16) (x2 : Vec F S512x2048 .bf16) (x3 : Vec F S512x128 .f32) : Vec F S512x4096 .bf16 :=
  View.canon [⟨r0_48, k0_pay4 (k0_pay270 x0 x1 x2 x3)⟩,
    ⟨r0_47, k0_pay3 (View.ld x2 r0_46)⟩,
    ⟨r0_45, k0_pay258 (k0_pay270 x0 x1 x2 x3)⟩,
    ⟨r0_44, k0_pay257 (View.ld x2 r0_43)⟩,
    ⟨r0_42, k0_pay243 (k0_pay270 x0 x1 x2 x3)⟩,
    ⟨r0_41, k0_pay242 (View.ld x2 r0_40)⟩,
    ⟨r0_39, k0_pay226 (k0_pay270 x0 x1 x2 x3)⟩,
    ⟨r0_38, k0_pay225 (View.ld x2 r0_37)⟩,
    ⟨r0_36, k0_pay210 (k0_pay270 x0 x1 x2 x3)⟩,
    ⟨r0_35, k0_pay209 (View.ld x2 r0_34)⟩,
    ⟨r0_33, k0_pay193 (k0_pay270 x0 x1 x2 x3)⟩,
    ⟨r0_32, k0_pay192 (View.ld x2 r0_31)⟩,
    ⟨r0_30, k0_pay174 (k0_pay270 x0 x1 x2 x3)⟩,
    ⟨r0_29, k0_pay173 (View.ld x2 r0_28)⟩,
    ⟨r0_27, k0_pay157 (k0_pay270 x0 x1 x2 x3)⟩,
    ⟨r0_26, k0_pay156 (View.ld x2 r0_25)⟩,
    ⟨r0_24, k0_pay141 (k0_pay270 x0 x1 x2 x3)⟩,
    ⟨r0_23, k0_pay140 (View.ld x2 r0_22)⟩,
    ⟨r0_21, k0_pay120 (k0_pay270 x0 x1 x2 x3)⟩,
    ⟨r0_20, k0_pay119 (View.ld x2 r0_19)⟩,
    ⟨r0_18, k0_pay105 (k0_pay270 x0 x1 x2 x3)⟩,
    ⟨r0_17, k0_pay104 (View.ld x2 r0_16)⟩,
    ⟨r0_15, k0_pay91 (k0_pay270 x0 x1 x2 x3)⟩,
    ⟨r0_14, k0_pay90 (View.ld x2 r0_13)⟩,
    ⟨r0_12, k0_pay76 (k0_pay270 x0 x1 x2 x3)⟩,
    ⟨r0_11, k0_pay75 (View.ld x2 r0_10)⟩,
    ⟨r0_9, k0_pay59 (k0_pay270 x0 x1 x2 x3)⟩,
    ⟨r0_8, k0_pay58 (View.ld x2 r0_7)⟩,
    ⟨r0_6, k0_pay43 (k0_pay270 x0 x1 x2 x3)⟩,
    ⟨r0_5, k0_pay42 (View.ld x2 r0_4)⟩,
    ⟨r0_3, k0_pay26 (k0_pay270 x0 x1 x2 x3)⟩,
    ⟨r0_2, k0_pay25 (View.ld x2 r0_1)⟩]

/-- Its stores tile the buffer (checked by evaluation), so they cover it. -/
theorem cover0_6 (p0 : Vec F S512x128 .bf16) (p1 : Vec F S512x128 .bf16) (p2 : Vec F S512x128 .bf16) (p3 : Vec F S512x128 .bf16) (p4 : Vec F S512x128 .bf16) (p5 : Vec F S512x128 .bf16) (p6 : Vec F S512x128 .bf16) (p7 : Vec F S512x128 .bf16) (p8 : Vec F S512x128 .bf16) (p9 : Vec F S512x128 .bf16) (p10 : Vec F S512x128 .bf16) (p11 : Vec F S512x128 .bf16) (p12 : Vec F S512x128 .bf16) (p13 : Vec F S512x128 .bf16) (p14 : Vec F S512x128 .bf16) (p15 : Vec F S512x128 .bf16) (p16 : Vec F S512x128 .bf16) (p17 : Vec F S512x128 .bf16) (p18 : Vec F S512x128 .bf16) (p19 : Vec F S512x128 .bf16) (p20 : Vec F S512x128 .bf16) (p21 : Vec F S512x128 .bf16) (p22 : Vec F S512x128 .bf16) (p23 : Vec F S512x128 .bf16) (p24 : Vec F S512x128 .bf16) (p25 : Vec F S512x128 .bf16) (p26 : Vec F S512x128 .bf16) (p27 : Vec F S512x128 .bf16) (p28 : Vec F S512x128 .bf16) (p29 : Vec F S512x128 .bf16) (p30 : Vec F S512x128 .bf16) (p31 : Vec F S512x128 .bf16) (y : S512x4096.Idx) :
    ∃ pc ∈ ([⟨r0_48, p0⟩, ⟨r0_47, p1⟩, ⟨r0_45, p2⟩, ⟨r0_44, p3⟩, ⟨r0_42, p4⟩, ⟨r0_41, p5⟩, ⟨r0_39, p6⟩, ⟨r0_38, p7⟩, ⟨r0_36, p8⟩, ⟨r0_35, p9⟩, ⟨r0_33, p10⟩, ⟨r0_32, p11⟩, ⟨r0_30, p12⟩, ⟨r0_29, p13⟩, ⟨r0_27, p14⟩, ⟨r0_26, p15⟩, ⟨r0_24, p16⟩, ⟨r0_23, p17⟩, ⟨r0_21, p18⟩, ⟨r0_20, p19⟩, ⟨r0_18, p20⟩, ⟨r0_17, p21⟩, ⟨r0_15, p22⟩, ⟨r0_14, p23⟩, ⟨r0_12, p24⟩, ⟨r0_11, p25⟩, ⟨r0_9, p26⟩, ⟨r0_8, p27⟩, ⟨r0_6, p28⟩, ⟨r0_5, p29⟩, ⟨r0_3, p30⟩, ⟨r0_2, p31⟩] : List (View.Piece (Elt F) S512x4096 .bf16)), y ∈ pc.1.set :=
  View.cover_of_tiled [⟨r0_48, p0⟩, ⟨r0_47, p1⟩, ⟨r0_45, p2⟩, ⟨r0_44, p3⟩, ⟨r0_42, p4⟩, ⟨r0_41, p5⟩, ⟨r0_39, p6⟩, ⟨r0_38, p7⟩, ⟨r0_36, p8⟩, ⟨r0_35, p9⟩, ⟨r0_33, p10⟩, ⟨r0_32, p11⟩, ⟨r0_30, p12⟩, ⟨r0_29, p13⟩, ⟨r0_27, p14⟩, ⟨r0_26, p15⟩, ⟨r0_24, p16⟩, ⟨r0_23, p17⟩, ⟨r0_21, p18⟩, ⟨r0_20, p19⟩, ⟨r0_18, p20⟩, ⟨r0_17, p21⟩, ⟨r0_15, p22⟩, ⟨r0_14, p23⟩, ⟨r0_12, p24⟩, ⟨r0_11, p25⟩, ⟨r0_9, p26⟩, ⟨r0_8, p27⟩, ⟨r0_6, p28⟩, ⟨r0_5, p29⟩, ⟨r0_3, p30⟩, ⟨r0_2, p31⟩] S512x128.size (by rfl) y

/-! ## The body's triple -/

set_option maxHeartbeats 1192000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S512x2048 .bf16) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S512x128 .f32) (harg4 : arg4.IsWhole) (arg5 : Memref sig .tc .vmem S512x4096 .bf16) (harg5 : arg5.IsWhole) (arg6 : Memref sig .tc .vmem S512x4096 .bf16) (harg6 : arg6.IsWhole) (arg7 : Memref sig .tc .vmem S512x4096 .bf16) (harg7 : arg7.IsWhole)
    (x0 : Vec F S512x2048 .bf16) (x1 : Vec F S512x2048 .bf16) (x2 : Vec F S512x2048 .bf16) (x3 : Vec F S512x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3) ∗ owns (c : Thread nD τ) arg6 fullShare (out0_5 x0 x1 x2 x3) ∗ owns (c : Thread nD τ) arg7 fullShare (out0_6 x0 x1 x2 x3)) -∗ K ⟨⟩))
      ⊢ wp frame (wpE (defs₀ (F := F)) Variants.none c none) E (cc0_fox_prep i arg1 harg1 arg2 harg2 arg3 harg3 arg4 harg4 arg5 harg5 arg6 harg6 arg7 harg7) K := by
  simp only [cc0_fox_prep_eq_skeleton]; unfold cc0_fox_prep_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover0_4 _ _ _ _ _ _ _ _ _ _ _ _ _ _ _ _ _ _ _ _ _ _ _ _ _ _ _ _ _ _ _ _)).trans ?_
    rfl
  isplitl [H5]
  · iexists _; isplitr
    swap; · iexact H5
    ipureintro
    refine (View.read_writes_eq_canon _ _ _ (cover0_5 _ _ _ _ _ _ _ _ _ _ _ _ _ _ _ _ _ _ _ _ _ _ _ _ _ _ _ _ _ _ _ _)).trans ?_
    rfl
  iexists _; isplitr
  swap; · iexact H6
  ipureintro
  refine (View.read_writes_eq_canon _ _ _ (cover0_6 _ _ _ _ _ _ _ _ _ _ _ _ _ _ _ _ _ _ _ _ _ _ _ _ _ _ _ _ _ _ _ _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    each input's share of its array
    (`Pipeline.shareOf`: the full share of an array several windows stage, dealt among them). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t) (iblk0 V c 1 t) (iblk0 V c 2 t) (iblk0 V c 3 t)
    | ⟨6, _⟩ => out0_6 (iblk0 V c 0 t) (iblk0 V c 1 t) (iblk0 V c 2 t) (iblk0 V c 3 t)
  Φ _ := Pipeline.ΦA spec0 c
  q w := Pipeline.shareOf spec0 w
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]
theorem after0_5 (c : Dev nD) (t : Fin cfg0.N) : (dat0 V c).after 5 t = out0_5 (iblk0 V c 0 t) (iblk0 V c 1 t) (iblk0 V c 2 t) (iblk0 V c 3 t) := by dsimp only [dat0]
theorem after0_6 (c : Dev nD) (t : Fin cfg0.N) : (dat0 V c).after 6 t = out0_6 (iblk0 V c 0 t) (iblk0 V c 1 t) (iblk0 V c 2 t) (iblk0 V c 3 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1_fox_attention` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Each window's current staging memref at point `t`, spelled as the pipeline passes it (`bodyAt1`), and its wholeness. -/
abbrev ms1_0 (t : Fin cfg1.N) : Memref sig .tc .vmem S1024x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16384x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S16384x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x128 .bf16 := win1_3.stage (cfg1.slots t 3)
abbrev hs1_3 (t : Fin cfg1.N) : (ms1_3 t).IsWhole := hstage1_3 ((cfg1.slots t 3).cast nbuf1_3)
/-- The scratch operands: whole scoped buffers of the kernel's own, passed beside the windows. -/
abbrev scM1_0 : Memref sig .tc .vmem S1024x512 .f32 := Memref.whole cc1_scratch0
abbrev scM1_1 : Memref sig .tc .vmem S1024x512 .f32 := Memref.whole cc1_scratch1
abbrev scM1_2 : Memref sig .tc .vmem S1024x128 .f32 := Memref.whole cc1_scratch2
abbrev scM1_3 : Memref sig .tc .vmem S1024x256 .f32 := Memref.whole cc1_scratch3

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d)) ∗ (∃ r, prngReg c r)) := by
  unfold Pipeline.ΦA; rw [scopedRest1_eq]; simp only [scM1_0, scM1_1, scM1_2, scM1_3, owns_whole]; try rfl

/-- What the output's staging buffer holds after the body at point `t`: `foxOut` of the point's input blocks. -/
def outsAt1 (c : Dev nD) (t : Fin cfg1.N) : Vec F S1024x128 .bf16 :=
  foxOut (grid1.coords t) (iblk1 V c 0 t) (iblk1 V c 1 t) (iblk1 V c 2 t)
/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 800000 in
/-- The body at any point: the inputs' memrefs hold their blocks (`before1_W`); so the
    run applies; the invariant hands the body its scratch buffers at some contents (and the generator register) and takes them back at some contents (`PhiA_eq`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  rw [show (dat1 V c).Φ t.castSucc = Pipeline.ΦA spec1 c from rfl, PhiA1_eq]
  unfold outsAt1
  iintro ⟨⟨⟨HR0, HR1, HR2, HR3, HR4, HR5, HR6, HR7, HR8, HR9, HR10, HR11, HR12, HR13, HS0, HS1, HS2, HS3⟩, Hg⟩, Ho, ⟨%d0, H0⟩, ⟨%d1, H1⟩, ⟨%d2, H2⟩, ⟨%d3, H3⟩⟩
  iapply (body_run c (grid1.coords t) _ _ _ _ _ _ _ _ _ _ _ _ _ _ _ _ (iblk1 V c 0 t) (iblk1 V c 1 t) (iblk1 V c 2 t) Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  isplitl [HS3]; · iexact HS3
  iintro ⟨H0, H1, H2, H3, HS0, HS1, HS2, HS3⟩
  isplitl [HR0 HR1 HR2 HR3 HR4 HR5 HR6 HR7 HR8 HR9 HR10 HR11 HR12 HR13 HS0 HS1 HS2 HS3 Hg]
  · isplitl [HR0 HR1 HR2 HR3 HR4 HR5 HR6 HR7 HR8 HR9 HR10 HR11 HR12 HR13 HS0 HS1 HS2 HS3]
    · isplitl [HR0]
      · iexact HR0
      isplitl [HR1]
      · iexact HR1
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HR8]
      · iexact HR8
      isplitl [HR9]
      · iexact HR9
      isplitl [HR10]
      · iexact HR10
      isplitl [HR11]
      · iexact HR11
      isplitl [HR12]
      · iexact HR12
      isplitl [HR13]
      · iexact HR13
      isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  iexact H3

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4, main_v5, main_cst, main_v6, main_v7]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact (dat0 (V1 m ρ) c).withArrays_arrAt launch₀0.sharedIn _ (A_eq0 (V1 m ρ) c) w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays_shared`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched: no host stretch writes one and no region may change one (a region reads it
    through an input window or bypasses it) -/

theorem W3_main_arg0 (c : Dev nD) : W3 m ρ c (Proc.devRef .tc main_arg0) = m ((c : Thread nD τ).loc main_arg0) :=
  W3_args m ρ c main_arg0 (by decide)
theorem W3_main_arg1 (c : Dev nD) : W3 m ρ c (Proc.devRef .tc main_arg1) = m ((c : Thread nD τ).loc main_arg1) :=
  W3_args m ρ c main_arg1 (by decide)
theorem W3_main_arg2 (c : Dev nD) : W3 m ρ c (Proc.devRef .tc main_arg2) = m ((c : Thread nD τ).loc main_arg2) :=
  W3_args m ρ c main_arg2 (by decide)
theorem W3_main_arg3 (c : Dev nD) : W3 m ρ c (Proc.devRef .tc main_arg3) = m ((c : Thread nD τ).loc main_arg3) :=
  W3_args m ρ c main_arg3 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W3`, the generator register at some state. -/
abbrev Tₙ (c : Dev nD) : sProp 𝕄 := iprop(StableHlo.held (c : Thread nD τ) (Pipeline.ucRefs τ sig) (W3 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs_shared`) and put back at the exit contents (`unscopedBufs_of_arrays_shared`; its input windows on one array (`launch₀0.sharedIn`) each dealt their share of it, `Pipeline.shareOf`, by the proof data); the generator register into the
    class invariant `ΦA` and out; nothing owed; no semaphore of the kernel's own. -/
def reg0 : Pipeline.RegionSeg (pcfgs (F := F)) adm (pdats m ρ) () defs₀ 𝒱₀ L lv 0 where
  win := launch₀0.win
  block_pos := launch₀0.block_pos
  stage_whole := launch₀0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs_shared (p := 0) (pcfgs (F := F)) adm (pdats m ρ) launch₀0.win launch₀0.sharedIn launch₀0.arr_whole c
      (fun _ _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays_shared (p := 0) (pcfgs (F := F)) adm (Ix := Unit) (Name := ℕ) (U := UR sig nD τ) (Lvl := ℕ)
      launch₀0.win launch₀0.sharedIn launch₀0.arr_whole c (pdats m ρ) (fun _ _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 3 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: at any `F`, every weakly fair execution of @main terminates, nothing faulting, and ends with the argument arrays
    as launched, the result array at the last boundary's contents and every counter at zero. -/
theorem fox_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_v9) = W3 m ρ c (Proc.devRef .tc main_v9))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨(fun c =>
      ⟨(h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       h c _ (mem_uc main_v9 (by decide))⟩), funext fun g => hz g (.inr (no_unscoped g.2))⟩)

/-- The frame: `fox_run` without the result. -/
theorem fox_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c).1, (h.1 c).2.1, (h.1 c).2.2.1, (h.1 c).2.2.2.1⟩, h.2⟩) (fox_run m ρ)

end Cert.KernelIdeal.Gen
-- ==== Proof.Fox.Transfer.lean ====
/-
  The frame of the printed program from the frame of its idealization. The idealized program is the printed one with a
  name on three constants, so at `Bits`, with every name read at its printed bits, the two are the same program.
-/
module
public import proofs.«01_k».proof.Proof.Gen.Kernel
public import proofs.«01_k».proof.Proof.Fox.Frame
public import proofs.«01_k».proof.Defs
public import Idealize.ShloMosaic.Lib.Exec
public import Idealize.ShloMosaic.Lib.Tactic
public import Idealize.ShloMosaic.Lib.Pipeline.FrameBody
public import Idealize.ShloMosaic.Lib.Ring
@[expose] public section
set_option maxRecDepth 65536
noncomputable section
namespace Cert.Fox
open Idealize.ShloMosaic Idealize.SL.Sem

/-- The named constants at their printed bits. -/
@[reducible] def printedNames : Named Bits := ⟨fun _ _ {φ} bits => FloatOps.ofBits φ bits⟩
attribute [local instance] printedNames

/-- The two programs' kernel bodies are the same, call by call. -/
theorem bodies_eq [Cert.KernelIdeal.Facts] [Cert.Kernel.Facts] : Cert.KernelIdeal.defs₀ (F := Bits) = Cert.Kernel.defs₀ (F := Bits) := by
  refine congrArg (Defs.onTc (nD := Cert.Kernel.nD) (τ := Cert.Kernel.τ) (sig := Cert.Kernel.sig) (Λ := Cert.Kernel.Λ₀)) ?_
  funext l x
  match l, x with
  | ⟨0, h⟩, (t, s) => sl_kernel_rfl
  | ⟨1, h⟩, (t, s) => sl_kernel_rfl
  | ⟨n+2, h⟩, _ => exact absurd h (by omega)

/-- The idealized program, at the given bodies, ends with its arguments as launched and every counter at zero. -/
abbrev Kept [Cert.KernelIdeal.Facts] (m : (ℓ : Loc Cert.KernelIdeal.nD Cert.KernelIdeal.τ Cert.KernelIdeal.sig) → Buf (Elt Bits) ℓ)
    (g : Dev Cert.KernelIdeal.nD → PrngReg) (D : Defs Cert.KernelIdeal.nD Cert.KernelIdeal.τ Cert.KernelIdeal.sig (Elt Bits) Cert.Kernel.Λ₀) : Prop :=
  θ_run (Pipeline.defs (Cert.KernelIdeal.pcfgs (F := Bits)) D) (onTc (τ := Cert.KernelIdeal.τ) (Cert.KernelIdeal.main (F := Bits)))
    ⟨m, fun _ => 0, g⟩ (fun r => (∀ c : Dev Cert.KernelIdeal.nD, r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0) ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1) ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2) ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) ∧ r.2.sem = fun _ => 0)

set_option maxHeartbeats 4000000 in
/-- The printed program's frame. -/
theorem kernel_frame : letI := Cert.Kernel.Gen.facts; Cert.quiescent_Kernel := by
  letI := Cert.Kernel.Gen.facts
  letI := Cert.KernelIdeal.Gen.facts
  intro m g _
  have h1 : Kept m g (Cert.KernelIdeal.defs₀ (F := Bits)) := Cert.KernelIdeal.Gen.fox_frame (F := Bits) m g
  have e : Kept m g (Cert.KernelIdeal.defs₀ (F := Bits)) = Kept m g (Cert.Kernel.defs₀ (F := Bits)) := congrArg (fun D => Kept m g D) bodies_eq
  rw [e] at h1
  exact h1

end Cert.Fox
end
-- ==== Proof.Fox.Online.lean ====
/-
  The online softmax in exact arithmetic, for one row and one column of the values.

  A row's scores `l s` are reals or `⊥` (a masked key weighs nothing). After the keys below `n` the kernel holds the running
  maximum `top l n` and the weighted sum `acc l v n = ∑ s < n, 2 ^ (l s - top l n) * v s`; a block of further keys rescales
  both (`top_add`, `acc_add`). Masked keys change nothing (`top_of_bot`, `acc_of_bot`). The values `v s` are any
  extended reals: the weights are nonnegative reals, so they distribute over every sum (`coe_mul_sum`).
-/
module

public import Idealize.ShloMosaic.PureOps.Ideal
public import Mathlib.Analysis.SpecialFunctions.Pow.Real
public import Mathlib.Data.EReal.Operations
public import Mathlib.Data.EReal.Inv

@[expose] public section

noncomputable section

namespace Cert.Fox

open Idealize.ShloMosaic Finset

/-- A nonnegative real distributes over any finite sum of extended reals. -/
theorem coe_mul_sum {ι : Type} (A : Finset ι) (w : ℝ) (hw : 0 ≤ w) (f : ι → EReal) :
    (w : EReal) * ∑ s ∈ A, f s = ∑ s ∈ A, (w : EReal) * f s := by
  classical
  induction A using Finset.induction_on with
  | empty => simp
  | insert a A ha ih =>
    rw [Finset.sum_insert ha, Finset.sum_insert ha,
      EReal.left_distrib_of_nonneg_of_ne_top (EReal.coe_nonneg.mpr hw) (EReal.coe_ne_top w), ih]

/-- A finite sum of reals, taken in the extended reals. -/
theorem coe_sum {ι : Type} (A : Finset ι) (f : ι → ℝ) : ((∑ s ∈ A, f s : ℝ) : EReal) = ∑ s ∈ A, (f s : EReal) := by
  classical
  induction A using Finset.induction_on with
  | empty => simp
  | insert a A ha ih => rw [Finset.sum_insert ha, Finset.sum_insert ha, EReal.coe_add, ih]

/-- Where every score is real or `⊥`, `2 ^ (x - M)` is a nonnegative real for a real `M`. -/
theorem exp2_sub_coe (x : EReal) (hx : x ≠ ⊤) (M : ℝ) :
    ∃ w : ℝ, 0 ≤ w ∧ Ideal.exp2 (x - (M : EReal)) = (w : EReal) := by
  induction x with
  | bot => exact ⟨0, le_rfl, by rw [EReal.bot_sub]; rfl⟩
  | top => exact absurd rfl hx
  | coe r => exact ⟨Real.rpow 2 (r - M), Real.rpow_nonneg (by norm_num) _, by rw [← EReal.coe_sub]; rfl⟩

/-- Rescaling: `2 ^ (μ - M) * 2 ^ (x - μ) = 2 ^ (x - M)`. -/
theorem exp2_rescale (x : EReal) (hx : x ≠ ⊤) (μ M : ℝ) :
    Ideal.exp2 ((μ : EReal) - (M : EReal)) * Ideal.exp2 (x - (μ : EReal)) = Ideal.exp2 (x - (M : EReal)) := by
  induction x with
  | bot => rw [EReal.bot_sub, EReal.bot_sub]; simp
  | top => exact absurd rfl hx
  | coe r =>
    rw [← EReal.coe_sub, ← EReal.coe_sub, ← EReal.coe_sub]
    simp only [Ideal.exp2_coe, ← EReal.coe_mul]
    congr 1
    show (2 : ℝ) ^ (μ - M) * (2 : ℝ) ^ (r - μ) = (2 : ℝ) ^ (r - M)
    rw [← Real.rpow_add (by norm_num)]
    congr 1; ring

variable (l v : ℕ → EReal)

/-- The maximum of the scores of the keys below `n`. -/
def top (n : ℕ) : EReal := (range n).sup l

/-- The weighted sum of the values of the keys below `n`, each weight taken against the maximum. -/
def acc (n : ℕ) : EReal := ∑ s ∈ range n, Ideal.exp2 (l s - top l n) * v s

theorem top_zero : top l 0 = ⊥ := by simp [top]

theorem acc_zero : acc l v 0 = 0 := by simp [acc]

/-- The maximum with a further block of keys. -/
theorem top_add (n b : ℕ) : top l (n + b) = max (top l n) (univ.sup fun j : Fin b => l (n + j.val)) := by
  unfold top
  apply le_antisymm
  · apply Finset.sup_le
    intro s hs
    rw [mem_range] at hs
    by_cases h : s < n
    · exact le_max_of_le_left (le_sup (f := l) (mem_range.mpr h))
    · have e : s = n + (⟨s - n, by omega⟩ : Fin b).val := by simp; omega
      rw [e]
      exact le_max_of_le_right (le_sup (f := fun j : Fin b => l (n + j.val)) (mem_univ _))
  · apply max_le
    · exact Finset.sup_mono (by intro s hs; simp at *; omega)
    · apply Finset.sup_le
      intro j _
      exact le_sup (f := l) (by simp)

theorem top_ne_top (hl : ∀ s, l s ≠ ⊤) (n : ℕ) : top l n ≠ ⊤ := by
  unfold top
  have h : (range n).sup l < ⊤ := (Finset.sup_lt_iff (by simp)).mpr fun s _ => lt_top_iff_ne_top.mpr (hl s)
  exact h.ne

theorem le_top {n s : ℕ} (h : s < n) : l s ≤ top l n := le_sup (f := l) (mem_range.mpr h)

/-- A sum over the keys below `n + b` splits at `n`. -/
theorem sum_range_add (f : ℕ → EReal) (n b : ℕ) :
    ∑ s ∈ range (n + b), f s = ∑ s ∈ range n, f s + ∑ j : Fin b, f (n + j.val) := by
  rw [Finset.sum_range_add, Fin.sum_univ_eq_sum_range (fun j => f (n + j))]

/-- The weighted sum with a further block of keys: rescaled, plus the block's own. The maximum after the block is real. -/
theorem acc_add (hl : ∀ s, l s ≠ ⊤) (n b : ℕ) (hM : top l (n + b) ≠ ⊥) :
    acc l v (n + b) = Ideal.exp2 (top l n - top l (n + b)) * acc l v n
      + ∑ j : Fin b, Ideal.exp2 (l (n + j.val) - top l (n + b)) * v (n + j.val) := by
  obtain ⟨M, hMr⟩ : ∃ M : ℝ, top l (n + b) = (M : EReal) :=
    ⟨(top l (n + b)).toReal, (EReal.coe_toReal (top_ne_top l hl _) hM).symm⟩
  have hsplit := sum_range_add (fun s => Ideal.exp2 (l s - top l (n + b)) * v s) n b
  rw [show acc l v (n + b) = ∑ s ∈ range (n + b), Ideal.exp2 (l s - top l (n + b)) * v s from rfl, hsplit]
  congr 1
  by_cases hb : top l n = ⊥
  · have hz : ∀ s ∈ range n, l s = ⊥ := by
      intro s hs
      exact le_bot_iff.mp (hb ▸ le_top l (mem_range.mp hs))
    rw [hb, hMr, EReal.bot_sub, Ideal.exp2_bot, zero_mul]
    refine Finset.sum_eq_zero fun s hs => ?_
    rw [hz s hs, EReal.bot_sub, Ideal.exp2_bot, zero_mul]
  · obtain ⟨μ, hμ⟩ : ∃ μ : ℝ, top l n = (μ : EReal) :=
      ⟨(top l n).toReal, (EReal.coe_toReal (top_ne_top l hl _) hb).symm⟩
    unfold acc
    rw [hμ, hMr]
    obtain ⟨w, hw, he⟩ := exp2_sub_coe (μ : EReal) (EReal.coe_ne_top _) M
    rw [he, coe_mul_sum _ w hw]
    refine Finset.sum_congr rfl fun s _ => ?_
    rw [← mul_assoc, ← he, exp2_rescale _ (hl s)]

/-- Masked keys leave the maximum as it is. -/
theorem top_of_bot {n N : ℕ} (h : n ≤ N) (hz : ∀ s, n ≤ s → l s = ⊥) : top l N = top l n := by
  obtain ⟨b, rfl⟩ := Nat.exists_eq_add_of_le h
  rw [top_add]
  apply max_eq_left
  apply Finset.sup_le
  intro j _
  rw [hz _ (by omega)]; exact bot_le

/-- Masked keys leave the weighted sum as it is. -/
theorem acc_of_bot {n N : ℕ} (h : n ≤ N) (hz : ∀ s, n ≤ s → l s = ⊥) : acc l v N = acc l v n := by
  unfold acc
  rw [top_of_bot l h hz]
  obtain ⟨b, rfl⟩ := Nat.exists_eq_add_of_le h
  rw [sum_range_add (fun s => Ideal.exp2 (l s - top l n) * v s) n b]
  have : ∑ j : Fin b, Ideal.exp2 (l (n + j.val) - top l n) * v (n + j.val) = 0 := by
    refine Finset.sum_eq_zero fun j _ => ?_
    rw [hz _ (by omega), EReal.bot_sub, Ideal.exp2_bot, zero_mul]
  rw [this, add_zero]

/-- Where the scores `l` are the logits `L` in base two (`κ = 1 / log 2`), their maximum is the logits' maximum in base two. -/
theorem top_base (L : ℕ → EReal) (hl : ∀ s, l s = (((Real.log 2)⁻¹ : ℝ) : EReal) * L s) (N : ℕ) (T : ℝ) (hT : top L N = (T : EReal)) :
    top l N = (((Real.log 2)⁻¹ * T : ℝ) : EReal) := by
  have hκ : 0 < (Real.log 2)⁻¹ := inv_pos.mpr (Real.log_pos (by norm_num))
  have hκ' : (0 : EReal) ≤ (((Real.log 2)⁻¹ : ℝ) : EReal) := EReal.coe_nonneg.mpr hκ.le
  apply le_antisymm
  · apply Finset.sup_le
    intro s hs
    rw [hl s, EReal.coe_mul, ← hT]
    exact mul_le_mul_of_nonneg_left (le_top L (mem_range.mp hs)) hκ'
  · have hne : (range N).Nonempty := by
      rw [Finset.nonempty_iff_ne_empty]; intro h
      rw [top, h, Finset.sup_empty] at hT
      exact EReal.bot_ne_coe T hT
    obtain ⟨s, hs, he⟩ := Finset.exists_mem_eq_sup (range N) hne L
    have : L s = (T : EReal) := he ▸ hT
    rw [EReal.coe_mul, ← this, ← hl s]
    exact le_top l (mem_range.mp hs)

/-- A weight in base two is the reference's weight. -/
theorem exp2_base (x : EReal) (hx : x ≠ ⊤) (T : ℝ) :
    Ideal.exp2 ((((Real.log 2)⁻¹ : ℝ) : EReal) * x - (((Real.log 2)⁻¹ * T : ℝ) : EReal)) = Ideal.exp (x - (T : EReal)) := by
  have hκ : 0 < (Real.log 2)⁻¹ := inv_pos.mpr (Real.log_pos (by norm_num))
  induction x with
  | bot => rw [EReal.coe_mul_bot_of_pos hκ, EReal.bot_sub, EReal.bot_sub]; rfl
  | top => exact absurd rfl hx
  | coe r =>
    rw [← EReal.coe_mul, ← EReal.coe_sub, ← EReal.coe_sub, Ideal.exp2_coe]
    show (((2 : ℝ) ^ ((Real.log 2)⁻¹ * r - (Real.log 2)⁻¹ * T) : ℝ) : EReal) = ((Real.exp (r - T) : ℝ) : EReal)
    congr 1
    rw [Real.rpow_def_of_pos (by norm_num)]
    congr 1
    have : Real.log 2 ≠ 0 := (Real.log_pos (by norm_num)).ne'
    field_simp

/-- A weight of the reference is a nonnegative real. -/
theorem exp_sub_coe (x : EReal) (hx : x ≠ ⊤) (T : ℝ) :
    ∃ w : ℝ, 0 ≤ w ∧ Ideal.exp (x - (T : EReal)) = (w : EReal) := by
  induction x with
  | bot => exact ⟨0, le_rfl, by rw [EReal.bot_sub]; rfl⟩
  | top => exact absurd rfl hx
  | coe r => exact ⟨Real.exp (r - T), (Real.exp_pos _).le, by rw [← EReal.coe_sub]; rfl⟩

/-- THE ONLINE SOFTMAX IS THE SOFTMAX: the kernel's weighted sum over its sum of weights is the sum of the values under
    the reference's weights, each divided by their sum. -/
theorem quotient (L : ℕ → EReal) (hL : ∀ s, L s ≠ ⊤) (hl : ∀ s, l s = (((Real.log 2)⁻¹ : ℝ) : EReal) * L s) (N : ℕ)
    (hT : top L N ≠ ⊥) :
    Ideal.div (acc l v N) (acc l (fun _ => 1) N)
      = ∑ s ∈ range N, v s * Ideal.div (Ideal.exp (L s - top L N)) (∑ s' ∈ range N, Ideal.exp (L s' - top L N)) := by
  obtain ⟨T, hTr⟩ : ∃ T : ℝ, top L N = (T : EReal) := ⟨(top L N).toReal, (EReal.coe_toReal (top_ne_top L hL _) hT).symm⟩
  choose w hw he using fun s => exp_sub_coe (L s) (hL s) T
  have hacc : ∀ u : ℕ → EReal, acc l u N = ∑ s ∈ range N, (w s : EReal) * u s := by
    intro u
    unfold acc
    rw [top_base l L hl N T hTr]
    refine Finset.sum_congr rfl fun s _ => ?_
    rw [hl s, exp2_base _ (hL s), he s]
  have hden : ∑ s' ∈ range N, Ideal.exp (L s' - top L N) = ((∑ s ∈ range N, w s : ℝ) : EReal) := by
    rw [coe_sum]
    exact Finset.sum_congr rfl fun s _ => by rw [hTr, he s]
  have hpos : 0 < ∑ s ∈ range N, w s := by
    have hne : (range N).Nonempty := by
      rw [Finset.nonempty_iff_ne_empty]; intro h
      rw [top, h, Finset.sup_empty] at hT
      exact hT rfl
    obtain ⟨s, hs, hes⟩ := Finset.exists_mem_eq_sup (range N) hne L
    have h1 : w s = 1 := by
      have := he s
      rw [show L s = (T : EReal) from hes ▸ hTr, ← EReal.coe_sub, sub_self] at this
      have h2 : ((Real.exp 0 : ℝ) : EReal) = (w s : EReal) := this
      rw [Real.exp_zero] at h2
      exact (EReal.coe_eq_coe_iff.mp h2).symm
    exact Finset.sum_pos' (fun i _ => hw i) ⟨s, hs, by rw [h1]; norm_num⟩
  have hdiv : ∀ x : EReal, Ideal.div x ((∑ s ∈ range N, w s : ℝ) : EReal) = x * (((∑ s ∈ range N, w s)⁻¹ : ℝ) : EReal) := by
    intro x
    unfold Ideal.div
    rw [if_neg (by exact_mod_cast hpos.ne'), EReal.coe_inv]
  rw [hden, hacc, hacc]
  simp only [mul_one]
  rw [← coe_sum, hdiv, mul_comm, coe_mul_sum _ _ (inv_nonneg.mpr hpos.le)]
  refine Finset.sum_congr rfl fun s _ => ?_
  rw [hdiv, hTr, he s, mul_comm (v s), mul_comm (w s : EReal) (((∑ s ∈ range N, w s)⁻¹ : ℝ) : EReal), mul_assoc]

end Cert.Fox
end
-- ==== Proof.Fox.Spec.lean ====
/-
  The forgetting attention's mathematics over extended reals: the logits of a query row and their softmax over the
  values. The queries, keys and values are read at a row and a column of the arrays as natural numbers; head `h` is the
  columns from `128 * h`.
-/
module
public import Idealize.ShloMosaic.Lib.ValueIdx
public import Idealize.ShloMosaic.Lib.ValueIdxCoords
public import proofs.«01_k».proof.Proof.Fox.Online
@[expose] public section
noncomputable section
namespace Cert.Fox
open Idealize.ShloMosaic Idealize.ShloMosaic.ValueIdx Finset

/-- The pattern of minus infinity. -/
theorem negInf_bits : Ideal.ofBits .f32 0xFF800000#32 = ⊥ := by
  simp [Ideal.ofBits, Ideal.ieee]

/-- A sequence array at a row and a column. -/
def at3 (x : (⟨3, ![1, 16384, 2048]⟩ : Shape).Idx → EReal) (t j : ℕ) : EReal :=
  if h : t < 16384 ∧ j < 2048 then x (ix3 0 ⟨t, h.1⟩ ⟨j, h.2⟩) else 0

/-- The decay array at a row and a lane. -/
def at2 (c : (⟨2, ![16384, 128]⟩ : Shape).Idx → EReal) (t j : ℕ) : EReal :=
  if h : t < 16384 ∧ j < 128 then c (ix2 ⟨t, h.1⟩ ⟨j, h.2⟩) else 0

/-- The scale of the scores: `128 ^ (-1/2)` as it is printed. -/
def scale : ℝ := 11863283 / 134217728

/-- The logit of query row `t` against key `s` in head `h`: the scaled score and the decay between them, for the keys up
    to the query's own row. -/
def logit (q k : (⟨3, ![1, 16384, 2048]⟩ : Shape).Idx → EReal) (c : (⟨2, ![16384, 128]⟩ : Shape).Idx → EReal) (h t s : ℕ) : EReal :=
  if s ≤ t then (∑ x : Fin 128, at3 q t (128 * h + x.val) * at3 k s (128 * h + x.val)) * (scale : EReal) + at2 c t h - at2 c s h
  else ⊥

/-- The attention's output at row `t`, head `h`, column `x`: the softmax of the logits over the values. -/
def attention (q k v : (⟨3, ![1, 16384, 2048]⟩ : Shape).Idx → EReal) (c : (⟨2, ![16384, 128]⟩ : Shape).Idx → EReal) (h t x : ℕ) : EReal :=
  ∑ s ∈ range 16384, at3 v s (128 * h + x) *
    Ideal.div (Ideal.exp (logit q k c h t s - top (logit q k c h t) 16384))
      (∑ s' ∈ range 16384, Ideal.exp (logit q k c h t s' - top (logit q k c h t) 16384))

end Cert.Fox
end
-- ==== Proof.Fox.Prep.lean ====
/-
  What the preparation call leaves: the scaled queries, the keys and the values of each head, and beside each the lanes that
  carry the decay. The sixteen heads are stored one by one, each by the same operations on its own columns.
-/
module
public import proofs.«01_k».proof.Proof.Fox.Frame
public import proofs.«01_k».proof.Proof.Fox.Spec
public import Idealize.ShloMosaic.Lib.IdealHost
public import Idealize.ShloMosaic.Lib.WordCmp
public import Idealize.ShloMosaic.Lib.Pointwise
@[expose] public section
set_option maxRecDepth 16384
noncomputable section
namespace Cert.Fox
open Idealize.ShloMosaic Idealize.ShloMosaic.ValueIdx Idealize.ShloMosaic.WordCmp Cert.KernelIdeal Cert.KernelIdeal.Gen

section Parts
variable {F : FTy → Type} [FloatOps F] [Named F]

/-- Head `n`'s decay, in base 2. -/
def decay (n : ℕ) (h : S512x128.Slices ![0, n] S512x1) (x3 : Vec F S512x128 .f32) : FVec F S512x1 .f32 := extractStridedSlice S512x1 ![0, n] (k0_pay7 x3) h
/-- The decay's first part. -/
def partHi (n : ℕ) (h : S512x128.Slices ![0, n] S512x1) (x3 : Vec F S512x128 .f32) : FVec F S512x1 .bf16 := truncf .bf16 (decay n h x3) bitsLt_bf16_f32
/-- What the first part leaves. -/
def restHi (n : ℕ) (h : S512x128.Slices ![0, n] S512x1) (x3 : Vec F S512x128 .f32) : FVec F S512x1 .f32 := subf (decay n h x3) (extf .f32 (partHi n h x3) bitsLt_bf16_f32)
/-- The second part. -/
def partMid (n : ℕ) (h : S512x128.Slices ![0, n] S512x1) (x3 : Vec F S512x128 .f32) : FVec F S512x1 .bf16 := truncf .bf16 (restHi n h x3) bitsLt_bf16_f32
/-- The third part. -/
def partLo (n : ℕ) (h : S512x128.Slices ![0, n] S512x1) (x3 : Vec F S512x128 .f32) : FVec F S512x1 .bf16 :=
  truncf .bf16 (subf (restHi n h x3) (extf .f32 (partMid n h x3) bitsLt_bf16_f32)) bitsLt_bf16_f32
/-- A part on every lane. -/
def lanes (x : FVec F S512x1 .bf16) : FVec F S512x128 .f32 :=
  broadcastTo S512x128 (shapeCast S512x1 (extf .f32 x bitsLt_bf16_f32) shapeCasts_S512x1_S512x1) broadcasts_S512x1_S512x128
/-- The lane numbers against `k`. -/
def laneIs (p : CmpIPredicate) (k : BitVec 32) : IVec S512x128 1 := cmpi p (iota .tc S512x128 32 [1] iota_S512x128_d1_w32) (broadcast S512x128 k)

/-- The decay lanes beside head `n`'s queries. -/
def augQ (n : ℕ) (h : S512x128.Slices ![0, n] S512x1) (x3 : Vec F S512x128 .f32) : FVec F S512x128 .bf16 :=
  truncf .bf16 (select (laneIs .eq 0#32) (lanes (partHi n h x3)) (select (laneIs .eq 1#32) (lanes (partMid n h x3)) (select (laneIs .eq 2#32) (lanes (partLo n h x3))
    (select (laneIs .slt 6#32) k0_pay5 k0_pay6)))) bitsLt_bf16_f32
/-- A part on every lane, negated. -/
def negLanes (x : FVec F S512x1 .bf16) : FVec F S512x128 .f32 := subf (broadcast S512x128 (Scalar.ofBits .f32 0x00000000#32)) (lanes x)
/-- The decay lanes beside head `n`'s keys. -/
def augK (n : ℕ) (h : S512x128.Slices ![0, n] S512x1) (x3 : Vec F S512x128 .f32) : FVec F S512x128 .bf16 :=
  truncf .bf16 (select (laneIs .slt 3#32) k0_pay5 (select (laneIs .eq 3#32) (negLanes (partHi n h x3)) (select (laneIs .eq 4#32) (negLanes (partMid n h x3))
    (select (laneIs .eq 5#32) (negLanes (partLo n h x3)) k0_pay6)))) bitsLt_bf16_f32
/-- A head's scaled queries. -/
def dataQ (x : Vec F S512x128 .bf16) : FVec F S512x128 .bf16 := k0_pay21 x
/-- A head's keys or values. -/
def dataK (x : Vec F S512x128 .bf16) : FVec F S512x128 .bf16 := shapeCast S512x128 x shapeCasts_S512x128_S512x128
/-- The ones beside a head's values. -/
def ones : FVec F S512x128 .bf16 := truncf .bf16 k0_pay5 bitsLt_bf16_f32

set_option maxHeartbeats 4000000 in
/-- The queries' block, head by head. -/
theorem out4_eq (x0 x1 x2 : Vec F S512x2048 .bf16) (x3 : Vec F S512x128 .f32) : out0_4 x0 x1 x2 x3 = View.canon [
    ⟨r0_48, augQ 15 slices_S512x128_o0_15_S512x1 (View.ld x3 r0_0)⟩,
    ⟨r0_47, dataQ (View.ld x0 r0_46)⟩,
    ⟨r0_45, augQ 14 slices_S512x128_o0_14_S512x1 (View.ld x3 r0_0)⟩,
    ⟨r0_44, dataQ (View.ld x0 r0_43)⟩,
    ⟨r0_42, augQ 13 slices_S512x128_o0_13_S512x1 (View.ld x3 r0_0)⟩,
    ⟨r0_41, dataQ (View.ld x0 r0_40)⟩,
    ⟨r0_39, augQ 12 slices_S512x128_o0_12_S512x1 (View.ld x3 r0_0)⟩,
    ⟨r0_38, dataQ (View.ld x0 r0_37)⟩,
    ⟨r0_36, augQ 11 slices_S512x128_o0_11_S512x1 (View.ld x3 r0_0)⟩,
    ⟨r0_35, dataQ (View.ld x0 r0_34)⟩,
    ⟨r0_33, augQ 10 slices_S512x128_o0_10_S512x1 (View.ld x3 r0_0)⟩,
    ⟨r0_32, dataQ (View.ld x0 r0_31)⟩,
    ⟨r0_30, augQ 9 slices_S512x128_o0_9_S512x1 (View.ld x3 r0_0)⟩,
    ⟨r0_29, dataQ (View.ld x0 r0_28)⟩,
    ⟨r0_27, augQ 8 slices_S512x128_o0_8_S512x1 (View.ld x3 r0_0)⟩,
    ⟨r0_26, dataQ (View.ld x0 r0_25)⟩,
    ⟨r0_24, augQ 7 slices_S512x128_o0_7_S512x1 (View.ld x3 r0_0)⟩,
    ⟨r0_23, dataQ (View.ld x0 r0_22)⟩,
    ⟨r0_21, augQ 6 slices_S512x128_o0_6_S512x1 (View.ld x3 r0_0)⟩,
    ⟨r0_20, dataQ (View.ld x0 r0_19)⟩,
    ⟨r0_18, augQ 5 slices_S512x128_o0_5_S512x1 (View.ld x3 r0_0)⟩,
    ⟨r0_17, dataQ (View.ld x0 r0_16)⟩,
    ⟨r0_15, augQ 4 slices_S512x128_o0_4_S512x1 (View.ld x3 r0_0)⟩,
    ⟨r0_14, dataQ (View.ld x0 r0_13)⟩,
    ⟨r0_12, augQ 3 slices_S512x128_o0_3_S512x1 (View.ld x3 r0_0)⟩,
    ⟨r0_11, dataQ (View.ld x0 r0_10)⟩,
    ⟨r0_9, augQ 2 slices_S512x128_o0_2_S512x1 (View.ld x3 r0_0)⟩,
    ⟨r0_8, dataQ (View.ld x0 r0_7)⟩,
    ⟨r0_6, augQ 1 slices_S512x128_o0_1_S512x1 (View.ld x3 r0_0)⟩,
    ⟨r0_5, dataQ (View.ld x0 r0_4)⟩,
    ⟨r0_3, augQ 0 slices_S512x128_o0_0_S512x1 (View.ld x3 r0_0)⟩,
    ⟨r0_2, dataQ (View.ld x0 r0_1)⟩] := by
  unfold out0_4
  sl_kernel_rfl

set_option maxHeartbeats 4000000 in
/-- The keys' block, head by head. -/
theorem out5_eq (x0 x1 x2 : Vec F S512x2048 .bf16) (x3 : Vec F S512x128 .f32) : out0_5 x0 x1 x2 x3 = View.canon [
    ⟨r0_48, augK 15 slices_S512x128_o0_15_S512x1 (View.ld x3 r0_0)⟩,
    ⟨r0_47, dataK (View.ld x1 r0_46)⟩,
    ⟨r0_45, augK 14 slices_S512x128_o0_14_S512x1 (View.ld x3 r0_0)⟩,
    ⟨r0_44, dataK (View.ld x1 r0_43)⟩,
    ⟨r0_42, augK 13 slices_S512x128_o0_13_S512x1 (View.ld x3 r0_0)⟩,
    ⟨r0_41, dataK (View.ld x1 r0_40)⟩,
    ⟨r0_39, augK 12 slices_S512x128_o0_12_S512x1 (View.ld x3 r0_0)⟩,
    ⟨r0_38, dataK (View.ld x1 r0_37)⟩,
    ⟨r0_36, augK 11 slices_S512x128_o0_11_S512x1 (View.ld x3 r0_0)⟩,
    ⟨r0_35, dataK (View.ld x1 r0_34)⟩,
    ⟨r0_33, augK 10 slices_S512x128_o0_10_S512x1 (View.ld x3 r0_0)⟩,
    ⟨r0_32, dataK (View.ld x1 r0_31)⟩,
    ⟨r0_30, augK 9 slices_S512x128_o0_9_S512x1 (View.ld x3 r0_0)⟩,
    ⟨r0_29, dataK (View.ld x1 r0_28)⟩,
    ⟨r0_27, augK 8 slices_S512x128_o0_8_S512x1 (View.ld x3 r0_0)⟩,
    ⟨r0_26, dataK (View.ld x1 r0_25)⟩,
    ⟨r0_24, augK 7 slices_S512x128_o0_7_S512x1 (View.ld x3 r0_0)⟩,
    ⟨r0_23, dataK (View.ld x1 r0_22)⟩,
    ⟨r0_21, augK 6 slices_S512x128_o0_6_S512x1 (View.ld x3 r0_0)⟩,
    ⟨r0_20, dataK (View.ld x1 r0_19)⟩,
    ⟨r0_18, augK 5 slices_S512x128_o0_5_S512x1 (View.ld x3 r0_0)⟩,
    ⟨r0_17, dataK (View.ld x1 r0_16)⟩,
    ⟨r0_15, augK 4 slices_S512x128_o0_4_S512x1 (View.ld x3 r0_0)⟩,
    ⟨r0_14, dataK (View.ld x1 r0_13)⟩,
    ⟨r0_12, augK 3 slices_S512x128_o0_3_S512x1 (View.ld x3 r0_0)⟩,
    ⟨r0_11, dataK (View.ld x1 r0_10)⟩,
    ⟨r0_9, augK 2 slices_S512x128_o0_2_S512x1 (View.ld x3 r0_0)⟩,
    ⟨r0_8, dataK (View.ld x1 r0_7)⟩,
    ⟨r0_6, augK 1 slices_S512x128_o0_1_S512x1 (View.ld x3 r0_0)⟩,
    ⟨r0_5, dataK (View.ld x1 r0_4)⟩,
    ⟨r0_3, augK 0 slices_S512x128_o0_0_S512x1 (View.ld x3 r0_0)⟩,
    ⟨r0_2, dataK (View.ld x1 r0_1)⟩] := by
  unfold out0_5
  sl_kernel_rfl

set_option maxHeartbeats 4000000 in
/-- The values' block, head by head. -/
theorem out6_eq (x0 x1 x2 : Vec F S512x2048 .bf16) (x3 : Vec F S512x128 .f32) : out0_6 x0 x1 x2 x3 = View.canon [
    ⟨r0_48, ones⟩,
    ⟨r0_47, dataK (View.ld x2 r0_46)⟩,
    ⟨r0_45, ones⟩,
    ⟨r0_44, dataK (View.ld x2 r0_43)⟩,
    ⟨r0_42, ones⟩,
    ⟨r0_41, dataK (View.ld x2 r0_40)⟩,
    ⟨r0_39, ones⟩,
    ⟨r0_38, dataK (View.ld x2 r0_37)⟩,
    ⟨r0_36, ones⟩,
    ⟨r0_35, dataK (View.ld x2 r0_34)⟩,
    ⟨r0_33, ones⟩,
    ⟨r0_32, dataK (View.ld x2 r0_31)⟩,
    ⟨r0_30, ones⟩,
    ⟨r0_29, dataK (View.ld x2 r0_28)⟩,
    ⟨r0_27, ones⟩,
    ⟨r0_26, dataK (View.ld x2 r0_25)⟩,
    ⟨r0_24, ones⟩,
    ⟨r0_23, dataK (View.ld x2 r0_22)⟩,
    ⟨r0_21, ones⟩,
    ⟨r0_20, dataK (View.ld x2 r0_19)⟩,
    ⟨r0_18, ones⟩,
    ⟨r0_17, dataK (View.ld x2 r0_16)⟩,
    ⟨r0_15, ones⟩,
    ⟨r0_14, dataK (View.ld x2 r0_13)⟩,
    ⟨r0_12, ones⟩,
    ⟨r0_11, dataK (View.ld x2 r0_10)⟩,
    ⟨r0_9, ones⟩,
    ⟨r0_8, dataK (View.ld x2 r0_7)⟩,
    ⟨r0_6, ones⟩,
    ⟨r0_5, dataK (View.ld x2 r0_4)⟩,
    ⟨r0_3, ones⟩,
    ⟨r0_2, dataK (View.ld x2 r0_1)⟩] := by
  unfold out0_6
  sl_kernel_rfl

end Parts
end Cert.Fox
end
-- ==== Proof.Fox.PrepVal.lean ====
/-
  The prepared blocks over the extended reals, lane by lane.
-/
module
public import proofs.«01_k».proof.Proof.Fox.Prep
@[expose] public section
set_option maxRecDepth 16384
noncomputable section
namespace Cert.Fox
open Idealize.ShloMosaic Idealize.ShloMosaic.WordCmp Cert.KernelIdeal Cert.KernelIdeal.Gen

/-- The base change of the logits. -/
def log2e : EReal := (((Real.log 2)⁻¹ : ℝ) : EReal)
/-- The queries' scale, in base 2. -/
def qscale : EReal := (((Real.log 2)⁻¹ * (11863283/134217728) : ℝ) : EReal)

/-- The lanes beside a query of decay `d`. -/
def qLane (d : EReal) (x : ℕ) : EReal := if x = 0 then d else if x = 1 then d - d else if x = 2 then d - d - (d - d) else if x < 6 then 1 else 0
/-- The lanes beside a key of decay `d`. -/
def kLane (d : EReal) (x : ℕ) : EReal :=
  if x < 3 then 1 else if x = 3 then 0 - d else if x = 4 then 0 - (d - d) else if x = 5 then 0 - (d - d - (d - d)) else 0

/-- A head's decay is its column's, in base 2. -/
theorem decay_apply (n : ℕ) (hn : n < 128) (h : S512x128.Slices ![0, n] S512x1) (x3 : Vec Ideal S512x128 .f32) (y : S512x1.Idx) :
    decay n h x3 y = x3 (ValueIdx.ix2 (y 0) ⟨n, hn⟩) * log2e := by
  unfold decay
  rw [extractStridedSlice_apply ![0, n] (k0_pay7 x3) h y (ValueIdx.ix2 (y 0) ⟨n, hn⟩) ?_]
  · show x3 _ * Named.named (F := Ideal) κ "log2e" 0x3FB8AA3B#32 = _
    rw [IdealRules.named_const.ideal_named_scalar κ "log2e" (φ := .f32) 0x3FB8AA3B#32 _ rfl]
    rfl
  · intro a
    have h1 : (y 1).val < 1 := (y 1).isLt
    match a with
    | ⟨0, _⟩ => show (y 0).val = 0 + (y 0).val; omega
    | ⟨1, _⟩ => show n = n + (y 1).val; omega

/-- A part read off its lanes. -/
theorem lanes_apply (x : FVec Ideal S512x1 .bf16) (y : S512x128.Idx) : lanes x y = x (ValueIdx.ix2 (y 0) 0) := by
  unfold lanes
  rw [shapeCast_self]
  refine (broadcastTo_apply (s := S512x1) (t := S512x128) _ _ y (ValueIdx.ix2 (y 0) 0) fun a => ?_).trans rfl
  match a with
  | ⟨0, _⟩ => rfl
  | ⟨1, _⟩ => rfl

/-- The equality test of a lane. -/
theorem laneIs_eq (k : ℕ) (hk : k < 128) (y : S512x128.Idx) : laneIs .eq (BitVec.ofNat 32 k) y = BitVec.ofBool (decide ((y 1).val = k)) := by
  have h1 : (y 1).val < 128 := (y 1).isLt
  show IntOp.cmpi .eq (BitVec.ofNat 32 (0 * 128 + (y 1).val)) (BitVec.ofNat 32 k) = _
  rw [cmpi_eq_eq_toNat, toNat_ofNat_of_lt (by omega), toNat_ofNat_of_lt (by omega), Nat.zero_mul, Nat.zero_add]

/-- The order test of a lane. -/
theorem laneIs_slt (k : ℕ) (hk : k < 128) (y : S512x128.Idx) : laneIs .slt (BitVec.ofNat 32 k) y = BitVec.ofBool (decide ((y 1).val < k)) := by
  have h1 : (y 1).val < 128 := (y 1).isLt
  show IntOp.cmpi .slt (BitVec.ofNat 32 (0 * 128 + (y 1).val)) (BitVec.ofNat 32 k) = _
  rw [cmpi_slt_ofNat (by omega) (by omega), Nat.zero_mul, Nat.zero_add]

/-- A selection by a truth value. -/
theorem select_test {s : Shape} {α : Type} (c : IVec s 1) (a b : s.Idx → α) (y : s.Idx) (p : Prop) [Decidable p] (h : c y = BitVec.ofBool (decide p)) :
    select c a b y = if p then a y else b y := by
  show (if c y = 1#1 then a y else b y) = _
  rw [h]
  by_cases hp : p <;> simp [hp]

/-- The ones' lanes. -/
theorem one_apply (y : S512x128.Idx) : k0_pay5 (F := Ideal) y = 1 := Ideal.ofBits_one_f32
/-- The zeros' lanes. -/
theorem zero_apply (y : S512x128.Idx) : k0_pay6 (F := Ideal) y = 0 := Ideal.ofBits_zero_f32

/-- A negated part. -/
theorem negLanes_apply (x : FVec Ideal S512x1 .bf16) (y : S512x128.Idx) : negLanes x y = 0 - x (ValueIdx.ix2 (y 0) 0) := by
  show Ideal.ofBits .f32 0x00000000#32 - lanes x y = _
  rw [lanes_apply, Ideal.ofBits_zero_f32]

/-- The decay lanes beside the queries. -/
theorem augQ_apply (n : ℕ) (hn : n < 128) (h : S512x128.Slices ![0, n] S512x1) (x3 : Vec Ideal S512x128 .f32) (y : S512x128.Idx) :
    augQ n h x3 y = qLane (x3 (ValueIdx.ix2 (y 0) ⟨n, hn⟩) * log2e) (y 1).val := by
  have d := decay_apply n hn h x3 (ValueIdx.ix2 (y 0) 0)
  show select (laneIs .eq 0#32) _ _ y = _
  rw [select_test _ _ _ _ _ (laneIs_eq 0 (by omega) y), select_test _ _ _ _ _ (laneIs_eq 1 (by omega) y),
    select_test _ _ _ _ _ (laneIs_eq 2 (by omega) y), select_test _ _ _ _ _ (laneIs_slt 6 (by omega) y), lanes_apply, lanes_apply, lanes_apply,
    one_apply, zero_apply]
  show (if _ then decay n h x3 _ else if _ then decay n h x3 _ - decay n h x3 _ else if _ then
    decay n h x3 _ - decay n h x3 _ - (decay n h x3 _ - decay n h x3 _) else if _ then _ else _) = _
  rw [d]
  rfl

/-- The decay lanes beside the keys. -/
theorem augK_apply (n : ℕ) (hn : n < 128) (h : S512x128.Slices ![0, n] S512x1) (x3 : Vec Ideal S512x128 .f32) (y : S512x128.Idx) :
    augK n h x3 y = kLane (x3 (ValueIdx.ix2 (y 0) ⟨n, hn⟩) * log2e) (y 1).val := by
  have d := decay_apply n hn h x3 (ValueIdx.ix2 (y 0) 0)
  show select (laneIs .slt 3#32) _ _ y = _
  rw [select_test _ _ _ _ _ (laneIs_slt 3 (by omega) y), select_test _ _ _ _ _ (laneIs_eq 3 (by omega) y),
    select_test _ _ _ _ _ (laneIs_eq 4 (by omega) y), select_test _ _ _ _ _ (laneIs_eq 5 (by omega) y), negLanes_apply, negLanes_apply, negLanes_apply,
    one_apply, zero_apply]
  show (if _ then _ else if _ then 0 - decay n h x3 _ else if _ then 0 - (decay n h x3 _ - decay n h x3 _) else if _ then
    0 - (decay n h x3 _ - decay n h x3 _ - (decay n h x3 _ - decay n h x3 _)) else _) = _
  rw [d]
  rfl

/-- A scaled query. -/
theorem dataQ_apply (x : Vec Ideal S512x128 .bf16) (y : S512x128.Idx) : dataQ x y = x y * qscale := by
  show shapeCast S512x128 x _ y * Named.named (F := Ideal) (φ := .f32) κ "fq_scale" 0x3E0293EE#32 = _
  rw [shapeCast_self, IdealRules.named_const.ideal_named_scalar κ "fq_scale" (φ := .f32) 0x3E0293EE#32 _ rfl]
  rfl

/-- A key or a value. -/
theorem dataK_apply (x : Vec Ideal S512x128 .bf16) (y : S512x128.Idx) : dataK x y = x y := by
  unfold dataK
  rw [shapeCast_self]

/-- Column `x` of head `j / 256`, for the column `j` of the wide block. -/
def narrow (j : Fin 4096) : Fin 2048 := ⟨128 * (j.val / 256) + j.val % 128, by have := j.isLt; omega⟩
/-- The head of a column of the wide block. -/
def headOf (j : Fin 4096) : Fin 128 := ⟨j.val / 256, by have := j.isLt; omega⟩

/-- The queries' block, column by column. -/
def wideQ (q : EReal) (d : EReal) (j : ℕ) : EReal := if j % 256 < 128 then q * qscale else qLane (d * log2e) (j % 256 - 128)
/-- The keys' block. -/
def wideK (k : EReal) (d : EReal) (j : ℕ) : EReal := if j % 256 < 128 then k else kLane (d * log2e) (j % 256 - 128)
/-- The values' block. -/
def wideV (v : EReal) (j : ℕ) : EReal := if j % 256 < 128 then v else 1

/-- The queries' block as a function of its index. -/
def blockQ (x0 : Vec Ideal S512x2048 .bf16) (x3 : Vec Ideal S512x128 .f32) : Vec Ideal S512x4096 .bf16 := fun y =>
  wideQ (x0 (ValueIdx.ix2 (y 0) (narrow (y 1)))) (x3 (ValueIdx.ix2 (y 0) (headOf (y 1)))) (y 1).val
/-- The keys' block. -/
def blockK (x1 : Vec Ideal S512x2048 .bf16) (x3 : Vec Ideal S512x128 .f32) : Vec Ideal S512x4096 .bf16 := fun y =>
  wideK (x1 (ValueIdx.ix2 (y 0) (narrow (y 1)))) (x3 (ValueIdx.ix2 (y 0) (headOf (y 1)))) (y 1).val
/-- The values' block. -/
def blockV (x2 : Vec Ideal S512x2048 .bf16) : Vec Ideal S512x4096 .bf16 := fun y => wideV (x2 (ValueIdx.ix2 (y 0) (narrow (y 1)))) (y 1).val

/-- An index written from its coordinates. -/
theorem idx2_ext {n m : ℕ} {a b : Shape.Idx ⟨2, ![n, m]⟩} (h0 : (a 0).val = (b 0).val) (h1 : (a 1).val = (b 1).val) : a = b :=
  funext fun i => Fin.ext (match i with | ⟨0, _⟩ => h0 | ⟨1, _⟩ => h1)

section Pieces
variable (x0 : Vec Ideal S512x2048 .bf16) (x3 : Vec Ideal S512x128 .f32) (n o : ℕ) (hn : n < 16)
  (ho : ∀ a, (![0, o] : Fin 2 → ℕ) a + S512x128.size a ≤ S512x4096.size a) (y : S512x128.Idx)

include hn in
/-- The decay columns of a head of the queries' block. -/
theorem pieceAugQ (he : o = 256 * n + 128) (h : S512x128.Slices ![0, n] S512x1) :
    augQ n h (View.ld x3 r0_0) y = blockQ x0 x3 ((Rect.unit (s := S512x4096) ![0, o] S512x128.size ho).emb y) := by
  have h1 : (y 1).val < 128 := (y 1).isLt
  subst he
  rw [augQ_apply n (by omega)]
  unfold blockQ wideQ
  rw [if_neg (by show ¬ ((256 * n + 128 + 1 * (y 1).val) % 256 < 128); omega)]
  refine congrArg₂ (fun a b => qLane (a * log2e) b) (congrArg x3 (idx2_ext ?_ ?_)) ?_
  · show 0 + 1 * (y 0).val = 0 + 1 * (y 0).val; rfl
  · show 0 + 1 * n = (256 * n + 128 + 1 * (y 1).val) / 256; omega
  · show (y 1).val = (256 * n + 128 + 1 * (y 1).val) % 256 - 128; omega

/-- The query columns of a head. -/
theorem pieceDataQ (o' : ℕ) (he : o = 2 * o') (he' : o' % 128 = 0) (ho' : ∀ a, (![0, o'] : Fin 2 → ℕ) a + S512x128.size a ≤ S512x2048.size a) :
    dataQ (View.ld x0 (Rect.unit (s := S512x2048) ![0, o'] S512x128.size ho')) y = blockQ x0 x3 ((Rect.unit (s := S512x4096) ![0, o] S512x128.size ho).emb y) := by
  have h1 : (y 1).val < 128 := (y 1).isLt
  subst he
  rw [dataQ_apply]
  unfold blockQ wideQ
  rw [if_pos (by show (2 * o' + 1 * (y 1).val) % 256 < 128; omega)]
  refine congrArg (fun a => a * qscale) (congrArg x0 (idx2_ext ?_ ?_))
  · show 0 + 1 * (y 0).val = 0 + 1 * (y 0).val; rfl
  · show o' + 1 * (y 1).val = 128 * ((2 * o' + 1 * (y 1).val) / 256) + (2 * o' + 1 * (y 1).val) % 128; omega

include hn in
/-- The decay columns of a head of the keys' block. -/
theorem pieceAugK (he : o = 256 * n + 128) (h : S512x128.Slices ![0, n] S512x1) :
    augK n h (View.ld x3 r0_0) y = blockK x0 x3 ((Rect.unit (s := S512x4096) ![0, o] S512x128.size ho).emb y) := by
  have h1 : (y 1).val < 128 := (y 1).isLt
  subst he
  rw [augK_apply n (by omega)]
  unfold blockK wideK
  rw [if_neg (by show ¬ ((256 * n + 128 + 1 * (y 1).val) % 256 < 128); omega)]
  refine congrArg₂ (fun a b => kLane (a * log2e) b) (congrArg x3 (idx2_ext ?_ ?_)) ?_
  · show 0 + 1 * (y 0).val = 0 + 1 * (y 0).val; rfl
  · show 0 + 1 * n = (256 * n + 128 + 1 * (y 1).val) / 256; omega
  · show (y 1).val = (256 * n + 128 + 1 * (y 1).val) % 256 - 128; omega

/-- The key columns of a head. -/
theorem pieceDataK (o' : ℕ) (he : o = 2 * o') (he' : o' % 128 = 0) (ho' : ∀ a, (![0, o'] : Fin 2 → ℕ) a + S512x128.size a ≤ S512x2048.size a) :
    dataK (View.ld x0 (Rect.unit (s := S512x2048) ![0, o'] S512x128.size ho')) y = blockK x0 x3 ((Rect.unit (s := S512x4096) ![0, o] S512x128.size ho).emb y) := by
  have h1 : (y 1).val < 128 := (y 1).isLt
  subst he
  rw [dataK_apply]
  unfold blockK wideK
  rw [if_pos (by show (2 * o' + 1 * (y 1).val) % 256 < 128; omega)]
  refine congrArg x0 (idx2_ext ?_ ?_)
  · show 0 + 1 * (y 0).val = 0 + 1 * (y 0).val; rfl
  · show o' + 1 * (y 1).val = 128 * ((2 * o' + 1 * (y 1).val) / 256) + (2 * o' + 1 * (y 1).val) % 128; omega

/-- The value columns of a head. -/
theorem pieceDataV (o' : ℕ) (he : o = 2 * o') (he' : o' % 128 = 0) (ho' : ∀ a, (![0, o'] : Fin 2 → ℕ) a + S512x128.size a ≤ S512x2048.size a) :
    dataK (View.ld x0 (Rect.unit (s := S512x2048) ![0, o'] S512x128.size ho')) y = blockV x0 ((Rect.unit (s := S512x4096) ![0, o] S512x128.size ho).emb y) := by
  have h1 : (y 1).val < 128 := (y 1).isLt
  refine (pieceDataK x0 (fun _ => 0) o ho y o' he he' ho').trans ?_
  subst he
  unfold blockK blockV wideK wideV
  have hlt : (2 * o' + 1 * (y 1).val) % 256 < 128 := by omega
  exact (if_pos hlt).trans (if_pos hlt).symm

/-- The ones of a head. -/
theorem pieceOnes (he : o % 256 = 128) :
    ones (F := Ideal) y = blockV x0 ((Rect.unit (s := S512x4096) ![0, o] S512x128.size ho).emb y) := by
  have h1 : (y 1).val < 128 := (y 1).isLt
  unfold blockV wideV
  rw [if_neg (by show ¬ ((o + 1 * (y 1).val) % 256 < 128); omega)]
  exact one_apply y

end Pieces

/-- The queries' block. -/
theorem out4_apply (x0 x1 x2 : Vec Ideal S512x2048 .bf16) (x3 : Vec Ideal S512x128 .f32) (y : S512x4096.Idx) :
    out0_4 x0 x1 x2 x3 y = blockQ x0 x3 y := by
  rw [out4_eq]
  refine View.canon_apply_of_pieces (blockQ x0 x3) _ ?_ y (cover0_4 .. )
  iterate 16 refine List.forall_mem_cons.2 ⟨fun x => pieceAugQ x0 x3 _ _ (by decide) (by decide) x rfl _, List.forall_mem_cons.2 ⟨fun x => pieceDataQ x0 x3 _ (by decide) x _ rfl rfl _, ?_⟩⟩
  exact fun _ h => absurd h List.not_mem_nil

/-- The keys' block. -/
theorem out5_apply (x0 x1 x2 : Vec Ideal S512x2048 .bf16) (x3 : Vec Ideal S512x128 .f32) (y : S512x4096.Idx) :
    out0_5 x0 x1 x2 x3 y = blockK x1 x3 y := by
  rw [out5_eq]
  refine View.canon_apply_of_pieces (blockK x1 x3) _ ?_ y (cover0_5 .. )
  iterate 16 refine List.forall_mem_cons.2 ⟨fun x => pieceAugK x1 x3 _ _ (by decide) (by decide) x rfl _, List.forall_mem_cons.2 ⟨fun x => pieceDataK x1 x3 _ (by decide) x _ rfl rfl _, ?_⟩⟩
  exact fun _ h => absurd h List.not_mem_nil

/-- The values' block. -/
theorem out6_apply (x0 x1 x2 : Vec Ideal S512x2048 .bf16) (x3 : Vec Ideal S512x128 .f32) (y : S512x4096.Idx) :
    out0_6 x0 x1 x2 x3 y = blockV x2 y := by
  rw [out6_eq]
  refine View.canon_apply_of_pieces (blockV x2) _ ?_ y (cover0_6 .. )
  iterate 16 refine List.forall_mem_cons.2 ⟨fun x => pieceOnes x2 _ (by decide) x rfl, List.forall_mem_cons.2 ⟨fun x => pieceDataV x2 _ (by decide) x _ rfl rfl _, ?_⟩⟩
  exact fun _ h => absurd h List.not_mem_nil

end Cert.Fox
end
-- ==== Proof.Fox.Attn.lean ====
/-
  The attention body over the extended reals: one sub-block's step read at an element, the state after any number of
  sub-blocks, and the quotient.
-/
module
public import proofs.«01_k».proof.Proof.Fox.Body
public import proofs.«01_k».proof.Proof.Fox.Online
public import proofs.«01_k».proof.Proof.Fox.PrepVal
public import Idealize.ShloMosaic.Lib.MatmulPlain
@[expose] public section
set_option maxRecDepth 16384
noncomputable section
namespace Cert.Fox
open Idealize.ShloMosaic Idealize.ShloMosaic.WordCmp Cert.KernelIdeal Cert.KernelIdeal.Gen Finset

/-- The running maximum after the scores `s`. -/
def stepM (s : Vec Ideal S1024x512 .f32) (m : Vec Ideal S1024x128 .f32) : Vec Ideal S1024x128 .f32 := k1_pay12 (k1_pay7 s m)
/-- The weighted values after the scores `s` and the value block `V`. -/
def stepA (s : Vec Ideal S1024x512 .f32) (m : Vec Ideal S1024x128 .f32) (V : Vec Ideal S512x256 .bf16) (a : Vec Ideal S1024x128 .f32) :
    Vec Ideal S1024x128 .f32 := k1_pay10 (k1_pay8 s m) (k1_pay9 s m V) a
/-- The weights after the scores `s`. -/
def stepB (s : Vec Ideal S1024x512 .f32) (m : Vec Ideal S1024x128 .f32) (V : Vec Ideal S512x256 .bf16) (b : Vec Ideal S1024x128 .f32) :
    Vec Ideal S1024x128 .f32 := k1_pay11 (k1_pay8 s m) (k1_pay9 s m V) b

/-- The new maximum at an element. -/
theorem newMax_apply (s : Vec Ideal S1024x512 .f32) (m : Vec Ideal S1024x128 .f32) (r : Fin 1024) (x : Fin 128) :
    k1_pay7 s m (ValueIdx.ix2 r x) = max (m (ValueIdx.ix2 r x)) (univ.sup fun j : Fin 512 => s (ValueIdx.ix2 r j)) := by
  unfold k1_pay7
  refine congrArg (max (m (ValueIdx.ix2 r x))) ?_
  refine (broadcastTo_apply (s := S1024x1) (t := S1024x128) _ _ _ (ValueIdx.ix2 r 0) (fun a => ?_)).trans ?_
  · match a with
    | ⟨0, _⟩ => rfl
    | ⟨1, _⟩ => rfl
  refine (shapeCast_apply (s := S1024) (t := S1024x1) _ _ _ (fun a => match a with | ⟨0, _⟩ => r) ?_).trans ?_
  · rw [Shape.rowMajor_val_two, Shape.rowMajor_val_one]
    show r.val = r.val * 1 + 0
    omega
  refine (Ideal.multiReduction_maximumf_single _ _ _ _ _ _).trans ?_
  show fold max (Ideal.ofBits .f32 0xFF800000#32) _ _ = fold max ⊥ _ _
  rw [negInf_bits]
  refine fold_congr fun j _ => congrArg s ?_
  exact idx2_ext rfl rfl

/-- One piece of the weights at an element. -/
theorem piece_apply (o : ℕ) (h : S1024x512.Slices ![0, o] S1024x128) (s : Vec Ideal S1024x512 .f32) (M : Vec Ideal S1024x128 .f32)
    (y : S1024x128.Idx) (r : Fin 1024) (j : Fin 512) (h0 : (y 0).val = r.val) (h1 : o + (y 1).val = j.val) (hj : j.val % 128 < 128)
    (hm : (y 1).val = j.val % 128) :
    exp2 (F := Ideal) (φ := .f32) (subf (F := Ideal) (φ := .f32) (extractStridedSlice S1024x128 ![0, o] s h) M) y
      = Ideal.exp2 (s (ValueIdx.ix2 r j) - M (ValueIdx.ix2 r ⟨j.val % 128, hj⟩)) := by
  show Ideal.exp2 (_ - M y) = _
  rw [extractStridedSlice_apply ![0, o] s h y (ValueIdx.ix2 r j) ?_]
  · exact congrArg (fun i => Ideal.exp2 (s (ValueIdx.ix2 r j) - M i)) (idx2_ext h0 hm)
  · intro a
    match a with
    | ⟨0, _⟩ => show r.val = 0 + (y 0).val; omega
    | ⟨1, _⟩ => show j.val = o + (y 1).val; omega

/-- The product of the weights and a value block at an element. -/
theorem weighted_apply (s : Vec Ideal S1024x512 .f32) (m : Vec Ideal S1024x128 .f32) (V : Vec Ideal S512x256 .bf16) (r : Fin 1024) (y : Fin 256) :
    k1_pay9 s m V (ValueIdx.ix2 r y)
      = ∑ j : Fin 512, Ideal.exp2 (s (ValueIdx.ix2 r j) - k1_pay7 s m (ValueIdx.ix2 r ⟨j.val % 128, Nat.mod_lt _ (by decide)⟩))
          * V (ValueIdx.ix2 j y) := by
  unfold k1_pay9
  refine (Ideal.matmul_plain_apply (M := 1024) (K := 512) (N := 256) none _ _ _ r y).trans ?_
  show Ideal.ofBits .f32 0x00000000#32 + _ = _
  rw [Ideal.ofBits_zero_f32, zero_add]
  refine sum_congr rfl fun j _ => ?_
  refine congrArg₂ (· * ·) ?_ ?_
  · show concatenate S1024x512 1 [⟨S1024x128, _⟩, ⟨S1024x128, _⟩, ⟨S1024x128, _⟩, ⟨S1024x128, _⟩] concatenates_S1024x128_S1024x128_S1024x128_S1024x128_S1024x512_d1 _ = _
    refine (concatenate_cons_apply ..).trans ?_
    refine (concatenateAt_cons ..).trans ?_
    by_cases h1 : j.val < 128
    · refine (dif_pos (show j.val < 128 from h1)).trans ?_
      exact piece_apply 0 _ s _ _ r j rfl (show 0 + j.val = j.val by omega) _ (show j.val = j.val % 128 by omega)
    refine (dif_neg (show ¬ j.val < 128 from h1)).trans ?_
    refine (concatenateAt_cons ..).trans ?_
    by_cases h2 : j.val < 256
    · refine (dif_pos (show j.val - 128 < 128 by omega)).trans ?_
      exact piece_apply 128 _ s _ _ r j rfl (show 128 + (j.val - 128) = j.val by omega) _ (show j.val - 128 = j.val % 128 by omega)
    refine (dif_neg (show ¬ j.val - 128 < 128 by omega)).trans ?_
    refine (concatenateAt_cons ..).trans ?_
    by_cases h3 : j.val < 384
    · refine (dif_pos (show j.val - 128 - 128 < 128 by omega)).trans ?_
      exact piece_apply 256 _ s _ _ r j rfl (show 256 + (j.val - 128 - 128) = j.val by omega) _ (show j.val - 128 - 128 = j.val % 128 by omega)
    refine (dif_neg (show ¬ j.val - 128 - 128 < 128 by omega)).trans ?_
    refine (concatenateAt_singleton ..).trans ?_
    have := j.isLt
    exact piece_apply 384 _ s _ _ r j rfl (show 384 + (j.val - 128 - 128 - 128) = j.val by omega) _
      (show j.val - 128 - 128 - 128 = j.val % 128 by omega)
  · exact congrFun (shapeCast_self _ _) _

/-- One row's state after its first `n` keys: the maximum of the scores `l` and the two weighted sums of the columns of `w`. -/
structure Upto (l : ℕ → EReal) (w : ℕ → ℕ → EReal) (r : Fin 1024) (n : ℕ) (m a b : Vec Ideal S1024x128 .f32) : Prop where
  /-- the maximum -/
  max : ∀ x : Fin 128, m (ValueIdx.ix2 r x) = top l n
  /-- the left columns -/
  left : ∀ x : Fin 128, a (ValueIdx.ix2 r x) = acc l (fun s => w s x.val) n
  /-- the right columns -/
  right : ∀ x : Fin 128, b (ValueIdx.ix2 r x) = acc l (fun s => w s (128 + x.val)) n

/-- A sub-block's step takes the state after `n` keys to the state after `n + 512`. -/
theorem Upto.step {l : ℕ → EReal} {w : ℕ → ℕ → EReal} {r : Fin 1024} {n : ℕ} {m a b : Vec Ideal S1024x128 .f32} (h : Upto l w r n m a b)
    (hl : ∀ s, l s ≠ ⊤) (hM : top l (n + 512) ≠ ⊥) (s : Vec Ideal S1024x512 .f32) (V : Vec Ideal S512x256 .bf16)
    (hs : ∀ j : Fin 512, s (ValueIdx.ix2 r j) = l (n + j.val)) (hV : ∀ (j : Fin 512) (y : Fin 256), V (ValueIdx.ix2 j y) = w (n + j.val) y.val) :
    Upto l w r (n + 512) (stepM s m) (stepA s m V a) (stepB s m V b) := by
  have hmax : ∀ x : Fin 128, k1_pay7 s m (ValueIdx.ix2 r x) = top l (n + 512) := fun x => by
    rw [newMax_apply, h.max, top_add]
    exact congrArg (Max.max (top l n)) (sup_congr rfl fun j _ => hs j)
  have hal : ∀ x : Fin 128, k1_pay8 s m (ValueIdx.ix2 r x) = Ideal.exp2 (top l n - top l (n + 512)) := fun x => by
    show Ideal.exp2 (m _ - k1_pay7 s m _) = _
    rw [h.max, hmax]
  have hw : ∀ y : Fin 256, k1_pay9 s m V (ValueIdx.ix2 r y) = ∑ j : Fin 512, Ideal.exp2 (l (n + j.val) - top l (n + 512)) * w (n + j.val) y.val := fun y => by
    rw [weighted_apply]
    refine sum_congr rfl fun j _ => ?_
    rw [hmax, hs, hV]
  refine ⟨fun x => ?_, fun x => ?_, fun x => ?_⟩
  · exact (congrFun (shapeCast_self _ _) _).trans (hmax x)
  · unfold stepA k1_pay10
    refine (congrFun (shapeCast_self _ _) _).trans ?_
    rw [acc_add l _ hl n 512 hM]
    refine congrArg₂ (· + ·) ?_ ?_
    · show k1_pay8 s m _ * a _ = _
      rw [hal, h.left]
    · rw [extractStridedSlice_apply ![0, 0] (k1_pay9 s m V) _ _ (ValueIdx.ix2 r ⟨x.val, by omega⟩) ?_, hw]
      intro a
      match a with
      | ⟨0, _⟩ => show r.val = 0 + r.val; omega
      | ⟨1, _⟩ => show x.val = 0 + x.val; omega
  · unfold stepB k1_pay11
    refine (congrFun (shapeCast_self _ _) _).trans ?_
    rw [acc_add l _ hl n 512 hM]
    refine congrArg₂ (· + ·) ?_ ?_
    · show k1_pay8 s m _ * b _ = _
      rw [hal, h.right]
    · rw [extractStridedSlice_apply ![0, 128] (k1_pay9 s m V) _ _ (ValueIdx.ix2 r ⟨128 + x.val, by omega⟩) ?_, hw]
      intro a
      match a with
      | ⟨0, _⟩ => show r.val = 0 + r.val; omega
      | ⟨1, _⟩ => show 128 + x.val = 128 + x.val; omega

/-- The scores of a query block and a key block at an element. -/
theorem scores_apply (q : Vec Ideal S1024x256 .bf16) (K : Vec Ideal S512x256 .bf16) (r : Fin 1024) (j : Fin 512) :
    k1_pay6 (k1_pay22 q) K (ValueIdx.ix2 r j) = ∑ y : Fin 256, q (ValueIdx.ix2 r y) * K (ValueIdx.ix2 j y) := by
  unfold k1_pay6
  refine (congrFun (shapeCast_self _ _) _).trans ?_
  refine (Ideal.matmul_transposedRhs_apply (M := 1024) (K := 256) (N := 512) none _ _ _ r j).trans ?_
  show Ideal.ofBits .f32 0x00000000#32 + _ = _
  rw [Ideal.ofBits_zero_f32, zero_add]
  refine sum_congr rfl fun y _ => congrArg₂ (· * ·) ?_ ?_
  · exact congrFun (shapeCast_self _ _) _
  · exact congrFun (shapeCast_self _ _) _

/-- The scores with the keys after the query taken out, on the diagonal's sub-block starting `o` rows down. -/
def masked (o : BitVec 32) (s : Vec Ideal S1024x512 .f32) : Vec Ideal S1024x512 .f32 :=
  select (cmpi .sge (iota .tc S1024x512 32 [0] iota_S1024x512_d0_w32) (addi (iota .tc S1024x512 32 [1] iota_S1024x512_d1_w32) (broadcast S1024x512 o)))
    s (broadcast S1024x512 (Named.named (F := Ideal) (φ := .f32) κ "mask" 0xF149F2CA#32))

/-- A masked score is the score where the query is at least the key, and nothing elsewhere. -/
theorem masked_apply (o : ℕ) (ho : o ≤ 512) (s : Vec Ideal S1024x512 .f32) (r : Fin 1024) (j : Fin 512) :
    masked (BitVec.ofNat 32 o) s (ValueIdx.ix2 r j) = if o + j.val ≤ r.val then s (ValueIdx.ix2 r j) else ⊥ := by
  unfold masked
  refine (select_test (p := o + j.val ≤ r.val) _ _ _ _ ?_).trans ?_
  · have h0 := r.isLt
    have h1 := j.isLt
    show IntOp.cmpi .sge (BitVec.ofNat 32 (0 * 1024 + r.val)) (BitVec.ofNat 32 (0 * 512 + j.val) + BitVec.ofNat 32 o) = _
    rw [← BitVec.ofNat_add, cmpi_sge_ofNat (by omega) (by omega)]
    exact congrArg BitVec.ofBool (decide_eq_decide.mpr (by omega))
  · refine congrArg (fun e => if o + j.val ≤ r.val then s (ValueIdx.ix2 r j) else e) ?_
    exact IdealRules.named_const.ideal_named_scalar κ "mask" (φ := .f32) 0xF149F2CA#32 _ rfl

/-- A block of rows read at an element. -/
theorem ld_rows (X : Vec Ideal S16384x256 .bf16) (off : Fin 2 → ℕ) (h) (j : Fin 512) (y : Fin 256) (s : Fin 16384) (h0 : off 0 + j.val = s.val)
    (h1 : off 1 = 0) : View.ld X (Rect.unit (s := S16384x256) off ![512, 256] h) (ValueIdx.ix2 j y) = X (ValueIdx.ix2 s y) := by
  show X _ = _
  refine congrArg X (idx2_ext ?_ ?_)
  · show off 0 + 1 * j.val = s.val
    omega
  · show off 1 + 1 * y.val = y.val
    omega

/-- The loop's trips are the blocks before the diagonal. -/
theorem trips_eq : ∀ i : grid1.Coords, (k1_t1_loop i).trips = (i 1).val := by decide +kernel
/-- The rows of the key blocks a trip computes scores of. -/
theorem rowK : ∀ (i : grid1.Coords) (k : Fin (k1_t1_loop i).trips) (r : Fin 2),
    k1_off1 i k (BitVec.ofNat 32 (1 + r.val)) 0 = 1024 * k.val + 512 * (1 + r.val) ∧ k1_off1 i k (BitVec.ofNat 32 (1 + r.val)) 1 = 0 := by
  decide +kernel
/-- The rows of a trip's first value block. -/
theorem rowV : ∀ (i : grid1.Coords) (k : Fin (k1_t1_loop i).trips), k1_off2 i k 0 = 1024 * k.val ∧ k1_off2 i k 1 = 0 := by decide +kernel
/-- The rows of the diagonal's second sub-block. -/
theorem rowD2 : ∀ i : grid1.Coords, k1_off5 i 0 = 1024 * (i 1).val + 512 ∧ k1_off5 i 1 = 0 := by decide +kernel
/-- The rows of the diagonal's first sub-block. -/
theorem rowD1 : ∀ i : grid1.Coords, k1_off6 i 0 = 1024 * (i 1).val ∧ k1_off6 i 1 = 0 := by decide +kernel

/-- A trip is two sub-blocks' steps. -/
theorem tripSt_eq (v0 : Vec Ideal S1024x256 .bf16) (K1 K2 Va Vb : Vec Ideal S512x256 .bf16) (z : St Ideal) :
    tripSt v0 K1 K2 Va Vb z = ⟨k1_pay6 (k1_pay22 v0) K2, stepM (k1_pay6 (k1_pay22 v0) K1) (stepM z.s z.m),
      stepA (k1_pay6 (k1_pay22 v0) K1) (stepM z.s z.m) Vb (stepA z.s z.m Va z.a),
      stepB (k1_pay6 (k1_pay22 v0) K1) (stepM z.s z.m) Vb (stepB z.s z.m Va z.b)⟩ := rfl

/-- The diagonal is two masked sub-blocks' steps and the quotient. -/
theorem diagOut_eq (x0 : Vec Ideal S1024x256 .bf16) (Kd Va Vb : Vec Ideal S512x256 .bf16) (z : St Ideal) :
    diagOut x0 Kd Va Vb z
      = k1_pay5 (stepA (masked (BitVec.ofNat 32 512) (k1_pay6 (k1_pay22 x0) Kd)) (stepM (masked (BitVec.ofNat 32 0) z.s) z.m) Vb
            (stepA (masked (BitVec.ofNat 32 0) z.s) z.m Va z.a))
          (stepB (masked (BitVec.ofNat 32 512) (k1_pay6 (k1_pay22 x0) Kd)) (stepM (masked (BitVec.ofNat 32 0) z.s) z.m) Vb
            (stepB (masked (BitVec.ofNat 32 0) z.s) z.m Va z.b)) := rfl

/-- What one row of a block's attention is about: the scores `sc` of its query against every key, those scores with the later
    keys taken out, `l`, and the values `w`. -/
structure Row (i : grid1.Coords) (r : Fin 1024) (q : Vec Ideal S1024x256 .bf16) (xk xv : Vec Ideal S16384x256 .bf16) (sc l : ℕ → EReal)
    (w : ℕ → ℕ → EReal) : Prop where
  /-- the scores -/
  score : ∀ s : Fin 16384, ∑ y : Fin 256, q (ValueIdx.ix2 r y) * xk (ValueIdx.ix2 s y) = sc s.val
  /-- the values -/
  value : ∀ (s : Fin 16384) (y : Fin 256), xv (ValueIdx.ix2 s y) = w s.val y.val
  /-- a key not after the query counts -/
  kept : ∀ s, s ≤ 1024 * (i 1).val + r.val → l s = sc s
  /-- a later key does not -/
  cut : ∀ s, 1024 * (i 1).val + r.val < s → l s = ⊥
  /-- no score is infinite above -/
  finite : ∀ s, l s ≠ ⊤
  /-- the first key's score is a number -/
  first : l 0 ≠ ⊥

namespace Row
variable {i : grid1.Coords} {r : Fin 1024} {q : Vec Ideal S1024x256 .bf16} {xk xv : Vec Ideal S16384x256 .bf16} {sc l : ℕ → EReal}
  {w : ℕ → ℕ → EReal} (h : Row i r q xk xv sc l w)
include h

/-- Some key has been met. -/
theorem top_ne_bot {n : ℕ} (hn : 0 < n) : top l n ≠ ⊥ := fun e => h.first (le_bot_iff.mp (e ▸ le_top l hn))

/-- A block's scores. -/
theorem scores (off : Fin 2 → ℕ) (hb) (n : ℕ) (hn : n + 512 ≤ 16384) (h0 : off 0 = n) (h1 : off 1 = 0) (j : Fin 512) :
    k1_pay6 (k1_pay22 q) (View.ld xk (Rect.unit (s := S16384x256) off ![512, 256] hb)) (ValueIdx.ix2 r j) = sc (n + j.val) := by
  have hj := j.isLt
  rw [scores_apply]
  refine Eq.trans (sum_congr rfl fun y _ => ?_) (h.score ⟨n + j.val, by omega⟩)
  rw [ld_rows xk off hb j y ⟨n + j.val, by omega⟩ (by simp [h0]) h1]

/-- A block's values. -/
theorem values (off : Fin 2 → ℕ) (hb) (n : ℕ) (hn : n + 512 ≤ 16384) (h0 : off 0 = n) (h1 : off 1 = 0) (j : Fin 512) (y : Fin 256) :
    View.ld xv (Rect.unit (s := S16384x256) off ![512, 256] hb) (ValueIdx.ix2 j y) = w (n + j.val) y.val := by
  have hj := j.isLt
  rw [ld_rows xv off hb j y ⟨n + j.val, by omega⟩ (by simp [h0]) h1]
  exact h.value ⟨n + j.val, by omega⟩ y

/-- The state at the loop's entry has met no key. -/
theorem start : (∀ j : Fin 512, (initSt q xk).s (ValueIdx.ix2 r j) = sc (1024 * 0 + j.val))
    ∧ Upto l w r (1024 * 0) (initSt q xk).m (initSt q xk).a (initSt q xk).b := by
  refine ⟨fun j => h.scores ![0, 0] inb_S16384x256_S512x256_0_0 (1024 * 0) (by omega) rfl rfl j, fun x => ?_, fun x => ?_, fun x => ?_⟩
  · rw [top_zero]
    exact IdealRules.named_const.ideal_named_scalar κ "mask" (φ := .f32) 0xF149F2CA#32 _ rfl
  · rw [acc_zero]
    exact Ideal.ofBits_zero_f32
  · rw [acc_zero]
    exact Ideal.ofBits_zero_f32

/-- The state after `k` trips has met the first `1024 * k` keys and holds the next sub-block's scores. -/
theorem loop (k : ℕ) (hk : k ≤ (k1_t1_loop i).trips) :
    (∀ j : Fin 512, (loopSt i q xk xv (initSt q xk) k).s (ValueIdx.ix2 r j) = sc (1024 * k + j.val))
    ∧ Upto l w r (1024 * k) (loopSt i q xk xv (initSt q xk) k).m (loopSt i q xk xv (initSt q xk) k).a (loopSt i q xk xv (initSt q xk) k).b := by
  induction k with
  | zero => exact h.start
  | succ k ih =>
    obtain ⟨hs, hu⟩ := ih (by omega)
    have hq : (i 1).val < 16 := (i 1).isLt
    have ht := trips_eq i
    have hkq : k < (i 1).val := by omega
    have e := loopSt_succ i q xk xv (initSt q xk) ⟨k, by omega⟩
    rw [show loopSt i q xk xv (initSt q xk) (k + 1) = _ from e, tripSt_eq]
    obtain ⟨k0, k1⟩ := rowK i ⟨k, by omega⟩ 0
    obtain ⟨k2, k3⟩ := rowK i ⟨k, by omega⟩ 1
    obtain ⟨v0, v1⟩ := rowV i ⟨k, by omega⟩
    refine ⟨fun j => ?_, ?_⟩
    · exact h.scores _ (k1_off1_inb i ⟨k, by omega⟩ 1) (1024 * (k + 1)) (by omega) (k2.trans (by simp; omega)) k3 j
    · have a := hu.step h.finite (h.top_ne_bot (by omega)) (loopSt i q xk xv (initSt q xk) k).s (View.ld xv (rV i ⟨k, by omega⟩))
        (fun j => (hs j).trans (h.kept _ (by have := j.isLt; omega)).symm)
        (h.values _ (k1_off2_inb i ⟨k, by omega⟩) (1024 * k) (by omega) v0 v1)
      have b := a.step h.finite (h.top_ne_bot (by omega)) (k1_pay6 (k1_pay22 q) (View.ld xk (rK i ⟨k, by omega⟩ 0))) (View.ld xv (rK i ⟨k, by omega⟩ 0))
        (fun j => (h.scores _ (k1_off1_inb i ⟨k, by omega⟩ 0) (1024 * k + 512) (by omega) (k0.trans (by simp)) k1 j).trans
          (h.kept _ (by have := j.isLt; omega)).symm)
        (h.values _ (k1_off1_inb i ⟨k, by omega⟩ 0) (1024 * k + 512) (by omega) (k0.trans (by simp)) k1)
      rw [show 1024 * (k + 1) = 1024 * k + 512 + 512 by omega]
      exact b

/-- **The body's output block at an element**: the quotient of the two weighted sums over every key. -/
theorem out (x : Fin 128) : foxOut i q xk xv (ValueIdx.ix2 r x)
    = Ideal.div (acc l (fun s => w s x.val) 16384) (acc l (fun s => w s (128 + x.val)) 16384) := by
  have hq : (i 1).val < 16 := (i 1).isLt
  obtain ⟨hs, hu⟩ := h.loop (k1_t1_loop i).trips le_rfl
  have hr := r.isLt
  obtain ⟨d0, d1⟩ := rowD1 i
  obtain ⟨e0, e1⟩ := rowD2 i
  have hm : ∀ (o : ℕ) (s : Vec Ideal S1024x512 .f32) (ho : o ≤ 512), (∀ j : Fin 512, s (ValueIdx.ix2 r j) = sc (1024 * (i 1).val + o + j.val)) →
      ∀ j : Fin 512, masked (BitVec.ofNat 32 o) s (ValueIdx.ix2 r j) = l (1024 * (i 1).val + o + j.val) := fun o s ho e j => by
    rw [masked_apply o ho]
    by_cases hj : o + j.val ≤ r.val
    · rw [if_pos hj, e, h.kept _ (by omega)]
    · rw [if_neg hj, h.cut _ (by omega)]
  rw [trips_eq] at hs hu
  have a := hu.step h.finite (h.top_ne_bot (by omega)) (masked (BitVec.ofNat 32 0) (loopSt i q xk xv (initSt q xk) (i 1).val).s) (View.ld xv (rD1 i))
    (hm 0 _ (by omega) hs) (h.values _ (k1_off6_inb i) _ (by omega) d0 d1)
  have b := a.step h.finite (h.top_ne_bot (by omega)) (masked (BitVec.ofNat 32 512) (k1_pay6 (k1_pay22 q) (View.ld xk (rD2 i)))) (View.ld xv (rD2 i))
    (hm 512 _ (by omega) (h.scores _ (k1_off5_inb i) _ (by omega) e0 e1)) (h.values _ (k1_off5_inb i) _ (by omega) e0 e1)
  unfold foxOut
  rw [trips_eq, diagOut_eq]
  show Ideal.div _ _ = _
  rw [b.left, b.right, acc_of_bot l _ (n := 1024 * (i 1).val + 512 + 512) (N := 16384) (by omega) (fun s hs => h.cut s (by omega)),
    acc_of_bot l _ (n := 1024 * (i 1).val + 512 + 512) (N := 16384) (by omega) (fun s hs => h.cut s (by omega))]

end Row
end Cert.Fox
-- ==== Proof.Fox.Arrays.lean ====
/-
  The arrays the two calls leave, from their blocks.
-/
module
public import proofs.«01_k».proof.Proof.Fox.PrepVal
public import Idealize.ShloMosaic.Lib.Pipeline.ValueKit
@[expose] public section
set_option maxRecDepth 16384
noncomputable section
namespace Cert.Fox
open Idealize.ShloMosaic Idealize.ShloMosaic.TcCoe Idealize.SL.Sem Cert.KernelIdeal Cert.KernelIdeal.Gen

section Region0
variable (V : (c : Dev nD) → (b : Ref sig .tc) → Buf (Elt Ideal) ((c : Thread nD τ).loc b)) (c : Dev nD)

/-- Which block of each array the preparation call works on at each point. -/
theorem index0 : ∀ t : Fin cfg0.N, (cfg0.win 0).index t = ![t.val, 4] ∧ (cfg0.win 1).index t = ![t.val, 5] ∧ (cfg0.win 2).index t = ![t.val, 6]
    ∧ (cfg0.win 3).index t = ![t.val, 0] ∧ (cfg0.win 4).index t = ![t.val, 0] ∧ (cfg0.win 5).index t = ![t.val, 0] ∧ (cfg0.win 6).index t = ![t.val, 0] := by
  decide +kernel

/-- Column `128 h + x` of the part of the projection that starts at column `b`, for the column `256 h + x` of the wide array. -/
def partCol (b : ℕ) (hb : b + 2048 ≤ 14336) (j : Fin 4096) : Fin 14336 := ⟨b + (128 * (j.val / 256) + j.val % 128), by have := j.isLt; omega⟩

/-- The queries' array, from the projected columns and the decays. -/
def arrQ (p : Vec Ideal S16384x14336 .bf16) (d : Vec Ideal S16384x128 .f32) : Vec Ideal S16384x4096 .bf16 := fun i =>
  wideQ (p (ValueIdx.ix2 (i 0) (partCol 8192 (by decide) (i 1)))) (d (ValueIdx.ix2 (i 0) (headOf (i 1)))) (i 1).val
/-- The keys' array. -/
def arrK (p : Vec Ideal S16384x14336 .bf16) (d : Vec Ideal S16384x128 .f32) : Vec Ideal S16384x4096 .bf16 := fun i =>
  wideK (p (ValueIdx.ix2 (i 0) (partCol 10240 (by decide) (i 1)))) (d (ValueIdx.ix2 (i 0) (headOf (i 1)))) (i 1).val
/-- The values' array. -/
def arrV (p : Vec Ideal S16384x14336 .bf16) : Vec Ideal S16384x4096 .bf16 := fun i =>
  wideV (p (ValueIdx.ix2 (i 0) (partCol 12288 (by decide) (i 1)))) (i 1).val

/-- Row `r` of block `t`. -/
def row0 (t : Fin cfg0.N) (r : Fin 512) : Fin 16384 := ⟨512 * t.val + r.val, by have h : t.val < 32 := t.isLt; have := r.isLt; omega⟩

/-- An element of a block of the queries' columns. -/
theorem emb0_0 (t : Fin cfg0.N) (y : S512x2048.Idx) :
    (win0_0.blk t).view.emb y = ValueIdx.ix2 (row0 t (y 0)) (⟨8192 + (y 1).val, by have h : (y 1).val < 2048 := (y 1).isLt; omega⟩ : Fin 14336) := by
  have e := (index0 t).1
  refine idx2_ext ?_ ?_ <;> blk_simp [e]
  show t.val * 512 + (y 0).val = 512 * t.val + (y 0).val
  omega

/-- An element of a block of the keys' columns. -/
theorem emb0_1 (t : Fin cfg0.N) (y : S512x2048.Idx) :
    (win0_1.blk t).view.emb y = ValueIdx.ix2 (row0 t (y 0)) (⟨10240 + (y 1).val, by have h : (y 1).val < 2048 := (y 1).isLt; omega⟩ : Fin 14336) := by
  have e := (index0 t).2.1
  refine idx2_ext ?_ ?_ <;> blk_simp [e]
  show t.val * 512 + (y 0).val = 512 * t.val + (y 0).val
  omega

/-- An element of a block of the values' columns. -/
theorem emb0_2 (t : Fin cfg0.N) (y : S512x2048.Idx) :
    (win0_2.blk t).view.emb y = ValueIdx.ix2 (row0 t (y 0)) (⟨12288 + (y 1).val, by have h : (y 1).val < 2048 := (y 1).isLt; omega⟩ : Fin 14336) := by
  have e := (index0 t).2.2.1
  refine idx2_ext ?_ ?_ <;> blk_simp [e]
  show t.val * 512 + (y 0).val = 512 * t.val + (y 0).val
  omega

/-- An element of a block of the decays. -/
theorem emb0_3 (t : Fin cfg0.N) (y : S512x128.Idx) : (win0_3.blk t).view.emb y = ValueIdx.ix2 (row0 t (y 0)) (y 1) := by
  have e := (index0 t).2.2.2.1
  refine idx2_ext ?_ ?_ <;> blk_simp [e]
  show t.val * 512 + (y 0).val = 512 * t.val + (y 0).val
  omega

/-- An element of a block of the queries' wide array. -/
theorem emb0_4 (t : Fin cfg0.N) (y : S512x4096.Idx) : (win0_4.blk t).view.emb y = ValueIdx.ix2 (row0 t (y 0)) (y 1) := by
  have e := (index0 t).2.2.2.2.1
  refine idx2_ext ?_ ?_ <;> blk_simp [e]
  show t.val * 512 + (y 0).val = 512 * t.val + (y 0).val
  omega

/-- An element of a block of the keys' wide array. -/
theorem emb0_5 (t : Fin cfg0.N) (y : S512x4096.Idx) : (win0_5.blk t).view.emb y = ValueIdx.ix2 (row0 t (y 0)) (y 1) := by
  have e := (index0 t).2.2.2.2.2.1
  refine idx2_ext ?_ ?_ <;> blk_simp [e]
  show t.val * 512 + (y 0).val = 512 * t.val + (y 0).val
  omega

/-- An element of a block of the values' wide array. -/
theorem emb0_6 (t : Fin cfg0.N) (y : S512x4096.Idx) : (win0_6.blk t).view.emb y = ValueIdx.ix2 (row0 t (y 0)) (y 1) := by
  have e := (index0 t).2.2.2.2.2.2
  refine idx2_ext ?_ ?_ <;> blk_simp [e]
  show t.val * 512 + (y 0).val = 512 * t.val + (y 0).val
  omega

/-- The queries' array after the call. -/
theorem array0_4 : (dat0 V c).arrAt 4 cfg0.N = arrQ (V c main_v7) (V c main_arg3) := by
  refine Pipeline.Dat.arrAt_eq_of_covers (dat0 V c) 4 _ (by decide +kernel) fun t hf y => ?_
  blk_simp
  rw [after0_4]
  refine (out4_apply ..).trans ?_
  rw [emb0_4]
  refine congrArg₂ (fun a b => wideQ a b _) ?_ ?_
  · exact (View.read_apply ..).trans (congrArg (V c main_v7) (emb0_0 t _))
  · exact (View.read_apply ..).trans (congrArg (V c main_arg3) (emb0_3 t _))

/-- The keys' array after the call. -/
theorem array0_5 : (dat0 V c).arrAt 5 cfg0.N = arrK (V c main_v7) (V c main_arg3) := by
  refine Pipeline.Dat.arrAt_eq_of_covers (dat0 V c) 5 _ (by decide +kernel) fun t hf y => ?_
  blk_simp
  rw [after0_5]
  refine (out5_apply ..).trans ?_
  rw [emb0_5]
  refine congrArg₂ (fun a b => wideK a b _) ?_ ?_
  · exact (View.read_apply ..).trans (congrArg (V c main_v7) (emb0_1 t _))
  · exact (View.read_apply ..).trans (congrArg (V c main_arg3) (emb0_3 t _))

/-- The values' array after the call. -/
theorem array0_6 : (dat0 V c).arrAt 6 cfg0.N = arrV (V c main_v7) := by
  refine Pipeline.Dat.arrAt_eq_of_covers (dat0 V c) 6 _ (by decide +kernel) fun t hf y => ?_
  blk_simp
  rw [after0_6]
  refine (out6_apply ..).trans ?_
  rw [emb0_6]
  exact congrArg (fun a => wideV a _) ((View.read_apply ..).trans (congrArg (V c main_v7) (emb0_2 t _)))

end Region0
end Cert.Fox
end
-- ==== Proof.Fox.Host.lean ====
/-
  The projected columns the calls read, from the arguments.
-/
module
public import proofs.«01_k».proof.Proof.Fox.Arrays
public import Idealize.ShloMosaic.Lib.StableHlo.Run
@[expose] public section
set_option maxRecDepth 16384
noncomputable section
namespace Cert.Fox
open Idealize.ShloMosaic Idealize.ShloMosaic.TcCoe Idealize.SL.Sem Cert.KernelIdeal Cert.KernelIdeal.Gen

variable (m : (ℓ : Loc nD τ sig) → Buf (Elt Ideal) ℓ) (ρ : Dev nD → PrngReg) (c : Dev nD)

/-- An argument as rows of columns. -/
def flat (x : Vec Ideal S1x16384x2048 .f32) : Vec Ideal S16384x2048 .bf16 :=
  truncf .bf16 (shapeCast S16384x2048 x shapeCasts_S1x16384x2048_S16384x2048 : FVec Ideal S16384x2048 .f32) bitsLt_bf16_f32

/-- An argument's entry. -/
theorem flat_apply (x : Vec Ideal S1x16384x2048 .f32) (t : Fin 16384) (j : Fin 2048) : flat x (ValueIdx.ix2 t j) = at3 x t.val j.val := by
  unfold flat at3
  rw [dif_pos ⟨t.isLt, j.isLt⟩]
  show shapeCast S16384x2048 x _ _ = _
  refine shapeCast_apply _ _ _ _ ?_
  rw [Shape.rowMajor_val_two, Shape.rowMajor_val_three]
  show (0 * 16384 + t.val) * 2048 + j.val = t.val * 2048 + j.val
  omega

/-- The projection: zero columns, then the three arguments side by side. -/
theorem proj_eq : V1 m ρ c main_v7 = (concatenate S16384x14336 1 [
      ⟨S16384x8192, (broadcastInDim S16384x8192 ![] bcast_S_S16384x8192 (constant (F := Ideal) S_ .bf16 0x0000#16) : Vec Ideal S16384x8192 .bf16)⟩,
      ⟨S16384x2048, flat (m ((c : Thread nD τ).loc main_arg0))⟩, ⟨S16384x2048, flat (m ((c : Thread nD τ).loc main_arg1))⟩,
      ⟨S16384x2048, flat (m ((c : Thread nD τ).loc main_arg2))⟩]
    concatenates_S16384x8192_S16384x2048_S16384x2048_S16384x2048_S16384x14336_d1 : Vec Ideal S16384x14336 .bf16) := by
  show StableHlo.after hostOps0 (W0 m ρ c) (Proc.devRef .tc main_v7) = _
  after_results
  rfl

/-- The queries' columns of the projection. -/
theorem proj_queries (t : Fin 16384) (j : Fin 14336) (k : Fin 2048) (h : j.val = 8192 + k.val) :
    V1 m ρ c main_v7 (ValueIdx.ix2 t j) = at3 (m ((c : Thread nD τ).loc main_arg0)) t.val k.val := by
  have hk := k.isLt
  rw [proj_eq, ← flat_apply]
  refine (concatenate_cons_apply ..).trans ?_
  refine (concatenateAt_cons ..).trans ((dif_neg (show ¬ (j.val < 8192) by omega)).trans ?_)
  refine (concatenateAt_cons ..).trans ((dif_pos (show j.val - 8192 < 2048 by omega)).trans ?_)
  exact congrArg (flat _) (idx2_ext rfl (show j.val - 8192 = k.val by omega))

/-- The keys' columns of the projection. -/
theorem proj_keys (t : Fin 16384) (j : Fin 14336) (k : Fin 2048) (h : j.val = 10240 + k.val) :
    V1 m ρ c main_v7 (ValueIdx.ix2 t j) = at3 (m ((c : Thread nD τ).loc main_arg1)) t.val k.val := by
  have hk := k.isLt
  rw [proj_eq, ← flat_apply]
  refine (concatenate_cons_apply ..).trans ?_
  refine (concatenateAt_cons ..).trans ((dif_neg (show ¬ (j.val < 8192) by omega)).trans ?_)
  refine (concatenateAt_cons ..).trans ((dif_neg (show ¬ (j.val - 8192 < 2048) by omega)).trans ?_)
  refine (concatenateAt_cons ..).trans ((dif_pos (show j.val - 8192 - 2048 < 2048 by omega)).trans ?_)
  exact congrArg (flat _) (idx2_ext rfl (show j.val - 8192 - 2048 = k.val by omega))

/-- The values' columns of the projection. -/
theorem proj_values (t : Fin 16384) (j : Fin 14336) (k : Fin 2048) (h : j.val = 12288 + k.val) :
    V1 m ρ c main_v7 (ValueIdx.ix2 t j) = at3 (m ((c : Thread nD τ).loc main_arg2)) t.val k.val := by
  have hk := k.isLt
  rw [proj_eq, ← flat_apply]
  refine (concatenate_cons_apply ..).trans ?_
  refine (concatenateAt_cons ..).trans ((dif_neg (show ¬ (j.val < 8192) by omega)).trans ?_)
  refine (concatenateAt_cons ..).trans ((dif_neg (show ¬ (j.val - 8192 < 2048) by omega)).trans ?_)
  refine (concatenateAt_cons ..).trans ((dif_neg (show ¬ (j.val - 8192 - 2048 < 2048) by omega)).trans ?_)
  refine (concatenateAt_singleton ..).trans ?_
  exact congrArg (flat _) (idx2_ext rfl (show j.val - 8192 - 2048 - 2048 = k.val by omega))

/-- The decays the preparation reads. -/
theorem decays_eq : V1 m ρ c main_arg3 = m ((c : Thread nD τ).loc main_arg3) := W1_args m ρ c main_arg3 (by decide)

/-- A decay. -/
theorem decay_at (d : Vec Ideal S16384x128 .f32) (t : Fin 16384) (j : Fin 4096) : d (ValueIdx.ix2 t (headOf j)) = at2 d t.val (j.val / 256) := by
  have hj := j.isLt
  unfold at2
  rw [dif_pos ⟨t.isLt, by omega⟩]
  rfl

/-- The queries' array, from the arguments. -/
theorem wide_queries (t : Fin 16384) (j : Fin 4096) : V2 m ρ c main_v8_0 (ValueIdx.ix2 t j) =
    wideQ (at3 (m ((c : Thread nD τ).loc main_arg0)) t.val (128 * (j.val / 256) + j.val % 128)) (at2 (m ((c : Thread nD τ).loc main_arg3)) t.val (j.val / 256)) j.val := by
  have hj := j.isLt
  refine (congrFun ((W2_arr m ρ c 4).trans (array0_4 (V1 m ρ) c)) (ValueIdx.ix2 t j)).trans (congrArg₂ (fun a b => wideQ a b _) ?_ ?_)
  · exact proj_queries m ρ c t _ ⟨128 * (j.val / 256) + j.val % 128, by omega⟩ rfl
  · rw [decays_eq]; exact decay_at _ t j

/-- The keys' array, from the arguments. -/
theorem wide_keys (t : Fin 16384) (j : Fin 4096) : V2 m ρ c main_v8_1 (ValueIdx.ix2 t j) =
    wideK (at3 (m ((c : Thread nD τ).loc main_arg1)) t.val (128 * (j.val / 256) + j.val % 128)) (at2 (m ((c : Thread nD τ).loc main_arg3)) t.val (j.val / 256)) j.val := by
  have hj := j.isLt
  refine (congrFun ((W2_arr m ρ c 5).trans (array0_5 (V1 m ρ) c)) (ValueIdx.ix2 t j)).trans (congrArg₂ (fun a b => wideK a b _) ?_ ?_)
  · exact proj_keys m ρ c t _ ⟨128 * (j.val / 256) + j.val % 128, by omega⟩ rfl
  · rw [decays_eq]; exact decay_at _ t j

/-- The values' array, from the arguments. -/
theorem wide_values (t : Fin 16384) (j : Fin 4096) : V2 m ρ c main_v8_2 (ValueIdx.ix2 t j) =
    wideV (at3 (m ((c : Thread nD τ).loc main_arg2)) t.val (128 * (j.val / 256) + j.val % 128)) j.val := by
  have hj := j.isLt
  refine (congrFun ((W2_arr m ρ c 6).trans (array0_6 (V1 m ρ) c)) (ValueIdx.ix2 t j)).trans (congrArg (fun a => wideV a _) ?_)
  exact proj_values m ρ c t _ ⟨128 * (j.val / 256) + j.val % 128, by omega⟩ rfl

end Cert.Fox
end
-- ==== Proof.Fox.Blocks.lean ====
/-
  The attention call's blocks.
-/
module
public import proofs.«01_k».proof.Proof.Fox.Attn
public import proofs.«01_k».proof.Proof.Fox.Host
@[expose] public section
set_option maxRecDepth 16384
noncomputable section
namespace Cert.Fox
open Idealize.ShloMosaic Idealize.ShloMosaic.TcCoe Idealize.SL.Sem Cert.KernelIdeal Cert.KernelIdeal.Gen

/-- Which block of each array the attention call works on at each point, and the point's coordinates. -/
theorem index1 : ∀ t : Fin cfg1.N, (cfg1.win 0).index t = ![t.val % 16, t.val / 16] ∧ (cfg1.win 1).index t = ![0, t.val / 16]
    ∧ (cfg1.win 2).index t = ![0, t.val / 16] ∧ (cfg1.win 3).index t = ![t.val % 16, t.val / 16] ∧ (grid1.coords t 1).val = t.val % 16 := by
  decide +kernel

/-- Row `r` of the query block of point `t`. -/
def row1 (t : Fin cfg1.N) (r : Fin 1024) : Fin 16384 := ⟨1024 * (t.val % 16) + r.val, by have := r.isLt; omega⟩
/-- Column `y` of the wide columns of point `t`'s head. -/
def col1 (t : Fin cfg1.N) (y : Fin 256) : Fin 4096 := ⟨256 * (t.val / 16) + y.val, by have h : t.val < 256 := t.isLt; have := y.isLt; omega⟩

/-- An element of a block of the queries' wide array. -/
theorem emb1_0 (t : Fin cfg1.N) (y : S1024x256.Idx) : (win1_0.blk t).view.emb y = ValueIdx.ix2 (row1 t (y 0)) (col1 t (y 1)) := by
  have e := (index1 t).1
  refine idx2_ext ?_ ?_ <;> blk_simp [e]
  · show t.val % 16 * 1024 + (y 0).val = 1024 * (t.val % 16) + (y 0).val
    omega
  · show t.val / 16 * 256 + (y 1).val = 256 * (t.val / 16) + (y 1).val
    omega

/-- An element of the keys' wide columns of a head. -/
theorem emb1_1 (t : Fin cfg1.N) (y : S16384x256.Idx) : (win1_1.blk t).view.emb y = ValueIdx.ix2 (y 0) (col1 t (y 1)) := by
  have e := (index1 t).2.1
  refine idx2_ext ?_ ?_ <;> blk_simp [e]
  · show t.val / 16 * 256 + (y 1).val = 256 * (t.val / 16) + (y 1).val
    omega

/-- An element of the values' wide columns of a head. -/
theorem emb1_2 (t : Fin cfg1.N) (y : S16384x256.Idx) : (win1_2.blk t).view.emb y = ValueIdx.ix2 (y 0) (col1 t (y 1)) := by
  have e := (index1 t).2.2.1
  refine idx2_ext ?_ ?_ <;> blk_simp [e]
  · show t.val / 16 * 256 + (y 1).val = 256 * (t.val / 16) + (y 1).val
    omega

/-- An element of a block of the output. -/
theorem emb1_3 (t : Fin cfg1.N) (y : S1024x128.Idx) : (win1_3.blk t).view.emb y
    = ValueIdx.ix2 (row1 t (y 0)) (⟨128 * (t.val / 16) + (y 1).val, by have h : t.val < 256 := t.isLt; have h' : (y 1).val < 128 := (y 1).isLt; omega⟩ : Fin 2048) := by
  have e := (index1 t).2.2.2.1
  refine idx2_ext ?_ ?_ <;> blk_simp [e]
  · show t.val % 16 * 1024 + (y 0).val = 1024 * (t.val % 16) + (y 0).val
    omega
  · show t.val / 16 * 128 + (y 1).val = 128 * (t.val / 16) + (y 1).val
    omega

variable (m : (ℓ : Loc nD τ sig) → Buf (Elt Ideal) ℓ) (ρ : Dev nD → PrngReg) (c : Dev nD)

/-- A query block's element, from the arguments. -/
theorem block_queries (t : Fin cfg1.N) (r : Fin 1024) (y : Fin 256) : iblk1 (V2 m ρ) c 0 t (ValueIdx.ix2 r y)
    = wideQ (at3 (m ((c : Thread nD τ).loc main_arg0)) (row1 t r).val (128 * (t.val / 16) + y.val % 128)) (at2 (m ((c : Thread nD τ).loc main_arg3)) (row1 t r).val (t.val / 16)) y.val := by
  have hy := y.isLt
  refine (View.read_apply ..).trans ((congrArg (V2 m ρ c main_v8_0) (emb1_0 t _)).trans ((wide_queries m ρ c _ _).trans ?_))
  unfold wideQ
  rw [show (col1 t y).val / 256 = t.val / 16 from by show (256 * (t.val / 16) + y.val) / 256 = _; omega,
    show (col1 t y).val % 128 = y.val % 128 from by show (256 * (t.val / 16) + y.val) % 128 = _; omega,
    show (col1 t y).val % 256 = y.val % 256 from by show (256 * (t.val / 16) + y.val) % 256 = _; omega]

/-- A head's key element, from the arguments. -/
theorem block_keys (t : Fin cfg1.N) (s : Fin 16384) (y : Fin 256) : iblk1 (V2 m ρ) c 1 t (ValueIdx.ix2 s y)
    = wideK (at3 (m ((c : Thread nD τ).loc main_arg1)) s.val (128 * (t.val / 16) + y.val % 128)) (at2 (m ((c : Thread nD τ).loc main_arg3)) s.val (t.val / 16)) y.val := by
  have hy := y.isLt
  refine (View.read_apply ..).trans ((congrArg (V2 m ρ c main_v8_1) (emb1_1 t _)).trans ((wide_keys m ρ c _ _).trans ?_))
  unfold wideK
  rw [show (col1 t y).val / 256 = t.val / 16 from by show (256 * (t.val / 16) + y.val) / 256 = _; omega,
    show (col1 t y).val % 128 = y.val % 128 from by show (256 * (t.val / 16) + y.val) % 128 = _; omega,
    show (col1 t y).val % 256 = y.val % 256 from by show (256 * (t.val / 16) + y.val) % 256 = _; omega]

/-- A head's value element, from the arguments. -/
theorem block_values (t : Fin cfg1.N) (s : Fin 16384) (y : Fin 256) : iblk1 (V2 m ρ) c 2 t (ValueIdx.ix2 s y)
    = wideV (at3 (m ((c : Thread nD τ).loc main_arg2)) s.val (128 * (t.val / 16) + y.val % 128)) y.val := by
  have hy := y.isLt
  refine (View.read_apply ..).trans ((congrArg (V2 m ρ c main_v8_2) (emb1_2 t _)).trans ((wide_values m ρ c _ _).trans ?_))
  unfold wideV
  rw [show (col1 t y).val / 256 = t.val / 16 from by show (256 * (t.val / 16) + y.val) / 256 = _; omega,
    show (col1 t y).val % 128 = y.val % 128 from by show (256 * (t.val / 16) + y.val) % 128 = _; omega,
    show (col1 t y).val % 256 = y.val % 256 from by show (256 * (t.val / 16) + y.val) % 256 = _; omega]

end Cert.Fox
end
-- ==== Proof.Fox.Value.lean ====
/-
  The kernel's result over the extended reals is the attention of the arguments.
-/
module
public import proofs.«01_k».proof.Proof.Fox.Blocks
@[expose] public section
set_option maxRecDepth 16384
noncomputable section
namespace Cert.Fox
open Idealize.ShloMosaic Idealize.ShloMosaic.TcCoe Idealize.SL.Sem Cert.KernelIdeal Cert.KernelIdeal.Gen Finset

/-- The decay lanes of a query and a key add their difference. -/
theorem lanes_sum (a b : ℝ) : ∑ x : Fin 128, qLane (a : EReal) x.val * kLane (b : EReal) x.val = ((a - b : ℝ) : EReal) := by
  have e : ∀ x : Fin 128, qLane (a : EReal) x.val * kLane (b : EReal) x.val
      = (((if x = 0 then a else 0) + (if x = 3 then -b else 0) : ℝ) : EReal) := fun x => by
    have z : ∀ r : ℝ, (r : EReal) - (r : EReal) = 0 := fun r => by rw [← EReal.coe_sub, sub_self]; rfl
    by_cases h0 : x = 0
    · subst h0; simp [qLane, kLane]
    by_cases h3 : x = 3
    · subst h3; simp [qLane, kLane]
    have n0 : ¬ x.val = 0 := fun h => h0 (Fin.ext h)
    have n3 : ¬ x.val = 3 := fun h => h3 (Fin.ext h)
    rw [if_neg h0, if_neg h3, add_zero, EReal.coe_zero]
    unfold qLane kLane
    rw [if_neg n0, if_neg n3, z, z, sub_zero]
    split_ifs <;> first | (exfalso; omega) | simp
  rw [sum_congr rfl fun x _ => e x, ← coe_sum]
  congr 1
  rw [sum_add_distrib, sum_ite_eq', sum_ite_eq']
  simp [sub_eq_add_neg]

/-- The dot product of a wide query and a wide key is the logit in base 2. -/
theorem wide_dot (q k : Fin 128 → ℝ) (a b : ℝ) :
    ∑ y : Fin 256, wideQ (q ⟨y.val % 128, Nat.mod_lt _ (by decide)⟩ : ℝ) (a : EReal) y.val * wideK (k ⟨y.val % 128, Nat.mod_lt _ (by decide)⟩ : ℝ) (b : EReal) y.val
      = (((Real.log 2)⁻¹ * ((∑ x, q x * k x) * scale + a - b) : ℝ) : EReal) := by
  rw [show (256 : ℕ) = 128 + 128 from rfl]
  refine (Fin.sum_univ_add _).trans ?_
  have e1 : ∀ x : Fin 128, wideQ (q ⟨(Fin.castAdd 128 x).val % 128, Nat.mod_lt _ (by decide)⟩ : ℝ) (a : EReal) (Fin.castAdd 128 x).val
      * wideK (k ⟨(Fin.castAdd 128 x).val % 128, Nat.mod_lt _ (by decide)⟩ : ℝ) (b : EReal) (Fin.castAdd 128 x).val
      = ((q x * ((Real.log 2)⁻¹ * scale) * k x : ℝ) : EReal) := fun x => by
    have hx := x.isLt
    have em : (⟨(Fin.castAdd 128 x).val % 128, Nat.mod_lt _ (by decide)⟩ : Fin 128) = x := Fin.ext (Nat.mod_eq_of_lt hx)
    rw [em]
    unfold wideQ wideK
    rw [if_pos (by show x.val % 256 < 128; omega), if_pos (by show x.val % 256 < 128; omega)]
    unfold qscale scale
    rw [← EReal.coe_mul, ← EReal.coe_mul]
  have e2 : ∀ x : Fin 128, wideQ (q ⟨(Fin.natAdd 128 x).val % 128, Nat.mod_lt _ (by decide)⟩ : ℝ) (a : EReal) (Fin.natAdd 128 x).val
      * wideK (k ⟨(Fin.natAdd 128 x).val % 128, Nat.mod_lt _ (by decide)⟩ : ℝ) (b : EReal) (Fin.natAdd 128 x).val
      = qLane ((a * (Real.log 2)⁻¹ : ℝ) : EReal) x.val * kLane ((b * (Real.log 2)⁻¹ : ℝ) : EReal) x.val := fun x => by
    have hx := x.isLt
    unfold wideQ wideK
    rw [if_neg (by show ¬ (128 + x.val) % 256 < 128; omega), if_neg (by show ¬ (128 + x.val) % 256 < 128; omega),
      show (Fin.natAdd 128 x).val % 256 - 128 = x.val by show (128 + x.val) % 256 - 128 = _; omega]
    unfold log2e
    rw [← EReal.coe_mul, ← EReal.coe_mul]
  rw [sum_congr rfl fun x _ => e1 x, sum_congr rfl fun x _ => e2 x, lanes_sum, ← coe_sum, ← EReal.coe_add]
  congr 1
  have e3 : ∑ x, q x * ((Real.log 2)⁻¹ * scale) * k x = (Real.log 2)⁻¹ * scale * ∑ x, q x * k x := by
    rw [mul_sum]
    exact sum_congr rfl fun x _ => by ring
  rw [e3]
  ring

/-- An array of numbers, none of them infinite. -/
def Finite {s : Shape} (x : s.Idx → EReal) : Prop := ∀ i, ∃ r : ℝ, x i = (r : EReal)

/-- A sequence array of numbers at a row and a column. -/
theorem Finite.at3 {x : (⟨3, ![1, 16384, 2048]⟩ : Shape).Idx → EReal} (h : Finite x) (t j : ℕ) : ∃ r : ℝ, at3 x t j = (r : EReal) := by
  unfold Fox.at3
  split
  · exact h _
  · exact ⟨0, rfl⟩

/-- A decay array of numbers at a row and a lane. -/
theorem Finite.at2 {x : (⟨2, ![16384, 128]⟩ : Shape).Idx → EReal} (h : Finite x) (t j : ℕ) : ∃ r : ℝ, at2 x t j = (r : EReal) := by
  unfold Fox.at2
  split
  · exact h _
  · exact ⟨0, rfl⟩

/-- **A row of the attention body's output**: on the wide blocks of numbers it is the attention. -/
theorem row_value (i : grid1.Coords) (r : Fin 1024) (q : Vec Ideal S1024x256 .bf16) (xk xv : Vec Ideal S16384x256 .bf16)
    (Q K V : (⟨3, ![1, 16384, 2048]⟩ : Shape).Idx → EReal) (D : (⟨2, ![16384, 128]⟩ : Shape).Idx → EReal) (h t : ℕ)
    (ht : t = 1024 * (i 1).val + r.val) (fQ : Finite Q) (fK : Finite K) (fD : Finite D)
    (hq : ∀ y : Fin 256, q (ValueIdx.ix2 r y) = wideQ (at3 Q t (128 * h + y.val % 128)) (at2 D t h) y.val)
    (hk : ∀ (s : Fin 16384) (y : Fin 256), xk (ValueIdx.ix2 s y) = wideK (at3 K s.val (128 * h + y.val % 128)) (at2 D s.val h) y.val)
    (hv : ∀ (s : Fin 16384) (y : Fin 256), xv (ValueIdx.ix2 s y) = wideV (at3 V s.val (128 * h + y.val % 128)) y.val) (x : Fin 128) :
    foxOut i q xk xv (ValueIdx.ix2 r x) = attention Q K V D h t x.val := by
  choose q' hq' using fun y : Fin 128 => fQ.at3 t (128 * h + y.val)
  choose k' hk' using fun (s : ℕ) (y : Fin 128) => fK.at3 s (128 * h + y.val)
  choose d' hd' using fun s : ℕ => fD.at2 s h
  have hL : ∀ s, s ≤ t → logit Q K D h t s = (((∑ y, q' y * k' s y) * scale + d' t - d' s : ℝ) : EReal) := fun s hs => by
    unfold logit
    rw [if_pos hs, sum_congr rfl fun y _ => by rw [hq', hk', ← EReal.coe_mul], ← coe_sum, hd', hd', ← EReal.coe_mul, ← EReal.coe_add, ← EReal.coe_sub]
  have hbot : ∀ s, t < s → logit Q K D h t s = ⊥ := fun s hs => if_neg (by omega)
  have hlog : 0 < (Real.log 2)⁻¹ := inv_pos.mpr (Real.log_pos (by norm_num))
  have hLt : ∀ s, logit Q K D h t s ≠ ⊤ := fun s => by
    by_cases hs : s ≤ t
    · rw [hL s hs]; exact EReal.coe_ne_top _
    · rw [hbot s (by omega)]; exact bot_ne_top
  let l : ℕ → EReal := fun s => (((Real.log 2)⁻¹ : ℝ) : EReal) * logit Q K D h t s
  have hl0 : ∀ s, s ≤ t → l s = (((Real.log 2)⁻¹ * ((∑ y, q' y * k' s y) * scale + d' t - d' s) : ℝ) : EReal) := fun s hs => by
    show _ * _ = _
    rw [hL s hs, ← EReal.coe_mul]
  have hlb : ∀ s, t < s → l s = ⊥ := fun s hs => by
    show _ * _ = _
    rw [hbot s hs, EReal.coe_mul_bot_of_pos hlog]
  have R : Row i r q xk xv (fun s => (((Real.log 2)⁻¹ * ((∑ y, q' y * k' s y) * scale + d' t - d' s) : ℝ) : EReal)) l
      (fun s y => wideV (at3 V s (128 * h + y % 128)) y) := by
    refine ⟨fun s => ?_, hv, fun s hs => hl0 s (by omega), fun s hs => hlb s (by omega), fun s => ?_, ?_⟩
    · refine Eq.trans (sum_congr rfl fun y _ => ?_) (wide_dot q' (k' s.val) (d' t) (d' s.val))
      rw [hq, hk, hd', hd']
      exact congrArg₂ (· * ·) (congrArg (fun e => wideQ e _ _) (hq' ⟨y.val % 128, Nat.mod_lt _ (by decide)⟩))
        (congrArg (fun e => wideK e _ _) (hk' s.val ⟨y.val % 128, Nat.mod_lt _ (by decide)⟩))
    · by_cases hs : s ≤ t
      · rw [hl0 s hs]; exact EReal.coe_ne_top _
      · rw [hlb s (by omega)]; exact bot_ne_top
    · rw [hl0 0 (Nat.zero_le _)]; exact EReal.coe_ne_bot _
  have hx := x.isLt
  rw [R.out x]
  have w1 : (fun s : ℕ => wideV (at3 V s (128 * h + (128 + x.val) % 128)) (128 + x.val)) = fun _ => 1 := funext fun s => by
    unfold wideV
    exact if_neg (by omega)
  have w0 : (fun s : ℕ => wideV (at3 V s (128 * h + x.val % 128)) x.val) = fun s => at3 V s (128 * h + x.val) := funext fun s => by
    unfold wideV
    rw [if_pos (by omega), Nat.mod_eq_of_lt hx]
  rw [w1, w0]
  refine quotient l _ (logit Q K D h t) hLt (fun s => rfl) 16384 fun e => ?_
  have := le_bot_iff.mp (e ▸ le_top (logit Q K D h t) (show 0 < 16384 by decide))
  rw [hL 0 (Nat.zero_le _)] at this
  exact EReal.coe_ne_bot _ this

variable (m : (ℓ : Loc nD τ sig) → Buf (Elt Ideal) ℓ) (ρ : Dev nD → PrngReg) (c : Dev nD)

/-- The attention of the arguments as an array. -/
def fox (Q K V : (⟨3, ![1, 16384, 2048]⟩ : Shape).Idx → EReal) (D : (⟨2, ![16384, 128]⟩ : Shape).Idx → EReal) : Vec Ideal S16384x2048 .bf16 :=
  fun y => attention Q K V D ((y 1).val / 128) (y 0).val ((y 1).val % 128)

/-- **The kernel's result** is the attention of its arguments, where the queries, the keys and the decays are numbers. -/
theorem kernel_value (fQ : Finite (m ((c : Thread nD τ).loc main_arg0))) (fK : Finite (m ((c : Thread nD τ).loc main_arg1)))
    (fD : Finite (m ((c : Thread nD τ).loc main_arg3))) :
    W3 m ρ c (Proc.devRef .tc main_v9) = fox (m ((c : Thread nD τ).loc main_arg0)) (m ((c : Thread nD τ).loc main_arg1))
      (m ((c : Thread nD τ).loc main_arg2)) (m ((c : Thread nD τ).loc main_arg3)) := by
  refine (W3_arr m ρ c 3).trans ?_
  refine Pipeline.Dat.arrAt_eq_of_covers (dat1 (V2 m ρ) c) 3 _ (by decide +kernel) fun t hf y => ?_
  blk_simp
  rw [after1_3, emb1_3]
  obtain ⟨r, x, rfl⟩ : ∃ (r : Fin 1024) (x : Fin 128), y = ValueIdx.ix2 r x := ⟨y 0, y 1, by exact idx2_ext rfl rfl⟩
  have hx := x.isLt
  refine (row_value (grid1.coords t) r _ _ _ _ _ _ _ (t.val / 16) (row1 t r).val ?_ fQ fK fD (block_queries m ρ c t r) (block_keys m ρ c t)
    (block_values m ρ c t) x).trans ?_
  · rw [(index1 t).2.2.2.2]; rfl
  · unfold fox
    exact congrArg₂ (fun a b => attention _ _ _ _ a (row1 t r).val b) (show t.val / 16 = (128 * (t.val / 16) + x.val) / 128 by omega)
      (show x.val = (128 * (t.val / 16) + x.val) % 128 by omega)

end Cert.Fox
end
-- ==== Proof.Fox.Ref.lean ====
/-
  The reference's result, read operation by operation: the attention of `Fox.attention`.
-/
module
public import proofs.«01_k».proof.Proof.Fox.Spec
public import proofs.«01_k».proof.Proof.Gen.ReferenceIdeal.Read
public import Idealize.ShloMosaic.Lib.IdealHost
public import Idealize.ShloMosaic.Lib.WordCmp
@[expose] public section
set_option maxRecDepth 16384
noncomputable section
namespace Cert.Fox
open Idealize.ShloMosaic Idealize.ShloMosaic.ValueIdx Finset Cert.ReferenceIdeal Cert.ReferenceIdeal.Gen Cert.ReferenceIdeal.Read Idealize.ShloMosaic.WordCmp

variable (q k v : S1x16384x2048.Idx → EReal) (c : S16384x128.Idx → EReal)

/-- The printed scale. -/
theorem scale_bits : Ideal.ofBits .f32 0x3DB504F3#32 = ((scale : ℝ) : EReal) := by
  unfold scale
  simp [Ideal.ofBits, Ideal.ieee, -EReal.coe_mul]; norm_num

/-- A sequence array at an index. -/
theorem at3_eq (x : S1x16384x2048.Idx → EReal) (i : S1x16384x2048.Idx) (t j : ℕ) (ht : (i 1).val = t) (hj : (i 2).val = j) : x i = at3 x t j := by
  subst ht hj
  unfold at3
  rw [dif_pos ⟨(i 1).isLt, (i 2).isLt⟩]
  refine congrArg x (funext fun a => Fin.ext ?_)
  have h0 : (i 0).val < 1 := (i 0).isLt
  match a with
  | ⟨0, _⟩ => show (i 0).val = 0; omega
  | ⟨1, _⟩ => rfl
  | ⟨2, _⟩ => rfl

/-- The decay array at an index. -/
theorem at2_eq (x : S16384x128.Idx → EReal) (i : S16384x128.Idx) (t j : ℕ) (ht : (i 0).val = t) (hj : (i 1).val = j) : x i = at2 x t j := by
  subst ht hj
  unfold at2
  rw [dif_pos ⟨(i 0).isLt, (i 1).isLt⟩]
  refine congrArg x (funext fun a => Fin.ext ?_)
  match a with
  | ⟨0, _⟩ => rfl
  | ⟨1, _⟩ => rfl

/-- The masked logits. -/
theorem ref_logit (h : Fin 16) (t s : Fin 16384) :
    val_main_v21 (F := Ideal) q k c (ix4 0 h t s) = logit q k c h t s := by
  rw [val_main_v21_apply, val_main_call0_v1_apply, val_main_v20_apply, val_main_v18_apply, val_main_v19_apply, val_main_v16_apply, val_main_v17_apply,
    val_main_v15_apply, val_main_v15_apply, val_main_call0_v2_apply, val_main_call0_v0_apply, val_main_cst_0_apply,
    val_main_v14_apply, val_main_v11_apply, val_main_v13_apply, val_main_v12_apply, val_main_v10_apply, val_main_v9_apply, val_main_v8_apply, val_main_v7_apply, val_main_cst_apply,
    val_main_v6_apply]
  simp only [val_main_v0_apply, val_main_v1_apply, val_main_v5_apply, val_main_v4_apply, val_main_v3_apply]
  rw [cmpi_sle_ofNat (lt_trans (ix4 0 h t s 3).isLt (by decide)) (lt_trans (ix4 0 h t s 2).isLt (by decide))]
  unfold logit
  show Scalar.select (BitVec.ofBool (decide (s.val ≤ t.val))) _ _ = _
  by_cases hst : s.val ≤ t.val
  · rw [if_pos hst, decide_eq_true hst]
    show (∑ x : Fin 128, _ * _) * Ideal.ofBits .f32 0x3DB504F3#32 + _ - _ = _
    rw [scale_bits]
    have hh := h.isLt; have ht := t.isLt; have hs := s.isLt
    refine congrArg₂ (· - ·) (congrArg₂ (· + ·) (congrArg (· * _) (Finset.sum_congr rfl fun x _ => ?_)) ?_) ?_
    · have hx := x.isLt
      refine congrArg₂ (· * ·) (at3_eq _ _ _ _ ?_ ?_) (at3_eq _ _ _ _ ?_ ?_)
      · show (((0 * 16384 + t.val) * 16 + h.val) * 128 + x.val) / 2048 % 16384 = t.val; omega
      · show (((0 * 16384 + t.val) * 16 + h.val) * 128 + x.val) % 2048 = 128 * h.val + x.val; omega
      · show (((0 * 16384 + s.val) * 16 + h.val) * 128 + x.val) / 2048 % 16384 = s.val; omega
      · show (((0 * 16384 + s.val) * 16 + h.val) * 128 + x.val) % 2048 = 128 * h.val + x.val; omega
    · refine at2_eq _ _ _ _ ?_ ?_
      · show ((0 * 16384 + t.val) * 16 + h.val) / 16 = t.val; omega
      · show ((0 * 16384 + t.val) * 16 + h.val) % 16 = h.val; omega
    · refine at2_eq _ _ _ _ ?_ ?_
      · show ((0 * 16384 + s.val) * 16 + h.val) / 16 = s.val; omega
      · show ((0 * 16384 + s.val) * 16 + h.val) % 16 = h.val; omega
  · rw [if_neg hst, decide_eq_false hst]
    exact negInf_bits

/-- A fold of `max` from minus infinity is the supremum. -/
theorem fold_max_sup {n : ℕ} (f : Fin n → EReal) (g : ℕ → EReal) (h : ∀ i : Fin n, f i = g i.val) :
    (Finset.univ : Finset (Fin n)).fold max ⊥ f = top g n := by
  have e := top_add g 0 n
  rw [zero_add, top_zero, max_eq_right bot_le] at e
  rw [e]
  exact Finset.sup_congr rfl fun i _ => (h i).trans (by rw [zero_add])

/-- The row maxima. -/
theorem ref_max (h : Fin 16) (t : Fin 16384) :
    val_main_v24 (F := Ideal) q k c (ix3 0 h t) = top (logit q k c h t) 16384 := by
  rw [val_main_v24_apply, val_main_v23_apply, val_main_cst_2_apply]
  unfold val_main_v22
  rw [Host.reduce_eq_fold_single FloatOps.maximumf _ _ _ (by decide : S1x16x16384x16384.Reduces [3] S1x16x16384) h_S_, val_main_cst_1_apply]
  show max (Ideal.ofBits .f32 0xFF800000#32) (Finset.fold max (Ideal.ofBits .f32 0xFF800000#32) _ _) = _
  rw [negInf_bits, max_eq_right bot_le]
  refine fold_max_sup _ _ fun s => ?_
  refine Eq.trans ?_ (ref_logit q k c h t s)
  refine congrArg (val_main_v21 (F := Ideal) q k c) (funext fun a => Fin.ext ?_)
  match a with
  | ⟨0, _⟩ => rfl
  | ⟨1, _⟩ => rfl
  | ⟨2, _⟩ => rfl
  | ⟨3, _⟩ => rfl

/-- The softmax weights. -/
theorem ref_weight (h : Fin 16) (t s : Fin 16384) :
    val_main_v32 (F := Ideal) q k c (ix4 0 h t s) = Ideal.div (Ideal.exp (logit q k c h t s - top (logit q k c h t) 16384))
      (∑ s' ∈ range 16384, Ideal.exp (logit q k c h t s' - top (logit q k c h t) 16384)) := by
  have hw : ∀ s : Fin 16384, val_main_v28 (F := Ideal) q k c (ix4 0 h t s) = Ideal.exp (logit q k c h t s - top (logit q k c h t) 16384) := by
    intro s
    rw [val_main_v28_apply, val_main_v27_apply, val_main_v26_apply, val_main_v25_apply, ← ref_max, ← ref_logit]
    refine congrArg Ideal.exp (congrArg₂ (fun a b : EReal => a - b) rfl (congrArg (val_main_v24 (F := Ideal) q k c) (funext fun a => Fin.ext ?_)))
    match a with
    | ⟨0, _⟩ => rfl
    | ⟨1, _⟩ => rfl
    | ⟨2, _⟩ => rfl
  rw [val_main_v32_apply, val_main_v31_apply, val_main_v30_apply, val_main_v29_apply, val_main_cst_3_apply, hw]
  show Ideal.div _ (Ideal.ofBits .f32 0x00000000#32 + _) = _
  rw [Ideal.ofBits_zero_f32, zero_add, ← Fin.sum_univ_eq_sum_range (fun s' => Ideal.exp (logit q k c h t s' - top (logit q k c h t) 16384)) 16384]
  refine congrArg (Ideal.div _) (Finset.sum_congr rfl fun s' _ => ?_)
  rw [← hw s']
  refine congrArg (val_main_v28 (F := Ideal) q k c) (funext fun a => Fin.ext ?_)
  match a with
  | ⟨0, _⟩ => rfl
  | ⟨1, _⟩ => rfl
  | ⟨2, _⟩ => rfl
  | ⟨3, _⟩ => rfl

/-- THE REFERENCE'S RESULT. -/
theorem ref_value (h : Fin 16) (t : Fin 16384) (x : Fin 128) (j : Fin 2048) (hj : j.val = 128 * h.val + x.val) :
    val_main_v36 (F := Ideal) q k v c (ix2 t j) = attention q k v c h t x := by
  rw [val_main_v36_apply, val_main_v35_apply, val_main_v34_apply]
  show val_main_v33 (F := Ideal) q k v c _ = _
  rw [val_main_v33_apply]
  unfold attention
  rw [← Fin.sum_univ_eq_sum_range (fun s => at3 v s (128 * h.val + x.val) * Ideal.div (Ideal.exp (logit q k c h t s - top (logit q k c h t) 16384)) (∑ s' ∈ range 16384, Ideal.exp (logit q k c h t s' - top (logit q k c h t) 16384))) 16384]
  have hh := h.isLt; have ht := t.isLt; have hx := x.isLt
  refine Finset.sum_congr rfl fun s _ => ?_
  have hs := s.isLt
  rw [← ref_weight, val_main_v2_apply]
  refine congrArg₂ (· * ·) (at3_eq _ _ _ _ ?_ ?_) (congrArg _ (funext fun a => Fin.ext ?_))
  · show (((0 * 16384 + s.val) * 16 + (t.val * 2048 + j.val) / 128 % 16) * 128 + (t.val * 2048 + j.val) % 128) / 2048 % 16384 = s.val; omega
  · show (((0 * 16384 + s.val) * 16 + (t.val * 2048 + j.val) / 128 % 16) * 128 + (t.val * 2048 + j.val) % 128) % 2048 = 128 * h.val + x.val; omega
  · match a with
    | ⟨0, _⟩ => rfl
    | ⟨1, _⟩ => show (t.val * 2048 + j.val) / 128 % 16 = h.val; omega
    | ⟨2, _⟩ => show (t.val * 2048 + j.val) / 2048 % 16384 = t.val; omega
    | ⟨3, _⟩ => rfl

end Cert.Fox
end
-- ==== Proof.Fox.Main.lean ====
/-
  The value claim: the kernel's result is the reference's, where the queries, the keys and the decays are numbers.
-/
module
public import proofs.«01_k».proof.Defs
public import proofs.«01_k».proof.Proof.Gen.Pre_finite_logits
public import proofs.«01_k».proof.Proof.Gen.ReferenceIdeal.Run
public import proofs.«01_k».proof.Proof.Fox.Value
public import proofs.«01_k».proof.Proof.Fox.Ref
public import Idealize.ShloMosaic.Lib.ReduceAll
@[expose] public section
set_option maxRecDepth 16384
noncomputable section
namespace Cert.Fox
open Idealize.ShloMosaic Idealize.ShloMosaic.TcCoe Idealize.SL.Sem

/-- The pattern of plus infinity. -/
theorem inf_bits : Ideal.ofBits .f32 0x7F800000#32 = ⊤ := by
  simp [Ideal.ofBits, Ideal.ieee]

/-- A number whose magnitude is below infinity. -/
theorem real_of_abs (x : EReal) (h : Ideal.cmp .olt (max x (-x)) ⊤ = 1#1) : ∃ r : ℝ, x = (r : EReal) := by
  induction x with
  | bot => simp [Ideal.cmp] at h
  | top => simp [Ideal.cmp] at h
  | coe r => exact ⟨r, rfl⟩

/-- The precondition says that the queries, the keys and the decays are numbers. -/
theorem finite_of_pre (q k v : Vec Ideal Cert.Pre_finite_logits.S1x16384x2048 .f32) (d : Vec Ideal Cert.Pre_finite_logits.S16384x128 .f32)
    (h : letI := Cert.Pre_finite_logits.Gen.facts; Cert.Pre_finite_logits.fn (F := Ideal) q k v d = fun _ => 1#1) : Finite q ∧ Finite k ∧ Finite d := by
  letI := Cert.Pre_finite_logits.Gen.facts
  have : Subsingleton Cert.Pre_finite_logits.S_.Idx := ⟨fun a b => funext fun i => i.elim0⟩
  have e := congrFun h (fun i => i.elim0)
  obtain ⟨e1, e2⟩ := IntOp.andi_eq_one.mp (show IntOp.andi _ _ = 1#1 from e)
  obtain ⟨e3, e4⟩ := IntOp.andi_eq_one.mp (show IntOp.andi _ _ = 1#1 from e1)
  refine ⟨fun i => ?_, fun i => ?_, fun i => ?_⟩
  · have a := Host.reduce_andi_all _ _ _ _ _ e3 i
    refine real_of_abs _ ?_
    rw [← inf_bits]
    exact a
  · have a := Host.reduce_andi_all _ _ _ _ _ e4 i
    refine real_of_abs _ ?_
    rw [← inf_bits]
    exact a
  · have a := Host.reduce_andi_all _ _ _ _ _ e2 i
    refine real_of_abs _ ?_
    rw [← inf_bits]
    exact a

/-- The reference's result is the attention of its arguments. -/
theorem reference_value (Q K V : Vec Ideal Cert.ReferenceIdeal.S1x16384x2048 .f32) (D : Vec Ideal Cert.ReferenceIdeal.S16384x128 .f32) :
    Cert.ReferenceIdeal.Read.val_main_v36 (F := Ideal) Q K V D = fox Q K V D := funext fun y => by
  obtain ⟨t, j, rfl⟩ : ∃ (t : Fin 16384) (j : Fin 2048), y = ValueIdx.ix2 t j := ⟨y 0, y 1, by exact idx2_ext rfl rfl⟩
  have hj := j.isLt
  exact ref_value Q K V D ⟨j.val / 128, by omega⟩ t ⟨j.val % 128, by omega⟩ j (show j.val = 128 * (j.val / 128) + j.val % 128 by omega)

/-- **The kernel computes what the reference computes**, over the extended reals. -/
theorem algebraic : letI := Cert.KernelIdeal.Gen.facts; letI := Cert.ReferenceIdeal.Gen.facts; letI := Cert.Pre_finite_logits.Gen.facts
    Cert.algebraic_KernelIdeal_ReferenceIdeal_pre_finite_logits := by
  letI := Cert.KernelIdeal.Gen.facts; letI := Cert.ReferenceIdeal.Gen.facts; letI := Cert.Pre_finite_logits.Gen.facts
  intro m g m' g' hpre hargs
  refine ⟨fun c => fox (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · refine (θ_run Cert.KernelIdeal.defs _ _).mono (fun r h c => ?_) (Cert.KernelIdeal.Gen.fox_run (F := Ideal) m g)
    obtain ⟨h0, h1, h2, h3, h4⟩ := h.1 c
    obtain ⟨fQ, fK, fD⟩ := finite_of_pre _ _ _ _ (hpre c)
    exact ⟨h4.trans (kernel_value m g c fQ fK fD), h0, h1, h2, h3⟩
  · refine (θ_run Cert.ReferenceIdeal.defs _ _).mono (fun r h c => ?_) (Cert.ReferenceIdeal.Value.run (F := Ideal) m' g')
    obtain ⟨h4, h0, h1, h2, h3⟩ := h c
    obtain ⟨a0, a1, a2, a3⟩ := hargs c
    refine ⟨h4.trans ((Cert.ReferenceIdeal.Read.val_main_v36_eq m' c).trans ((reference_value _ _ _ _).trans ?_)), h0, h1, h2, h3⟩
    rw [a0, a1, a2, a3]

end Cert.Fox
end
-- ==== Proof.Dense.Common.lean ====
/-
  Lemmas about indices that the projections' proofs share.
-/
module
public import proofs.«01_k».proof.Proof.Fox.PrepVal
public import Idealize.ShloMosaic.Lib.MatmulPlain
public import Idealize.ShloMosaic.Lib.Pipeline.ValueKit
@[expose] public section
noncomputable section
namespace Cert.Dense
open Idealize.ShloMosaic

/-- Two rank-3 indices with the same coordinates. -/
theorem idx3_ext {l n m : ℕ} {a b : Shape.Idx ⟨3, ![l, n, m]⟩} (h0 : (a 0).val = (b 0).val) (h1 : (a 1).val = (b 1).val)
    (h2 : (a 2).val = (b 2).val) : a = b :=
  funext fun i => Fin.ext (match i with | ⟨0, _⟩ => h0 | ⟨1, _⟩ => h1 | ⟨2, _⟩ => h2)

/-- Dropping a leading axis of extent one. -/
theorem squeeze_apply {α : Type} {n m : ℕ} (x : Shape.Idx ⟨3, ![1, n, m]⟩ → α) (h : Shape.ShapeCasts ⟨3, ![1, n, m]⟩ ⟨2, ![n, m]⟩) (t : Fin n) (j : Fin m) :
    shapeCast ⟨2, ![n, m]⟩ x h (ValueIdx.ix2 t j) = x (ValueIdx.ix3 0 t j) := by
  refine shapeCast_apply _ _ _ _ ?_
  rw [Shape.rowMajor_val_two, Shape.rowMajor_val_three]
  show (0 * n + t.val) * m + j.val = t.val * m + j.val
  simp

/-- A row of numbers as an array with one row. -/
theorem unsqueeze_apply {α : Type} {n : ℕ} (x : Shape.Idx ⟨1, ![n]⟩ → α) (h : Shape.ShapeCasts ⟨1, ![n]⟩ ⟨2, ![1, n]⟩) (j : Fin n) :
    shapeCast ⟨2, ![1, n]⟩ x h (ValueIdx.ix2 0 j) = x (ValueIdx.ix1 j) := by
  refine shapeCast_apply _ _ _ _ ?_
  rw [Shape.rowMajor_val_one, Shape.rowMajor_val_two]
  show j.val = 0 * n + j.val
  simp

/-- A matrix product whose accumulator starts at zero, read at an entry. -/
theorem product_apply {M K N : ℕ} (prec : Option ContractPrecision) (a : FVec Ideal ⟨2, ![M, K]⟩ .bf16) (b : FVec Ideal ⟨2, ![K, N]⟩ .bf16) (r : Fin M) (c : Fin N) :
    FloatOps.matmul (F := Ideal) (DotDims.plain M K N) prec a b (constant ⟨2, ![M, N]⟩ .f32 0x00000000#32) (ValueIdx.ix2 r c)
      = ∑ k : Fin K, a (ValueIdx.ix2 r k) * b (ValueIdx.ix2 k c) := by
  refine (Ideal.matmul_plain_apply prec a b _ r c).trans ?_
  show Ideal.ofBits .f32 0x00000000#32 + _ = _
  rw [Ideal.ofBits_zero_f32, zero_add]

/-- The padding's value is zero. -/
theorem zero_fill (φ : FTy) (i : (⟨0, ![]⟩ : Shape).Idx) : (sitofp φ (constantI ⟨0, ![]⟩ 32 0#32) : FVec Ideal ⟨0, ![]⟩ φ) i = 0 := by
  show (((0#32 : BitVec 32).toInt : ℝ) : EReal) = 0
  simp

end Cert.Dense
end
-- ==== Proof.Dense.Silu.lean ====
/-
  The sigmoid-weighted unit: the kernels' form with a hyperbolic tangent, and the reference's with an exponential.
-/
module
public import proofs.«01_k».proof.Proof.Fox.Main
@[expose] public section
noncomputable section
namespace Cert.Dense
open Idealize.ShloMosaic

/-- A number times its logistic function, as the reference spells it. -/
def silu (x : EReal) : EReal := x * Ideal.div 1 (1 + Ideal.exp (-x))

/-- The kernels' form of `silu`, by the hyperbolic tangent of half the argument. -/
def gate (x : EReal) : EReal := Ideal.ofBits .f32 0x3F000000#32 * x + Ideal.ofBits .f32 0x3F000000#32 * x * Ideal.tanh (Ideal.ofBits .f32 0x3F000000#32 * x)

/-- The constant one half. -/
theorem half_bits : Ideal.ofBits .f32 0x3F000000#32 = (((1 : ℝ) / 2 : ℝ) : EReal) := by
  simp [Ideal.ofBits, Ideal.ieee, -EReal.coe_mul]
  norm_num

/-- Half of a number, plus its product with the hyperbolic tangent of that half, is the number's `silu`. -/
theorem silu_half (r : ℝ) : (Ideal.ofBits .f32 0x3F000000#32 * (r : EReal) + Ideal.ofBits .f32 0x3F000000#32 * (r : EReal) * Ideal.tanh (Ideal.ofBits .f32 0x3F000000#32 * (r : EReal)))
    = silu (r : EReal) := by
  have hp : (0 : ℝ) < 1 + Real.exp (-r) := by positivity
  unfold silu
  rw [half_bits, ← EReal.coe_mul, Ideal.tanh_coe, ← EReal.coe_neg, Ideal.exp_coe, ← EReal.coe_one, ← EReal.coe_add, Ideal.div_coe hp.ne', ← EReal.coe_mul, ← EReal.coe_add,
    ← EReal.coe_mul, ← EReal.coe_mul, EReal.coe_eq_coe_iff, Real.tanh_eq_sinh_div_cosh, Real.sinh_eq, Real.cosh_eq]
  have ea : Real.exp (1 / 2 * r) * Real.exp (-(1 / 2 * r)) = 1 := by rw [← Real.exp_add]; simp
  have eb : Real.exp (-r) = Real.exp (-(1 / 2 * r)) * Real.exp (-(1 / 2 * r)) := by rw [← Real.exp_add]; congr 1; ring
  rw [eb]
  have h1 := Real.exp_pos (1 / 2 * r)
  have h2 := Real.exp_pos (-(1 / 2 * r))
  generalize Real.exp (1 / 2 * r) = a at *
  generalize Real.exp (-(1 / 2 * r)) = b at *
  have h3 : a + b ≠ 0 := by positivity
  have h4 : 1 + b * b ≠ 0 := by positivity
  field_simp
  linear_combination 2 * r * b * ea

/-- A sum of products of numbers is a number. -/
theorem sum_mul_real {ι : Type} (A : Finset ι) (f g : ι → EReal) (hf : ∀ i, ∃ r : ℝ, f i = (r : EReal)) (hg : ∀ i, ∃ r : ℝ, g i = (r : EReal)) :
    ∃ r : ℝ, ∑ i ∈ A, f i * g i = (r : EReal) := by
  choose a ha using hf
  choose b hb using hg
  refine ⟨∑ i ∈ A, a i * b i, ?_⟩
  rw [Fox.coe_sum]
  exact Finset.sum_congr rfl fun i _ => by rw [ha, hb, EReal.coe_mul]

end Cert.Dense
end
-- ==== Proof.Dense.GateUp.lean ====
/-
  The gated hidden layer of the feed-forward block.
-/
module
public import proofs.«01_k».proof.Defs
public import proofs.«01_k».proof.Proof.Gen.Kernel2Ideal.Value
public import proofs.«01_k».proof.Proof.Gen.Reference2Ideal.Read
public import proofs.«01_k».proof.Proof.Gen.Pre_finite_gate
public import proofs.«01_k».proof.Proof.Dense.Common
public import proofs.«01_k».proof.Proof.Dense.Silu
public import Idealize.ShloMosaic.Lib.StableHlo.Run
public import Idealize.ShloMosaic.Lib.KernelVsHost
@[expose] public section
set_option maxRecDepth 16384
noncomputable section
namespace Cert.GateUp
open Idealize.ShloMosaic Idealize.ShloMosaic.TcCoe Idealize.SL.Sem Cert.Kernel2Ideal Cert.Kernel2Ideal.Gen Cert.Dense Cert.Fox

/-- A row times a column of the first layer's weights. -/
def proj (h : (⟨3, ![1, 16384, 4096]⟩ : Shape).Idx → EReal) (w : (⟨3, ![2, 4096, 11008]⟩ : Shape).Idx → EReal) (t : Fin 16384) (j : Fin 11008) : EReal :=
  ∑ k : Fin 4096, h (ValueIdx.ix3 0 t k) * w (ValueIdx.ix3 0 k j)

/-- The hidden layer: the gate's `silu` times the other projection, and zero in the columns past the weights' own. -/
def hidden (h : (⟨3, ![1, 16384, 4096]⟩ : Shape).Idx → EReal) (wg wu : (⟨3, ![2, 4096, 11008]⟩ : Shape).Idx → EReal) : Vec Ideal S16384x11264 .bf16 := fun i =>
  if hj : (i 1).val < 11008 then silu (proj h wg (i 0) ⟨(i 1).val, hj⟩) * proj h wu (i 0) ⟨(i 1).val, hj⟩ else 0

/-- The block stored at a point, from the blocks read. -/
theorem pay_apply (h : Vec Ideal S1024x4096 .bf16) (wg wu : Vec Ideal S1x4096x512 .bf16) (r : Fin 1024) (c : Fin 512) :
    k0_pay1 h wg wu (ValueIdx.ix2 r c) = gate (∑ k : Fin 4096, h (ValueIdx.ix2 r k) * wg (ValueIdx.ix3 0 k c)) * ∑ k : Fin 4096, h (ValueIdx.ix2 r k) * wu (ValueIdx.ix3 0 k c) := by
  have e (w : Vec Ideal S1x4096x512 .bf16) : FloatOps.matmul (F := Ideal) (DotDims.plain 1024 4096 512) none (shapeCast S1024x4096 h shapeCasts_S1024x4096_S1024x4096 : FVec Ideal S1024x4096 .bf16)
      (shapeCast S4096x512 w shapeCasts_S1x4096x512_S4096x512 : FVec Ideal S4096x512 .bf16) (constant ⟨2, ![1024, 512]⟩ .f32 0x00000000#32) (ValueIdx.ix2 r c)
      = ∑ k : Fin 4096, h (ValueIdx.ix2 r k) * w (ValueIdx.ix3 0 k c) :=
    (product_apply ..).trans (Finset.sum_congr rfl fun k _ => congrArg₂ (· * ·) (congrFun (shapeCast_self _ _) _) (squeeze_apply ..))
  rw [← e wg, ← e wu]
  rfl

/-- Which block of each array the call works on at each point. -/
theorem index0 : ∀ t : Fin cfg0.N, (cfg0.win 0).index t = ![t.val / 22, 0] ∧ (cfg0.win 1).index t = ![0, 0, t.val % 22]
    ∧ (cfg0.win 2).index t = ![0, 0, t.val % 22] ∧ (cfg0.win 3).index t = ![t.val / 22, t.val % 22] := by
  decide +kernel

/-- Row `r` of the block of point `t`. -/
def row (t : Fin cfg0.N) (r : Fin 1024) : Fin 16384 := ⟨1024 * (t.val / 22) + r.val, by have h : t.val < 352 := t.isLt; have := r.isLt; omega⟩
/-- Column `c` of the block of point `t`. -/
def col (t : Fin cfg0.N) (c : Fin 512) : Fin 11264 := ⟨512 * (t.val % 22) + c.val, by have := c.isLt; omega⟩

/-- An element of a block of the rows. -/
theorem emb_0 (t : Fin cfg0.N) (y : S1024x4096.Idx) : (win0_0.blk t).view.emb y = ValueIdx.ix2 (row t (y 0)) (y 1) := by
  have e := (index0 t).1
  refine idx2_ext ?_ ?_ <;> blk_simp [e]
  show t.val / 22 * 1024 + (y 0).val = 1024 * (t.val / 22) + (y 0).val
  omega

/-- An element of a block of the gate's weights. -/
theorem emb_1 (t : Fin cfg0.N) (y : S1x4096x512.Idx) : (win0_1.blk t).view.emb y = ValueIdx.ix3 0 (y 1) (col t (y 2)) := by
  have e := (index0 t).2.1
  refine idx3_ext ?_ ?_ ?_ <;> blk_simp [e]
  · rfl
  · show t.val % 22 * 512 + (y 2).val = 512 * (t.val % 22) + (y 2).val
    omega

/-- An element of a block of the other weights. -/
theorem emb_2 (t : Fin cfg0.N) (y : S1x4096x512.Idx) : (win0_2.blk t).view.emb y = ValueIdx.ix3 0 (y 1) (col t (y 2)) := by
  have e := (index0 t).2.2.1
  refine idx3_ext ?_ ?_ ?_ <;> blk_simp [e]
  · rfl
  · show t.val % 22 * 512 + (y 2).val = 512 * (t.val % 22) + (y 2).val
    omega

/-- An element of a block of the result. -/
theorem emb_3 (t : Fin cfg0.N) (y : S1024x512.Idx) : (win0_3.blk t).view.emb y = ValueIdx.ix2 (row t (y 0)) (col t (y 1)) := by
  have e := (index0 t).2.2.2
  refine idx2_ext ?_ ?_ <;> blk_simp [e]
  · show t.val / 22 * 1024 + (y 0).val = 1024 * (t.val / 22) + (y 0).val
    omega
  · show t.val % 22 * 512 + (y 1).val = 512 * (t.val % 22) + (y 1).val
    omega

/-- The first layer's padded weights, read: zero past the weights' own columns. -/
def wide (w : (⟨3, ![2, 4096, 11008]⟩ : Shape).Idx → EReal) (k : Fin 4096) (j : Fin 11264) : EReal :=
  if hj : j.val < 11008 then w (ValueIdx.ix3 0 k ⟨j.val, hj⟩) else 0

/-- A padded array of weights at an element. -/
theorem pad_read (w : Vec Ideal S2x4096x11008 .bf16) (k : Fin 4096) (j : Fin 11264) :
    pad S2x4096x11264 ![0, 0, 0] ![0, 0, 256] ![0, 0, 0] w (sitofp (F := Ideal) .bf16 (constantI S_ 32 0#32)) pads_S2x4096x11008_S2x4096x11264_000_000_02560 h_S_ (ValueIdx.ix3 0 k j)
      = wide w k j := by
  unfold wide
  split
  · next hj => exact pad_apply_of_inside _ _ _ _ _ _ _ _ (ValueIdx.ix3 0 k ⟨j.val, hj⟩) (fun a => match a with
      | ⟨0, _⟩ => rfl
      | ⟨1, _⟩ => show k.val = 0 + k.val * (0 + 1) by omega
      | ⟨2, _⟩ => show j.val = 0 + j.val * (0 + 1) by omega)
  · next hj =>
    refine (pad_apply_of_not_inside _ _ _ _ _ _ _ _ (2 : Fin 3) ?_).trans (zero_fill ..)
    rintro ⟨-, -, e⟩
    exact hj (by simpa using (show (j.val - 0) / (0 + 1) < 11008 from e))

variable (m : (ℓ : Loc nD τ sig) → Buf (Elt Ideal) ℓ) (c : Dev nD)

/-- The rows, from the argument. -/
theorem rows_eq : V m c main_v5 = truncf (F := Ideal) (s := S16384x4096) (φ := .f32) .bf16 (shapeCast S16384x4096 (m ((c : Thread nD τ).loc main_arg0) : Vec Ideal S1x16384x4096 .f32)
    shapeCasts_S1x16384x4096_S16384x4096) bitsLt_bf16_f32 := by
  show StableHlo.after (List.flatten [hostOps0, hostOps0_1, hostOps0_2, hostOps0_3, hostOps0_4]) (fun b => m (c, b)) (Proc.devRef .tc main_v5) = _
  simp only [hostOps0, hostOps0_1, hostOps0_2, hostOps0_3, hostOps0_4, List.flatten_cons, List.flatten_nil, List.append_nil, List.cons_append, List.nil_append]
  after_results
  rfl

/-- The gate's weights, from the argument. -/
theorem gate_eq : V m c main_v1 = pad S2x4096x11264 ![0, 0, 0] ![0, 0, 256] ![0, 0, 0] (truncf (F := Ideal) (s := S2x4096x11008) (φ := .f32) .bf16 (m ((c : Thread nD τ).loc main_arg1)) bitsLt_bf16_f32)
    (sitofp (F := Ideal) .bf16 (constantI S_ 32 0#32)) pads_S2x4096x11008_S2x4096x11264_000_000_02560 h_S_ := by
  show StableHlo.after (List.flatten [hostOps0, hostOps0_1, hostOps0_2, hostOps0_3, hostOps0_4]) (fun b => m (c, b)) (Proc.devRef .tc main_v1) = _
  simp only [hostOps0, hostOps0_1, hostOps0_2, hostOps0_3, hostOps0_4, List.flatten_cons, List.flatten_nil, List.append_nil, List.cons_append, List.nil_append]
  after_results
  rfl

/-- The other weights, from the argument. -/
theorem up_eq : V m c main_v3 = pad S2x4096x11264 ![0, 0, 0] ![0, 0, 256] ![0, 0, 0] (truncf (F := Ideal) (s := S2x4096x11008) (φ := .f32) .bf16 (m ((c : Thread nD τ).loc main_arg2)) bitsLt_bf16_f32)
    (sitofp (F := Ideal) .bf16 (constantI S_ 32 0#32)) pads_S2x4096x11008_S2x4096x11264_000_000_02560 h_S_ := by
  show StableHlo.after (List.flatten [hostOps0, hostOps0_1, hostOps0_2, hostOps0_3, hostOps0_4]) (fun b => m (c, b)) (Proc.devRef .tc main_v3) = _
  simp only [hostOps0, hostOps0_1, hostOps0_2, hostOps0_3, hostOps0_4, List.flatten_cons, List.flatten_nil, List.append_nil, List.cons_append, List.nil_append]
  after_results
  rfl

/-- The kernel's formula at an element is the hidden layer. -/
theorem hidden_wide (h : (⟨3, ![1, 16384, 4096]⟩ : Shape).Idx → EReal) (wg wu : (⟨3, ![2, 4096, 11008]⟩ : Shape).Idx → EReal) (fh : Finite h) (fg : Finite wg)
    (t : Fin 16384) (j : Fin 11264) :
    gate (∑ k : Fin 4096, h (ValueIdx.ix3 0 t k) * wide wg k j) * ∑ k : Fin 4096, h (ValueIdx.ix3 0 t k) * wide wu k j = hidden h wg wu (ValueIdx.ix2 t j) := by
  unfold hidden wide
  by_cases hj : j.val < 11008
  · simp only [dif_pos hj]
    obtain ⟨r, e⟩ := sum_mul_real Finset.univ (fun k : Fin 4096 => h (ValueIdx.ix3 0 t k)) (fun k => wg (ValueIdx.ix3 0 k ⟨j.val, hj⟩)) (fun _ => fh _) (fun _ => fg _)
    refine congrArg₂ (· * ·) ?_ rfl
    show gate _ = silu (∑ k : Fin 4096, h (ValueIdx.ix3 0 t k) * wg (ValueIdx.ix3 0 k ⟨j.val, hj⟩))
    rw [e]
    exact silu_half r
  · simp only [dif_neg hj]
    rw [show (∑ k : Fin 4096, h (ValueIdx.ix3 0 t k) * (0 : EReal)) = 0 by simp, mul_zero]

/-- **The kernel's result.** -/
theorem kernel_value (fh : Finite (m ((c : Thread nD τ).loc main_arg0) : Vec Ideal S1x16384x4096 .f32)) (fg : Finite (m ((c : Thread nD τ).loc main_arg1) : Vec Ideal S2x4096x11008 .f32)) :
    (dats m 0 c).arrAt 3 cfg0.N = hidden (m ((c : Thread nD τ).loc main_arg0)) (m ((c : Thread nD τ).loc main_arg1)) (m ((c : Thread nD τ).loc main_arg2)) := by
  refine Pipeline.Dat.arrAt_eq_of_covers (dats m 0 c) 3 _ (by decide +kernel) fun t hf y => ?_
  blk_simp
  rw [after0_3, emb_3]
  obtain ⟨r, j, rfl⟩ : ∃ (r : Fin 1024) (j : Fin 512), y = ValueIdx.ix2 r j := ⟨y 0, y 1, by exact idx2_ext rfl rfl⟩
  unfold out0_3
  rw [View.canon_cons_unit_lit _ _ _ (by decide), View.ld_unit_lit _ _ (by decide), View.ld_unit_lit _ _ (by decide), View.ld_unit_lit _ _ (by decide)]
  have e0 (k : Fin 4096) : iblk m c 0 t (ValueIdx.ix2 r k) = (m ((c : Thread nD τ).loc main_arg0) : Vec Ideal S1x16384x4096 .f32) (ValueIdx.ix3 0 (row t r) k) :=
    (View.read_apply ..).trans ((congrArg (V m c main_v5) (emb_0 t _)).trans ((congrFun (rows_eq m c) _).trans (squeeze_apply ..)))
  have e1 (k : Fin 4096) : iblk m c 1 t (ValueIdx.ix3 0 k j) = wide (m ((c : Thread nD τ).loc main_arg1)) k (col t j) :=
    (View.read_apply ..).trans ((congrArg (V m c main_v1) (emb_1 t _)).trans ((congrFun (gate_eq m c) _).trans (pad_read ..)))
  have e2 (k : Fin 4096) : iblk m c 2 t (ValueIdx.ix3 0 k j) = wide (m ((c : Thread nD τ).loc main_arg2)) k (col t j) :=
    (View.read_apply ..).trans ((congrArg (V m c main_v3) (emb_2 t _)).trans ((congrFun (up_eq m c) _).trans (pad_read ..)))
  refine (pay_apply ..).trans (Eq.trans ?_ (hidden_wide _ _ _ fh fg (row t r) (col t j)))
  exact congrArg₂ (· * ·) (congrArg gate (Finset.sum_congr rfl fun k _ => congrArg₂ (· * ·) (e0 k) (e1 k))) (Finset.sum_congr rfl fun k _ => congrArg₂ (· * ·) (e0 k) (e2 k))

/-- The reference's gate projection at an element. -/
theorem reference_gate (h : Vec Ideal Cert.Reference2Ideal.S1x16384x4096 .f32) (w : Vec Ideal Cert.Reference2Ideal.S2x4096x11008 .f32) (t : Fin 16384) (j : Fin 11008) :
    Cert.Reference2Ideal.Read.val_main_v3 (F := Ideal) h w (ValueIdx.ix2 t j) = proj h w t j := by
  have ht := t.isLt
  have hj := j.isLt
  rw [Cert.Reference2Ideal.Read.val_main_v3_apply]
  refine Finset.sum_congr rfl fun k _ => ?_
  have hk := k.isLt
  rw [Cert.Reference2Ideal.Read.val_main_v0_apply, Cert.Reference2Ideal.Read.val_main_v2_apply, Cert.Reference2Ideal.Read.val_main_v1_apply]
  exact congrArg₂ (· * ·)
    (congrArg h (idx3_ext rfl (show (t.val * 4096 + k.val) / 4096 % 16384 = t.val by omega) (show (t.val * 4096 + k.val) % 4096 = k.val by omega)))
    (congrArg w (idx3_ext rfl (show (k.val * 11008 + j.val) / 11008 % 4096 = k.val by omega) (show (k.val * 11008 + j.val) % 11008 = j.val by omega)))

/-- The reference's other projection is the same operations on the other weights. -/
theorem reference_up (h : Vec Ideal Cert.Reference2Ideal.S1x16384x4096 .f32) (w : Vec Ideal Cert.Reference2Ideal.S2x4096x11008 .f32) :
    Cert.Reference2Ideal.Read.val_main_v7 (F := Ideal) h w = Cert.Reference2Ideal.Read.val_main_v3 (F := Ideal) h w := rfl

/-- The reference's product of the two at an element. -/
theorem reference_hidden (h : Vec Ideal Cert.Reference2Ideal.S1x16384x4096 .f32) (wg wu : Vec Ideal Cert.Reference2Ideal.S2x4096x11008 .f32) (t : Fin 16384) (j : Fin 11008) :
    Cert.Reference2Ideal.Read.val_main_v8 (F := Ideal) h wg wu (ValueIdx.ix2 t j) = silu (proj h wg t j) * proj h wu t j := by
  rw [Cert.Reference2Ideal.Read.val_main_v8_apply, Cert.Reference2Ideal.Read.val_main_v4_apply, Cert.Reference2Ideal.Read.val_main_call0_v5_apply, Cert.Reference2Ideal.Read.val_main_call0_v4_apply,
    Cert.Reference2Ideal.Read.val_main_call0_v3_apply, Cert.Reference2Ideal.Read.val_main_call0_v2_apply, Cert.Reference2Ideal.Read.val_main_call0_v1_apply,
    Cert.Reference2Ideal.Read.val_main_call0_v0_apply, reference_up, reference_gate, reference_gate]
  show proj h wg t j * Ideal.div (Ideal.ofBits .f32 0x3F800000#32) (Ideal.ofBits .f32 0x3F800000#32 + Ideal.exp (-proj h wg t j)) * proj h wu t j = _
  rw [Ideal.ofBits_one_f32]
  rfl

/-- **The reference's result.** -/
theorem reference_value (h : Vec Ideal Cert.Reference2Ideal.S1x16384x4096 .f32) (wg wu : Vec Ideal Cert.Reference2Ideal.S2x4096x11008 .f32) :
    Cert.Reference2Ideal.Read.val_main_v10 (F := Ideal) h wg wu = hidden h wg wu := funext fun i => by
  obtain ⟨t, j, rfl⟩ : ∃ (t : Fin 16384) (j : Fin 11264), i = ValueIdx.ix2 t j := ⟨i 0, i 1, by exact idx2_ext rfl rfl⟩
  rw [Cert.Reference2Ideal.Read.val_main_v10_apply]
  show Cert.Reference2Ideal.Read.val_main_v9 (F := Ideal) h wg wu (ValueIdx.ix2 t j) = _
  unfold hidden Cert.Reference2Ideal.Read.val_main_v9
  split
  · next hj =>
    refine Eq.trans (pad_apply_of_inside _ _ _ _ _ _ _ _ (ValueIdx.ix2 t ⟨j.val, hj⟩ : Cert.Reference2Ideal.S16384x11008.Idx) (fun a => match a with
      | ⟨0, _⟩ => show t.val = 0 + t.val * (0 + 1) by omega
      | ⟨1, _⟩ => show j.val = 0 + j.val * (0 + 1) by omega)) (reference_hidden ..)
  · next hj =>
    refine (pad_apply_of_not_inside _ _ _ _ _ _ _ _ (1 : Fin 2) ?_).trans (zero_fill ..)
    rintro ⟨-, -, e⟩
    exact hj (by simpa using (show (j.val - 0) / (0 + 1) < 11008 from e))

/-- The precondition says that the rows and the gate's weights are numbers. -/
theorem finite_of_pre (h : Vec Ideal Cert.Pre_finite_gate.S1x16384x4096 .f32) (wg wu : Vec Ideal Cert.Pre_finite_gate.S2x4096x11008 .f32)
    (hp : letI := Cert.Pre_finite_gate.Gen.facts; Cert.Pre_finite_gate.fn (F := Ideal) h wg wu = fun _ => 1#1) : Finite h ∧ Finite wg := by
  letI := Cert.Pre_finite_gate.Gen.facts
  have : Subsingleton Cert.Pre_finite_gate.S_.Idx := ⟨fun a b => funext fun i => i.elim0⟩
  have e := congrFun hp (fun i => i.elim0)
  obtain ⟨e1, e2⟩ := IntOp.andi_eq_one.mp (show IntOp.andi _ _ = 1#1 from e)
  refine ⟨fun i => ?_, fun i => ?_⟩
  · have a := Host.reduce_andi_all _ _ _ _ _ e1 i
    refine real_of_abs _ ?_
    rw [← inf_bits]
    exact a
  · have a := Host.reduce_andi_all _ _ _ _ _ e2 i
    refine real_of_abs _ ?_
    rw [← inf_bits]
    exact a

/-- **The kernel computes what the reference computes**, over the extended reals. -/
theorem algebraic : letI := Cert.Kernel2Ideal.Gen.facts; letI := Cert.Reference2Ideal.Gen.facts; letI := Cert.Pre_finite_gate.Gen.facts
    Cert.algebraic_Kernel2Ideal_Reference2Ideal_pre_finite_gate := by
  letI := Cert.Kernel2Ideal.Gen.facts; letI := Cert.Reference2Ideal.Gen.facts; letI := Cert.Pre_finite_gate.Gen.facts
  intro m g m' g' hpre hargs
  refine ⟨fun c => hidden (m ((c.tc : Thread nD τ).loc main_arg0)) (m ((c.tc : Thread nD τ).loc main_arg1)) (m ((c.tc : Thread nD τ).loc main_arg2)), ?_, ?_⟩
  · refine (θ_run Cert.Kernel2Ideal.defs _ _).mono (fun r h c => ?_) (Cert.Kernel2Ideal.Value.run_blocks (F := Ideal) m g)
    obtain ⟨h4, h⟩ := h c
    obtain ⟨fh, fg⟩ := finite_of_pre _ _ _ (hpre c)
    exact ⟨h4.trans (kernel_value m c fh fg), h⟩
  · refine (θ_run Cert.Reference2Ideal.defs _ _).mono (fun r h c => ?_) (Cert.Reference2Ideal.Value.run (F := Ideal) m' g')
    obtain ⟨h4, h⟩ := h c
    obtain ⟨a0, a1, a2⟩ := hargs c
    refine ⟨h4.trans ((Cert.Reference2Ideal.Read.val_main_v10_eq _ _ _).trans ((reference_value _ _ _).trans ?_)), h⟩
    rw [a0, a1, a2]

end Cert.GateUp
end
-- ==== Proof.Dense.Down.lean ====
/-
  The feed-forward block's second product, accumulated over four tiles of the hidden axis.
-/
module
public import proofs.«01_k».proof.Defs
public import proofs.«01_k».proof.Proof.Gen.Kernel3Ideal.Value
public import proofs.«01_k».proof.Proof.Gen.Reference3Ideal.Read
public import proofs.«01_k».proof.Proof.Dense.Common
public import Idealize.ShloMosaic.Lib.StableHlo.Run
public import Idealize.ShloMosaic.Lib.KernelVsHost
@[expose] public section
set_option maxRecDepth 16384
noncomputable section
namespace Cert.Down
open Idealize.ShloMosaic Idealize.ShloMosaic.TcCoe Idealize.SL.Sem Cert.Kernel3Ideal Cert.Kernel3Ideal.Gen Cert.Dense Cert.Fox

/-- A hidden row times a column of the first layer's weights. -/
def prod (a : (⟨3, ![1, 16384, 11008]⟩ : Shape).Idx → EReal) (w : (⟨3, ![2, 11008, 4096]⟩ : Shape).Idx → EReal) (t : Fin 16384) (j : Fin 4096) : EReal :=
  ∑ k : Fin 11008, a (ValueIdx.ix3 0 t k) * w (ValueIdx.ix3 0 k j)

/-- The rows `x` plus the product of the hidden rows `a` with the first layer's weights `w`. -/
def down (a : (⟨3, ![1, 16384, 11008]⟩ : Shape).Idx → EReal) (w : (⟨3, ![2, 11008, 4096]⟩ : Shape).Idx → EReal)
    (x : (⟨3, ![1, 16384, 4096]⟩ : Shape).Idx → EReal) : Vec Ideal S16384x4096 .f32 := fun i =>
  x (ValueIdx.ix3 0 (i 0) (i 1)) + prod a w (i 0) (i 1)

/-- One tile's part of the product. -/
def part (a : Vec Ideal S1024x2816 .bf16) (w : Vec Ideal S1x2816x1024 .bf16) (i : S1024x1024.Idx) : EReal :=
  ∑ k : Fin 2816, a (ValueIdx.ix2 (i 0) k) * w (ValueIdx.ix3 0 k (i 1))

/-- The zero block. -/
theorem pay1_apply (i : S1024x1024.Idx) : k0_pay1 (F := Ideal) i = 0 := by
  unfold k0_pay1
  refine (congrFun (shapeCast_self _ _) _).trans ?_
  exact Ideal.ofBits_zero_f32

/-- The accumulator after a point: the tile's part, added to what it held except at a tile row's first point. -/
theorem pay2_apply (p : grid0.Coords) (acc : Vec Ideal S1024x1024 .f32) (a : Vec Ideal S1024x2816 .bf16) (w : Vec Ideal S1x2816x1024 .bf16) (i : S1024x1024.Idx) :
    k0_pay2 p acc a w i = (if (p 2).val = 0 then 0 else acc i) + part a w i := by
  obtain ⟨r, c, rfl⟩ : ∃ (r : Fin 1024) (c : Fin 1024), i = ValueIdx.ix2 r c := ⟨i 0, i 1, by exact idx2_ext rfl rfl⟩
  have e : FloatOps.matmul (F := Ideal) (DotDims.plain 1024 2816 1024) none (shapeCast S1024x2816 a shapeCasts_S1024x2816_S1024x2816 : FVec Ideal S1024x2816 .bf16)
      (shapeCast S2816x1024 w shapeCasts_S1x2816x1024_S2816x1024 : FVec Ideal S2816x1024 .bf16) (constant ⟨2, ![1024, 1024]⟩ .f32 0x00000000#32) (ValueIdx.ix2 r c)
      = part a w (ValueIdx.ix2 r c) :=
    (product_apply ..).trans (Finset.sum_congr rfl fun k _ => congrArg₂ (· * ·) (congrFun (shapeCast_self _ _) _) (squeeze_apply ..))
  have hp : (p 2).val < 4 := (p 2).isLt
  unfold k0_pay2
  refine congrArg₂ (· + ·) ?_ e
  show Scalar.select (Scalar.cmpi .eq (BitVec.ofNat 32 (p 2).val) 0#32) (broadcast S1024x1024 (Ideal.ofBits .f32 0x00000000#32)) acc (ValueIdx.ix2 r c) = _
  rw [Ideal.ofBits_zero_f32]
  generalize (p 2).val = n at *
  interval_cases n <;> rfl

/-- The place of a point along the reduction. -/
theorem coords_two : ∀ t : Fin cfg0.N, (grid0.coords t 2).val = t.val % 4 := by
  decide +kernel

variable (m : (ℓ : Loc nD τ sig) → Buf (Elt Ideal) ℓ) (c : Dev nD)

/-- At a run's first point the accumulator becomes the tile's part. -/
theorem acc_first (t : Fin cfg0.N) (h : t.val % 4 = 0) (i : S1024x1024.Idx) :
    (outsAt0 m c t.val t.isLt).2 i = (fun _ => (0 : EReal)) i + part (iblk m c 0 t) (iblk m c 1 t) i := by
  by_cases h0 : t.val % 256 = 0
  · rw [outsAt0_A m c t h0]
    frame_out
    unfold k0_pay3
    refine (congrFun (shapeCast_self _ _) _).trans ((pay2_apply ..).trans ?_)
    rw [coords_two, if_pos h]
  · rw [outsAt0_B m c t h0]
    frame_out
    unfold k0_pay3
    refine (congrFun (shapeCast_self _ _) _).trans ((pay2_apply ..).trans ?_)
    rw [coords_two, if_pos h]

/-- At the other points the tile's part is added to the accumulator. -/
theorem acc_next (t : Fin cfg0.N) (h : ¬t.val % 4 = 0) (i : S1024x1024.Idx) :
    (outsAt0 m c t.val t.isLt).2 i = (outsAt0 m c (t.val - 1) (Nat.lt_of_le_of_lt (Nat.sub_le _ _) t.isLt)).2 i + part (iblk m c 0 t) (iblk m c 1 t) i := by
  have h0 : ¬t.val % 256 = 0 := by omega
  rw [outsAt0_B m c t h0]
  frame_out
  unfold k0_pay3
  refine (congrFun (shapeCast_self _ _) _).trans ((pay2_apply ..).trans ?_)
  rw [coords_two, if_neg h]
  exact congrArg₂ (· + ·) (congrFun ((Memref.isWhole_whole cc0_scratch0).read_unread _) i) rfl

/-- The block stored at a point is the rows added, plus the accumulator. -/
theorem out_eq (t : Fin cfg0.N) (i : S1024x1024.Idx) :
    (outsAt0 m c t.val t.isLt).1 i = addf (F := Ideal) (s := S1024x1024) (φ := .f32) (iblk m c 2 t) (outsAt0 m c t.val t.isLt).2 i := by
  by_cases h0 : t.val % 256 = 0
  · rw [outsAt0_A m c t h0]
    frame_out
    unfold k0_pay4 k0_pay3
    rw [shapeCast_self, shapeCast_self]
  · rw [outsAt0_B m c t h0]
    frame_out
    unfold k0_pay4 k0_pay3
    rw [shapeCast_self, shapeCast_self]

/-- Which block of each array the call works on at each point. -/
theorem index0 : ∀ t : Fin cfg0.N, (cfg0.win 0).index t = ![t.val / 16, t.val % 4] ∧ (cfg0.win 1).index t = ![0, t.val % 4, t.val / 4 % 4]
    ∧ (cfg0.win 2).index t = ![t.val / 16, t.val / 4 % 4] ∧ (cfg0.win 3).index t = ![t.val / 16, t.val / 4 % 4] := by
  decide +kernel

/-- Row `r` of the block of point `t`. -/
def row (t : Fin cfg0.N) (r : Fin 1024) : Fin 16384 := ⟨1024 * (t.val / 16) + r.val, by have h : t.val < 256 := t.isLt; have := r.isLt; omega⟩
/-- Column `c` of the block of point `t`. -/
def col (t : Fin cfg0.N) (c : Fin 1024) : Fin 4096 := ⟨1024 * (t.val / 4 % 4) + c.val, by have := c.isLt; omega⟩
/-- Hidden column `k` of the tile of point `t`. -/
def mid (t : Fin cfg0.N) (k : Fin 2816) : Fin 11264 := ⟨t.val % 4 * 2816 + k.val, by have := k.isLt; omega⟩

/-- An element of a block of the hidden rows. -/
theorem emb_0 (t : Fin cfg0.N) (y : S1024x2816.Idx) : (win0_0.blk t).view.emb y = ValueIdx.ix2 (row t (y 0)) (mid t (y 1)) := by
  have e := (index0 t).1
  refine idx2_ext ?_ ?_ <;> blk_simp [e]
  · show t.val / 16 * 1024 + (y 0).val = 1024 * (t.val / 16) + (y 0).val
    omega
  · rfl

/-- An element of a block of the weights. -/
theorem emb_1 (t : Fin cfg0.N) (y : S1x2816x1024.Idx) : (win0_1.blk t).view.emb y = ValueIdx.ix3 0 (mid t (y 1)) (col t (y 2)) := by
  have e := (index0 t).2.1
  refine idx3_ext ?_ ?_ ?_ <;> blk_simp [e]
  · rfl
  · rfl
  · show t.val / 4 % 4 * 1024 + (y 2).val = 1024 * (t.val / 4 % 4) + (y 2).val
    omega

/-- An element of a block of the rows added. -/
theorem emb_2 (t : Fin cfg0.N) (y : S1024x1024.Idx) : (win0_2.blk t).view.emb y = ValueIdx.ix2 (row t (y 0)) (col t (y 1)) := by
  have e := (index0 t).2.2.1
  refine idx2_ext ?_ ?_ <;> blk_simp [e]
  · show t.val / 16 * 1024 + (y 0).val = 1024 * (t.val / 16) + (y 0).val
    omega
  · show t.val / 4 % 4 * 1024 + (y 1).val = 1024 * (t.val / 4 % 4) + (y 1).val
    omega

/-- An element of a block of the result. -/
theorem emb_3 (t : Fin cfg0.N) (y : S1024x1024.Idx) : (win0_3.blk t).view.emb y = ValueIdx.ix2 (row t (y 0)) (col t (y 1)) := by
  have e := (index0 t).2.2.2
  refine idx2_ext ?_ ?_ <;> blk_simp [e]
  · show t.val / 16 * 1024 + (y 0).val = 1024 * (t.val / 16) + (y 0).val
    omega
  · show t.val / 4 % 4 * 1024 + (y 1).val = 1024 * (t.val / 4 % 4) + (y 1).val
    omega

/-- The padded hidden rows, read: zero past the weights' own columns. -/
def wideA (a : (⟨3, ![1, 16384, 11008]⟩ : Shape).Idx → EReal) (t : Fin 16384) (k : Fin 11264) : EReal :=
  if hk : k.val < 11008 then a (ValueIdx.ix3 0 t ⟨k.val, hk⟩) else 0
/-- The first layer's padded weights, read: zero past the weights' own rows. -/
def wideW (w : (⟨3, ![2, 11008, 4096]⟩ : Shape).Idx → EReal) (k : Fin 11264) (j : Fin 4096) : EReal :=
  if hk : k.val < 11008 then w (ValueIdx.ix3 0 ⟨k.val, hk⟩ j) else 0

/-- The padded hidden rows at an element. -/
theorem pad_rows (a : Vec Ideal S1x16384x11008 .f32) (t : Fin 16384) (k : Fin 11264) :
    pad S16384x11264 ![0, 0] ![0, 256] ![0, 0] (truncf (F := Ideal) (s := S16384x11008) (φ := .f32) .bf16 (shapeCast S16384x11008 a shapeCasts_S1x16384x11008_S16384x11008) bitsLt_bf16_f32)
      (sitofp (F := Ideal) .bf16 (constantI S_ 32 0#32)) pads_S16384x11008_S16384x11264_000_02560 h_S_ (ValueIdx.ix2 t k) = wideA a t k := by
  unfold wideA
  split
  · next hk => exact (pad_apply_of_inside _ _ _ _ _ _ _ _ (ValueIdx.ix2 t ⟨k.val, hk⟩) (fun a => match a with
      | ⟨0, _⟩ => show t.val = 0 + t.val * (0 + 1) by omega
      | ⟨1, _⟩ => show k.val = 0 + k.val * (0 + 1) by omega)).trans (squeeze_apply a shapeCasts_S1x16384x11008_S16384x11008 t ⟨k.val, hk⟩)
  · next hk =>
    refine (pad_apply_of_not_inside _ _ _ _ _ _ _ _ (1 : Fin 2) ?_).trans (zero_fill ..)
    rintro ⟨-, -, e⟩
    exact hk (by simpa using (show (k.val - 0) / (0 + 1) < 11008 from e))

/-- The padded weights at an element. -/
theorem pad_weights (w : Vec Ideal S2x11008x4096 .bf16) (k : Fin 11264) (j : Fin 4096) :
    pad S2x11264x4096 ![0, 0, 0] ![0, 256, 0] ![0, 0, 0] w (sitofp (F := Ideal) .bf16 (constantI S_ 32 0#32)) pads_S2x11008x4096_S2x11264x4096_000_02560_000 h_S_ (ValueIdx.ix3 0 k j)
      = wideW w k j := by
  unfold wideW
  split
  · next hk => exact pad_apply_of_inside _ _ _ _ _ _ _ _ (ValueIdx.ix3 0 ⟨k.val, hk⟩ j) (fun a => match a with
      | ⟨0, _⟩ => rfl
      | ⟨1, _⟩ => show k.val = 0 + k.val * (0 + 1) by omega
      | ⟨2, _⟩ => show j.val = 0 + j.val * (0 + 1) by omega)
  · next hk =>
    refine (pad_apply_of_not_inside _ _ _ _ _ _ _ _ (1 : Fin 3) ?_).trans (zero_fill ..)
    rintro ⟨-, -, e⟩
    exact hk (by simpa using (show (k.val - 0) / (0 + 1) < 11008 from e))

/-- The padding adds nothing to the product. -/
theorem sum_wide (a : (⟨3, ![1, 16384, 11008]⟩ : Shape).Idx → EReal) (w : (⟨3, ![2, 11008, 4096]⟩ : Shape).Idx → EReal) (t : Fin 16384) (j : Fin 4096) :
    ∑ k : Fin 11264, wideA a t k * wideW w k j = prod a w t j := by
  refine (Fin.sum_univ_add (a := 11008) (b := 256) fun k => wideA a t k * wideW w k j).trans ?_
  rw [Finset.sum_eq_zero (s := (Finset.univ : Finset (Fin 256))) fun k _ => ?_, add_zero]
  · refine Finset.sum_congr rfl fun k _ => ?_
    unfold wideA wideW
    exact congrArg₂ (· * ·) (dif_pos (show (Fin.castAdd 256 k).val < 11008 from k.isLt)) (dif_pos (show (Fin.castAdd 256 k).val < 11008 from k.isLt))
  · unfold wideA
    rw [dif_neg (show ¬(Fin.natAdd 11008 k).val < 11008 by simp), zero_mul]

/-- The hidden rows, from the argument. -/
theorem rows_eq : V m c main_v2 = pad S16384x11264 ![0, 0] ![0, 256] ![0, 0] (truncf (F := Ideal) (s := S16384x11008) (φ := .f32) .bf16
      (shapeCast S16384x11008 (m ((c : Thread nD τ).loc main_arg0) : Vec Ideal S1x16384x11008 .f32) shapeCasts_S1x16384x11008_S16384x11008) bitsLt_bf16_f32)
    (sitofp (F := Ideal) .bf16 (constantI S_ 32 0#32)) pads_S16384x11008_S16384x11264_000_02560 h_S_ := by
  show StableHlo.after (List.flatten [hostOps0, hostOps0_1, hostOps0_2, hostOps0_3, hostOps0_4]) (fun b => m (c, b)) (Proc.devRef .tc main_v2) = _
  simp only [hostOps0, hostOps0_1, hostOps0_2, hostOps0_3, hostOps0_4, List.flatten_cons, List.flatten_nil, List.append_nil, List.cons_append, List.nil_append]
  after_results
  rfl

/-- The weights, from the argument. -/
theorem weights_eq : V m c main_v4 = pad S2x11264x4096 ![0, 0, 0] ![0, 256, 0] ![0, 0, 0] (truncf (F := Ideal) (s := S2x11008x4096) (φ := .f32) .bf16 (m ((c : Thread nD τ).loc main_arg1)) bitsLt_bf16_f32)
    (sitofp (F := Ideal) .bf16 (constantI S_ 32 0#32)) pads_S2x11008x4096_S2x11264x4096_000_02560_000 h_S_ := by
  show StableHlo.after (List.flatten [hostOps0, hostOps0_1, hostOps0_2, hostOps0_3, hostOps0_4]) (fun b => m (c, b)) (Proc.devRef .tc main_v4) = _
  simp only [hostOps0, hostOps0_1, hostOps0_2, hostOps0_3, hostOps0_4, List.flatten_cons, List.flatten_nil, List.append_nil, List.cons_append, List.nil_append]
  after_results
  rfl

/-- The rows added, from the argument. -/
theorem added_eq : V m c main_v5 = (shapeCast S16384x4096 (m ((c : Thread nD τ).loc main_arg2) : Vec Ideal S1x16384x4096 .f32)
    shapeCasts_S1x16384x4096_S16384x4096 : Vec Ideal S16384x4096 .f32) := by
  show StableHlo.after (List.flatten [hostOps0, hostOps0_1, hostOps0_2, hostOps0_3, hostOps0_4]) (fun b => m (c, b)) (Proc.devRef .tc main_v5) = _
  simp only [hostOps0, hostOps0_1, hostOps0_2, hostOps0_3, hostOps0_4, List.flatten_cons, List.flatten_nil, List.append_nil, List.cons_append, List.nil_append]
  after_results
  rfl

/-- The accumulator at a tile row's last point: the whole product. -/
theorem acc_last (t : Fin cfg0.N) (hr : t.val % 4 = 3) (r j : Fin 1024) : (outsAt0 m c t.val t.isLt).2 (ValueIdx.ix2 r j)
    = prod (m ((c : Thread nD τ).loc main_arg0)) (m ((c : Thread nD τ).loc main_arg1)) (row t r) (col t j) := by
  rw [Pipeline.eq_sum_fin_of_reset_step_apply_of_flush (fun n h => (outsAt0 m c n h).2) 4 (fun _ => (0 : EReal)) (fun t i => part (iblk m c 0 t) (iblk m c 1 t) i)
    (fun t h i => acc_first m c t h i) (fun t h i => acc_next m c t h i) t hr (ValueIdx.ix2 r j), zero_add, ← sum_wide]
  refine Fin.sum_mul_add_congr fun s k hl => ?_
  have hs := s.isLt
  have hk := k.isLt
  have e0 (t' : Fin cfg0.N) : iblk m c 0 t' (ValueIdx.ix2 r k) = wideA (m ((c : Thread nD τ).loc main_arg0)) (row t' r) (mid t' k) :=
    (View.read_apply ..).trans ((congrArg (V m c main_v2) (emb_0 t' _)).trans ((congrFun (rows_eq m c) _).trans (pad_rows ..)))
  have e1 (t' : Fin cfg0.N) : iblk m c 1 t' (ValueIdx.ix3 0 k j) = wideW (m ((c : Thread nD τ).loc main_arg1)) (mid t' k) (col t' j) :=
    (View.read_apply ..).trans ((congrArg (V m c main_v4) (emb_1 t' _)).trans ((congrFun (weights_eq m c) _).trans (pad_weights ..)))
  refine congrArg₂ (· * ·) ((e0 _).trans (congrArg₂ (wideA _) (Fin.ext ?_) (Fin.ext ?_))) ((e1 _).trans (congrArg₂ (wideW _) (Fin.ext ?_) (Fin.ext ?_)))
  · show 1024 * ((4 * (t.val / 4) + s.val) / 16) + r.val = 1024 * (t.val / 16) + r.val
    omega
  · show (4 * (t.val / 4) + s.val) % 4 * 2816 + k.val = s.val * 2816 + k.val
    omega
  · show (4 * (t.val / 4) + s.val) % 4 * 2816 + k.val = s.val * 2816 + k.val
    omega
  · show 1024 * ((4 * (t.val / 4) + s.val) / 4 % 4) + j.val = 1024 * (t.val / 4 % 4) + j.val
    omega

/-- **The kernel's result.** -/
theorem kernel_value : (dats m 0 c).arrAt 3 cfg0.N
    = down (m ((c : Thread nD τ).loc main_arg0)) (m ((c : Thread nD τ).loc main_arg1)) (m ((c : Thread nD τ).loc main_arg2)) := by
  refine Pipeline.Dat.arrAt_eq_of_covers (dats m 0 c) 3 _ (by decide +kernel) fun t hf y => ?_
  blk_simp
  rw [after0_3, emb_3]
  obtain ⟨r, j, rfl⟩ : ∃ (r : Fin 1024) (j : Fin 1024), y = ValueIdx.ix2 r j := ⟨y 0, y 1, by exact idx2_ext rfl rfl⟩
  refine (out_eq m c t _).trans (congrArg₂ (· + ·) ?_ (acc_last m c t ((flush0_3 t).mp hf) r j))
  exact (View.read_apply ..).trans ((congrArg (V m c main_v5) (emb_2 t _)).trans ((congrFun (added_eq m c) _).trans (squeeze_apply ..)))

/-- **The reference's result.** -/
theorem reference_value (a : Vec Ideal Cert.Reference3Ideal.S1x16384x11008 .f32) (w : Vec Ideal Cert.Reference3Ideal.S2x11008x4096 .f32)
    (x : Vec Ideal Cert.Reference3Ideal.S1x16384x4096 .f32) : Cert.Reference3Ideal.Read.val_main_v4 (F := Ideal) a w x = down a w x := funext fun i => by
  have h0 : (i 0).val < 16384 := (i 0).isLt
  have h1 : (i 1).val < 4096 := (i 1).isLt
  rw [Cert.Reference3Ideal.Read.val_main_v4_apply, Cert.Reference3Ideal.Read.val_main_v3_apply, Cert.Reference3Ideal.Read.val_main_v2_apply]
  have e1 : ((i 0).val * 4096 + (i 1).val) / 4096 % 16384 = (i 0).val := by omega
  have e2 : ((i 0).val * 4096 + (i 1).val) % 4096 = (i 1).val := by omega
  refine congrArg₂ (· + ·) (congrArg x (idx3_ext rfl e1 e2)) (Finset.sum_congr rfl fun k _ => ?_)
  rw [Cert.Reference3Ideal.Read.val_main_v1_apply, Cert.Reference3Ideal.Read.val_main_v0_apply]
  have hk := k.isLt
  exact congrArg₂ (· * ·) (congrArg a (idx3_ext rfl e1 rfl)) (congrArg w (idx3_ext rfl
    (show (k.val * 4096 + ((i 0).val * 4096 + (i 1).val) % 4096) / 4096 % 11008 = k.val by omega)
    (show (k.val * 4096 + ((i 0).val * 4096 + (i 1).val) % 4096) % 4096 = (i 1).val by omega)))

/-- **The kernel computes what the reference computes**, over the extended reals. -/
theorem algebraic : letI := Cert.Kernel3Ideal.Gen.facts; letI := Cert.Reference3Ideal.Gen.facts; Cert.algebraic_Kernel3Ideal_Reference3Ideal := by
  letI := Cert.Kernel3Ideal.Gen.facts; letI := Cert.Reference3Ideal.Gen.facts
  intro m g m' g' _ hargs
  refine ⟨fun c => down (m ((c.tc : Thread nD τ).loc main_arg0)) (m ((c.tc : Thread nD τ).loc main_arg1)) (m ((c.tc : Thread nD τ).loc main_arg2)), ?_, ?_⟩
  · refine (θ_run Cert.Kernel3Ideal.defs _ _).mono (fun r h c => ?_) (Cert.Kernel3Ideal.Value.run_blocks (F := Ideal) m g)
    obtain ⟨h4, h⟩ := h c
    exact ⟨h4.trans (kernel_value m c), h⟩
  · refine (θ_run Cert.Reference3Ideal.defs _ _).mono (fun r h c => ?_) (Cert.Reference3Ideal.Value.run (F := Ideal) m' g')
    obtain ⟨h4, h⟩ := h c
    obtain ⟨a0, a1, a2⟩ := hargs c
    refine ⟨h4.trans ((Cert.Reference3Ideal.Read.val_main_v4_eq _ _ _).trans ((reference_value _ _ _).trans ?_)), h⟩
    rw [a0, a1, a2]

end Cert.Down
end
-- ==== Proof.Dense.OddIn.lean ====
/-
  The input projection of the state-space layer: its first columns through `silu`.
-/
module
public import proofs.«01_k».proof.Defs
public import proofs.«01_k».proof.Proof.Gen.Kernel4Ideal.Value
public import proofs.«01_k».proof.Proof.Gen.Reference4Ideal.Read
public import proofs.«01_k».proof.Proof.Gen.Pre_finite_projection
public import proofs.«01_k».proof.Proof.Dense.Common
public import proofs.«01_k».proof.Proof.Dense.Silu
public import Idealize.ShloMosaic.Lib.StableHlo.Run
public import Idealize.ShloMosaic.Lib.KernelVsHost
@[expose] public section
set_option maxRecDepth 65536
noncomputable section
namespace Cert.OddIn
open Idealize.ShloMosaic Idealize.ShloMosaic.TcCoe Idealize.SL.Sem Cert.Kernel4Ideal Cert.Kernel4Ideal.Gen Cert.Dense Cert.Fox

/-- A row times a column of the weights. -/
def proj (h : (⟨3, ![1, 16384, 4096]⟩ : Shape).Idx → EReal) (w : (⟨3, ![1, 4096, 18560]⟩ : Shape).Idx → EReal) (t : Fin 16384) (j : Fin 18560) : EReal :=
  ∑ k : Fin 4096, h (ValueIdx.ix3 0 t k) * w (ValueIdx.ix3 0 k j)

/-- A column of the result among the weights' columns. -/
def among (j : Fin 18432) : Fin 18560 := ⟨j.val, by have := j.isLt; omega⟩

/-- The projection's columns: `silu` of the first 8192, the others as they are. -/
def columns (h : (⟨3, ![1, 16384, 4096]⟩ : Shape).Idx → EReal) (w : (⟨3, ![1, 4096, 18560]⟩ : Shape).Idx → EReal) : Vec Ideal S16384x18432 .bf16 := fun i =>
  if (i 1).val < 8192 then silu (proj h w (i 0) (among (i 1))) else proj h w (i 0) (among (i 1))

/-- The comparison that chooses whether a point's block goes through `silu`. -/
def chosen (i : grid0.Coords) : BitVec 1 := Scalar.cmpi .slt (Scalar.muli (BitVec.ofNat 32 (i 1).val) 512#32) 8192#32

/-- The block stored at a point, from the blocks read. -/
theorem pay_apply (i : grid0.Coords) (h : Vec Ideal S2048x4096 .bf16) (w : Vec Ideal S1x4096x512 .bf16) (r : Fin 2048) (c : Fin 512) :
    k0_pay1 i h w (ValueIdx.ix2 r c) = Scalar.select (chosen i) (gate (∑ k : Fin 4096, h (ValueIdx.ix2 r k) * w (ValueIdx.ix3 0 k c)))
      (∑ k : Fin 4096, h (ValueIdx.ix2 r k) * w (ValueIdx.ix3 0 k c)) := by
  have e : FloatOps.matmul (F := Ideal) (DotDims.plain 2048 4096 512) none (shapeCast S2048x4096 h shapeCasts_S2048x4096_S2048x4096 : FVec Ideal S2048x4096 .bf16)
      (shapeCast S4096x512 w shapeCasts_S1x4096x512_S4096x512 : FVec Ideal S4096x512 .bf16) (constant ⟨2, ![2048, 512]⟩ .f32 0x00000000#32) (ValueIdx.ix2 r c)
      = ∑ k : Fin 4096, h (ValueIdx.ix2 r k) * w (ValueIdx.ix3 0 k c) :=
    (product_apply ..).trans (Finset.sum_congr rfl fun k _ => congrArg₂ (· * ·) (congrFun (shapeCast_self _ _) _) (squeeze_apply ..))
  rw [← e]
  unfold k0_pay1
  show (Scalar.select (chosen i) _ _ : FVec Ideal S2048x512 .f32) _ = _
  unfold Scalar.select
  split <;> rfl

/-- Which block of each array the call works on at each point. -/
theorem index0 : ∀ t : Fin cfg0.N, (cfg0.win 0).index t = ![t.val / 36, 0] ∧ (cfg0.win 1).index t = ![0, 0, t.val % 36]
    ∧ (cfg0.win 2).index t = ![t.val / 36, t.val % 36] := by
  decide +kernel

/-- The blocks that go through `silu` are those of the first 8192 columns. -/
theorem chosen_eq : ∀ t : Fin cfg0.N, chosen (grid0.coords t) = if t.val % 36 < 16 then 1#1 else 0#1 := by
  decide +kernel

/-- Row `r` of the block of point `t`. -/
def row (t : Fin cfg0.N) (r : Fin 2048) : Fin 16384 := ⟨2048 * (t.val / 36) + r.val, by have h : t.val < 288 := t.isLt; have := r.isLt; omega⟩
/-- Column `c` of the block of point `t`. -/
def col (t : Fin cfg0.N) (c : Fin 512) : Fin 18432 := ⟨512 * (t.val % 36) + c.val, by have := c.isLt; omega⟩

/-- An element of a block of the rows. -/
theorem emb_0 (t : Fin cfg0.N) (y : S2048x4096.Idx) : (win0_0.blk t).view.emb y = ValueIdx.ix2 (row t (y 0)) (y 1) := by
  have e := (index0 t).1
  refine idx2_ext ?_ ?_ <;> blk_simp [e]
  show t.val / 36 * 2048 + (y 0).val = 2048 * (t.val / 36) + (y 0).val
  omega

/-- An element of a block of the result. -/
theorem emb_2 (t : Fin cfg0.N) (y : S2048x512.Idx) : (win0_2.blk t).view.emb y = ValueIdx.ix2 (row t (y 0)) (col t (y 1)) := by
  have e := (index0 t).2.2
  refine idx2_ext ?_ ?_ <;> blk_simp [e]
  · show t.val / 36 * 2048 + (y 0).val = 2048 * (t.val / 36) + (y 0).val
    omega
  · show t.val % 36 * 512 + (y 1).val = 512 * (t.val % 36) + (y 1).val
    omega

variable (m : (ℓ : Loc nD τ sig) → Buf (Elt Ideal) ℓ) (c : Dev nD)

/-- The rows, from the argument. -/
theorem rows_eq : V m c main_v1 = truncf (F := Ideal) (s := S16384x4096) (φ := .f32) .bf16 (shapeCast S16384x4096 (m ((c : Thread nD τ).loc main_arg0) : Vec Ideal S1x16384x4096 .f32)
    shapeCasts_S1x16384x4096_S16384x4096) bitsLt_bf16_f32 := by
  show StableHlo.after hostOps0 (fun b => m (c, b)) (Proc.devRef .tc main_v1) = _
  simp only [hostOps0]
  after_results
  rfl

/-- The weights, from the argument. -/
theorem weights_eq : V m c main_v2 = truncf (F := Ideal) (s := S1x4096x18560) (φ := .f32) .bf16 (m ((c : Thread nD τ).loc main_arg1)) bitsLt_bf16_f32 := by
  show StableHlo.after hostOps0 (fun b => m (c, b)) (Proc.devRef .tc main_v2) = _
  simp only [hostOps0]
  after_results

/-- The weights' block at an element. -/
theorem weights_apply (t : Fin cfg0.N) (k : Fin 4096) (j : Fin 512) :
    X0_1 m c t (ValueIdx.ix3 0 k j) = (m ((c : Thread nD τ).loc main_arg1) : Vec Ideal S1x4096x18560 .f32) (ValueIdx.ix3 0 k (among (col t j))) := by
  have e := (index0 t).2.1
  unfold X0_1 Pipeline.Window.fill
  rw [dif_pos (moved0_1 t _)]
  refine (View.read_apply ..).trans ((congrArg (V m c main_v2) ?_).trans (congrFun (weights_eq m c) _))
  refine idx3_ext ?_ ?_ ?_ <;> blk_simp [e]
  · rfl
  · show t.val % 36 * 512 + j.val = 512 * (t.val % 36) + j.val
    omega

/-- The block stored at a point, from the point's blocks. -/
theorem out_eq (t : Fin cfg0.N) : outsAt0 m c t = k0_pay1 (grid0.coords t) (iblk m c 0 t) (X0_1 m c t) := by
  unfold outsAt0
  frame_out

/-- **The kernel's result.** -/
theorem kernel_value (fh : Finite (m ((c : Thread nD τ).loc main_arg0) : Vec Ideal S1x16384x4096 .f32)) (fw : Finite (m ((c : Thread nD τ).loc main_arg1) : Vec Ideal S1x4096x18560 .f32)) :
    (dats m 0 c).arrAt 2 cfg0.N = columns (m ((c : Thread nD τ).loc main_arg0)) (m ((c : Thread nD τ).loc main_arg1)) := by
  refine Pipeline.Dat.arrAt_eq_of_covers (dats m 0 c) 2 _ (by decide +kernel) fun t hf y => ?_
  blk_simp
  rw [after0_2, emb_2, out_eq]
  obtain ⟨r, j, rfl⟩ : ∃ (r : Fin 2048) (j : Fin 512), y = ValueIdx.ix2 r j := ⟨y 0, y 1, by exact idx2_ext rfl rfl⟩
  have hj := j.isLt
  have e0 (k : Fin 4096) : iblk m c 0 t (ValueIdx.ix2 r k) = (m ((c : Thread nD τ).loc main_arg0) : Vec Ideal S1x16384x4096 .f32) (ValueIdx.ix3 0 (row t r) k) :=
    (View.read_apply ..).trans ((congrArg (V m c main_v1) (emb_0 t _)).trans ((congrFun (rows_eq m c) _).trans (squeeze_apply ..)))
  have e (a : Vec Ideal S2048x4096 .bf16) (b : Vec Ideal S1x4096x512 .bf16)
      (ea : ∀ k, a (ValueIdx.ix2 r k) = (m ((c : Thread nD τ).loc main_arg0) : Vec Ideal S1x16384x4096 .f32) (ValueIdx.ix3 0 (row t r) k))
      (eb : ∀ k, b (ValueIdx.ix3 0 k j) = (m ((c : Thread nD τ).loc main_arg1) : Vec Ideal S1x4096x18560 .f32) (ValueIdx.ix3 0 k (among (col t j)))) :
      ∑ k : Fin 4096, a (ValueIdx.ix2 r k) * b (ValueIdx.ix3 0 k j) = proj (m ((c : Thread nD τ).loc main_arg0)) (m ((c : Thread nD τ).loc main_arg1)) (row t r) (among (col t j)) :=
    Finset.sum_congr rfl fun k _ => congrArg₂ (· * ·) (ea k) (eb k)
  refine (pay_apply ..).trans ?_
  rw [e (iblk m c 0 t) (X0_1 m c t) e0 (fun k => weights_apply m c t k j), chosen_eq]
  unfold columns Scalar.select
  by_cases ht : t.val % 36 < 16
  · rw [if_pos ht]
    refine (if_pos rfl).trans (Eq.trans ?_ (if_pos (show 512 * (t.val % 36) + j.val < 8192 by omega)).symm)
    obtain ⟨x, hx⟩ := sum_mul_real Finset.univ (fun k : Fin 4096 => (m ((c : Thread nD τ).loc main_arg0) : Vec Ideal S1x16384x4096 .f32) (ValueIdx.ix3 0 (row t r) k))
      (fun k => (m ((c : Thread nD τ).loc main_arg1) : Vec Ideal S1x4096x18560 .f32) (ValueIdx.ix3 0 k (among (col t j)))) (fun _ => fh _) (fun _ => fw _)
    have hp : proj (m ((c : Thread nD τ).loc main_arg0)) (m ((c : Thread nD τ).loc main_arg1)) (row t r) (among (col t j)) = (x : EReal) := hx
    show gate _ = silu (proj (m ((c : Thread nD τ).loc main_arg0)) (m ((c : Thread nD τ).loc main_arg1)) (row t r) (among (col t j)))
    rw [hp]
    exact silu_half x
  · rw [if_neg ht]
    exact (if_neg (by decide)).trans (if_neg (show ¬ 512 * (t.val % 36) + j.val < 8192 by omega)).symm

/-- The reference's projection at an element. -/
theorem reference_proj (h : Vec Ideal Cert.Reference4Ideal.S1x16384x4096 .f32) (w : Vec Ideal Cert.Reference4Ideal.S1x4096x18560 .f32) (i : Cert.Reference4Ideal.S16384x18560.Idx) :
    Cert.Reference4Ideal.Read.val_main_v2 (F := Ideal) h w i = proj h w (i 0) (i 1) := by
  have h0 : (i 0).val < 16384 := (i 0).isLt
  have h1 : (i 1).val < 18560 := (i 1).isLt
  have e1 : ((i 0).val * 18560 + (i 1).val) / 18560 % 16384 = (i 0).val := by omega
  have e2 : ((i 0).val * 18560 + (i 1).val) % 18560 = (i 1).val := by omega
  rw [Cert.Reference4Ideal.Read.val_main_v2_apply, Cert.Reference4Ideal.Read.val_main_v1_apply]
  refine Finset.sum_congr rfl fun k _ => ?_
  have hk := k.isLt
  rw [Cert.Reference4Ideal.Read.val_main_v0_apply]
  exact congrArg₂ (· * ·) (congrArg h (idx3_ext rfl e1 rfl)) (congrArg w (idx3_ext rfl
    (show (k.val * 18560 + ((i 0).val * 18560 + (i 1).val) % 18560) / 18560 % 4096 = k.val by rw [e2]; omega)
    (show (k.val * 18560 + ((i 0).val * 18560 + (i 1).val) % 18560) % 18560 = (i 1).val by rw [e2]; omega)))

/-- The reference's first columns at an element. -/
theorem reference_silu (h : Vec Ideal Cert.Reference4Ideal.S1x16384x4096 .f32) (w : Vec Ideal Cert.Reference4Ideal.S1x4096x18560 .f32) (i : Cert.Reference4Ideal.S16384x8192.Idx) :
    Cert.Reference4Ideal.Read.val_main_v6 (F := Ideal) h w i = silu (proj h w (i 0) ⟨(i 1).val, by have h1 : (i 1).val < 8192 := (i 1).isLt; omega⟩) := by
  rw [Cert.Reference4Ideal.Read.val_main_v6_apply, Cert.Reference4Ideal.Read.val_main_call0_v5_apply, Cert.Reference4Ideal.Read.val_main_call0_v4_apply,
    Cert.Reference4Ideal.Read.val_main_call0_v3_apply, Cert.Reference4Ideal.Read.val_main_call0_v2_apply, Cert.Reference4Ideal.Read.val_main_call0_v1_apply,
    Cert.Reference4Ideal.Read.val_main_call0_v0_apply, Cert.Reference4Ideal.Read.val_main_v3_apply, reference_proj]
  show proj h w (i 0) _ * Ideal.div (Ideal.ofBits .f32 0x3F800000#32) (Ideal.ofBits .f32 0x3F800000#32 + Ideal.exp (-proj h w (i 0) _)) = _
  rw [Ideal.ofBits_one_f32]
  rfl

/-- **The reference's result.** -/
theorem reference_value (h : Vec Ideal Cert.Reference4Ideal.S1x16384x4096 .f32) (w : Vec Ideal Cert.Reference4Ideal.S1x4096x18560 .f32) :
    Cert.Reference4Ideal.Read.val_main_v8 (F := Ideal) h w = columns h w := funext fun i => by
  obtain ⟨t, j, rfl⟩ : ∃ (t : Fin 16384) (j : Fin 18432), i = ValueIdx.ix2 t j := ⟨i 0, i 1, by exact idx2_ext rfl rfl⟩
  have hj' := j.isLt
  rw [Cert.Reference4Ideal.Read.val_main_v8_apply]
  show Cert.Reference4Ideal.Read.val_main_v7 (F := Ideal) h w (ValueIdx.ix2 t j) = _
  unfold columns Cert.Reference4Ideal.Read.val_main_v7
  by_cases hj : j.val < 8192
  · refine Eq.trans ?_ (if_pos hj).symm
    refine (concatenate_pair_apply_left (s₁ := Cert.Reference4Ideal.S16384x8192) (s₂ := Cert.Reference4Ideal.S16384x10240) (t := Cert.Reference4Ideal.S16384x18432) 1 _ _ _ (ValueIdx.ix2 t j) rfl
      (ValueIdx.ix2 t ⟨j.val, hj⟩) (fun x : Fin 2 => match x with
        | ⟨0, _⟩ => rfl
        | ⟨1, _⟩ => rfl)).trans (reference_silu ..)
  · have hb : j.val - 8192 < 10240 := by omega
    refine Eq.trans ?_ (if_neg hj).symm
    refine (concatenate_pair_apply_right (s₁ := Cert.Reference4Ideal.S16384x8192) (s₂ := Cert.Reference4Ideal.S16384x10240) (t := Cert.Reference4Ideal.S16384x18432) 1 _ _ _ (ValueIdx.ix2 t j) rfl rfl
      (ValueIdx.ix2 t ⟨j.val - 8192, hb⟩) (fun (x : Fin 2) hx => match x with
        | ⟨0, _⟩ => rfl
        | ⟨1, _⟩ => absurd rfl hx) (show j.val - 8192 + 8192 = j.val by omega)).trans ?_
    rw [Cert.Reference4Ideal.Read.val_main_v4_apply, reference_proj]
    exact congrArg (proj h w t) (Fin.ext (show 8192 + (j.val - 8192) = j.val by omega))

/-- The precondition says that the rows and the weights are numbers. -/
theorem finite_of_pre (h : Vec Ideal Cert.Pre_finite_projection.S1x16384x4096 .f32) (w : Vec Ideal Cert.Pre_finite_projection.S1x4096x18560 .f32)
    (hp : letI := Cert.Pre_finite_projection.Gen.facts; Cert.Pre_finite_projection.fn (F := Ideal) h w = fun _ => 1#1) : Finite h ∧ Finite w := by
  letI := Cert.Pre_finite_projection.Gen.facts
  have : Subsingleton Cert.Pre_finite_projection.S_.Idx := ⟨fun a b => funext fun i => i.elim0⟩
  have e := congrFun hp (fun i => i.elim0)
  obtain ⟨e1, e2⟩ := IntOp.andi_eq_one.mp (show IntOp.andi _ _ = 1#1 from e)
  refine ⟨fun i => ?_, fun i => ?_⟩
  · have a := Host.reduce_andi_all _ _ _ _ _ e1 i
    refine real_of_abs _ ?_
    rw [← inf_bits]
    exact a
  · have a := Host.reduce_andi_all _ _ _ _ _ e2 i
    refine real_of_abs _ ?_
    rw [← inf_bits]
    exact a

/-- **The kernel computes what the reference computes**, over the extended reals. -/
theorem algebraic : letI := Cert.Kernel4Ideal.Gen.facts; letI := Cert.Reference4Ideal.Gen.facts; letI := Cert.Pre_finite_projection.Gen.facts
    Cert.algebraic_Kernel4Ideal_Reference4Ideal_pre_finite_projection := by
  letI := Cert.Kernel4Ideal.Gen.facts; letI := Cert.Reference4Ideal.Gen.facts; letI := Cert.Pre_finite_projection.Gen.facts
  intro m g m' g' hpre hargs
  refine ⟨fun c => columns (m ((c.tc : Thread nD τ).loc main_arg0)) (m ((c.tc : Thread nD τ).loc main_arg1)), ?_, ?_⟩
  · refine (θ_run Cert.Kernel4Ideal.defs _ _).mono (fun r h c => ?_) (Cert.Kernel4Ideal.Value.run_blocks (F := Ideal) m g)
    obtain ⟨h4, h⟩ := h c
    obtain ⟨fh, fw⟩ := finite_of_pre _ _ (hpre c)
    exact ⟨h4.trans (kernel_value m c fh fw), h⟩
  · refine (θ_run Cert.Reference4Ideal.defs _ _).mono (fun r h c => ?_) (Cert.Reference4Ideal.Value.run (F := Ideal) m' g')
    obtain ⟨h4, h⟩ := h c
    obtain ⟨a0, a1⟩ := hargs c
    refine ⟨h4.trans ((Cert.Reference4Ideal.Read.val_main_v8_eq _ _).trans ((reference_value _ _).trans ?_)), h⟩
    rw [a0, a1]

end Cert.OddIn
end
-- ==== Proof.Dense.OddOut.lean ====
/-
  The output projection of the state-space layer.
-/
module
public import proofs.«01_k».proof.Defs
public import proofs.«01_k».proof.Proof.Gen.Kernel5Ideal.Value
public import proofs.«01_k».proof.Proof.Gen.Reference5Ideal.Read
public import proofs.«01_k».proof.Proof.Dense.Common
public import Idealize.ShloMosaic.Lib.StableHlo.Run
@[expose] public section
set_option maxRecDepth 16384
noncomputable section
namespace Cert.OddOut
open Idealize.ShloMosaic Idealize.ShloMosaic.TcCoe Idealize.SL.Sem Cert.Kernel5Ideal Cert.Kernel5Ideal.Gen Cert.Dense Cert.Fox

/-- The rows `x` plus the product of the rows `y` with the weights `w`. -/
def outProj (y : (⟨3, ![1, 16384, 8192]⟩ : Shape).Idx → EReal) (w : (⟨3, ![1, 8192, 4096]⟩ : Shape).Idx → EReal)
    (x : (⟨3, ![1, 16384, 4096]⟩ : Shape).Idx → EReal) : Vec Ideal S16384x4096 .f32 := fun i =>
  x (ValueIdx.ix3 0 (i 0) (i 1)) + ∑ k : Fin 8192, y (ValueIdx.ix3 0 (i 0) k) * w (ValueIdx.ix3 0 k (i 1))

/-- The block stored at a point, from the blocks read. -/
theorem pay_apply (a : Vec Ideal S1024x8192 .bf16) (w : Vec Ideal S1x8192x256 .bf16) (x : Vec Ideal S1024x256 .f32) (r : Fin 1024) (c : Fin 256) :
    k0_pay1 a w x (ValueIdx.ix2 r c) = x (ValueIdx.ix2 r c) + ∑ k : Fin 8192, a (ValueIdx.ix2 r k) * w (ValueIdx.ix3 0 k c) := by
  unfold k0_pay1
  refine congrArg₂ (· + ·) (congrFun (shapeCast_self _ _) _) ((product_apply ..).trans (Finset.sum_congr rfl fun k _ => ?_))
  exact congrArg₂ (· * ·) (congrFun (shapeCast_self _ _) _) (squeeze_apply ..)

/-- Which block of each array the call works on at each point. -/
theorem index0 : ∀ t : Fin cfg0.N, (cfg0.win 0).index t = ![t.val / 16, 0] ∧ (cfg0.win 1).index t = ![0, 0, t.val % 16]
    ∧ (cfg0.win 2).index t = ![t.val / 16, t.val % 16] ∧ (cfg0.win 3).index t = ![t.val / 16, t.val % 16] := by
  decide +kernel

/-- Row `r` of the block of point `t`. -/
def row (t : Fin cfg0.N) (r : Fin 1024) : Fin 16384 := ⟨1024 * (t.val / 16) + r.val, by have h : t.val < 256 := t.isLt; have := r.isLt; omega⟩
/-- Column `c` of the block of point `t`. -/
def col (t : Fin cfg0.N) (c : Fin 256) : Fin 4096 := ⟨256 * (t.val % 16) + c.val, by have := c.isLt; omega⟩

/-- An element of a block of the left operand. -/
theorem emb_0 (t : Fin cfg0.N) (y : S1024x8192.Idx) : (win0_0.blk t).view.emb y = ValueIdx.ix2 (row t (y 0)) (y 1) := by
  have e := (index0 t).1
  refine idx2_ext ?_ ?_ <;> blk_simp [e]
  show t.val / 16 * 1024 + (y 0).val = 1024 * (t.val / 16) + (y 0).val
  omega

/-- An element of a block of the weights. -/
theorem emb_1 (t : Fin cfg0.N) (y : S1x8192x256.Idx) : (win0_1.blk t).view.emb y = ValueIdx.ix3 0 (y 1) (col t (y 2)) := by
  have e := (index0 t).2.1
  refine idx3_ext ?_ ?_ ?_ <;> blk_simp [e]
  show t.val % 16 * 256 + (y 2).val = 256 * (t.val % 16) + (y 2).val
  omega

/-- An element of a block of the rows added. -/
theorem emb_2 (t : Fin cfg0.N) (y : S1024x256.Idx) : (win0_2.blk t).view.emb y = ValueIdx.ix2 (row t (y 0)) (col t (y 1)) := by
  have e := (index0 t).2.2.1
  refine idx2_ext ?_ ?_ <;> blk_simp [e]
  · show t.val / 16 * 1024 + (y 0).val = 1024 * (t.val / 16) + (y 0).val
    omega
  · show t.val % 16 * 256 + (y 1).val = 256 * (t.val % 16) + (y 1).val
    omega

/-- An element of a block of the result. -/
theorem emb_3 (t : Fin cfg0.N) (y : S1024x256.Idx) : (win0_3.blk t).view.emb y = ValueIdx.ix2 (row t (y 0)) (col t (y 1)) := by
  have e := (index0 t).2.2.2
  refine idx2_ext ?_ ?_ <;> blk_simp [e]
  · show t.val / 16 * 1024 + (y 0).val = 1024 * (t.val / 16) + (y 0).val
    omega
  · show t.val % 16 * 256 + (y 1).val = 256 * (t.val % 16) + (y 1).val
    omega

variable (m : (ℓ : Loc nD τ sig) → Buf (Elt Ideal) ℓ) (c : Dev nD)

/-- The left operand's rows, from the argument. -/
theorem left_eq : V m c main_v1 = (truncf .bf16 (shapeCast S16384x8192 (m ((c : Thread nD τ).loc main_arg0) : Vec Ideal S1x16384x8192 .f32)
    shapeCasts_S1x16384x8192_S16384x8192 : FVec Ideal S16384x8192 .f32) bitsLt_bf16_f32 : Vec Ideal S16384x8192 .bf16) := by
  show StableHlo.after (List.flatten [hostOps0]) (fun b => m (c, b)) (Proc.devRef .tc main_v1) = _
  simp only [hostOps0, List.flatten_cons, List.flatten_nil, List.append_nil]
  after_results
  rfl

/-- The weights, from the argument. -/
theorem weights_eq : V m c main_v2 = truncf (F := Ideal) (s := S1x8192x4096) (φ := .f32) .bf16 (m ((c : Thread nD τ).loc main_arg1)) bitsLt_bf16_f32 := by
  show StableHlo.after (List.flatten [hostOps0]) (fun b => m (c, b)) (Proc.devRef .tc main_v2) = _
  simp only [hostOps0, List.flatten_cons, List.flatten_nil, List.append_nil]
  after_results

/-- The rows added, from the argument. -/
theorem added_eq : V m c main_v3 = (shapeCast S16384x4096 (m ((c : Thread nD τ).loc main_arg2) : Vec Ideal S1x16384x4096 .f32)
    shapeCasts_S1x16384x4096_S16384x4096 : Vec Ideal S16384x4096 .f32) := by
  show StableHlo.after (List.flatten [hostOps0]) (fun b => m (c, b)) (Proc.devRef .tc main_v3) = _
  simp only [hostOps0, List.flatten_cons, List.flatten_nil, List.append_nil]
  after_results
  rfl

/-- **The kernel's result.** -/
theorem kernel_value : (dats m 0 c).arrAt 3 cfg0.N
    = outProj (m ((c : Thread nD τ).loc main_arg0)) (m ((c : Thread nD τ).loc main_arg1)) (m ((c : Thread nD τ).loc main_arg2)) := by
  refine Pipeline.Dat.arrAt_eq_of_covers (dats m 0 c) 3 _ (by decide +kernel) fun t hf y => ?_
  blk_simp
  rw [after0_3, emb_3]
  obtain ⟨r, j, rfl⟩ : ∃ (r : Fin 1024) (j : Fin 256), y = ValueIdx.ix2 r j := ⟨y 0, y 1, by exact idx2_ext rfl rfl⟩
  unfold out0_3
  rw [View.canon_cons_unit_lit _ _ _ (by decide), View.ld_unit_lit _ _ (by decide), View.ld_unit_lit _ _ (by decide), View.ld_unit_lit _ _ (by decide)]
  refine (pay_apply ..).trans (congrArg₂ (· + ·) ?_ (Finset.sum_congr rfl fun k _ => congrArg₂ (· * ·) ?_ ?_))
  · exact (View.read_apply ..).trans ((congrArg (V m c main_v3) (emb_2 t _)).trans ((congrFun (added_eq m c) _).trans (squeeze_apply ..)))
  · exact (View.read_apply ..).trans ((congrArg (V m c main_v1) (emb_0 t _)).trans ((congrFun (left_eq m c) _).trans (squeeze_apply ..)))
  · exact (View.read_apply ..).trans ((congrArg (V m c main_v2) (emb_1 t _)).trans (congrFun (weights_eq m c) _))

/-- **The reference's result.** -/
theorem reference_value (y : Vec Ideal Cert.Reference5Ideal.S1x16384x8192 .f32) (w : Vec Ideal Cert.Reference5Ideal.S1x8192x4096 .f32)
    (x : Vec Ideal Cert.Reference5Ideal.S1x16384x4096 .f32) : Cert.Reference5Ideal.Read.val_main_v3 (F := Ideal) y w x = outProj y w x := funext fun i => by
  have h0 : (i 0).val < 16384 := (i 0).isLt
  have h1 : (i 1).val < 4096 := (i 1).isLt
  rw [Cert.Reference5Ideal.Read.val_main_v3_apply, Cert.Reference5Ideal.Read.val_main_v2_apply, Cert.Reference5Ideal.Read.val_main_v1_apply]
  have e1 : ((i 0).val * 4096 + (i 1).val) / 4096 % 16384 = (i 0).val := by omega
  have e2 : ((i 0).val * 4096 + (i 1).val) % 4096 = (i 1).val := by omega
  refine congrArg₂ (· + ·) (congrArg x (idx3_ext rfl e1 e2)) (Finset.sum_congr rfl fun k _ => ?_)
  rw [Cert.Reference5Ideal.Read.val_main_v0_apply]
  have hk := k.isLt
  exact congrArg₂ (· * ·) (congrArg y (idx3_ext rfl e1 rfl)) (congrArg w (idx3_ext rfl
    (show (k.val * 4096 + ((i 0).val * 4096 + (i 1).val) % 4096) / 4096 % 8192 = k.val by omega)
    (show (k.val * 4096 + ((i 0).val * 4096 + (i 1).val) % 4096) % 4096 = (i 1).val by omega)))

/-- **The kernel computes what the reference computes**, over the extended reals. -/
theorem algebraic : letI := Cert.Kernel5Ideal.Gen.facts; letI := Cert.Reference5Ideal.Gen.facts; Cert.algebraic_Kernel5Ideal_Reference5Ideal := by
  letI := Cert.Kernel5Ideal.Gen.facts; letI := Cert.Reference5Ideal.Gen.facts
  intro m g m' g' _ hargs
  refine ⟨fun c => outProj (m ((c.tc : Thread nD τ).loc main_arg0)) (m ((c.tc : Thread nD τ).loc main_arg1)) (m ((c.tc : Thread nD τ).loc main_arg2)), ?_, ?_⟩
  · refine (θ_run Cert.Kernel5Ideal.defs _ _).mono (fun r h c => ?_) (Cert.Kernel5Ideal.Value.run_blocks (F := Ideal) m g)
    obtain ⟨h4, h⟩ := h c
    exact ⟨h4.trans (kernel_value m c), h⟩
  · refine (θ_run Cert.Reference5Ideal.defs _ _).mono (fun r h c => ?_) (Cert.Reference5Ideal.Value.run (F := Ideal) m' g')
    obtain ⟨h4, h⟩ := h c
    obtain ⟨a0, a1, a2⟩ := hargs c
    refine ⟨h4.trans ((Cert.Reference5Ideal.Read.val_main_v3_eq _ _ _).trans ((reference_value _ _ _).trans ?_)), h⟩
    rw [a0, a1, a2]

end Cert.OddOut
end
-- ==== Proof.Dense.EvenOut.lean ====
/-
  The output projection of the even layer: the retention's and the attention's rows, each times its half of the weights.
-/
module
public import proofs.«01_k».proof.Defs
public import proofs.«01_k».proof.Proof.Gen.Kernel6Ideal.Value
public import proofs.«01_k».proof.Proof.Gen.Reference6Ideal.Read
public import proofs.«01_k».proof.Proof.Dense.Common
public import Idealize.ShloMosaic.Lib.StableHlo.Run
@[expose] public section
set_option maxRecDepth 16384
noncomputable section
namespace Cert.EvenOut
open Idealize.ShloMosaic Idealize.ShloMosaic.TcCoe Idealize.SL.Sem Cert.Kernel6Ideal Cert.Kernel6Ideal.Gen Cert.Dense Cert.Fox

/-- A row of the upper half of the weights. -/
def upper (k : Fin 2048) : Fin 4096 := ⟨k.val, by have := k.isLt; omega⟩
/-- A row of the lower half of the weights. -/
def lower (k : Fin 2048) : Fin 4096 := ⟨2048 + k.val, by have := k.isLt; omega⟩

/-- The rows `x` plus the products of the rows `a` and `b` with the upper and the lower half of the weights `w`. -/
def outProj (a b : (⟨3, ![1, 16384, 2048]⟩ : Shape).Idx → EReal) (w : (⟨3, ![1, 4096, 4096]⟩ : Shape).Idx → EReal)
    (x : (⟨3, ![1, 16384, 4096]⟩ : Shape).Idx → EReal) : Vec Ideal S16384x4096 .f32 := fun i =>
  x (ValueIdx.ix3 0 (i 0) (i 1)) + (∑ k : Fin 2048, a (ValueIdx.ix3 0 (i 0) k) * w (ValueIdx.ix3 0 (upper k) (i 1))
    + ∑ k : Fin 2048, b (ValueIdx.ix3 0 (i 0) k) * w (ValueIdx.ix3 0 (lower k) (i 1)))

/-- One of the two products, from the blocks read. -/
theorem half_apply (a : Vec Ideal S1024x2048 .bf16) (w : Vec Ideal S1x2048x1024 .bf16) (r : Fin 1024) (c : Fin 1024) :
    FloatOps.matmul (F := Ideal) (DotDims.plain 1024 2048 1024) none (shapeCast S1024x2048 a shapeCasts_S1024x2048_S1024x2048 : FVec Ideal S1024x2048 .bf16)
      (shapeCast S2048x1024 w shapeCasts_S1x2048x1024_S2048x1024 : FVec Ideal S2048x1024 .bf16) (constant ⟨2, ![1024, 1024]⟩ .f32 0x00000000#32) (ValueIdx.ix2 r c)
      = ∑ k : Fin 2048, a (ValueIdx.ix2 r k) * w (ValueIdx.ix3 0 k c) :=
  (product_apply ..).trans (Finset.sum_congr rfl fun k _ => congrArg₂ (· * ·) (congrFun (shapeCast_self _ _) _) (squeeze_apply ..))

/-- The block stored at a point, from the blocks read. -/
theorem pay_apply (a : Vec Ideal S1024x2048 .bf16) (u : Vec Ideal S1x2048x1024 .bf16) (b : Vec Ideal S1024x2048 .bf16) (l : Vec Ideal S1x2048x1024 .bf16)
    (x : Vec Ideal S1024x1024 .f32) (r : Fin 1024) (c : Fin 1024) :
    k0_pay1 a u b l x (ValueIdx.ix2 r c) = x (ValueIdx.ix2 r c) + (∑ k : Fin 2048, a (ValueIdx.ix2 r k) * u (ValueIdx.ix3 0 k c)
      + ∑ k : Fin 2048, b (ValueIdx.ix2 r k) * l (ValueIdx.ix3 0 k c)) := by
  unfold k0_pay1
  exact congrArg₂ (· + ·) (congrFun (shapeCast_self _ _) _) (congrArg₂ (· + ·) (half_apply a u r c) (half_apply b l r c))

/-- Which block of each array the call works on at each point. -/
theorem index0 : ∀ t : Fin cfg0.N, (cfg0.win 0).index t = ![t.val / 4, 0] ∧ (cfg0.win 1).index t = ![t.val / 4, 0]
    ∧ (cfg0.win 2).index t = ![0, 0, t.val % 4] ∧ (cfg0.win 3).index t = ![t.val / 4, t.val % 4]
    ∧ (cfg0.win 4).index t = ![t.val / 4, t.val % 4] := by
  decide +kernel

/-- Row `r` of the block of point `t`. -/
def row (t : Fin cfg0.N) (r : Fin 1024) : Fin 16384 := ⟨1024 * (t.val / 4) + r.val, by have h : t.val < 64 := t.isLt; have := r.isLt; omega⟩
/-- Column `c` of the block of point `t`. -/
def col (t : Fin cfg0.N) (c : Fin 1024) : Fin 4096 := ⟨1024 * (t.val % 4) + c.val, by have := c.isLt; omega⟩

/-- An element of a block of the left rows. -/
theorem emb_0 (t : Fin cfg0.N) (y : S1024x2048.Idx) : (win0_0.blk t).view.emb y = ValueIdx.ix2 (row t (y 0)) (y 1) := by
  have e := (index0 t).1
  refine idx2_ext ?_ ?_ <;> blk_simp [e]
  show t.val / 4 * 1024 + (y 0).val = 1024 * (t.val / 4) + (y 0).val
  omega

/-- An element of a block of the right rows. -/
theorem emb_1 (t : Fin cfg0.N) (y : S1024x2048.Idx) : (win0_1.blk t).view.emb y = ValueIdx.ix2 (row t (y 0)) (y 1) := by
  have e := (index0 t).2.1
  refine idx2_ext ?_ ?_ <;> blk_simp [e]
  show t.val / 4 * 1024 + (y 0).val = 1024 * (t.val / 4) + (y 0).val
  omega

/-- An element of a block of the weights. -/
theorem emb_2 (t : Fin cfg0.N) (y : S1x4096x1024.Idx) : (win0_2.blk t).view.emb y = ValueIdx.ix3 0 (y 1) (col t (y 2)) := by
  have e := (index0 t).2.2.1
  refine idx3_ext ?_ ?_ ?_ <;> blk_simp [e]
  show t.val % 4 * 1024 + (y 2).val = 1024 * (t.val % 4) + (y 2).val
  omega

/-- An element of a block of the rows added. -/
theorem emb_3 (t : Fin cfg0.N) (y : S1024x1024.Idx) : (win0_3.blk t).view.emb y = ValueIdx.ix2 (row t (y 0)) (col t (y 1)) := by
  have e := (index0 t).2.2.2.1
  refine idx2_ext ?_ ?_ <;> blk_simp [e]
  · show t.val / 4 * 1024 + (y 0).val = 1024 * (t.val / 4) + (y 0).val
    omega
  · show t.val % 4 * 1024 + (y 1).val = 1024 * (t.val % 4) + (y 1).val
    omega

/-- An element of a block of the result. -/
theorem emb_4 (t : Fin cfg0.N) (y : S1024x1024.Idx) : (win0_4.blk t).view.emb y = ValueIdx.ix2 (row t (y 0)) (col t (y 1)) := by
  have e := (index0 t).2.2.2.2
  refine idx2_ext ?_ ?_ <;> blk_simp [e]
  · show t.val / 4 * 1024 + (y 0).val = 1024 * (t.val / 4) + (y 0).val
    omega
  · show t.val % 4 * 1024 + (y 1).val = 1024 * (t.val % 4) + (y 1).val
    omega

variable (m : (ℓ : Loc nD τ sig) → Buf (Elt Ideal) ℓ) (c : Dev nD)

/-- The left rows, from the argument. -/
theorem left_eq : V m c main_v1 = truncf (F := Ideal) (s := S16384x2048) (φ := .f32) .bf16 (shapeCast S16384x2048 (m ((c : Thread nD τ).loc main_arg0) : Vec Ideal S1x16384x2048 .f32)
    shapeCasts_S1x16384x2048_S16384x2048) bitsLt_bf16_f32 := by
  show StableHlo.after hostOps0 (fun b => m (c, b)) (Proc.devRef .tc main_v1) = _
  simp only [hostOps0]
  after_results
  rfl

/-- The right rows, from the argument. -/
theorem right_eq : V m c main_v3 = truncf (F := Ideal) (s := S16384x2048) (φ := .f32) .bf16 (shapeCast S16384x2048 (m ((c : Thread nD τ).loc main_arg1) : Vec Ideal S1x16384x2048 .f32)
    shapeCasts_S1x16384x2048_S16384x2048) bitsLt_bf16_f32 := by
  show StableHlo.after hostOps0 (fun b => m (c, b)) (Proc.devRef .tc main_v3) = _
  simp only [hostOps0]
  after_results
  rfl

/-- The weights, from the argument. -/
theorem weights_eq : V m c main_v4 = truncf (F := Ideal) (s := S1x4096x4096) (φ := .f32) .bf16 (m ((c : Thread nD τ).loc main_arg2)) bitsLt_bf16_f32 := by
  show StableHlo.after hostOps0 (fun b => m (c, b)) (Proc.devRef .tc main_v4) = _
  simp only [hostOps0]
  after_results

/-- The rows added, from the argument. -/
theorem added_eq : V m c main_v5 = (shapeCast S16384x4096 (m ((c : Thread nD τ).loc main_arg3) : Vec Ideal S1x16384x4096 .f32)
    shapeCasts_S1x16384x4096_S16384x4096 : Vec Ideal S16384x4096 .f32) := by
  show StableHlo.after hostOps0 (fun b => m (c, b)) (Proc.devRef .tc main_v5) = _
  simp only [hostOps0]
  after_results
  rfl

/-- The weights' block at an element. -/
theorem weights_apply (t : Fin cfg0.N) (k : Fin 4096) (j : Fin 1024) :
    iblk m c 2 t (ValueIdx.ix3 0 k j) = m ((c : Thread nD τ).loc main_arg2) (ValueIdx.ix3 0 k (col t j)) :=
  (View.read_apply ..).trans ((congrArg (V m c main_v4) (emb_2 t _)).trans (congrFun (weights_eq m c) _))

/-- **The kernel's result.** -/
theorem kernel_value : (dats m 0 c).arrAt 4 cfg0.N
    = outProj (m ((c : Thread nD τ).loc main_arg0)) (m ((c : Thread nD τ).loc main_arg1)) (m ((c : Thread nD τ).loc main_arg2)) (m ((c : Thread nD τ).loc main_arg3)) := by
  refine Pipeline.Dat.arrAt_eq_of_covers (dats m 0 c) 4 _ (by decide +kernel) fun t hf y => ?_
  blk_simp
  rw [after0_4, emb_4]
  obtain ⟨r, j, rfl⟩ : ∃ (r : Fin 1024) (j : Fin 1024), y = ValueIdx.ix2 r j := ⟨y 0, y 1, by exact idx2_ext rfl rfl⟩
  unfold out0_4
  rw [View.canon_cons_unit_lit _ _ _ (by decide), View.ld_unit_lit _ _ (by decide), View.ld_unit_lit _ _ (by decide), View.ld_unit_lit _ _ (by decide)]
  refine (pay_apply ..).trans (congrArg₂ (· + ·) ?_ (congrArg₂ (· + ·) (Finset.sum_congr rfl fun k _ => congrArg₂ (· * ·) ?_ ?_) (Finset.sum_congr rfl fun k _ => congrArg₂ (· * ·) ?_ ?_)))
  · exact (View.read_apply ..).trans ((congrArg (V m c main_v5) (emb_3 t _)).trans ((congrFun (added_eq m c) _).trans (squeeze_apply ..)))
  · exact (View.read_apply ..).trans ((congrArg (V m c main_v1) (emb_0 t _)).trans ((congrFun (left_eq m c) _).trans (squeeze_apply ..)))
  · exact (View.ld_unit_apply_of _ _ _ _ _ (ValueIdx.ix3 0 (upper k) j) (fun a => match a with
      | ⟨0, _⟩ => rfl
      | ⟨1, _⟩ => show k.val = 0 + k.val by omega
      | ⟨2, _⟩ => show j.val = 0 + j.val by omega)).trans (weights_apply m c t (upper k) j)
  · exact (View.read_apply ..).trans ((congrArg (V m c main_v3) (emb_1 t _)).trans ((congrFun (right_eq m c) _).trans (squeeze_apply ..)))
  · exact (View.ld_unit_apply_of _ _ _ _ _ (ValueIdx.ix3 0 (lower k) j) (fun a => match a with
      | ⟨0, _⟩ => rfl
      | ⟨1, _⟩ => rfl
      | ⟨2, _⟩ => show j.val = 0 + j.val by omega)).trans (weights_apply m c t (lower k) j)

/-- The reference's joined rows in the first columns. -/
theorem joined_left (a b : Vec Ideal Cert.Reference6Ideal.S1x16384x2048 .f32) (t : Fin 16384) (k : Fin 2048) :
    Cert.Reference6Ideal.Read.val_main_v0 (F := Ideal) a b (ValueIdx.ix3 0 t (upper k)) = a (ValueIdx.ix3 0 t k) := by
  unfold Cert.Reference6Ideal.Read.val_main_v0
  exact concatenate_pair_apply_left (s₁ := Cert.Reference6Ideal.S1x16384x2048) (s₂ := Cert.Reference6Ideal.S1x16384x2048) (t := Cert.Reference6Ideal.S1x16384x4096) 2 _ _ _ _ rfl (ValueIdx.ix3 0 t k) (fun x : Fin 3 => match x with
    | ⟨0, _⟩ => rfl
    | ⟨1, _⟩ => rfl
    | ⟨2, _⟩ => rfl)

/-- The reference's joined rows in the last columns. -/
theorem joined_right (a b : Vec Ideal Cert.Reference6Ideal.S1x16384x2048 .f32) (t : Fin 16384) (k : Fin 2048) :
    Cert.Reference6Ideal.Read.val_main_v0 (F := Ideal) a b (ValueIdx.ix3 0 t (lower k)) = b (ValueIdx.ix3 0 t k) := by
  unfold Cert.Reference6Ideal.Read.val_main_v0
  exact concatenate_pair_apply_right (s₁ := Cert.Reference6Ideal.S1x16384x2048) (s₂ := Cert.Reference6Ideal.S1x16384x2048) (t := Cert.Reference6Ideal.S1x16384x4096) 2 _ _ _ _ rfl rfl (ValueIdx.ix3 0 t k) (fun (x : Fin 3) hx => match x with
    | ⟨0, _⟩ => rfl
    | ⟨1, _⟩ => rfl
    | ⟨2, _⟩ => absurd rfl hx) (show k.val + 2048 = 2048 + k.val by omega)

/-- **The reference's result.** -/
theorem reference_value (a b : Vec Ideal Cert.Reference6Ideal.S1x16384x2048 .f32) (w : Vec Ideal Cert.Reference6Ideal.S1x4096x4096 .f32)
    (x : Vec Ideal Cert.Reference6Ideal.S1x16384x4096 .f32) : Cert.Reference6Ideal.Read.val_main_v4 (F := Ideal) a b w x = outProj a b w x := funext fun i => by
  have h0 : (i 0).val < 16384 := (i 0).isLt
  have h1 : (i 1).val < 4096 := (i 1).isLt
  rw [Cert.Reference6Ideal.Read.val_main_v4_apply, Cert.Reference6Ideal.Read.val_main_v3_apply, Cert.Reference6Ideal.Read.val_main_v2_apply]
  have e1 : ((i 0).val * 4096 + (i 1).val) / 4096 % 16384 = (i 0).val := by omega
  have e2 : ((i 0).val * 4096 + (i 1).val) % 4096 = (i 1).val := by omega
  have term (k : Fin 4096) : Cert.Reference6Ideal.Read.val_main_v0 (F := Ideal) a b (Cert.Reference6Ideal.Read.lidx_main_v2 (Cert.Reference6Ideal.Read.idx_main_v4 i) k)
        * Cert.Reference6Ideal.Read.val_main_v1 (F := Ideal) w (Cert.Reference6Ideal.Read.ridx_main_v2 (Cert.Reference6Ideal.Read.idx_main_v4 i) k)
      = Cert.Reference6Ideal.Read.val_main_v0 (F := Ideal) a b (ValueIdx.ix3 0 (i 0) k) * w (ValueIdx.ix3 0 k (i 1)) := by
    have hk := k.isLt
    rw [Cert.Reference6Ideal.Read.val_main_v1_apply]
    exact congrArg₂ (· * ·) (congrArg (Cert.Reference6Ideal.Read.val_main_v0 (F := Ideal) a b) (idx3_ext rfl e1 rfl)) (congrArg w (idx3_ext rfl
      (show (k.val * 4096 + ((i 0).val * 4096 + (i 1).val) % 4096) / 4096 % 4096 = k.val by omega)
      (show (k.val * 4096 + ((i 0).val * 4096 + (i 1).val) % 4096) % 4096 = (i 1).val by omega)))
  refine congrArg₂ (· + ·) (congrArg x (idx3_ext rfl e1 e2)) ((Finset.sum_congr rfl fun k _ => term k).trans ((Fin.sum_univ_add (a := 2048) (b := 2048) _).trans
    (congrArg₂ (· + ·) (Finset.sum_congr rfl fun k _ => ?_) (Finset.sum_congr rfl fun k _ => ?_))))
  · exact congrArg (· * _) (joined_left a b (i 0) k)
  · exact congrArg (· * _) (joined_right a b (i 0) k)

/-- **The kernel computes what the reference computes**, over the extended reals. -/
theorem algebraic : letI := Cert.Kernel6Ideal.Gen.facts; letI := Cert.Reference6Ideal.Gen.facts; Cert.algebraic_Kernel6Ideal_Reference6Ideal := by
  letI := Cert.Kernel6Ideal.Gen.facts; letI := Cert.Reference6Ideal.Gen.facts
  intro m g m' g' _ hargs
  refine ⟨fun c => outProj (m ((c.tc : Thread nD τ).loc main_arg0)) (m ((c.tc : Thread nD τ).loc main_arg1)) (m ((c.tc : Thread nD τ).loc main_arg2)) (m ((c.tc : Thread nD τ).loc main_arg3)), ?_, ?_⟩
  · refine (θ_run Cert.Kernel6Ideal.defs _ _).mono (fun r h c => ?_) (Cert.Kernel6Ideal.Value.run_blocks (F := Ideal) m g)
    obtain ⟨h4, h⟩ := h c
    exact ⟨h4.trans (kernel_value m c), h⟩
  · refine (θ_run Cert.Reference6Ideal.defs _ _).mono (fun r h c => ?_) (Cert.Reference6Ideal.Value.run (F := Ideal) m' g')
    obtain ⟨h4, h⟩ := h c
    obtain ⟨a0, a1, a2, a3⟩ := hargs c
    refine ⟨h4.trans ((Cert.Reference6Ideal.Read.val_main_v4_eq _ _ _ _).trans ((reference_value _ _ _ _).trans ?_)), h⟩
    rw [a0, a1, a2, a3]

end Cert.EvenOut
end
-- ==== Proof.Dense.LastNorm.lean ====
/-
  The last normalisation: each row divided by the root of its mean square, times the gain.
-/
module
public import proofs.«01_k».proof.Defs
public import proofs.«01_k».proof.Proof.Gen.Kernel7Ideal.Value
public import proofs.«01_k».proof.Proof.Gen.Reference7Ideal.Read
public import proofs.«01_k».proof.Proof.Dense.Common
public import Idealize.ShloMosaic.Lib.StableHlo.Run
public import Idealize.ShloMosaic.PureOps.Ideal.Laws
@[expose] public section
set_option maxRecDepth 16384
noncomputable section
namespace Cert.LastNorm
open Idealize.ShloMosaic Idealize.ShloMosaic.TcCoe Idealize.SL.Sem Cert.Kernel7Ideal Cert.Kernel7Ideal.Gen Cert.Dense Cert.Fox

/-- One over the root of a row's mean square, from the sum of its squares: the constants are the row's length and the small
    amount that keeps the root away from zero. -/
def scale (s : EReal) : EReal := Ideal.rsqrt (Ideal.div s (Ideal.ofBits .f32 0x45800000#32) + Ideal.ofBits .f32 0x358637BD#32)

/-- The rows `x`, each scaled, times the gain `g`. -/
def normed (x : (⟨3, ![1, 16384, 4096]⟩ : Shape).Idx → EReal) (g : (⟨1, ![4096]⟩ : Shape).Idx → EReal) : Vec Ideal S16384x4096 .f32 := fun i =>
  x (ValueIdx.ix3 0 (i 0) (i 1)) * scale (∑ k : Fin 4096, x (ValueIdx.ix3 0 (i 0) k) * x (ValueIdx.ix3 0 (i 0) k)) * g (ValueIdx.ix1 (i 1))

/-- A row's sum of squares, as the block's reduction gives it. -/
theorem squares_apply (x : FVec Ideal S512x4096 .f32) (r : Fin 512) :
    multiReduction (F := Ideal) .add [1] S512 (mulf x x) 0x00000000#32 reduces_S512x4096_S512 (.inl rfl) rfl (ValueIdx.ix1 r)
      = ∑ k : Fin 4096, x (ValueIdx.ix2 r k) * x (ValueIdx.ix2 r k) := by
  refine (Ideal.multiReduction_add_single _ _ _ _ _ _).trans (Finset.sum_congr rfl fun k _ => ?_)
  have e : reduces_S512x4096_S512.lift (ValueIdx.ix1 r) k = ValueIdx.ix2 r k := idx2_ext rfl rfl
  rw [e]
  rfl

/-- The block stored at a point, from the blocks read. -/
theorem pay_apply (x : Vec Ideal S512x4096 .f32) (g : Vec Ideal S1x4096 .f32) (r : Fin 512) (c : Fin 4096) :
    k0_pay1 x g (ValueIdx.ix2 r c)
      = x (ValueIdx.ix2 r c) * scale (∑ k : Fin 4096, x (ValueIdx.ix2 r k) * x (ValueIdx.ix2 r k)) * g (ValueIdx.ix2 0 c) := by
  unfold k0_pay1
  rw [shapeCast_self, shapeCast_self]
  refine congrArg₂ (· * ·) (congrArg (x (ValueIdx.ix2 r c) * ·) ?_) ?_
  · refine (broadcastTo_apply (s := S512x1) (t := S512x4096) _ _ _ (ValueIdx.ix2 r 0) (fun a => ?_)).trans ?_
    · match a with
      | ⟨0, _⟩ => rfl
      | ⟨1, _⟩ => rfl
    · refine congrArg scale ((shapeCast_apply _ _ _ (ValueIdx.ix1 r) ?_).trans (squares_apply x r))
      rw [Shape.rowMajor_val_two, Shape.rowMajor_val_one]
      show r.val = r.val * 1 + 0
      omega
  · refine broadcastTo_apply (s := S1x4096) (t := S512x4096) _ _ _ (ValueIdx.ix2 0 c) (fun a => ?_)
    match a with
    | ⟨0, _⟩ => rfl
    | ⟨1, _⟩ => rfl

/-- Which block of each array the call works on at each point. -/
theorem index0 : ∀ t : Fin cfg0.N, (cfg0.win 0).index t = ![t.val, 0] ∧ (cfg0.win 1).index t = ![0, 0] ∧ (cfg0.win 2).index t = ![t.val, 0] := by
  decide +kernel

/-- Row `r` of the block of point `t`. -/
def row (t : Fin cfg0.N) (r : Fin 512) : Fin 16384 := ⟨512 * t.val + r.val, by have h : t.val < 32 := t.isLt; have := r.isLt; omega⟩

/-- An element of a block of the rows. -/
theorem emb_0 (t : Fin cfg0.N) (y : S512x4096.Idx) : (win0_0.blk t).view.emb y = ValueIdx.ix2 (row t (y 0)) (y 1) := by
  have e := (index0 t).1
  refine idx2_ext ?_ ?_ <;> blk_simp [e]
  show t.val * 512 + (y 0).val = 512 * t.val + (y 0).val
  omega

/-- An element of the block of the gain. -/
theorem emb_1 (t : Fin cfg0.N) (y : S1x4096.Idx) : (win0_1.blk t).view.emb y = ValueIdx.ix2 (y 0) (y 1) := by
  have e := (index0 t).2.1
  refine idx2_ext ?_ ?_ <;> blk_simp [e]

/-- An element of a block of the result. -/
theorem emb_2 (t : Fin cfg0.N) (y : S512x4096.Idx) : (win0_2.blk t).view.emb y = ValueIdx.ix2 (row t (y 0)) (y 1) := by
  have e := (index0 t).2.2
  refine idx2_ext ?_ ?_ <;> blk_simp [e]
  show t.val * 512 + (y 0).val = 512 * t.val + (y 0).val
  omega

variable (m : (ℓ : Loc nD τ sig) → Buf (Elt Ideal) ℓ) (c : Dev nD)

/-- The rows, from the argument. -/
theorem rows_eq : V m c main_v0 = (shapeCast S16384x4096 (m ((c : Thread nD τ).loc main_arg0) : Vec Ideal S1x16384x4096 .f32)
    shapeCasts_S1x16384x4096_S16384x4096 : Vec Ideal S16384x4096 .f32) := by
  show StableHlo.after hostOps0 (fun b => m (c, b)) (Proc.devRef .tc main_v0) = _
  simp only [hostOps0]
  after_results
  rfl

/-- The gain, from the argument. -/
theorem gain_eq : V m c main_v1 = (shapeCast S1x4096 (m ((c : Thread nD τ).loc main_arg1) : Vec Ideal S4096 .f32)
    shapeCasts_S4096_S1x4096 : Vec Ideal S1x4096 .f32) := by
  show StableHlo.after hostOps0 (fun b => m (c, b)) (Proc.devRef .tc main_v1) = _
  simp only [hostOps0]
  after_results
  rfl

/-- The gain, read. -/
theorem gain_apply (j : Fin 4096) : V m c main_v1 (ValueIdx.ix2 0 j) = m ((c : Thread nD τ).loc main_arg1) (ValueIdx.ix1 j) :=
  (congrFun (gain_eq m c) _).trans (unsqueeze_apply ..)

/-- **The kernel's result.** -/
theorem kernel_value : (dats m 0 c).arrAt 2 cfg0.N
    = normed (m ((c : Thread nD τ).loc main_arg0)) (m ((c : Thread nD τ).loc main_arg1)) := by
  refine Pipeline.Dat.arrAt_eq_of_covers (dats m 0 c) 2 _ (by decide +kernel) fun t hf y => ?_
  blk_simp
  rw [after0_2, emb_2]
  obtain ⟨r, j, rfl⟩ : ∃ (r : Fin 512) (j : Fin 4096), y = ValueIdx.ix2 r j := ⟨y 0, y 1, by exact idx2_ext rfl rfl⟩
  unfold out0_2
  rw [View.canon_cons_unit_lit _ _ _ (by decide), View.ld_unit_lit _ _ (by decide), View.ld_unit_lit _ _ (by decide)]
  have e (k : Fin 4096) : iblk m c 0 t (ValueIdx.ix2 r k) = m ((c : Thread nD τ).loc main_arg0) (ValueIdx.ix3 0 (row t r) k) :=
    (View.read_apply ..).trans ((congrArg (V m c main_v0) (emb_0 t _)).trans ((congrFun (rows_eq m c) _).trans (squeeze_apply ..)))
  refine (pay_apply ..).trans (congrArg₂ (· * ·) (congrArg₂ (· * ·) (e j) (congrArg scale (Finset.sum_congr rfl fun k _ => congrArg₂ (· * ·) (e k) (e k)))) ?_)
  exact (View.read_apply ..).trans ((congrArg (V m c main_v1) (emb_1 t _)).trans (gain_apply m c j))

/-- **The reference's result.** -/
theorem reference_value (x : Vec Ideal Cert.Reference7Ideal.S1x16384x4096 .f32) (g : Vec Ideal Cert.Reference7Ideal.S4096 .f32) :
    Cert.Reference7Ideal.Read.val_main_v13 (F := Ideal) x g = normed x g := funext fun i => by
  have h0 : (i 0).val < 16384 := (i 0).isLt
  have h1 : (i 1).val < 4096 := (i 1).isLt
  rw [Cert.Reference7Ideal.Read.val_main_v13_apply, Cert.Reference7Ideal.Read.val_main_v10_apply, Cert.Reference7Ideal.Read.val_main_v9_apply,
    Cert.Reference7Ideal.Read.val_main_v8_apply, Cert.Reference7Ideal.Read.val_main_v7_apply, Cert.Reference7Ideal.Read.val_main_v5_apply,
    Cert.Reference7Ideal.Read.val_main_v3_apply, Cert.Reference7Ideal.Read.val_main_v2_apply, Cert.Reference7Ideal.Read.val_main_v4_apply,
    Cert.Reference7Ideal.Read.val_main_v6_apply, Cert.Reference7Ideal.Read.val_main_v12_apply, Cert.Reference7Ideal.Read.val_main_v11_apply]
  have e (k : Fin 4096) : Cert.Reference7Ideal.Read.val_main_v0 (F := Ideal) x (ValueIdx.ix2 (i 0) k) = x (ValueIdx.ix3 0 (i 0) k) := by
    have hk := k.isLt
    rw [Cert.Reference7Ideal.Read.val_main_v0_apply]
    exact congrArg x (idx3_ext rfl (show ((i 0).val * 4096 + k.val) / 4096 % 16384 = (i 0).val by omega)
      (show ((i 0).val * 4096 + k.val) % 4096 = k.val by omega))
  refine congrArg₂ (· * ·) (congrArg₂ (· * ·) ((congrArg _ (idx2_ext rfl rfl)).trans (e (i 1))) (congrArg scale ?_)) (congrArg g (funext fun a => match a with | ⟨0, _⟩ => rfl))
  refine (congrArg (· + _) Ideal.ofBits_zero_f32).trans ((zero_add _).trans (Finset.sum_congr rfl fun k _ => ?_))
  rw [Cert.Reference7Ideal.Read.val_main_v1_apply]
  have e' := (congrArg (Cert.Reference7Ideal.Read.val_main_v0 (F := Ideal) x) (idx2_ext (n := 16384) (m := 4096) rfl rfl)).trans (e k)
  exact congrArg₂ (· * ·) e' e'

/-- **The kernel computes what the reference computes**, over the extended reals. -/
theorem algebraic : letI := Cert.Kernel7Ideal.Gen.facts; letI := Cert.Reference7Ideal.Gen.facts; Cert.algebraic_Kernel7Ideal_Reference7Ideal := by
  letI := Cert.Kernel7Ideal.Gen.facts; letI := Cert.Reference7Ideal.Gen.facts
  intro m g m' g' _ hargs
  refine ⟨fun c => normed (m ((c.tc : Thread nD τ).loc main_arg0)) (m ((c.tc : Thread nD τ).loc main_arg1)), ?_, ?_⟩
  · refine (θ_run Cert.Kernel7Ideal.defs _ _).mono (fun r h c => ?_) (Cert.Kernel7Ideal.Value.run_blocks (F := Ideal) m g)
    obtain ⟨h4, h⟩ := h c
    exact ⟨h4.trans (kernel_value m c), h⟩
  · refine (θ_run Cert.Reference7Ideal.defs _ _).mono (fun r h c => ?_) (Cert.Reference7Ideal.Value.run (F := Ideal) m' g')
    obtain ⟨h4, h⟩ := h c
    obtain ⟨a0, a1⟩ := hargs c
    refine ⟨h4.trans ((Cert.Reference7Ideal.Read.val_main_v13_eq _ _).trans ((reference_value _ _).trans ?_)), h⟩
    rw [a0, a1]

end Cert.LastNorm
end
-- ==== Proof.Dense.EvenIn.lean ====
/-
  The input projection of the attention layer: rotary queries and keys, a `silu` gate, and the other columns as they are.
-/
module
public import proofs.«01_k».proof.Defs
public import proofs.«01_k».proof.Proof.Gen.Kernel8Ideal.Value
public import proofs.«01_k».proof.Proof.Gen.Reference8Ideal.Read
public import proofs.«01_k».proof.Proof.Gen.Pre_finite_even_projection
public import proofs.«01_k».proof.Proof.Dense.Common
public import proofs.«01_k».proof.Proof.Dense.Silu
public import Idealize.ShloMosaic.Lib.StableHlo.Run
public import Idealize.ShloMosaic.Lib.KernelVsHost
@[expose] public section
set_option maxRecDepth 65536
noncomputable section
namespace Cert.EvenIn
open Idealize.ShloMosaic Idealize.ShloMosaic.TcCoe Idealize.SL.Sem Cert.Kernel8Ideal Cert.Kernel8Ideal.Gen Cert.Dense Cert.Fox

/-- A row times column `n` of the weights. -/
def proj (h : (⟨3, ![1, 16384, 4096]⟩ : Shape).Idx → EReal) (w : (⟨3, ![1, 4096, 14352]⟩ : Shape).Idx → EReal) (t : Fin 16384) (n : ℕ) : EReal :=
  ∑ k : Fin 4096, h (ValueIdx.ix3 0 t k) * w (ValueIdx.ix3 0 k ⟨n % 14352, Nat.mod_lt _ (by decide)⟩)

/-- The cosines of the rotary angles, by position and lane. -/
def cosines : Vec Ideal S16384x128 .f32 := Cert.Reference8Ideal.Read.val_main_v22 (F := Ideal)
/-- The sines of the rotary angles, by position and lane. -/
def sines : Vec Ideal S16384x128 .f32 := Cert.Reference8Ideal.Read.val_main_v24 (F := Ideal)

/-- The lane of a column, inside its half of a head. -/
def lane (n : ℕ) : Fin 128 := ⟨n % 128, Nat.mod_lt _ (by decide)⟩

/-- The rotary embedding at position `t` of the columns `q`, whose heads are 256 wide: each half of a head is turned against the other. -/
def turn (q : ℕ → EReal) (t : Fin 16384) (n : ℕ) : EReal :=
  if n % 256 < 128 then q n * cosines (ValueIdx.ix2 t (lane n)) - q (n + 128) * sines (ValueIdx.ix2 t (lane n))
  else q (n - 128) * sines (ValueIdx.ix2 t (lane n)) + q n * cosines (ValueIdx.ix2 t (lane n))

/-- Columns that start at the second group of heads, turned. -/
theorem turn_shift (q : ℕ → EReal) (t : Fin 16384) (n : ℕ) : turn (fun k => q (2048 + k)) t n = turn q t (2048 + n) := by
  have e : lane (2048 + n) = lane n := Fin.ext (show (2048 + n) % 128 = n % 128 by omega)
  unfold turn
  rw [e]
  by_cases hn : n % 256 < 128
  · rw [if_pos hn, if_pos (show (2048 + n) % 256 < 128 by omega), Nat.add_assoc]
  · rw [if_neg hn, if_neg (show ¬ (2048 + n) % 256 < 128 by omega), show 2048 + n - 128 = 2048 + (n - 128) by omega]

/-- The result's columns: queries turned, keys turned and scaled, values, the gate's `silu`, and the rest. -/
def columns (h : (⟨3, ![1, 16384, 4096]⟩ : Shape).Idx → EReal) (w : (⟨3, ![1, 4096, 14352]⟩ : Shape).Idx → EReal) : Vec Ideal S16384x14336 .bf16 := fun i =>
  if (i 1).val < 2048 then turn (proj h w (i 0)) (i 0) (i 1).val
  else if (i 1).val < 4096 then turn (proj h w (i 0)) (i 0) (i 1).val * Ideal.ofBits .f32 0x3D800000#32
  else if (i 1).val < 6144 then proj h w (i 0) (i 1).val
  else if (i 1).val < 8192 then silu (proj h w (i 0) (i 1).val)
  else proj h w (i 0) (i 1).val

/-! ## The kernel -/

/-- The product of a point's blocks. -/
theorem product (h : Vec Ideal S2048x4096 .bf16) (w : Vec Ideal S1x4096x512 .bf16) (r : Fin 2048) (c : Fin 512) :
    k0_pay1 h w (ValueIdx.ix2 r c) = ∑ k : Fin 4096, h (ValueIdx.ix2 r k) * w (ValueIdx.ix3 0 k c) :=
  (product_apply ..).trans (Finset.sum_congr rfl fun k _ => congrArg₂ (· * ·) (congrFun (shapeCast_self _ _) _) (squeeze_apply ..))

/-- The first half of a head, turned, from the product `p` and the blocks of the tables. -/
theorem first_half (o o' : ℕ) (p : FVec Ideal S2048x512 .f32) (u v : Vec Ideal S2048x128 .f32) (s : Ideal .f32) (r : Fin 2048) (l : Fin 128)
    (ho : S2048x512.Slices ![0, o] S2048x128) (ho' : S2048x512.Slices ![0, o'] S2048x128) (a b : Fin 512) (ha : a.val = o + l.val) (hb : b.val = o' + l.val) :
    (truncf .bf16 (mulf (subf (mulf (extractStridedSlice S2048x128 ![0, o] p ho) (k0_pay2 u)) (mulf (extractStridedSlice S2048x128 ![0, o'] p ho') (k0_pay3 v)))
      (broadcast S2048x128 s)) bitsLt_bf16_f32 : FVec Ideal S2048x128 .bf16) (ValueIdx.ix2 r l)
      = (p (ValueIdx.ix2 r a) * u (ValueIdx.ix2 r l) - p (ValueIdx.ix2 r b) * v (ValueIdx.ix2 r l)) * s := by
  have e1 : extractStridedSlice S2048x128 ![0, o] p ho (ValueIdx.ix2 r l) = p (ValueIdx.ix2 r a) := extractStridedSlice_apply _ _ _ _ _ fun d : Fin 2 => match d with
    | ⟨0, _⟩ => (Nat.zero_add _).symm
    | ⟨1, _⟩ => ha
  have e2 : extractStridedSlice S2048x128 ![0, o'] p ho' (ValueIdx.ix2 r l) = p (ValueIdx.ix2 r b) := extractStridedSlice_apply _ _ _ _ _ fun d : Fin 2 => match d with
    | ⟨0, _⟩ => (Nat.zero_add _).symm
    | ⟨1, _⟩ => hb
  rw [← e1, ← e2, ← congrFun (shapeCast_self u shapeCasts_S2048x128_S2048x128) (ValueIdx.ix2 r l), ← congrFun (shapeCast_self v shapeCasts_S2048x128_S2048x128) (ValueIdx.ix2 r l)]
  rfl

/-- The second half of a head, turned, from the product `p` and the blocks of the tables. -/
theorem second_half (o o' : ℕ) (p : FVec Ideal S2048x512 .f32) (u v : Vec Ideal S2048x128 .f32) (s : Ideal .f32) (r : Fin 2048) (l : Fin 128)
    (ho : S2048x512.Slices ![0, o] S2048x128) (ho' : S2048x512.Slices ![0, o'] S2048x128) (a b : Fin 512) (ha : a.val = o + l.val) (hb : b.val = o' + l.val) :
    (truncf .bf16 (mulf (addf (mulf (extractStridedSlice S2048x128 ![0, o] p ho) (k0_pay3 v)) (mulf (extractStridedSlice S2048x128 ![0, o'] p ho') (k0_pay2 u)))
      (broadcast S2048x128 s)) bitsLt_bf16_f32 : FVec Ideal S2048x128 .bf16) (ValueIdx.ix2 r l)
      = (p (ValueIdx.ix2 r a) * v (ValueIdx.ix2 r l) + p (ValueIdx.ix2 r b) * u (ValueIdx.ix2 r l)) * s := by
  have e1 : extractStridedSlice S2048x128 ![0, o] p ho (ValueIdx.ix2 r l) = p (ValueIdx.ix2 r a) := extractStridedSlice_apply _ _ _ _ _ fun d : Fin 2 => match d with
    | ⟨0, _⟩ => (Nat.zero_add _).symm
    | ⟨1, _⟩ => ha
  have e2 : extractStridedSlice S2048x128 ![0, o'] p ho' (ValueIdx.ix2 r l) = p (ValueIdx.ix2 r b) := extractStridedSlice_apply _ _ _ _ _ fun d : Fin 2 => match d with
    | ⟨0, _⟩ => (Nat.zero_add _).symm
    | ⟨1, _⟩ => hb
  rw [← e1, ← e2, ← congrFun (shapeCast_self u shapeCasts_S2048x128_S2048x128) (ValueIdx.ix2 r l), ← congrFun (shapeCast_self v shapeCasts_S2048x128_S2048x128) (ValueIdx.ix2 r l)]
  rfl

/-- Which block of each array the call works on at each point. -/
theorem index0 : ∀ t : Fin cfg0.N, (cfg0.win 0).index t = ![t.val / 28, 0] ∧ (cfg0.win 1).index t = ![0, 0, t.val % 28]
    ∧ (cfg0.win 2).index t = ![t.val / 28, 0] ∧ (cfg0.win 3).index t = ![t.val / 28, 0] ∧ (cfg0.win 4).index t = ![t.val / 28, t.val % 28] := by
  decide +kernel

/-- The comparison that chooses the scale of a point's block. -/
def chosen (i : grid0.Coords) : BitVec 1 := Scalar.cmpi .slt (Scalar.muli (BitVec.ofNat 32 (i 1).val) 512#32) 2048#32

/-- The blocks of the queries are those of the first 2048 columns. -/
theorem chosen_eq : ∀ t : Fin cfg0.N, chosen (grid0.coords t) = if t.val % 28 < 4 then 1#1 else 0#1 := by
  decide +kernel

/-- The scale of a point's block: one for the queries, one sixteenth for the keys. -/
theorem scale_eq (t : Fin cfg0.N) : k0_pay4 (F := Ideal) (grid0.coords t) = if t.val % 28 < 4 then 1 else Ideal.ofBits .f32 0x3D800000#32 := by
  show Scalar.select (chosen (grid0.coords t)) (Ideal.ofBits .f32 0x3F800000#32) (Ideal.ofBits .f32 0x3D800000#32) = _
  rw [chosen_eq, Ideal.ofBits_one_f32]
  unfold Scalar.select
  by_cases ht : t.val % 28 < 4
  · rw [if_pos ht, if_pos ht]
    exact if_pos rfl
  · rw [if_neg ht, if_neg ht]
    exact if_neg (by decide)

/-- Row `r` of the block of point `t`. -/
def row (t : Fin cfg0.N) (r : Fin 2048) : Fin 16384 := ⟨2048 * (t.val / 28) + r.val, by have h : t.val < 224 := t.isLt; have := r.isLt; omega⟩
/-- Column `c` of the block of point `t`. -/
def col (t : Fin cfg0.N) (c : Fin 512) : Fin 14336 := ⟨512 * (t.val % 28) + c.val, by have := c.isLt; omega⟩

/-- An element of a block of the rows. -/
theorem emb_0 (t : Fin cfg0.N) (y : S2048x4096.Idx) : (win0_0.blk t).view.emb y = ValueIdx.ix2 (row t (y 0)) (y 1) := by
  have e := (index0 t).1
  refine idx2_ext ?_ ?_ <;> blk_simp [e]
  show t.val / 28 * 2048 + (y 0).val = 2048 * (t.val / 28) + (y 0).val
  omega

/-- An element of a block of the cosines. -/
theorem emb_2 (t : Fin cfg0.N) (y : S2048x128.Idx) : (win0_2.blk t).view.emb y = ValueIdx.ix2 (row t (y 0)) (y 1) := by
  have e := (index0 t).2.2.1
  refine idx2_ext ?_ ?_ <;> blk_simp [e]
  show t.val / 28 * 2048 + (y 0).val = 2048 * (t.val / 28) + (y 0).val
  omega

/-- An element of a block of the sines. -/
theorem emb_3 (t : Fin cfg0.N) (y : S2048x128.Idx) : (win0_3.blk t).view.emb y = ValueIdx.ix2 (row t (y 0)) (y 1) := by
  have e := (index0 t).2.2.2.1
  refine idx2_ext ?_ ?_ <;> blk_simp [e]
  show t.val / 28 * 2048 + (y 0).val = 2048 * (t.val / 28) + (y 0).val
  omega

/-- An element of a block of the result. -/
theorem emb_4 (t : Fin cfg0.N) (y : S2048x512.Idx) : (win0_4.blk t).view.emb y = ValueIdx.ix2 (row t (y 0)) (col t (y 1)) := by
  have e := (index0 t).2.2.2.2
  refine idx2_ext ?_ ?_ <;> blk_simp [e]
  · show t.val / 28 * 2048 + (y 0).val = 2048 * (t.val / 28) + (y 0).val
    omega
  · show t.val % 28 * 512 + (y 1).val = 512 * (t.val % 28) + (y 1).val
    omega

variable (m : (ℓ : Loc nD τ sig) → Buf (Elt Ideal) ℓ) (c : Dev nD)

/-- The rows, from the argument. -/
theorem rows_eq : V m c main_v16 = truncf (F := Ideal) (s := S16384x4096) (φ := .f32) .bf16 (shapeCast S16384x4096 (m ((c : Thread nD τ).loc main_arg0) : Vec Ideal S1x16384x4096 .f32)
    shapeCasts_S1x16384x4096_S16384x4096) bitsLt_bf16_f32 := by
  show StableHlo.after hostOps0 (fun b => m (c, b)) (Proc.devRef .tc main_v16) = _
  simp only [hostOps0]
  after_results
  rfl

/-- The weights, from the argument. -/
theorem weights_eq : V m c main_v17 = truncf (F := Ideal) (s := S1x4096x14352) (φ := .f32) .bf16 (m ((c : Thread nD τ).loc main_arg1)) bitsLt_bf16_f32 := by
  show StableHlo.after hostOps0 (fun b => m (c, b)) (Proc.devRef .tc main_v17) = _
  simp only [hostOps0]
  after_results

/-- The table of cosines. -/
theorem cosines_eq : V m c main_v13 = cosines := by
  show StableHlo.after hostOps0 (fun b => m (c, b)) (Proc.devRef .tc main_v13) = _
  simp only [hostOps0]
  after_results
  rfl

/-- The table of sines. -/
theorem sines_eq : V m c main_v14 = sines := by
  show StableHlo.after hostOps0 (fun b => m (c, b)) (Proc.devRef .tc main_v14) = _
  simp only [hostOps0]
  after_results
  rfl

/-- The weights' block at an element. -/
theorem weights_apply (t : Fin cfg0.N) (k : Fin 4096) (j : Fin 512) :
    X0_1 m c t (ValueIdx.ix3 0 k j) = (m ((c : Thread nD τ).loc main_arg1) : Vec Ideal S1x4096x14352 .f32) (ValueIdx.ix3 0 k ⟨(512 * (t.val % 28) + j.val) % 14352, Nat.mod_lt _ (by decide)⟩) := by
  have e := (index0 t).2.1
  have hj := j.isLt
  unfold X0_1 Pipeline.Window.fill
  rw [dif_pos (moved0_1 t _)]
  refine (View.read_apply ..).trans ((congrArg (V m c main_v17) ?_).trans (congrFun (weights_eq m c) _))
  refine idx3_ext ?_ ?_ ?_ <;> blk_simp [e]
  · rfl
  · show t.val % 28 * 512 + j.val = (512 * (t.val % 28) + j.val) % 14352
    omega

/-- The product of a point's blocks is the projection at the point's rows and columns. -/
theorem block_product (t : Fin cfg0.N) (r : Fin 2048) (j : Fin 512) :
    k0_pay1 (iblk m c 0 t) (X0_1 m c t) (ValueIdx.ix2 r j)
      = proj (m ((c : Thread nD τ).loc main_arg0)) (m ((c : Thread nD τ).loc main_arg1)) (row t r) (512 * (t.val % 28) + j.val) := by
  have e0 (k : Fin 4096) : iblk m c 0 t (ValueIdx.ix2 r k) = (m ((c : Thread nD τ).loc main_arg0) : Vec Ideal S1x16384x4096 .f32) (ValueIdx.ix3 0 (row t r) k) :=
    (View.read_apply ..).trans ((congrArg (V m c main_v16) (emb_0 t _)).trans ((congrFun (rows_eq m c) _).trans (squeeze_apply ..)))
  exact (product ..).trans (Finset.sum_congr rfl fun k _ => congrArg₂ (fun a b : EReal => a * b) (e0 k) (weights_apply m c t k j))

/-- The cosines' block at an element. -/
theorem cosines_apply (t : Fin cfg0.N) (r : Fin 2048) (l : Fin 128) : (iblk m c 2 t : Vec Ideal S2048x128 .f32) (ValueIdx.ix2 r l) = cosines (ValueIdx.ix2 (row t r) l) :=
  (View.read_apply ..).trans ((congrArg (V m c main_v13) (emb_2 t _)).trans (congrFun (cosines_eq m c) _))

/-- The sines' block at an element. -/
theorem sines_apply (t : Fin cfg0.N) (r : Fin 2048) (l : Fin 128) : (iblk m c 3 t : Vec Ideal S2048x128 .f32) (ValueIdx.ix2 r l) = sines (ValueIdx.ix2 (row t r) l) :=
  (View.read_apply ..).trans ((congrArg (V m c main_v14) (emb_3 t _)).trans (congrFun (sines_eq m c) _))

/-- What a first half of a head holds is the rotary embedding. -/
theorem first_value (t : Fin cfg0.N) (r : Fin 2048) (l : Fin 128) (o : ℕ) (ho : o % 256 = 0) (a b : Fin 512) (ha : a.val = o + l.val) (hb : b.val = o + 128 + l.val) (s : EReal) :
    (k0_pay1 (iblk m c 0 t) (X0_1 m c t) (ValueIdx.ix2 r a) * (iblk m c 2 t : Vec Ideal S2048x128 .f32) (ValueIdx.ix2 r l)
      - k0_pay1 (iblk m c 0 t) (X0_1 m c t) (ValueIdx.ix2 r b) * (iblk m c 3 t : Vec Ideal S2048x128 .f32) (ValueIdx.ix2 r l) : EReal) * s
      = turn (proj (m ((c : Thread nD τ).loc main_arg0)) (m ((c : Thread nD τ).loc main_arg1)) (row t r)) (row t r) (512 * (t.val % 28) + a.val) * s := by
  have hl := l.isLt
  have el : lane (512 * (t.val % 28) + a.val) = l := Fin.ext (show (512 * (t.val % 28) + a.val) % 128 = l.val by omega)
  rw [block_product m c t r a, block_product m c t r b, cosines_apply m c t r l, sines_apply m c t r l]
  unfold turn
  rw [if_pos (by omega), el, show 512 * (t.val % 28) + a.val + 128 = 512 * (t.val % 28) + b.val by omega]

/-- What a second half of a head holds is the rotary embedding. -/
theorem second_value (t : Fin cfg0.N) (r : Fin 2048) (l : Fin 128) (o : ℕ) (ho : o % 256 = 0) (a b : Fin 512) (ha : a.val = o + l.val) (hb : b.val = o + 128 + l.val) (s : EReal) :
    (k0_pay1 (iblk m c 0 t) (X0_1 m c t) (ValueIdx.ix2 r a) * (iblk m c 3 t : Vec Ideal S2048x128 .f32) (ValueIdx.ix2 r l)
      + k0_pay1 (iblk m c 0 t) (X0_1 m c t) (ValueIdx.ix2 r b) * (iblk m c 2 t : Vec Ideal S2048x128 .f32) (ValueIdx.ix2 r l) : EReal) * s
      = turn (proj (m ((c : Thread nD τ).loc main_arg0)) (m ((c : Thread nD τ).loc main_arg1)) (row t r)) (row t r) (512 * (t.val % 28) + b.val) * s := by
  have hl := l.isLt
  have el : lane (512 * (t.val % 28) + b.val) = l := Fin.ext (show (512 * (t.val % 28) + b.val) % 128 = l.val by omega)
  rw [block_product m c t r a, block_product m c t r b, cosines_apply m c t r l, sines_apply m c t r l]
  unfold turn
  rw [if_neg (by omega), el, show 512 * (t.val % 28) + b.val - 128 = 512 * (t.val % 28) + a.val by omega]

/-- The block stored at a point of the queries' and the keys' columns. -/
theorem out_turned (t : Fin cfg0.N) (ht : t.val % 28 ≤ 7) (r : Fin 2048) (j : Fin 512) :
    outsAt0 m c t.val t.isLt (ValueIdx.ix2 r j)
      = turn (proj (m ((c : Thread nD τ).loc main_arg0)) (m ((c : Thread nD τ).loc main_arg1)) (row t r)) (row t r) (512 * (t.val % 28) + j.val) * k0_pay4 (F := Ideal) (grid0.coords t) := by
  rw [outsAt0_A m c t ht (by omega) (by omega) (by omega) (by omega)]
  frame_out
  canon_tiles x h
  all_goals
    obtain ⟨r', l, rfl⟩ : ∃ (r' : Fin 2048) (l : Fin 128), x = ValueIdx.ix2 r' l := ⟨x 0, x 1, by exact idx2_ext rfl rfl⟩
    obtain rfl : r = r' := Fin.ext h0
    have hl := l.isLt
  case piece0 => exact (second_half 256 384 _ _ _ _ r l slices_S2048x512_o0_256_S2048x128 slices_S2048x512_o0_384_S2048x128 ⟨256 + l.val, by omega⟩ j rfl h1).trans (second_value m c t r l 256 rfl _ j rfl h1 _)
  case piece1 => exact (first_half 256 384 _ _ _ _ r l slices_S2048x512_o0_256_S2048x128 slices_S2048x512_o0_384_S2048x128 j ⟨384 + l.val, by omega⟩ h1 rfl).trans (first_value m c t r l 256 rfl j _ h1 rfl _)
  case piece2 => exact (second_half 0 128 _ _ _ _ r l slices_S2048x512_o0_0_S2048x128 slices_S2048x512_o0_128_S2048x128 ⟨0 + l.val, by omega⟩ j rfl h1).trans (second_value m c t r l 0 rfl _ j rfl h1 _)
  case piece3 => exact (first_half 0 128 _ _ _ _ r l slices_S2048x512_o0_0_S2048x128 slices_S2048x512_o0_128_S2048x128 j ⟨128 + l.val, by omega⟩ (h1.trans (Nat.zero_add _).symm) rfl).trans (first_value m c t r l 0 rfl j _ (h1.trans (Nat.zero_add _).symm) rfl _)

/-- The block stored at a point of the columns that stay as they are. -/
theorem out_plain (t : Fin cfg0.N) (ht : 8 ≤ t.val % 28) (hs : ¬ (12 ≤ t.val % 28 ∧ t.val % 28 ≤ 15)) : outsAt0 m c t.val t.isLt = k0_pay1 (iblk m c 0 t) (X0_1 m c t) := by
  by_cases h1 : t.val % 28 ≤ 11
  · rw [outsAt0_B m c t (by omega) (by omega) (by omega) (by omega) (by omega)]
    frame_out
    rfl
  by_cases h2 : t.val % 28 ≤ 19
  · rw [outsAt0_D m c t (by omega) (by omega) (by omega) (by omega) (by omega)]
    frame_out
    rfl
  · rw [outsAt0_E m c t (by omega) (by omega) (by omega) (by omega) (by omega)]
    frame_out
    rfl

/-- The block stored at a point of the gate's columns. -/
theorem out_gate (t : Fin cfg0.N) (hs : 12 ≤ t.val % 28 ∧ t.val % 28 ≤ 15) : outsAt0 m c t.val t.isLt = fun y => gate (k0_pay1 (iblk m c 0 t) (X0_1 m c t) y) := by
  rw [outsAt0_C m c t (by omega) (by omega) hs (by omega) (by omega)]
  frame_out
  rfl

/-- **The kernel's result.** -/
theorem kernel_value (fh : Finite (m ((c : Thread nD τ).loc main_arg0) : Vec Ideal S1x16384x4096 .f32)) (fw : Finite (m ((c : Thread nD τ).loc main_arg1) : Vec Ideal S1x4096x14352 .f32)) :
    (dats m 0 c).arrAt 4 cfg0.N = columns (m ((c : Thread nD τ).loc main_arg0)) (m ((c : Thread nD τ).loc main_arg1)) := by
  refine Pipeline.Dat.arrAt_eq_of_covers (dats m 0 c) 4 _ (by decide +kernel) fun t hf y => ?_
  blk_simp
  rw [after0_4, emb_4]
  obtain ⟨r, j, rfl⟩ : ∃ (r : Fin 2048) (j : Fin 512), y = ValueIdx.ix2 r j := ⟨y 0, y 1, by exact idx2_ext rfl rfl⟩
  have hj := j.isLt
  have hc : (col t j).val = 512 * (t.val % 28) + j.val := rfl
  show outsAt0 m c t.val t.isLt (ValueIdx.ix2 r j) = columns _ _ (ValueIdx.ix2 (row t r) (col t j))
  unfold columns
  by_cases h1 : t.val % 28 ≤ 7
  · rw [out_turned m c t h1 r j, scale_eq]
    by_cases h2 : t.val % 28 < 4
    · rw [if_pos h2]
      exact (mul_one _).trans (if_pos (show (col t j).val < 2048 by omega)).symm
    · rw [if_neg h2]
      exact ((if_neg (show ¬ (col t j).val < 2048 by omega)).trans (if_pos (show (col t j).val < 4096 by omega))).symm
  refine Eq.trans ?_ ((if_neg (show ¬ (col t j).val < 2048 by omega)).trans (if_neg (show ¬ (col t j).val < 4096 by omega))).symm
  by_cases h2 : 12 ≤ t.val % 28 ∧ t.val % 28 ≤ 15
  · rw [out_gate m c t h2]
    refine Eq.trans ?_ ((if_neg (show ¬ (col t j).val < 6144 by omega)).trans (if_pos (show (col t j).val < 8192 by omega))).symm
    show gate (k0_pay1 (iblk m c 0 t) (X0_1 m c t) (ValueIdx.ix2 r j)) = silu (proj (m ((c : Thread nD τ).loc main_arg0)) (m ((c : Thread nD τ).loc main_arg1)) (row t r) (512 * (t.val % 28) + j.val))
    obtain ⟨x, hx⟩ := sum_mul_real Finset.univ (fun k : Fin 4096 => (m ((c : Thread nD τ).loc main_arg0) : Vec Ideal S1x16384x4096 .f32) (ValueIdx.ix3 0 (row t r) k))
      (fun k => (m ((c : Thread nD τ).loc main_arg1) : Vec Ideal S1x4096x14352 .f32) (ValueIdx.ix3 0 k ⟨(512 * (t.val % 28) + j.val) % 14352, Nat.mod_lt _ (by decide)⟩)) (fun _ => fh _) (fun _ => fw _)
    have hp : proj (m ((c : Thread nD τ).loc main_arg0)) (m ((c : Thread nD τ).loc main_arg1)) (row t r) (512 * (t.val % 28) + j.val) = (x : EReal) := hx
    rw [block_product m c t r j, hp]
    exact silu_half x
  · rw [out_plain m c t (by omega) h2, block_product m c t r j]
    by_cases h3 : t.val % 28 < 12
    · exact (if_pos (show (col t j).val < 6144 by omega)).symm
    · exact ((if_neg (show ¬ (col t j).val < 6144 by omega)).trans (if_neg (show ¬ (col t j).val < 8192 by omega))).symm

/-! ## The reference -/

/-- Splitting the columns into heads. -/
theorem split_apply {α : Type} (p : Cert.Reference8Ideal.S1x16384x2048.Idx → α) (hc : Cert.Reference8Ideal.S1x16384x2048.ShapeCasts Cert.Reference8Ideal.S1x16384x8x256) (t : Fin 16384) (d : Fin 8) (l : Fin 256) :
    shapeCast Cert.Reference8Ideal.S1x16384x8x256 p hc (ValueIdx.ix4 0 t d l) = p (ValueIdx.ix3 0 t ⟨256 * d.val + l.val, by have := d.isLt; have := l.isLt; omega⟩) := by
  refine shapeCast_apply _ _ _ _ ?_
  rw [Shape.rowMajor_val_four, Shape.rowMajor_val_three]
  show (0 * 16384 + t.val) * 2048 + (256 * d.val + l.val) = ((0 * 16384 + t.val) * 8 + d.val) * 256 + l.val
  omega

/-- Joining the heads' columns. -/
theorem join_apply {α : Type} (p : Cert.Reference8Ideal.S1x16384x8x256.Idx → α) (hc : Cert.Reference8Ideal.S1x16384x8x256.ShapeCasts Cert.Reference8Ideal.S1x16384x2048) (t : Fin 16384) (n : Fin 2048) :
    shapeCast Cert.Reference8Ideal.S1x16384x2048 p hc (ValueIdx.ix3 0 t n) = p (ValueIdx.ix4 0 t ⟨n.val / 256, by have := n.isLt; omega⟩ ⟨n.val % 256, by omega⟩) := by
  refine shapeCast_apply _ _ _ _ ?_
  rw [Shape.rowMajor_val_four, Shape.rowMajor_val_three]
  show ((0 * 16384 + t.val) * 8 + n.val / 256) * 256 + n.val % 256 = (0 * 16384 + t.val) * 2048 + n.val
  omega

/-- The reference's rotary embedding of an array of heads. -/
def rotate (x : Vec Ideal Cert.Reference8Ideal.S1x16384x8x256 .f32) : Vec Ideal Cert.Reference8Ideal.S1x16384x8x256 .f32 :=
  concatenate Cert.Reference8Ideal.S1x16384x8x256 3 [
    ⟨Cert.Reference8Ideal.S1x16384x8x128, (subf
      (mulf (extractStridedSlice Cert.Reference8Ideal.S1x16384x8x128 ![0, 0, 0, 0] x Cert.Reference8Ideal.Facts₀.slices_S1x16384x8x256_S1x16384x8x128_0_0_0_0) (Cert.Reference8Ideal.Read.val_main_v28 (F := Ideal)))
      (mulf (extractStridedSlice Cert.Reference8Ideal.S1x16384x8x128 ![0, 0, 0, 128] x Cert.Reference8Ideal.Facts₀.slices_S1x16384x8x256_S1x16384x8x128_0_0_0_128) (Cert.Reference8Ideal.Read.val_main_v30 (F := Ideal))) :
        FVec Ideal Cert.Reference8Ideal.S1x16384x8x128 .f32)⟩,
    ⟨Cert.Reference8Ideal.S1x16384x8x128, (addf
      (mulf (extractStridedSlice Cert.Reference8Ideal.S1x16384x8x128 ![0, 0, 0, 0] x Cert.Reference8Ideal.Facts₀.slices_S1x16384x8x256_S1x16384x8x128_0_0_0_0) (Cert.Reference8Ideal.Read.val_main_v33 (F := Ideal)))
      (mulf (extractStridedSlice Cert.Reference8Ideal.S1x16384x8x128 ![0, 0, 0, 128] x Cert.Reference8Ideal.Facts₀.slices_S1x16384x8x256_S1x16384x8x128_0_0_0_128) (Cert.Reference8Ideal.Read.val_main_v35 (F := Ideal))) :
        FVec Ideal Cert.Reference8Ideal.S1x16384x8x128 .f32)⟩]
    Cert.Reference8Ideal.Facts₀.concatenates_S1x16384x8x128_S1x16384x8x128_S1x16384x8x256_d3

/-- The table of cosines, repeated for every head. -/
theorem head_cosines (t : Fin 16384) (d : Fin 8) (l : Fin 128) : Cert.Reference8Ideal.Read.val_main_v28 (F := Ideal) (ValueIdx.ix4 0 t d l) = cosines (ValueIdx.ix2 t l) := by
  rw [Cert.Reference8Ideal.Read.val_main_v28_apply, Cert.Reference8Ideal.Read.val_main_v23_apply]
  exact congrArg cosines (idx2_ext rfl rfl)

/-- The table of sines, repeated for every head. -/
theorem head_sines (t : Fin 16384) (d : Fin 8) (l : Fin 128) : Cert.Reference8Ideal.Read.val_main_v30 (F := Ideal) (ValueIdx.ix4 0 t d l) = sines (ValueIdx.ix2 t l) := by
  rw [Cert.Reference8Ideal.Read.val_main_v30_apply, Cert.Reference8Ideal.Read.val_main_v25_apply]
  exact congrArg sines (idx2_ext rfl rfl)

/-- A half of every head, at an element. -/
theorem half_apply (o : ℕ) (x : Vec Ideal Cert.Reference8Ideal.S1x16384x8x256 .f32) (hs : Cert.Reference8Ideal.S1x16384x8x256.Slices ![0, 0, 0, o] Cert.Reference8Ideal.S1x16384x8x128)
    (t : Fin 16384) (d : Fin 8) (l : Fin 128) (k : Fin 256) (hk : k.val = o + l.val) :
    extractStridedSlice Cert.Reference8Ideal.S1x16384x8x128 ![0, 0, 0, o] x hs (ValueIdx.ix4 0 t d l) = x (ValueIdx.ix4 0 t d k) :=
  extractStridedSlice_apply _ _ _ _ _ fun a : Fin 4 => match a with
    | ⟨0, _⟩ => (Nat.zero_add _).symm
    | ⟨1, _⟩ => (Nat.zero_add _).symm
    | ⟨2, _⟩ => (Nat.zero_add _).symm
    | ⟨3, _⟩ => hk

/-- The reference's rotary embedding at an element, from the columns `q`. -/
theorem rotate_apply (x : Vec Ideal Cert.Reference8Ideal.S1x16384x8x256 .f32) (q : ℕ → EReal) (t : Fin 16384) (d : Fin 8) (hq : ∀ l : Fin 256, x (ValueIdx.ix4 0 t d l) = q (256 * d.val + l.val)) (l : Fin 256) :
    rotate x (ValueIdx.ix4 0 t d l) = turn q t (256 * d.val + l.val) := by
  have hl := l.isLt
  unfold rotate turn
  by_cases hn : l.val < 128
  · have el : lane (256 * d.val + l.val) = ⟨l.val, hn⟩ := Fin.ext (show (256 * d.val + l.val) % 128 = l.val by omega)
    rw [if_pos (by omega), el]
    refine (concatenate_pair_apply_left (s₁ := Cert.Reference8Ideal.S1x16384x8x128) (s₂ := Cert.Reference8Ideal.S1x16384x8x128) (t := Cert.Reference8Ideal.S1x16384x8x256) 3 _ _ _ (ValueIdx.ix4 0 t d l) rfl
      (ValueIdx.ix4 0 t d ⟨l.val, hn⟩) (fun a : Fin 4 => match a with
        | ⟨0, _⟩ => rfl
        | ⟨1, _⟩ => rfl
        | ⟨2, _⟩ => rfl
        | ⟨3, _⟩ => rfl)).trans ?_
    exact congrArg₂ (fun a b : EReal => a - b)
      (congrArg₂ (fun a b : EReal => a * b) ((half_apply 0 x _ t d _ l (Nat.zero_add _).symm).trans (hq l)) (head_cosines ..))
      (congrArg₂ (fun a b : EReal => a * b) ((half_apply 128 x _ t d _ ⟨l.val + 128, by omega⟩ (Nat.add_comm _ _)).trans (hq _)) (head_sines ..))
  · have hb : l.val - 128 < 128 := by omega
    have el : lane (256 * d.val + l.val) = ⟨l.val - 128, hb⟩ := Fin.ext (show (256 * d.val + l.val) % 128 = l.val - 128 by omega)
    rw [if_neg (by omega), el]
    refine (concatenate_pair_apply_right (s₁ := Cert.Reference8Ideal.S1x16384x8x128) (s₂ := Cert.Reference8Ideal.S1x16384x8x128) (t := Cert.Reference8Ideal.S1x16384x8x256) 3 _ _ _ (ValueIdx.ix4 0 t d l) rfl rfl
      (ValueIdx.ix4 0 t d ⟨l.val - 128, hb⟩) (fun (a : Fin 4) ha => match a with
        | ⟨0, _⟩ => rfl
        | ⟨1, _⟩ => rfl
        | ⟨2, _⟩ => rfl
        | ⟨3, _⟩ => absurd rfl ha) (show l.val - 128 + 128 = l.val by omega)).trans ?_
    exact congrArg₂ (fun a b : EReal => a + b)
      (congrArg₂ (fun a b : EReal => a * b) ((half_apply 0 x _ t d _ ⟨l.val - 128, by omega⟩ (Nat.zero_add _).symm).trans ((hq _).trans (congrArg q (show 256 * d.val + (l.val - 128) = 256 * d.val + l.val - 128 by omega)))) (head_sines ..))
      (congrArg₂ (fun a b : EReal => a * b) ((half_apply 128 x _ t d _ l (show l.val = 128 + (l.val - 128) by omega)).trans (hq l)) (head_cosines ..))

/-- The reference's projection at an element. -/
theorem reference_proj (h : Vec Ideal Cert.Reference8Ideal.S1x16384x4096 .f32) (w : Vec Ideal Cert.Reference8Ideal.S1x4096x14352 .f32) (i : Cert.Reference8Ideal.S1x16384x14352.Idx) :
    Cert.Reference8Ideal.Read.val_main_v1 (F := Ideal) h w i = proj h w (i 1) (i 2).val := by
  have h0 : (i 0).val < 1 := (i 0).isLt
  have h2 : (i 2).val < 14352 := (i 2).isLt
  rw [Cert.Reference8Ideal.Read.val_main_v1_apply]
  refine Finset.sum_congr rfl fun k _ => ?_
  have hk := k.isLt
  rw [Cert.Reference8Ideal.Read.val_main_v0_apply]
  exact congrArg₂ (fun a b : EReal => a * b) (congrArg h (idx3_ext (show (i 0).val = 0 by omega) rfl rfl)) (congrArg w (idx3_ext rfl
    (show (k.val * 14352 + (i 2).val) / 14352 % 4096 = k.val by omega)
    (show (k.val * 14352 + (i 2).val) % 14352 = (i 2).val % 14352 by omega)))

variable (h : Vec Ideal Cert.Reference8Ideal.S1x16384x4096 .f32) (w : Vec Ideal Cert.Reference8Ideal.S1x4096x14352 .f32)

/-- The reference's queries at an element. -/
theorem reference_queries (t : Fin 16384) (n : Fin 2048) : Cert.Reference8Ideal.Read.val_main_v39 (F := Ideal) h w (ValueIdx.ix3 0 t n) = turn (proj h w t) t n.val := by
  refine (join_apply (rotate (Cert.Reference8Ideal.Read.val_main_v9 (F := Ideal) h w)) _ t n).trans ((rotate_apply _ (proj h w t) t _ (fun l => ?_) _).trans (congrArg (turn _ t) (show 256 * (n.val / 256) + n.val % 256 = n.val by omega)))
  refine (split_apply ..).trans ?_
  rw [Cert.Reference8Ideal.Read.val_main_v2_apply, reference_proj]
  rfl

/-- The reference's keys at an element. -/
theorem reference_keys (t : Fin 16384) (n : Fin 2048) : Cert.Reference8Ideal.Read.val_main_v72 (F := Ideal) h w (ValueIdx.ix3 0 t n) = turn (proj h w t) t (2048 + n.val) * Ideal.ofBits .f32 0x3D800000#32 := by
  refine (join_apply (Cert.Reference8Ideal.Read.val_main_v71 (F := Ideal) h w) _ t n).trans ?_
  rw [Cert.Reference8Ideal.Read.val_main_v71_apply, Cert.Reference8Ideal.Read.val_main_v70_apply, ← turn_shift]
  refine congrArg (fun a : EReal => a * Ideal.ofBits .f32 0x3D800000#32) ?_
  refine (rotate_apply (Cert.Reference8Ideal.Read.val_main_v40 (F := Ideal) h w) (fun k => proj h w t (2048 + k)) t _ (fun l => ?_) _).trans (congrArg (turn _ t) (show 256 * (n.val / 256) + n.val % 256 = n.val by omega))
  refine (split_apply ..).trans ?_
  rw [Cert.Reference8Ideal.Read.val_main_v3_apply, reference_proj]
  rfl

/-- The reference's gate at an element. -/
theorem reference_gate (t : Fin 16384) (n : Fin 2048) : Cert.Reference8Ideal.Read.val_main_v73 (F := Ideal) h w (ValueIdx.ix3 0 t n) = silu (proj h w t (6144 + n.val)) := by
  rw [Cert.Reference8Ideal.Read.val_main_v73_apply, Cert.Reference8Ideal.Read.val_main_call0_v5_apply, Cert.Reference8Ideal.Read.val_main_call0_v4_apply,
    Cert.Reference8Ideal.Read.val_main_call0_v3_apply, Cert.Reference8Ideal.Read.val_main_call0_v2_apply, Cert.Reference8Ideal.Read.val_main_call0_v1_apply,
    Cert.Reference8Ideal.Read.val_main_call0_v0_apply, Cert.Reference8Ideal.Read.val_main_v5_apply, reference_proj]
  show proj h w t _ * Ideal.div (Ideal.ofBits .f32 0x3F800000#32) (Ideal.ofBits .f32 0x3F800000#32 + Ideal.exp (-proj h w t _)) = _
  rw [Ideal.ofBits_one_f32]
  rfl

/-- The reference's values at an element. -/
theorem reference_values (t : Fin 16384) (n : Fin 2048) : Cert.Reference8Ideal.Read.val_main_v4 (F := Ideal) h w (ValueIdx.ix3 0 t n) = proj h w t (4096 + n.val) := by
  rw [Cert.Reference8Ideal.Read.val_main_v4_apply, reference_proj]
  rfl

/-- The reference's remaining columns at an element. -/
theorem reference_rest (t : Fin 16384) (n : Fin 6144) : Cert.Reference8Ideal.Read.val_main_v6 (F := Ideal) h w (ValueIdx.ix3 0 t n) = proj h w t (8192 + n.val) := by
  rw [Cert.Reference8Ideal.Read.val_main_v6_apply, reference_proj]
  rfl

/-- **The reference's result.** -/
theorem reference_value : Cert.Reference8Ideal.Read.val_main_v76 (F := Ideal) h w = columns h w := funext fun i => by
  obtain ⟨t, j, rfl⟩ : ∃ (t : Fin 16384) (j : Fin 14336), i = ValueIdx.ix2 t j := ⟨i 0, i 1, by exact idx2_ext rfl rfl⟩
  have hj := j.isLt
  refine (squeeze_apply (Cert.Reference8Ideal.Read.val_main_v74 (F := Ideal) h w) Cert.Reference8Ideal.Facts₀.shapeCasts_S1x16384x14336_S16384x14336 t j).trans ?_
  unfold Cert.Reference8Ideal.Read.val_main_v74 columns
  refine (concatenate_cons_apply ..).trans ((concatenateAt_cons ..).trans ?_)
  by_cases h1 : j.val < 2048
  · refine (dif_pos h1).trans (Eq.trans ?_ (if_pos h1).symm)
    exact (congrArg (Cert.Reference8Ideal.Read.val_main_v39 (F := Ideal) h w) (idx3_ext rfl rfl rfl)).trans (reference_queries h w t ⟨j.val, h1⟩)
  refine (dif_neg h1).trans (Eq.trans ?_ (if_neg h1).symm)
  refine (concatenateAt_cons ..).trans ?_
  by_cases h2 : j.val < 4096
  · refine (dif_pos (show j.val - 2048 < 2048 by omega)).trans (Eq.trans ?_ (if_pos h2).symm)
    obtain ⟨k, hk⟩ : ∃ k : Fin 2048, j.val - 2048 = k.val := ⟨⟨j.val - 2048, by omega⟩, rfl⟩
    refine Eq.trans (b := Cert.Reference8Ideal.Read.val_main_v72 (F := Ideal) h w (ValueIdx.ix3 0 t k)) (congrArg _ (idx3_ext rfl rfl hk)) ((reference_keys h w t k).trans ?_)
    exact congrArg (fun n => turn (proj h w t) t n * Ideal.ofBits .f32 0x3D800000#32) (show 2048 + k.val = j.val by omega)
  refine (dif_neg (show ¬ j.val - 2048 < 2048 by omega)).trans (Eq.trans ?_ (if_neg h2).symm)
  refine (concatenateAt_cons ..).trans ?_
  by_cases h3 : j.val < 6144
  · refine (dif_pos (show j.val - 2048 - 2048 < 2048 by omega)).trans (Eq.trans ?_ (if_pos h3).symm)
    obtain ⟨k, hk⟩ : ∃ k : Fin 2048, j.val - 2048 - 2048 = k.val := ⟨⟨j.val - 2048 - 2048, by omega⟩, rfl⟩
    refine Eq.trans (b := Cert.Reference8Ideal.Read.val_main_v4 (F := Ideal) h w (ValueIdx.ix3 0 t k)) (congrArg _ (idx3_ext rfl rfl hk)) ((reference_values h w t k).trans ?_)
    exact congrArg (proj h w t) (show 4096 + k.val = j.val by omega)
  refine (dif_neg (show ¬ j.val - 2048 - 2048 < 2048 by omega)).trans (Eq.trans ?_ (if_neg h3).symm)
  refine (concatenateAt_cons ..).trans ?_
  by_cases h4 : j.val < 8192
  · refine (dif_pos (show j.val - 2048 - 2048 - 2048 < 2048 by omega)).trans (Eq.trans ?_ (if_pos h4).symm)
    obtain ⟨k, hk⟩ : ∃ k : Fin 2048, j.val - 2048 - 2048 - 2048 = k.val := ⟨⟨j.val - 2048 - 2048 - 2048, by omega⟩, rfl⟩
    refine Eq.trans (b := Cert.Reference8Ideal.Read.val_main_v73 (F := Ideal) h w (ValueIdx.ix3 0 t k)) (congrArg _ (idx3_ext rfl rfl hk)) ((reference_gate h w t k).trans ?_)
    exact congrArg (fun n => silu (proj h w t n)) (show 6144 + k.val = j.val by omega)
  refine (dif_neg (show ¬ j.val - 2048 - 2048 - 2048 < 2048 by omega)).trans (Eq.trans ?_ (if_neg h4).symm)
  refine (concatenateAt_singleton ..).trans ?_
  obtain ⟨k, hk⟩ : ∃ k : Fin 6144, j.val - 2048 - 2048 - 2048 - 2048 = k.val := ⟨⟨j.val - 2048 - 2048 - 2048 - 2048, by omega⟩, rfl⟩
  refine Eq.trans (b := Cert.Reference8Ideal.Read.val_main_v6 (F := Ideal) h w (ValueIdx.ix3 0 t k)) (congrArg _ (idx3_ext rfl rfl hk)) ((reference_rest h w t k).trans ?_)
  exact congrArg (proj h w t) (show 8192 + k.val = j.val by omega)

/-- The precondition says that the rows and the weights are numbers. -/
theorem finite_of_pre (h : Vec Ideal Cert.Pre_finite_even_projection.S1x16384x4096 .f32) (w : Vec Ideal Cert.Pre_finite_even_projection.S1x4096x14352 .f32)
    (hp : letI := Cert.Pre_finite_even_projection.Gen.facts; Cert.Pre_finite_even_projection.fn (F := Ideal) h w = fun _ => 1#1) : Finite h ∧ Finite w := by
  letI := Cert.Pre_finite_even_projection.Gen.facts
  have : Subsingleton Cert.Pre_finite_even_projection.S_.Idx := ⟨fun a b => funext fun i => i.elim0⟩
  have e := congrFun hp (fun i => i.elim0)
  obtain ⟨e1, e2⟩ := IntOp.andi_eq_one.mp (show IntOp.andi _ _ = 1#1 from e)
  refine ⟨fun i => ?_, fun i => ?_⟩
  · have a := Host.reduce_andi_all _ _ _ _ _ e1 i
    refine real_of_abs _ ?_
    rw [← inf_bits]
    exact a
  · have a := Host.reduce_andi_all _ _ _ _ _ e2 i
    refine real_of_abs _ ?_
    rw [← inf_bits]
    exact a

/-- **The kernel computes what the reference computes**, over the extended reals. -/
theorem algebraic : letI := Cert.Kernel8Ideal.Gen.facts; letI := Cert.Reference8Ideal.Gen.facts; letI := Cert.Pre_finite_even_projection.Gen.facts
    Cert.algebraic_Kernel8Ideal_Reference8Ideal_pre_finite_even_projection := by
  letI := Cert.Kernel8Ideal.Gen.facts; letI := Cert.Reference8Ideal.Gen.facts; letI := Cert.Pre_finite_even_projection.Gen.facts
  intro m g m' g' hpre hargs
  refine ⟨fun c => columns (m ((c.tc : Thread nD τ).loc main_arg0)) (m ((c.tc : Thread nD τ).loc main_arg1)), ?_, ?_⟩
  · refine (θ_run Cert.Kernel8Ideal.defs _ _).mono (fun r h c => ?_) (Cert.Kernel8Ideal.Value.run_blocks (F := Ideal) m g)
    obtain ⟨h4, h⟩ := h c
    obtain ⟨fh, fw⟩ := finite_of_pre _ _ (hpre c)
    exact ⟨h4.trans (kernel_value m c fh fw), h⟩
  · refine (θ_run Cert.Reference8Ideal.defs _ _).mono (fun r h c => ?_) (Cert.Reference8Ideal.Value.run (F := Ideal) m' g')
    obtain ⟨h4, h⟩ := h c
    obtain ⟨a0, a1⟩ := hargs c
    refine ⟨h4.trans ((Cert.Reference8Ideal.Read.val_main_v76_eq _ _).trans ((reference_value _ _).trans ?_)), h⟩
    rw [a0, a1]

end Cert.EvenIn
end
-- ==== Proof.Dense.Cross.lean ====
/-
  The attention over the memory's keys and values: the rows normalised, projected to queries, each head's softmax over the
  keys, the heads' mixtures projected and added to the rows, and those normalised again.
-/
module
public import proofs.«01_k».proof.Defs
public import proofs.«01_k».proof.Proof.Gen.Kernel9Ideal.Value
public import proofs.«01_k».proof.Proof.Gen.Reference9Ideal.Read
public import proofs.«01_k».proof.Proof.Dense.Common
public import proofs.«01_k».proof.Proof.Dense.LastNorm
public import Idealize.ShloMosaic.Lib.StableHlo.Run
public import Idealize.ShloMosaic.PureOps.Ideal.Laws
@[expose] public section
set_option maxRecDepth 16384
noncomputable section
namespace Cert.Cross
open Idealize.ShloMosaic Idealize.ShloMosaic.TcCoe Idealize.SL.Sem Cert.Kernel9Ideal Cert.Kernel9Ideal.Gen Cert.Dense Cert.Fox

/-- A row over the root of its mean square, times the gain. -/
def normRow (x g : Fin 4096 → EReal) (j : Fin 4096) : EReal := x j * LastNorm.scale (∑ k, x k * x k) * g j

/-- The logits of a query against the keys. -/
def logit (q : Fin 128 → EReal) (k : Fin 256 → Fin 128 → EReal) (s : Fin 256) : EReal :=
  (∑ d, q d * k s d) * Ideal.ofBits .f32 0x3DB504F3#32

/-- The greatest of a row of logits. -/
def greatest (l : Fin 256 → EReal) : EReal := Finset.univ.fold max ⊥ l

/-- The softmax of a row of logits. -/
def weight (l : Fin 256 → EReal) (s : Fin 256) : EReal :=
  Ideal.div (Ideal.exp (l s - greatest l)) (∑ s', Ideal.exp (l s' - greatest l))

/-- A query's mixture of the values. -/
def mix (q : Fin 128 → EReal) (k v : Fin 256 → Fin 128 → EReal) (d : Fin 128) : EReal := ∑ s, weight (logit q k) s * v s d

/-- Column `d` of head `h`. -/
def col (h : Fin 4) (d : Fin 128) : Fin 512 := ⟨128 * h.val + d.val, by have := h.isLt; have := d.isLt; omega⟩
/-- The head of a column. -/
def headOf (n : Fin 512) : Fin 4 := ⟨n.val / 128, by have := n.isLt; omega⟩
/-- A column's place in its head. -/
def place (n : Fin 512) : Fin 128 := ⟨n.val % 128, by omega⟩

/-- The heads' mixtures, one after another, for a row of queries `q`. -/
def mixed (q : Fin 512 → EReal) (k v : Fin 256 → Fin 512 → EReal) (n : Fin 512) : EReal :=
  mix (fun d => q (col (headOf n) d)) (fun s d => k s (col (headOf n) d)) (fun s d => v s (col (headOf n) d)) (place n)

/-- A row of queries. -/
def query (x g : Fin 4096 → EReal) (wq : Fin 4096 → Fin 512 → EReal) (n : Fin 512) : EReal := ∑ j, normRow x g j * wq j n

/-- A row with its attention added. -/
def attended (x g : Fin 4096 → EReal) (k v : Fin 256 → Fin 512 → EReal) (wq : Fin 4096 → Fin 512 → EReal) (wo : Fin 512 → Fin 4096 → EReal)
    (j : Fin 4096) : EReal := x j + ∑ n, mixed (query x g wq) k v n * wo n j

/-! ## One block of the kernel -/

/-- A number for each row, repeated along the keys. -/
theorem spread_apply (u : FVec Ideal S512 .f32) (r : Fin 512) (s : Fin 256) :
    broadcastTo S512x256 (shapeCast S512x1 u shapeCasts_S512_S512x1) broadcasts_S512x1_S512x256 (ValueIdx.ix2 r s) = u (ValueIdx.ix1 r) := by
  refine (broadcastTo_apply (s := S512x1) (t := S512x256) _ _ _ (ValueIdx.ix2 r 0) (fun a => ?_)).trans ?_
  · match a with
    | ⟨0, _⟩ => rfl
    | ⟨1, _⟩ => rfl
  · refine shapeCast_apply _ _ _ (ValueIdx.ix1 r) ?_
    rw [Shape.rowMajor_val_two, Shape.rowMajor_val_one]
    show r.val = r.val * 1 + 0
    omega

/-- A block's logits for one head. -/
def scores (q : FVec Ideal S512x128 .bf16) (k : FVec Ideal S128x256 .bf16) : FVec Ideal S512x256 .f32 :=
  mulf (matmul dot_S512x128_S128x256_S512x256_1_0_0_1_n_n none q k (constant S512x256 .f32 0x00000000#32))
    (broadcast S512x256 (Scalar.ofBits .f32 0x3DB504F3#32 : Ideal .f32))

/-- The exponentials of a block's logits, each row's taken against its greatest. -/
def powers (l : FVec Ideal S512x256 .f32) : FVec Ideal S512x256 .f32 :=
  exp (subf l (broadcastTo S512x256 (shapeCast S512x1 (multiReduction (F := Ideal) .maximumf [1] S512 l 0xFF800000#32 reduces_S512x256_S512 (.inl rfl) rfl)
    shapeCasts_S512_S512x1) broadcasts_S512x1_S512x256))

/-- The softmax weights of a block's logits. -/
def weights (l : FVec Ideal S512x256 .f32) : FVec Ideal S512x256 .f32 :=
  divf (powers l) (broadcastTo S512x256 (shapeCast S512x1 (multiReduction (F := Ideal) .add [1] S512 (powers l) 0x00000000#32 reduces_S512x256_S512 (.inl rfl) rfl)
    shapeCasts_S512_S512x1) broadcasts_S512x1_S512x256)

/-- A block's mixtures for one head. -/
def headBlock (q : FVec Ideal S512x128 .bf16) (k : FVec Ideal S128x256 .bf16) (v : FVec Ideal S256x128 .bf16) : FVec Ideal S512x128 .f32 :=
  matmul dot_S512x256_S256x128_S512x128_1_0_0_1_n_n none (truncf .bf16 (weights (scores q k)) bitsLt_bf16_f32) v (constant S512x128 .f32 0x00000000#32)

/-- The exponentials, read. -/
theorem powers_apply (l : FVec Ideal S512x256 .f32) (r : Fin 512) (s : Fin 256) :
    powers l (ValueIdx.ix2 r s) = Ideal.exp (l (ValueIdx.ix2 r s) - greatest fun s' => l (ValueIdx.ix2 r s')) := by
  refine congrArg Ideal.exp (congrArg (l (ValueIdx.ix2 r s) - ·) ((spread_apply _ r s).trans ?_))
  refine (Ideal.multiReduction_maximumf_single _ _ _ _ _ _).trans ?_
  show Finset.fold max (Ideal.ofBits .f32 0xFF800000#32) _ _ = Finset.fold max ⊥ _ _
  rw [negInf_bits]
  exact Finset.fold_congr fun s' _ => congrArg l (idx2_ext rfl rfl)

/-- The softmax weights, read. -/
theorem weights_apply (l : FVec Ideal S512x256 .f32) (r : Fin 512) (s : Fin 256) :
    weights l (ValueIdx.ix2 r s) = weight (fun s' => l (ValueIdx.ix2 r s')) s := by
  refine congrArg₂ Ideal.div (powers_apply l r s) ((spread_apply _ r s).trans ?_)
  refine (Ideal.multiReduction_add_single _ _ _ _ _ _).trans (Finset.sum_congr rfl fun s' _ => ?_)
  exact Eq.trans (b := powers l (ValueIdx.ix2 r s')) (congrArg (powers l) (idx2_ext rfl rfl)) (powers_apply l r s')

/-- A block's mixtures for one head, read. -/
theorem headBlock_apply (q : FVec Ideal S512x128 .bf16) (k : FVec Ideal S128x256 .bf16) (v : FVec Ideal S256x128 .bf16) (r : Fin 512) (d : Fin 128) :
    headBlock q k v (ValueIdx.ix2 r d)
      = mix (fun e => q (ValueIdx.ix2 r e)) (fun s e => k (ValueIdx.ix2 e s)) (fun s e => v (ValueIdx.ix2 s e)) d := by
  refine (product_apply ..).trans (Finset.sum_congr rfl fun s _ => congrArg (· * v (ValueIdx.ix2 s d)) ?_)
  refine (weights_apply _ r s).trans (congrArg (weight · s) (funext fun s' => ?_))
  exact congrArg (· * Ideal.ofBits .f32 0x3DB504F3#32) (product_apply none q k r s')

/-- The slice of the queries that a head uses. -/
theorem slice_apply (q : FVec Ideal S512x512 .bf16) (o : ℕ) (hs : S512x512.Slices ![0, o] S512x128) (h : Fin 4) (ho : o = 128 * h.val) (r : Fin 512) (d : Fin 128) :
    extractStridedSlice S512x128 ![0, o] q hs (ValueIdx.ix2 r d) = q (ValueIdx.ix2 r (col h d)) := by
  refine extractStridedSlice_apply _ _ _ _ (ValueIdx.ix2 r (col h d)) (fun a => ?_)
  match a with
  | ⟨0, _⟩ => exact (Nat.zero_add _).symm
  | ⟨1, _⟩ => exact congrArg (· + d.val) ho.symm

/-- Head `h` of a block, from the queries, the keys read and the values read. -/
def headAt (q : FVec Ideal S512x512 .bf16) (kt : FVec Ideal S4x128x256 .bf16) (v : FVec Ideal S256x512 .bf16) (h : Fin 4) : FVec Ideal S512x128 .f32 := fun i =>
  mix (fun e => q (ValueIdx.ix2 (i 0) (col h e))) (fun s e => kt (ValueIdx.ix3 h e s)) (fun s e => v (ValueIdx.ix2 s (col h e))) (i 1)

/-- Head `h` as the block computes it. -/
theorem headAt_eq (q : FVec Ideal S512x512 .bf16) (kt : Vec Ideal S4x128x256 .bf16) (v : Vec Ideal S256x512 .bf16) (h : Fin 4) (o : ℕ) (ho : o = 128 * h.val)
    (n : ℕ) (hn : n = h.val)
    (hs : S512x512.Slices ![0, o] S512x128) (hk : ∀ a, (![n, 0, 0] : Fin 3 → ℕ) a + S1x128x256.size a ≤ S4x128x256.size a)
    (hv : ∀ a, (![0, o] : Fin 2 → ℕ) a + S256x128.size a ≤ S256x512.size a) :
    headBlock (extractStridedSlice S512x128 ![0, o] q hs)
      (shapeCast S128x256 (View.ld kt (Rect.unit (s := S4x128x256) ![n, 0, 0] S1x128x256.size hk) : Vec Ideal S1x128x256 .bf16) shapeCasts_S1x128x256_S128x256)
      (shapeCast S256x128 (View.ld v (Rect.unit (s := S256x512) ![0, o] S256x128.size hv) : Vec Ideal S256x128 .bf16) shapeCasts_S256x128_S256x128)
      = headAt q kt v h := funext fun i => by
  obtain ⟨r, d, rfl⟩ : ∃ (r : Fin 512) (d : Fin 128), i = ValueIdx.ix2 r d := ⟨i 0, i 1, by exact idx2_ext rfl rfl⟩
  refine (headBlock_apply _ _ _ r d).trans ?_
  have e1 : (fun e : Fin 128 => extractStridedSlice S512x128 ![0, o] q hs (ValueIdx.ix2 r e)) = fun e => q (ValueIdx.ix2 r (col h e)) :=
    funext fun e => slice_apply q o hs h ho r e
  have e2 : (fun (s : Fin 256) (e : Fin 128) => (shapeCast S128x256 (View.ld kt (Rect.unit (s := S4x128x256) ![n, 0, 0] S1x128x256.size hk) : Vec Ideal S1x128x256 .bf16)
      shapeCasts_S1x128x256_S128x256 : FVec Ideal S128x256 .bf16) (ValueIdx.ix2 e s)) = fun s e => kt (ValueIdx.ix3 h e s) :=
    funext fun s => funext fun e => (squeeze_apply ..).trans (View.ld_unit_apply_of _ _ _ _ _ (ValueIdx.ix3 h e s) fun a => match a with
      | ⟨0, _⟩ => hn.symm
      | ⟨1, _⟩ => (Nat.zero_add _).symm
      | ⟨2, _⟩ => (Nat.zero_add _).symm)
  have e3 : (fun (s : Fin 256) (e : Fin 128) => (shapeCast S256x128 (View.ld v (Rect.unit (s := S256x512) ![0, o] S256x128.size hv) : Vec Ideal S256x128 .bf16)
      shapeCasts_S256x128_S256x128 : FVec Ideal S256x128 .bf16) (ValueIdx.ix2 s e)) = fun s e => v (ValueIdx.ix2 s (col h e)) :=
    funext fun s => funext fun e => (congrFun (shapeCast_self _ _) _).trans (View.ld_unit_apply_of _ _ _ _ _ (ValueIdx.ix2 s (col h e)) fun a => match a with
      | ⟨0, _⟩ => (Nat.zero_add _).symm
      | ⟨1, _⟩ => congrArg (· + e.val) ho.symm)
  rw [e1, e2, e3]
  rfl

/-- The heads one after another, read at a column. -/
theorem join_apply (A : Fin 4 → FVec Ideal S512x128 .f32) (r n : Fin 512) :
    concatenate S512x512 1 [⟨S512x128, A 0⟩, ⟨S512x128, A 1⟩, ⟨S512x128, A 2⟩, ⟨S512x128, A 3⟩]
      concatenates_S512x128_S512x128_S512x128_S512x128_S512x512_d1 (ValueIdx.ix2 r n) = A (headOf n) (ValueIdx.ix2 r (place n)) := by
  have hn := n.isLt
  have go (h : Fin 4) (hh : n.val / 128 = h.val) (pre : ℕ) (hp : pre = 128 * h.val)
      (hx : [(⟨S512x128, A 0⟩ : (s : Shape) × (s.Idx → EReal)), ⟨S512x128, A 1⟩, ⟨S512x128, A 2⟩, ⟨S512x128, A 3⟩][h.val]'h.isLt = ⟨S512x128, A h⟩)
      (hs : ((([(⟨S512x128, A 0⟩ : (s : Shape) × (s.Idx → EReal)), ⟨S512x128, A 1⟩, ⟨S512x128, A 2⟩, ⟨S512x128, A 3⟩].take h.val).map (·.1)).map
        fun s => if h : s.rank = S512x512.rank then s.size ((1 : Fin S512x512.rank).cast h.symm) else 0).sum = pre) :
      concatenate S512x512 1 [⟨S512x128, A 0⟩, ⟨S512x128, A 1⟩, ⟨S512x128, A 2⟩, ⟨S512x128, A 3⟩]
        concatenates_S512x128_S512x128_S512x128_S512x128_S512x512_d1 (ValueIdx.ix2 r n) = A (headOf n) (ValueIdx.ix2 r (place n)) := by
    have e : headOf n = h := Fin.ext hh
    rw [e]
    refine concatenate_apply_piece (t := S512x512) 1 [(⟨S512x128, A 0⟩ : (s : Shape) × (s.Idx → EReal)), ⟨S512x128, A 1⟩, ⟨S512x128, A 2⟩, ⟨S512x128, A 3⟩] _ _ h.val h.isLt S512x128 (A h) hx rfl pre hs (ValueIdx.ix2 r (place n)) (fun b hb => ?_) ?_
    · match b, hb with
      | ⟨0, _⟩, _ => rfl
      | ⟨1, _⟩, hb => exact absurd rfl hb
    · show pre + n.val % 128 = n.val
      omega
  rcases (by omega : n.val / 128 = 0 ∨ n.val / 128 = 1 ∨ n.val / 128 = 2 ∨ n.val / 128 = 3) with h | h | h | h
  · exact go 0 h 0 rfl rfl rfl
  · exact go 1 h 128 rfl rfl rfl
  · exact go 2 h 256 rfl rfl rfl
  · exact go 3 h 384 rfl rfl rfl

/-- The block's queries, from the rows, the gain and the weights read. -/
theorem queries_apply (x : Vec Ideal S512x4096 .f32) (g : Vec Ideal S1x4096 .f32) (w : Vec Ideal S1x4096x512 .bf16) (r n : Fin 512) :
    k0_pay3 x g w (ValueIdx.ix2 r n)
      = query (fun j => x (ValueIdx.ix2 r j)) (fun j => g (ValueIdx.ix2 0 j)) (fun j n => w (ValueIdx.ix3 0 j n)) n := by
  refine (product_apply none (truncf .bf16 (Cert.Kernel7Ideal.Gen.k0_pay1 x g) bitsLt_bf16_f32) (shapeCast S4096x512 w shapeCasts_S1x4096x512_S4096x512) r n).trans (Finset.sum_congr rfl fun j _ => ?_)
  exact congrArg₂ (fun a b : EReal => a * b) (LastNorm.pay_apply x g r j) (squeeze_apply ..)

/-- The rows with the attention added, from what the block holds before the last head: the three heads done, the queries,
    the last head's keys and values, and the weights read. -/
theorem added_apply (x : FVec Ideal S512x4096 .f32) (q : FVec Ideal S512x512 .bf16) (kt : Vec Ideal S4x128x256 .bf16) (v : Vec Ideal S256x512 .bf16)
    (wo : Vec Ideal S1x512x4096 .bf16) (r : Fin 512) (j : Fin 4096) :
    k0_pay9 x q (headAt q kt v 0) (headAt q kt v 1) (headAt q kt v 2) (View.ld kt r0_9) (View.ld v r0_10) wo (ValueIdx.ix2 r j)
      = x (ValueIdx.ix2 r j) + ∑ n : Fin 512, headAt q kt v (headOf n) (ValueIdx.ix2 r (place n)) * wo (ValueIdx.ix3 0 n j) := by
  have e := headAt_eq q kt v 3 384 rfl 3 rfl slices_S512x512_o0_384_S512x128 inb_S4x128x256_S1x128x256_3_0_0 inb_S256x512_S256x128_0_384
  have u : k0_pay9 x q (headAt q kt v 0) (headAt q kt v 1) (headAt q kt v 2) (View.ld kt r0_9) (View.ld v r0_10) wo
      = addf (F := Ideal) (φ := .f32) x (matmul dot_S512x512_S512x4096_S512x4096_1_0_0_1_n_n none (truncf .bf16 (concatenate S512x512 1
          [⟨S512x128, headAt q kt v 0⟩, ⟨S512x128, headAt q kt v 1⟩, ⟨S512x128, headAt q kt v 2⟩, ⟨S512x128, headBlock
            (extractStridedSlice S512x128 ![0, 384] q slices_S512x512_o0_384_S512x128)
            (shapeCast S128x256 (View.ld kt r0_9 : Vec Ideal S1x128x256 .bf16) shapeCasts_S1x128x256_S128x256)
            (shapeCast S256x128 (View.ld v r0_10 : Vec Ideal S256x128 .bf16) shapeCasts_S256x128_S256x128)⟩]
          concatenates_S512x128_S512x128_S512x128_S512x128_S512x512_d1 : FVec Ideal S512x512 .f32) bitsLt_bf16_f32)
        (shapeCast S512x4096 wo shapeCasts_S1x512x4096_S512x4096) (constant S512x4096 .f32 0x00000000#32)) := rfl
  rw [u, e]
  refine congrArg (x (ValueIdx.ix2 r j) + ·) ((product_apply ..).trans (Finset.sum_congr rfl fun n _ => ?_))
  exact congrArg₂ (fun a b : EReal => a * b) (join_apply (headAt q kt v) r n) (squeeze_apply ..)

/-- A block's rows normalised again. -/
theorem renorm_apply (p : FVec Ideal S512x4096 .f32) (g : Vec Ideal S1x4096 .f32) (x : FVec Ideal S512x4096 .f32) (q : FVec Ideal S512x512 .bf16)
    (a b d : FVec Ideal S512x128 .f32) (k : Vec Ideal S1x128x256 .bf16) (v : Vec Ideal S256x128 .bf16) (w : Vec Ideal S1x512x4096 .bf16)
    (hp : k0_pay9 x q a b d k v w = p) (r : Fin 512) (j : Fin 4096) :
    k0_pay1 (k0_pay10 g) (k0_pay11 x q a b d k v w) (ValueIdx.ix2 r j)
      = normRow (fun j => p (ValueIdx.ix2 r j)) (fun j => g (ValueIdx.ix2 0 j)) j := by
  have h := LastNorm.pay_apply p g r j
  unfold Cert.Kernel7Ideal.Gen.k0_pay1 at h
  rw [shapeCast_self p] at h
  unfold k0_pay11
  rw [hp]
  exact h

/-- Which block of each array the call works on at each point. -/
theorem index0 : ∀ t : Fin cfg0.N, (cfg0.win 0).index t = ![t.val, 0] ∧ (cfg0.win 1).index t = ![0, 0] ∧ (cfg0.win 2).index t = ![0, 0]
    ∧ (cfg0.win 3).index t = ![0, 0, 0] ∧ (cfg0.win 4).index t = ![0, 0, 0] ∧ (cfg0.win 5).index t = ![0, 0] ∧ (cfg0.win 6).index t = ![0, 0, 0]
    ∧ (cfg0.win 7).index t = ![t.val, 0] ∧ (cfg0.win 8).index t = ![t.val, 0] := by
  decide +kernel

/-- Row `r` of the block of point `t`. -/
def row (t : Fin cfg0.N) (r : Fin 512) : Fin 16384 := ⟨512 * t.val + r.val, by have h : t.val < 32 := t.isLt; have := r.isLt; omega⟩

/-- An element of a block of the rows. -/
theorem emb_0 (t : Fin cfg0.N) (y : S512x4096.Idx) : (win0_0.blk t).view.emb y = ValueIdx.ix2 (row t (y 0)) (y 1) := by
  have e := (index0 t).1
  refine idx2_ext ?_ ?_ <;> blk_simp [e]
  show t.val * 512 + (y 0).val = 512 * t.val + (y 0).val
  omega

/-- An element of the block of the first gain. -/
theorem emb_1 (t : Fin cfg0.N) (y : S1x4096.Idx) : (win0_1.blk t).view.emb y = ValueIdx.ix2 (y 0) (y 1) := by
  have e := (index0 t).2.1
  refine idx2_ext ?_ ?_ <;> blk_simp [e]

/-- An element of the block of the second gain. -/
theorem emb_2 (t : Fin cfg0.N) (y : S1x4096.Idx) : (win0_2.blk t).view.emb y = ValueIdx.ix2 (y 0) (y 1) := by
  have e := (index0 t).2.2.1
  refine idx2_ext ?_ ?_ <;> blk_simp [e]

/-- An element of the block of the queries' weights: the first layer's. -/
theorem emb_3 (t : Fin cfg0.N) (j : Fin 4096) (n : Fin 512) : (win0_3.blk t).view.emb (ValueIdx.ix3 0 j n : S1x4096x512.Idx) = ValueIdx.ix3 0 j n := by
  have e := (index0 t).2.2.2.1
  refine idx3_ext ?_ ?_ ?_ <;> blk_simp [e]
  rfl

/-- An element of the block of the keys. -/
theorem emb_4 (t : Fin cfg0.N) (y : S4x128x256.Idx) : (win0_4.blk t).view.emb y = ValueIdx.ix3 (y 0) (y 1) (y 2) := by
  have e := (index0 t).2.2.2.2.1
  refine idx3_ext ?_ ?_ ?_ <;> blk_simp [e]

/-- An element of the block of the values. -/
theorem emb_5 (t : Fin cfg0.N) (y : S256x512.Idx) : (win0_5.blk t).view.emb y = ValueIdx.ix2 (y 0) (y 1) := by
  have e := (index0 t).2.2.2.2.2.1
  refine idx2_ext ?_ ?_ <;> blk_simp [e]

/-- An element of the block of the output's weights: the first layer's. -/
theorem emb_6 (t : Fin cfg0.N) (n : Fin 512) (j : Fin 4096) : (win0_6.blk t).view.emb (ValueIdx.ix3 0 n j : S1x512x4096.Idx) = ValueIdx.ix3 0 n j := by
  have e := (index0 t).2.2.2.2.2.2.1
  refine idx3_ext ?_ ?_ ?_ <;> blk_simp [e]
  rfl

/-- An element of a block of the first result. -/
theorem emb_7 (t : Fin cfg0.N) (y : S512x4096.Idx) : (win0_7.blk t).view.emb y = ValueIdx.ix2 (row t (y 0)) (y 1) := by
  have e := (index0 t).2.2.2.2.2.2.2.1
  refine idx2_ext ?_ ?_ <;> blk_simp [e]
  show t.val * 512 + (y 0).val = 512 * t.val + (y 0).val
  omega

/-- An element of a block of the second result. -/
theorem emb_8 (t : Fin cfg0.N) (y : S512x4096.Idx) : (win0_8.blk t).view.emb y = ValueIdx.ix2 (row t (y 0)) (y 1) := by
  have e := (index0 t).2.2.2.2.2.2.2.2
  refine idx2_ext ?_ ?_ <;> blk_simp [e]
  show t.val * 512 + (y 0).val = 512 * t.val + (y 0).val
  omega

/-! ## The results -/

section spec
variable (x : (⟨3, ![1, 16384, 4096]⟩ : Shape).Idx → EReal) (g g' : (⟨1, ![4096]⟩ : Shape).Idx → EReal)
  (k v : (⟨3, ![1, 256, 512]⟩ : Shape).Idx → EReal) (wq : (⟨3, ![2, 4096, 512]⟩ : Shape).Idx → EReal) (wo : (⟨3, ![2, 512, 4096]⟩ : Shape).Idx → EReal)

/-- Row `t` with its attention added. -/
def outRow (t : Fin 16384) : Fin 4096 → EReal :=
  attended (fun j => x (ValueIdx.ix3 0 t j)) (fun j => g (ValueIdx.ix1 j)) (fun s n => k (ValueIdx.ix3 0 s n)) (fun s n => v (ValueIdx.ix3 0 s n))
    (fun j n => wq (ValueIdx.ix3 0 j n)) (fun n j => wo (ValueIdx.ix3 0 n j))

/-- The first result: the rows with the attention added. -/
def added : Vec Ideal S16384x4096 .f32 := fun i => outRow x g k v wq wo (i 0) (i 1)

/-- The second result: those rows normalised. -/
def renormed : Vec Ideal S16384x4096 .bf16 := fun i => normRow (outRow x g k v wq wo (i 0)) (fun j => g' (ValueIdx.ix1 j)) (i 1)

end spec

variable (m : (ℓ : Loc nD τ sig) → Buf (Elt Ideal) ℓ) (c : Dev nD)

/-- The rows, from the argument. -/
theorem rows_eq : V m c main_v3 = (shapeCast S16384x4096 (m ((c : Thread nD τ).loc main_arg0) : Vec Ideal S1x16384x4096 .f32)
    shapeCasts_S1x16384x4096_S16384x4096 : Vec Ideal S16384x4096 .f32) := by
  show StableHlo.after hostOps0 (fun b => m (c, b)) (Proc.devRef .tc main_v3) = _
  simp only [hostOps0]
  after_results
  rfl

/-- The first gain, from the argument. -/
theorem gain_eq : V m c main_v8 = (shapeCast S1x4096 (m ((c : Thread nD τ).loc main_arg1) : Vec Ideal S4096 .f32)
    shapeCasts_S4096_S1x4096 : Vec Ideal S1x4096 .f32) := by
  show StableHlo.after hostOps0 (fun b => m (c, b)) (Proc.devRef .tc main_v8) = _
  simp only [hostOps0]
  after_results
  rfl

/-- The second gain, from the argument. -/
theorem gain2_eq : V m c main_v9 = (shapeCast S1x4096 (m ((c : Thread nD τ).loc main_arg2) : Vec Ideal S4096 .f32)
    shapeCasts_S4096_S1x4096 : Vec Ideal S1x4096 .f32) := by
  show StableHlo.after hostOps0 (fun b => m (c, b)) (Proc.devRef .tc main_v9) = _
  simp only [hostOps0]
  after_results
  rfl

/-- The keys, from the argument: by head, then column, then position in the memory. -/
theorem keys_eq : V m c main_v2 = (transpose S4x128x256 [1, 2, 0] (shapeCast S256x4x128
    (truncf .bf16 (m ((c : Thread nD τ).loc main_arg3) : FVec Ideal S1x256x512 .f32) bitsLt_bf16_f32 : FVec Ideal S1x256x512 .bf16)
    shapeCasts_S1x256x512_S256x4x128) transposes_S256x4x128_S4x128x256_1_2_0 : Vec Ideal S4x128x256 .bf16) := by
  show StableHlo.after hostOps0 (fun b => m (c, b)) (Proc.devRef .tc main_v2) = _
  simp only [hostOps0]
  after_results
  rfl

/-- The values, from the argument. -/
theorem values_eq : V m c main_v6 = (truncf .bf16 (shapeCast S256x512 (m ((c : Thread nD τ).loc main_arg4) : FVec Ideal S1x256x512 .f32)
    shapeCasts_S1x256x512_S256x512 : FVec Ideal S256x512 .f32) bitsLt_bf16_f32 : Vec Ideal S256x512 .bf16) := by
  show StableHlo.after hostOps0 (fun b => m (c, b)) (Proc.devRef .tc main_v6) = _
  simp only [hostOps0]
  after_results
  rfl

/-- The queries' weights, from the argument. -/
theorem wq_eq : V m c main_v4 = (truncf .bf16 (m ((c : Thread nD τ).loc main_arg5) : FVec Ideal S2x4096x512 .f32) bitsLt_bf16_f32 : FVec Ideal S2x4096x512 .bf16) := by
  show StableHlo.after hostOps0 (fun b => m (c, b)) (Proc.devRef .tc main_v4) = _
  simp only [hostOps0]
  after_results

/-- The output's weights, from the argument. -/
theorem wo_eq : V m c main_v7 = (truncf .bf16 (m ((c : Thread nD τ).loc main_arg6) : FVec Ideal S2x512x4096 .f32) bitsLt_bf16_f32 : FVec Ideal S2x512x4096 .bf16) := by
  show StableHlo.after hostOps0 (fun b => m (c, b)) (Proc.devRef .tc main_v7) = _
  simp only [hostOps0]
  after_results

/-- The keys, read. -/
theorem keys_apply (h : Fin 4) (e : Fin 128) (s : Fin 256) :
    V m c main_v2 (ValueIdx.ix3 h e s) = m ((c : Thread nD τ).loc main_arg3) (ValueIdx.ix3 0 s (col h e)) := by
  refine (congrFun (keys_eq m c) _).trans ((transpose_apply _ _ _ _ (ValueIdx.ix3 s h e) (fun b => ?_)).trans (shapeCast_apply _ _ _ (ValueIdx.ix3 0 s (col h e)) ?_))
  · match b with
    | ⟨0, _⟩ => rfl
    | ⟨1, _⟩ => rfl
    | ⟨2, _⟩ => rfl
  · rw [Shape.rowMajor_val_three, Shape.rowMajor_val_three]
    show (0 * 256 + s.val) * 512 + (128 * h.val + e.val) = (s.val * 4 + h.val) * 128 + e.val
    omega

/-- A row of the block of the rows. -/
theorem read_0 (t : Fin cfg0.N) (r : Fin 512) (j : Fin 4096) :
    iblk m c 0 t (ValueIdx.ix2 r j) = m ((c : Thread nD τ).loc main_arg0) (ValueIdx.ix3 0 (row t r) j) :=
  (View.read_apply ..).trans ((congrArg (V m c main_v3) (emb_0 t _)).trans ((congrFun (rows_eq m c) _).trans (squeeze_apply ..)))

/-- The block of the first gain. -/
theorem read_1 (t : Fin cfg0.N) (j : Fin 4096) : iblk m c 1 t (ValueIdx.ix2 0 j) = m ((c : Thread nD τ).loc main_arg1) (ValueIdx.ix1 j) :=
  (View.read_apply ..).trans ((congrArg (V m c main_v8) (emb_1 t _)).trans ((congrFun (gain_eq m c) _).trans (unsqueeze_apply ..)))

/-- The block of the second gain. -/
theorem read_2 (t : Fin cfg0.N) (j : Fin 4096) : iblk m c 2 t (ValueIdx.ix2 0 j) = m ((c : Thread nD τ).loc main_arg2) (ValueIdx.ix1 j) :=
  (View.read_apply ..).trans ((congrArg (V m c main_v9) (emb_2 t _)).trans ((congrFun (gain2_eq m c) _).trans (unsqueeze_apply ..)))

/-- The block of the queries' weights. -/
theorem read_3 (t : Fin cfg0.N) (j : Fin 4096) (n : Fin 512) :
    iblk m c 3 t (ValueIdx.ix3 0 j n) = m ((c : Thread nD τ).loc main_arg5) (ValueIdx.ix3 0 j n) :=
  (View.read_apply ..).trans ((congrArg (V m c main_v4) (emb_3 t j n)).trans (congrFun (wq_eq m c) _))

/-- The block of the keys. -/
theorem read_4 (t : Fin cfg0.N) (h : Fin 4) (e : Fin 128) (s : Fin 256) :
    iblk m c 4 t (ValueIdx.ix3 h e s) = m ((c : Thread nD τ).loc main_arg3) (ValueIdx.ix3 0 s (col h e)) :=
  (View.read_apply ..).trans ((congrArg (V m c main_v2) (emb_4 t _)).trans (keys_apply m c h e s))

/-- The block of the values. -/
theorem read_5 (t : Fin cfg0.N) (s : Fin 256) (n : Fin 512) :
    iblk m c 5 t (ValueIdx.ix2 s n) = m ((c : Thread nD τ).loc main_arg4) (ValueIdx.ix3 0 s n) :=
  (View.read_apply ..).trans ((congrArg (V m c main_v6) (emb_5 t _)).trans ((congrFun (values_eq m c) _).trans (squeeze_apply ..)))

/-- The block of the output's weights. -/
theorem read_6 (t : Fin cfg0.N) (n : Fin 512) (j : Fin 4096) :
    iblk m c 6 t (ValueIdx.ix3 0 n j) = m ((c : Thread nD τ).loc main_arg6) (ValueIdx.ix3 0 n j) :=
  (View.read_apply ..).trans ((congrArg (V m c main_v7) (emb_6 t n j)).trans (congrFun (wo_eq m c) _))

/-- What the body adds up at a point, from the blocks read. -/
theorem body_eq (x0 : Vec Ideal S512x4096 .f32) (x1 x2 : Vec Ideal S1x4096 .f32) (x3 : Vec Ideal S1x4096x512 .bf16) (x4 : Vec Ideal S4x128x256 .bf16)
    (x5 : Vec Ideal S256x512 .bf16) (x6 : Vec Ideal S1x512x4096 .bf16) (r : Fin 512) (j : Fin 4096) :
    k0_pay9 (k0_pay12 x0 x1 x2 x3 x4 x5 x6) (k0_pay13 x0 x1 x2 x3 x4 x5 x6) (k0_pay14 x0 x1 x2 x3 x4 x5 x6) (k0_pay15 x0 x1 x2 x3 x4 x5 x6)
        (k0_pay16 x0 x1 x2 x3 x4 x5 x6) (View.ld x4 r0_9) (View.ld x5 r0_10) (View.ld x6 r0_11) (ValueIdx.ix2 r j)
      = x0 (ValueIdx.ix2 r j) + ∑ n : Fin 512, headAt (k0_pay3 x0 x1 x3) x4 x5 (headOf n) (ValueIdx.ix2 r (place n)) * x6 (ValueIdx.ix3 0 n j) := by
  have a : View.ld x0 r0_0 = x0 := View.ld_unit_lit _ _ (by decide)
  have b : View.ld x1 r0_1 = x1 := View.ld_unit_lit _ _ (by decide)
  have d : View.ld x3 r0_2 = x3 := View.ld_unit_lit _ _ (by decide)
  have f : View.ld x6 r0_11 = x6 := View.ld_unit_lit _ _ (by decide)
  have e12 : k0_pay12 x0 x1 x2 x3 x4 x5 x6 = x0 := (congrArg k0_pay2 a).trans (shapeCast_self _ _)
  have e13 : k0_pay13 x0 x1 x2 x3 x4 x5 x6 = k0_pay3 x0 x1 x3 := by unfold k0_pay13; rw [a, b, d]
  have e14 : k0_pay14 x0 x1 x2 x3 x4 x5 x6 = headAt (k0_pay3 x0 x1 x3) x4 x5 0 := by
    unfold k0_pay14
    rw [a, b, d]
    exact headAt_eq (k0_pay3 x0 x1 x3) x4 x5 0 0 rfl 0 rfl slices_S512x512_o0_0_S512x128 inb_S4x128x256_S1x128x256_0_0_0 inb_S256x512_S256x128_0_0
  have e15 : k0_pay15 x0 x1 x2 x3 x4 x5 x6 = headAt (k0_pay3 x0 x1 x3) x4 x5 1 := by
    unfold k0_pay15
    rw [e13]
    exact headAt_eq (k0_pay3 x0 x1 x3) x4 x5 1 128 rfl 1 rfl slices_S512x512_o0_128_S512x128 inb_S4x128x256_S1x128x256_1_0_0 inb_S256x512_S256x128_0_128
  have e16 : k0_pay16 x0 x1 x2 x3 x4 x5 x6 = headAt (k0_pay3 x0 x1 x3) x4 x5 2 := by
    unfold k0_pay16
    rw [e13]
    exact headAt_eq (k0_pay3 x0 x1 x3) x4 x5 2 256 rfl 2 rfl slices_S512x512_o0_256_S512x128 inb_S4x128x256_S1x128x256_2_0_0 inb_S256x512_S256x128_0_256
  rw [e12, e13, e14, e15, e16, f]
  exact added_apply ..

/-- What the body adds up at point `t`: the rows with their attention added. -/
theorem body_value (t : Fin cfg0.N) (r : Fin 512) (j : Fin 4096) :
    k0_pay9 (k0_pay12 (iblk m c 0 t) (iblk m c 1 t) (iblk m c 2 t) (iblk m c 3 t) (iblk m c 4 t) (iblk m c 5 t) (iblk m c 6 t))
        (k0_pay13 (iblk m c 0 t) (iblk m c 1 t) (iblk m c 2 t) (iblk m c 3 t) (iblk m c 4 t) (iblk m c 5 t) (iblk m c 6 t))
        (k0_pay14 (iblk m c 0 t) (iblk m c 1 t) (iblk m c 2 t) (iblk m c 3 t) (iblk m c 4 t) (iblk m c 5 t) (iblk m c 6 t))
        (k0_pay15 (iblk m c 0 t) (iblk m c 1 t) (iblk m c 2 t) (iblk m c 3 t) (iblk m c 4 t) (iblk m c 5 t) (iblk m c 6 t))
        (k0_pay16 (iblk m c 0 t) (iblk m c 1 t) (iblk m c 2 t) (iblk m c 3 t) (iblk m c 4 t) (iblk m c 5 t) (iblk m c 6 t))
        (View.ld (iblk m c 4 t) r0_9) (View.ld (iblk m c 5 t) r0_10) (View.ld (iblk m c 6 t) r0_11) (ValueIdx.ix2 r j)
      = outRow (m ((c : Thread nD τ).loc main_arg0)) (m ((c : Thread nD τ).loc main_arg1)) (m ((c : Thread nD τ).loc main_arg3))
          (m ((c : Thread nD τ).loc main_arg4)) (m ((c : Thread nD τ).loc main_arg5)) (m ((c : Thread nD τ).loc main_arg6)) (row t r) j := by
  refine (body_eq ..).trans (congrArg₂ (fun a b : EReal => a + b) (read_0 m c t r j) (Finset.sum_congr rfl fun n _ => congrArg₂ (fun a b : EReal => a * b) ?_ (read_6 m c t n j)))
  have q (n : Fin 512) : k0_pay3 (iblk m c 0 t) (iblk m c 1 t) (iblk m c 3 t) (ValueIdx.ix2 r n)
      = query (fun j => m ((c : Thread nD τ).loc main_arg0) (ValueIdx.ix3 0 (row t r) j)) (fun j => m ((c : Thread nD τ).loc main_arg1) (ValueIdx.ix1 j))
          (fun j n => m ((c : Thread nD τ).loc main_arg5) (ValueIdx.ix3 0 j n)) n := by
    refine (queries_apply _ _ _ r n).trans ?_
    rw [funext (read_0 m c t r), funext (read_1 m c t), funext fun j => funext (read_3 m c t j)]
  unfold headAt mixed
  refine congrFun (congr (congr (congrArg mix (funext fun e => q _)) (funext fun s => funext fun e => read_4 m c t _ e s)) (funext fun s => funext fun e => read_5 m c t s _)) _

/-- **The kernel's first result.** -/
theorem kernel_added : (dats m 0 c).arrAt 7 cfg0.N
    = added (m ((c : Thread nD τ).loc main_arg0)) (m ((c : Thread nD τ).loc main_arg1)) (m ((c : Thread nD τ).loc main_arg3))
        (m ((c : Thread nD τ).loc main_arg4)) (m ((c : Thread nD τ).loc main_arg5)) (m ((c : Thread nD τ).loc main_arg6)) := by
  refine Pipeline.Dat.arrAt_eq_of_covers (dats m 0 c) 7 _ (by decide +kernel) fun t hf y => ?_
  blk_simp
  rw [after0_7, emb_7]
  obtain ⟨r, j, rfl⟩ : ∃ (r : Fin 512) (j : Fin 4096), y = ValueIdx.ix2 r j := ⟨y 0, y 1, by exact idx2_ext rfl rfl⟩
  unfold out0_7
  rw [View.canon_cons_unit_lit _ _ _ (by decide)]
  exact body_value m c t r j

/-- **The kernel's second result.** -/
theorem kernel_renormed : (dats m 0 c).arrAt 8 cfg0.N
    = renormed (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) := by
  refine Pipeline.Dat.arrAt_eq_of_covers (dats m 0 c) 8 _ (by decide +kernel) fun t hf y => ?_
  blk_simp
  rw [after0_8, emb_8]
  obtain ⟨r, j, rfl⟩ : ∃ (r : Fin 512) (j : Fin 4096), y = ValueIdx.ix2 r j := ⟨y 0, y 1, by exact idx2_ext rfl rfl⟩
  unfold out0_8
  rw [View.canon_cons_unit_lit _ _ _ (by decide), View.ld_unit_lit (S := S1x4096) _ _ (by decide)]
  refine (renorm_apply _ (iblk m c 2 t) _ _ _ _ _ _ _ _ rfl r j).trans ?_
  exact congrFun (congr (congrArg normRow (funext (body_value m c t r))) (funext (read_2 m c t))) j

/-! ## The reference -/

section reference
open Cert.Reference9Ideal.Read
variable (x : Vec Ideal Cert.Reference9Ideal.S1x16384x4096 .f32) (g g' : Vec Ideal Cert.Reference9Ideal.S4096 .f32)
  (k v : Vec Ideal Cert.Reference9Ideal.S1x256x512 .f32) (wq : Vec Ideal Cert.Reference9Ideal.S2x4096x512 .f32) (wo : Vec Ideal Cert.Reference9Ideal.S2x512x4096 .f32)

/-- A row normalised. -/
theorem ref_norm (t : Fin 16384) (j : Fin 4096) :
    val_main_v12 (F := Ideal) x g (ValueIdx.ix3 0 t j) = normRow (fun j => x (ValueIdx.ix3 0 t j)) (fun j => g (ValueIdx.ix1 j)) j := by
  rw [val_main_v12_apply, val_main_v9_apply, val_main_v8_apply, val_main_v7_apply, val_main_v6_apply, val_main_v4_apply, val_main_v2_apply, val_main_v1_apply,
    val_main_v3_apply, val_main_v5_apply, val_main_v11_apply, val_main_v10_apply]
  refine congrArg₂ (fun a b : EReal => a * b) (congrArg (x (ValueIdx.ix3 0 t j) * LastNorm.scale ·) ?_) (congrArg g (funext fun a => match a with | ⟨0, _⟩ => rfl))
  refine (congrArg (· + _) Ideal.ofBits_zero_f32).trans ((zero_add _).trans (Finset.sum_congr rfl fun i _ => ?_))
  have e := congrArg x (idx3_ext (a := idx_main_v1 (idx_main_v2 (idx_main_v8 (ValueIdx.ix3 0 t j))) i) (b := ValueIdx.ix3 0 t i) rfl rfl rfl)
  exact congrArg₂ (fun a b : EReal => a * b) e e

/-- The reference's queries for a row. -/
def queries (t : Fin 16384) : Fin 512 → EReal :=
  query (fun j => x (ValueIdx.ix3 0 t j)) (fun j => g (ValueIdx.ix1 j)) (fun j n => wq (ValueIdx.ix3 0 j n))

/-- The queries. -/
theorem ref_query (t : Fin 16384) (n : Fin 512) : val_main_v15 (F := Ideal) x g wq (ValueIdx.ix3 0 t n) = queries x g wq t n := by
  rw [val_main_v15_apply]
  unfold queries query
  refine Finset.sum_congr rfl fun j _ => congrArg₂ (fun a b : EReal => a * b) ?_ ?_
  · exact Eq.trans (b := val_main_v12 (F := Ideal) x g (ValueIdx.ix3 0 t j)) (congrArg _ (idx3_ext rfl rfl rfl)) (ref_norm x g t j)
  · have hj := j.isLt
    have hn := n.isLt
    rw [val_main_v14_apply, val_main_v13_apply]
    exact congrArg wq (idx3_ext rfl (show (j.val * 512 + n.val) / 512 % 4096 = j.val by omega) (show (j.val * 512 + n.val) % 512 = n.val by omega))

/-- The logits of a row in a head. -/
def logits (t : Fin 16384) (h : Fin 4) : Fin 256 → EReal := logit (fun d => queries x g wq t (col h d)) (fun s d => k (ValueIdx.ix3 0 s (col h d)))

/-- The scaled scores. -/
theorem ref_logit (h : Fin 4) (t : Fin 16384) (s : Fin 256) :
    val_main_v21 (F := Ideal) x g k wq (ValueIdx.ix4 0 h t s) = logits x g k wq t h s := by
  rw [val_main_v21_apply, val_main_v20_apply, val_main_cst_2_apply, val_main_v19_apply]
  refine congrArg (· * Ideal.ofBits .f32 0x3DB504F3#32) (Finset.sum_congr rfl fun d _ => ?_)
  have hh := h.isLt
  have ht := t.isLt
  have hs := s.isLt
  have hd := d.isLt
  rw [val_main_v16_apply, val_main_v17_apply]
  refine congrArg₂ (fun a b : EReal => a * b) ?_ ?_
  · exact Eq.trans (b := val_main_v15 (F := Ideal) x g wq (ValueIdx.ix3 0 t (col h d)))
      (congrArg _ (idx3_ext rfl (show (((0 * 16384 + t.val) * 4 + h.val) * 128 + d.val) / 512 % 16384 = t.val by omega)
        (show (((0 * 16384 + t.val) * 4 + h.val) * 128 + d.val) % 512 = 128 * h.val + d.val by omega))) (ref_query x g wq t (col h d))
  · exact congrArg k (idx3_ext rfl (show (((0 * 256 + s.val) * 4 + h.val) * 128 + d.val) / 512 % 256 = s.val by omega)
        (show (((0 * 256 + s.val) * 4 + h.val) * 128 + d.val) % 512 = 128 * h.val + d.val by omega))

/-- The greatest score of a row in a head. -/
theorem ref_greatest (h : Fin 4) (t : Fin 16384) : val_main_v24 (F := Ideal) x g k wq (ValueIdx.ix3 0 h t) = greatest (logits x g k wq t h) := by
  rw [val_main_v24_apply, val_main_v23_apply, val_main_cst_4_apply]
  unfold val_main_v22
  rw [Host.reduce_eq_fold_single FloatOps.maximumf _ _ _ (by decide : Cert.Reference9Ideal.S1x4x16384x256.Reduces [3] Cert.Reference9Ideal.S1x4x16384)
    Cert.Reference9Ideal.Facts₀.h_S_, val_main_cst_3_apply]
  show max (Ideal.ofBits .f32 0xFF800000#32) (Finset.fold max (Ideal.ofBits .f32 0xFF800000#32) _ _) = _
  rw [negInf_bits, max_eq_right bot_le]
  refine Finset.fold_congr fun s _ => Eq.trans ?_ (ref_logit x g k wq h t s)
  refine congrArg (val_main_v21 (F := Ideal) x g k wq) (funext fun a => Fin.ext ?_)
  match a with
  | ⟨0, _⟩ => rfl
  | ⟨1, _⟩ => rfl
  | ⟨2, _⟩ => rfl
  | ⟨3, _⟩ => rfl

/-- The softmax weights. -/
theorem ref_weight (h : Fin 4) (t : Fin 16384) (s : Fin 256) :
    val_main_v32 (F := Ideal) x g k wq (ValueIdx.ix4 0 h t s) = weight (logits x g k wq t h) s := by
  have hw (s : Fin 256) : val_main_v28 (F := Ideal) x g k wq (ValueIdx.ix4 0 h t s) = Ideal.exp (logits x g k wq t h s - greatest (logits x g k wq t h)) := by
    rw [val_main_v28_apply, val_main_v27_apply, val_main_v26_apply, val_main_v25_apply, ← ref_greatest, ← ref_logit]
    exact congrArg Ideal.exp (congrArg₂ (fun a b : EReal => a - b) rfl (congrArg (val_main_v24 (F := Ideal) x g k wq) (idx3_ext rfl rfl rfl)))
  rw [val_main_v32_apply, val_main_v31_apply, val_main_v30_apply, val_main_v29_apply, val_main_cst_5_apply, hw]
  refine congrArg (Ideal.div _) ((congrArg (· + _) Ideal.ofBits_zero_f32).trans ((zero_add _).trans (Finset.sum_congr rfl fun s' _ => ?_)))
  rw [← hw s']
  refine congrArg (val_main_v28 (F := Ideal) x g k wq) (funext fun a => Fin.ext ?_)
  match a with
  | ⟨0, _⟩ => rfl
  | ⟨1, _⟩ => rfl
  | ⟨2, _⟩ => rfl
  | ⟨3, _⟩ => rfl

/-- The position of the memory that an element's place in a row after row layout names. -/
theorem unroll_row (s : Fin 256) (a b : ℕ) (ha : a < 4) (hb : b < 128) : (((0 * 256 + s.val) * 4 + a) * 128 + b) / 512 % 256 = s.val := by
  have hs := s.isLt
  omega

/-- The column that it names. -/
theorem unroll_col (s : Fin 256) (a b : ℕ) (ha : a < 4) (hb : b < 128) : (((0 * 256 + s.val) * 4 + a) * 128 + b) % 512 = 128 * a + b := by
  omega

/-- The heads' mixtures, one after another. -/
theorem ref_mixed (t : Fin 16384) (n : Fin 512) : val_main_v35 (F := Ideal) x g k v wq (ValueIdx.ix3 0 t n)
    = mixed (queries x g wq t) (fun s n => k (ValueIdx.ix3 0 s n)) (fun s n => v (ValueIdx.ix3 0 s n)) n := by
  have ht := t.isLt
  have hn := n.isLt
  rw [val_main_v35_apply, val_main_v34_apply, val_main_v33_apply]
  unfold mixed mix
  refine Finset.sum_congr rfl fun s _ => (mul_comm _ _).trans (congrArg₂ (fun a b : EReal => a * b) ?_ ?_)
  · refine Eq.trans (b := val_main_v32 (F := Ideal) x g k wq (ValueIdx.ix4 0 (headOf n) t s)) (congrArg _ (funext fun a => Fin.ext ?_)) (ref_weight x g k wq (headOf n) t s)
    match a with
    | ⟨0, _⟩ => rfl
    | ⟨1, _⟩ => exact (show ((0 * 16384 + t.val) * 512 + n.val) / 128 % 4 = n.val / 128 by omega)
    | ⟨2, _⟩ => exact (show ((0 * 16384 + t.val) * 512 + n.val) / 512 % 16384 = t.val by omega)
    | ⟨3, _⟩ => rfl
  · have h1 : ((0 * 16384 + t.val) * 512 + n.val) / 128 % 4 = n.val / 128 := by omega
    have h2 : ((0 * 16384 + t.val) * 512 + n.val) % 128 = n.val % 128 := by omega
    rw [val_main_v18_apply]
    exact congrArg v (idx3_ext rfl (unroll_row s _ _ (lt_of_eq_of_lt h1 (headOf n).isLt) (lt_of_eq_of_lt h2 (place n).isLt))
      ((unroll_col s _ _ (lt_of_eq_of_lt h1 (headOf n).isLt) (lt_of_eq_of_lt h2 (place n).isLt)).trans (congrArg₂ (fun a b => 128 * a + b) h1 h2)))

/-- The rows with the attention added. -/
theorem ref_row (t : Fin 16384) (j : Fin 4096) : val_main_v39 (F := Ideal) x g k v wq wo (ValueIdx.ix3 0 t j) = outRow x g k v wq wo t j := by
  rw [val_main_v39_apply, val_main_v38_apply]
  refine congrArg (x (ValueIdx.ix3 0 t j) + ·) (Finset.sum_congr rfl fun n _ => congrArg₂ (fun a b : EReal => a * b) ?_ ?_)
  · exact Eq.trans (b := val_main_v35 (F := Ideal) x g k v wq (ValueIdx.ix3 0 t n)) (congrArg _ (idx3_ext rfl rfl rfl)) (ref_mixed x g k v wq t n)
  · have hj := j.isLt
    have hn := n.isLt
    rw [val_main_v37_apply, val_main_v36_apply]
    exact congrArg wo (idx3_ext rfl (show (n.val * 4096 + j.val) / 4096 % 512 = n.val by omega) (show (n.val * 4096 + j.val) % 4096 = j.val by omega))

/-- **The reference's first result.** -/
theorem reference_added : val_main_v53 (F := Ideal) x g k v wq wo = added x g k v wq wo := funext fun i => by
  obtain ⟨t, j, rfl⟩ : ∃ (t : Fin 16384) (j : Fin 4096), i = ValueIdx.ix2 t j := ⟨i 0, i 1, by exact idx2_ext rfl rfl⟩
  exact (squeeze_apply (val_main_v39 (F := Ideal) x g k v wq wo) Cert.Reference9Ideal.Facts₀.shapeCasts_S1x16384x4096_S16384x4096 t j).trans (ref_row x g k v wq wo t j)

/-- The second normalisation is the first, of other rows. -/
theorem renorm_eq : val_main_v52 (F := Ideal) x g g' k v wq wo = val_main_v12 (F := Ideal) (val_main_v39 (F := Ideal) x g k v wq wo) g' := rfl

/-- **The reference's second result.** -/
theorem reference_renormed : val_main_v55 (F := Ideal) x g g' k v wq wo = renormed x g g' k v wq wo := funext fun i => by
  obtain ⟨t, j, rfl⟩ : ∃ (t : Fin 16384) (j : Fin 4096), i = ValueIdx.ix2 t j := ⟨i 0, i 1, by exact idx2_ext rfl rfl⟩
  refine (squeeze_apply (val_main_v52 (F := Ideal) x g g' k v wq wo) Cert.Reference9Ideal.Facts₀.shapeCasts_S1x16384x4096_S16384x4096 t j).trans ?_
  rw [renorm_eq]
  refine (ref_norm _ g' t j).trans ?_
  exact congrArg (normRow · _ j) (funext (ref_row x g k v wq wo t))

end reference

/-- **The kernel computes what the reference computes**, over the extended reals: both results. -/
theorem algebraic : letI := Cert.Kernel9Ideal.Gen.facts; letI := Cert.Reference9Ideal.Gen.facts; Cert.algebraic_Kernel9Ideal_Reference9Ideal := by
  letI := Cert.Kernel9Ideal.Gen.facts; letI := Cert.Reference9Ideal.Gen.facts
  intro m g m' g' _ hargs
  refine ⟨fun c => added (m ((c.tc : Thread nD τ).loc main_arg0)) (m ((c.tc : Thread nD τ).loc main_arg1)) (m ((c.tc : Thread nD τ).loc main_arg3))
      (m ((c.tc : Thread nD τ).loc main_arg4)) (m ((c.tc : Thread nD τ).loc main_arg5)) (m ((c.tc : Thread nD τ).loc main_arg6)),
    fun c => renormed (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)), ?_, ?_⟩
  · refine (θ_run Cert.Kernel9Ideal.defs _ _).mono (fun r h c => ?_) (Cert.Kernel9Ideal.Value.run_blocks (F := Ideal) m g)
    obtain ⟨h7, h8, h⟩ := h c
    exact ⟨h7.trans (kernel_added m c), h8.trans (kernel_renormed m c), h⟩
  · refine (θ_run Cert.Reference9Ideal.defs _ _).mono (fun r h c => ?_) (Cert.Reference9Ideal.Value.run (F := Ideal) m' g')
    obtain ⟨h7, h8, h⟩ := h c
    obtain ⟨a0, a1, a2, a3, a4, a5, a6⟩ := hargs c
    refine ⟨h7.trans ((Cert.Reference9Ideal.Read.val_main_v53_eq _ _).trans ((reference_added _ _ _ _ _ _).trans ?_)),
      h8.trans ((Cert.Reference9Ideal.Read.val_main_v55_eq _ _).trans ((reference_renormed _ _ _ _ _ _ _).trans ?_)), h⟩
    · rw [a0, a1, a3, a4, a5, a6]
    · rw [a0, a1, a2, a3, a4, a5, a6]

end Cert.Cross
end
-- ==== Proof.Dense.Softplus.lean ====
/-
  `softplus`, the logarithm of one plus an exponential: the kernels' forms and the reference's, which agree at every extended real.
-/
module
public import proofs.«01_k».proof.Proof.Dense.Common
@[expose] public section
noncomputable section
namespace Cert.Dense
open Idealize.ShloMosaic

/-- The part of `softplus` that is even in its argument. -/
def evenPart (z : EReal) : EReal := Ideal.log1p (Ideal.exp (-max z (-z)))

/-- The logarithm of one plus the exponential of `z`. -/
def softplus (z : EReal) : EReal := max z 0 + evenPart z

/-- The logarithm of the logistic function of `z`, as the kernel spells it. -/
def logSigmoid (z : EReal) : EReal := min z 0 - evenPart z

/-- The even part is above minus infinity: it is the logarithm of a number that is at least one, or of plus infinity. -/
theorem evenPart_ne_bot (z : EReal) : evenPart z ≠ ⊥ := by
  unfold evenPart Ideal.log1p
  generalize -max z (-z) = y
  induction y with
  | bot =>
    show Ideal.log (1 + 0) ≠ ⊥
    rw [add_zero]
    show (if (1 : ℝ) ≤ 0 then (⊥ : EReal) else (Real.log 1 : EReal)) ≠ ⊥
    rw [if_neg (by norm_num)]
    exact EReal.coe_ne_bot _
  | top =>
    show Ideal.log (1 + ⊤) ≠ ⊥
    rw [EReal.add_top_of_ne_bot (by exact EReal.coe_ne_bot 1)]
    exact top_ne_bot
  | coe r =>
    have h : ¬(1 + Real.exp r ≤ 0) := by have := Real.exp_pos r; linarith
    show (if 1 + Real.exp r ≤ 0 then (⊥ : EReal) else (Real.log (1 + Real.exp r) : EReal)) ≠ ⊥
    rw [if_neg h]
    exact EReal.coe_ne_bot _

/-- The even part of the negated argument. -/
theorem evenPart_neg (z : EReal) : evenPart (-z) = evenPart z := by
  unfold evenPart
  rw [neg_neg, max_comm]

/-- The logarithm of the logistic function is the negated `softplus` of the negated argument. -/
theorem neg_softplus_neg (z : EReal) : -softplus (-z) = logSigmoid z := by
  unfold softplus logSigmoid
  rw [evenPart_neg, EReal.neg_add (Or.inl ?_) (Or.inr (evenPart_ne_bot z))]
  · congr 1
    rcases le_total z 0 with h | h
    · rw [max_eq_left (by simpa using EReal.neg_le_neg_iff.mpr h), min_eq_left h, neg_neg]
    · rw [max_eq_right (by simpa using EReal.neg_le_neg_iff.mpr h), min_eq_right h, neg_zero]
  · exact ne_of_gt (lt_of_lt_of_le EReal.bot_lt_zero (le_max_right _ _))

/-- The kernel's form of `softplus`: the exponent is zero less the absolute value. -/
theorem kernel_softplus (z : EReal) : max z (Ideal.ofBits .f32 0x00000000#32) + Ideal.log1p (Ideal.exp (Ideal.ofBits .f32 0x00000000#32 - max z (-z))) = softplus z := by
  rw [Ideal.ofBits_zero_f32, zero_sub]
  rfl

/-- The kernel's form of the logarithm of the logistic function. -/
theorem kernel_logSigmoid (z : EReal) : min z (Ideal.ofBits .f32 0x00000000#32) - Ideal.log1p (Ideal.exp (Ideal.ofBits .f32 0x00000000#32 - max z (-z))) = logSigmoid z := by
  rw [Ideal.ofBits_zero_f32, zero_sub]
  rfl

/-- The reference's form of `softplus`: the case of a number that is not itself does not arise. -/
theorem reference_softplus (z : EReal) : Scalar.select (Ideal.cmp .une (z - Ideal.ofBits .f32 0x00000000#32) (z - Ideal.ofBits .f32 0x00000000#32)) (z + Ideal.ofBits .f32 0x00000000#32)
    (max z (Ideal.ofBits .f32 0x00000000#32) + Ideal.log1p (Ideal.exp (-max (z - Ideal.ofBits .f32 0x00000000#32) (-(z - Ideal.ofBits .f32 0x00000000#32))))) = softplus z := by
  have e : Ideal.cmp .une z z = 0#1 := by simp [Ideal.cmp]
  rw [Ideal.ofBits_zero_f32, sub_zero, e]
  rfl

end Cert.Dense
end
-- ==== Proof.Dense.StepSizes.lean ====
/-
  The step sizes of the state-space layer: the last columns of its input projection, through `softplus`.
-/
module
public import proofs.«01_k».proof.Defs
public import proofs.«01_k».proof.Proof.Gen.Kernel10Ideal.Value
public import proofs.«01_k».proof.Proof.Gen.Reference10Ideal.Read
public import proofs.«01_k».proof.Proof.Dense.Softplus
public import Idealize.ShloMosaic.Lib.StableHlo.Run
@[expose] public section
set_option maxRecDepth 65536
noncomputable section
namespace Cert.StepSizes
open Idealize.ShloMosaic Idealize.ShloMosaic.TcCoe Idealize.SL.Sem Cert.Kernel10Ideal Cert.Kernel10Ideal.Gen Cert.Dense Cert.Fox

/-- A column of the step sizes among the weights' columns. -/
def among (j : Fin 128) : Fin 18560 := ⟨18432 + j.val, by have := j.isLt; omega⟩

/-- The step sizes: `softplus` of the rows' product with the last columns of the weights plus the bias. -/
def steps (h : (⟨3, ![1, 16384, 4096]⟩ : Shape).Idx → EReal) (w : (⟨3, ![1, 4096, 18560]⟩ : Shape).Idx → EReal) (b : (⟨1, ![128]⟩ : Shape).Idx → EReal) :
    Vec Ideal S16384x128 .f32 := fun i =>
  softplus ((∑ k : Fin 4096, h (ValueIdx.ix3 0 (i 0) k) * w (ValueIdx.ix3 0 k (among (i 1)))) + b (ValueIdx.ix1 (i 1)))

/-- The block stored at a point, from the blocks read. -/
theorem pay_apply (h : Vec Ideal S1024x4096 .bf16) (w : Vec Ideal S1x4096x128 .bf16) (b : Vec Ideal S1x128 .f32) (r : Fin 1024) (c : Fin 128) :
    k0_pay1 h w b (ValueIdx.ix2 r c) = softplus ((∑ k : Fin 4096, h (ValueIdx.ix2 r k) * w (ValueIdx.ix3 0 k c)) + b (ValueIdx.ix2 0 c)) := by
  have e : FloatOps.matmul (F := Ideal) (DotDims.plain 1024 4096 128) none (shapeCast S1024x4096 h shapeCasts_S1024x4096_S1024x4096 : FVec Ideal S1024x4096 .bf16)
      (shapeCast S4096x128 w shapeCasts_S1x4096x128_S4096x128 : FVec Ideal S4096x128 .bf16) (constant ⟨2, ![1024, 128]⟩ .f32 0x00000000#32) (ValueIdx.ix2 r c)
      = ∑ k : Fin 4096, h (ValueIdx.ix2 r k) * w (ValueIdx.ix3 0 k c) :=
    (product_apply ..).trans (Finset.sum_congr rfl fun k _ => congrArg₂ (· * ·) (congrFun (shapeCast_self _ _) _) (squeeze_apply ..))
  have eb : broadcastTo S1024x128 (shapeCast S1x128 b shapeCasts_S1x128_S1x128) broadcasts_S1x128_S1024x128 (ValueIdx.ix2 r c) = b (ValueIdx.ix2 0 c) := by
    rw [shapeCast_self]
    exact broadcastTo_apply (s := S1x128) (t := S1024x128) _ _ _ (ValueIdx.ix2 0 c) fun a => match a with
      | ⟨0, _⟩ => rfl
      | ⟨1, _⟩ => rfl
  rw [← e, ← eb, ← kernel_softplus]
  rfl

/-- Which block of each array the call works on at each point. -/
theorem index0 : ∀ t : Fin cfg0.N, (cfg0.win 0).index t = ![t.val, 0] ∧ (cfg0.win 1).index t = ![0, 0, 144]
    ∧ (cfg0.win 2).index t = ![0, 0] ∧ (cfg0.win 3).index t = ![t.val, 0] := by
  decide +kernel

/-- Row `r` of the block of point `t`. -/
def row (t : Fin cfg0.N) (r : Fin 1024) : Fin 16384 := ⟨1024 * t.val + r.val, by have h : t.val < 16 := t.isLt; have := r.isLt; omega⟩

/-- An element of a block of the rows. -/
theorem emb_0 (t : Fin cfg0.N) (y : S1024x4096.Idx) : (win0_0.blk t).view.emb y = ValueIdx.ix2 (row t (y 0)) (y 1) := by
  have e := (index0 t).1
  refine idx2_ext ?_ ?_ <;> blk_simp [e]
  show t.val * 1024 + (y 0).val = 1024 * t.val + (y 0).val
  omega

/-- An element of the block of the weights. -/
theorem emb_1 (t : Fin cfg0.N) (y : S1x4096x128.Idx) : (win0_1.blk t).view.emb y = ValueIdx.ix3 0 (y 1) (among (y 2)) := by
  have e := (index0 t).2.1
  refine idx3_ext ?_ ?_ ?_ <;> blk_simp [e]
  rfl

/-- An element of the block of the bias. -/
theorem emb_2 (t : Fin cfg0.N) (y : S1x128.Idx) : (win0_2.blk t).view.emb y = ValueIdx.ix2 0 (y 1) := by
  have e := (index0 t).2.2.1
  refine idx2_ext ?_ ?_ <;> blk_simp [e]

/-- An element of a block of the result. -/
theorem emb_3 (t : Fin cfg0.N) (y : S1024x128.Idx) : (win0_3.blk t).view.emb y = ValueIdx.ix2 (row t (y 0)) (y 1) := by
  have e := (index0 t).2.2.2
  refine idx2_ext ?_ ?_ <;> blk_simp [e]
  show t.val * 1024 + (y 0).val = 1024 * t.val + (y 0).val
  omega

variable (m : (ℓ : Loc nD τ sig) → Buf (Elt Ideal) ℓ) (c : Dev nD)

/-- The rows, from the argument. -/
theorem rows_eq : V m c main_v1 = truncf (F := Ideal) (s := S16384x4096) (φ := .f32) .bf16 (shapeCast S16384x4096 (m ((c : Thread nD τ).loc main_arg0) : Vec Ideal S1x16384x4096 .f32)
    shapeCasts_S1x16384x4096_S16384x4096) bitsLt_bf16_f32 := by
  show StableHlo.after (List.flatten [hostOps0]) (fun b => m (c, b)) (Proc.devRef .tc main_v1) = _
  simp only [hostOps0, List.flatten_cons, List.flatten_nil, List.append_nil]
  after_results
  rfl

/-- The weights, from the argument. -/
theorem weights_eq : V m c main_v2 = truncf (F := Ideal) (s := S1x4096x18560) (φ := .f32) .bf16 (m ((c : Thread nD τ).loc main_arg1)) bitsLt_bf16_f32 := by
  show StableHlo.after (List.flatten [hostOps0]) (fun b => m (c, b)) (Proc.devRef .tc main_v2) = _
  simp only [hostOps0, List.flatten_cons, List.flatten_nil, List.append_nil]
  after_results

/-- The bias, from the argument. -/
theorem bias_eq : V m c main_v3 = (shapeCast S1x128 (m ((c : Thread nD τ).loc main_arg2) : Vec Ideal S128 .f32) shapeCasts_S128_S1x128 : Vec Ideal S1x128 .f32) := by
  show StableHlo.after (List.flatten [hostOps0]) (fun b => m (c, b)) (Proc.devRef .tc main_v3) = _
  simp only [hostOps0, List.flatten_cons, List.flatten_nil, List.append_nil]
  after_results
  rfl

/-- **The kernel's result.** -/
theorem kernel_value : (dats m 0 c).arrAt 3 cfg0.N
    = steps (m ((c : Thread nD τ).loc main_arg0)) (m ((c : Thread nD τ).loc main_arg1)) (m ((c : Thread nD τ).loc main_arg2)) := by
  refine Pipeline.Dat.arrAt_eq_of_covers (dats m 0 c) 3 _ (by decide +kernel) fun t hf y => ?_
  blk_simp
  rw [after0_3, emb_3]
  obtain ⟨r, j, rfl⟩ : ∃ (r : Fin 1024) (j : Fin 128), y = ValueIdx.ix2 r j := ⟨y 0, y 1, by exact idx2_ext rfl rfl⟩
  unfold out0_3
  rw [View.canon_cons_unit_lit _ _ _ (by decide), View.ld_unit_lit _ _ (by decide), View.ld_unit_lit _ _ (by decide), View.ld_unit_lit _ _ (by decide)]
  refine (pay_apply ..).trans (congrArg softplus (congrArg₂ (· + ·) (Finset.sum_congr rfl fun k _ => congrArg₂ (· * ·) ?_ ?_) ?_))
  · exact (View.read_apply ..).trans ((congrArg (V m c main_v1) (emb_0 t _)).trans ((congrFun (rows_eq m c) _).trans (squeeze_apply ..)))
  · exact (View.read_apply ..).trans ((congrArg (V m c main_v2) (emb_1 t _)).trans (congrFun (weights_eq m c) _))
  · exact (View.read_apply ..).trans ((congrArg (V m c main_v3) (emb_2 t _)).trans ((congrFun (bias_eq m c) _).trans (unsqueeze_apply ..)))

/-- The reference's argument of `softplus` at an element. -/
theorem reference_sum (h : Vec Ideal Cert.Reference10Ideal.S1x16384x4096 .f32) (w : Vec Ideal Cert.Reference10Ideal.S1x4096x18560 .f32) (b : Vec Ideal Cert.Reference10Ideal.S128 .f32)
    (i : Cert.Reference10Ideal.S16384x128.Idx) : Cert.Reference10Ideal.Read.val_main_v8 (F := Ideal) h w b i
      = (∑ k : Fin 4096, h (ValueIdx.ix3 0 (i 0) k) * w (ValueIdx.ix3 0 k (among (i 1)))) + b (ValueIdx.ix1 (i 1)) := by
  have h0 : (i 0).val < 16384 := (i 0).isLt
  have h1 : (i 1).val < 128 := (i 1).isLt
  have e1 : ((i 0).val * 18560 + (18432 + (i 1).val)) / 18560 % 16384 = (i 0).val := by omega
  have e2 : ((i 0).val * 18560 + (18432 + (i 1).val)) % 18560 = 18432 + (i 1).val := by omega
  rw [Cert.Reference10Ideal.Read.val_main_v8_apply, Cert.Reference10Ideal.Read.val_main_v5_apply, Cert.Reference10Ideal.Read.val_main_v2_apply, Cert.Reference10Ideal.Read.val_main_v1_apply,
    Cert.Reference10Ideal.Read.val_main_v7_apply, Cert.Reference10Ideal.Read.val_main_v6_apply]
  refine congrArg₂ (· + ·) (Finset.sum_congr rfl fun k _ => ?_) (congrArg b (funext fun a => match a with | ⟨0, _⟩ => rfl))
  have hk := k.isLt
  rw [Cert.Reference10Ideal.Read.val_main_v0_apply]
  exact congrArg₂ (· * ·) (congrArg h (idx3_ext rfl e1 rfl)) (congrArg w (idx3_ext rfl
    (show (k.val * 18560 + ((i 0).val * 18560 + (18432 + (i 1).val)) % 18560) / 18560 % 4096 = k.val by rw [e2]; omega)
    (show (k.val * 18560 + ((i 0).val * 18560 + (18432 + (i 1).val)) % 18560) % 18560 = 18432 + (i 1).val by rw [e2]; omega)))

/-- **The reference's result.** -/
theorem reference_value (h : Vec Ideal Cert.Reference10Ideal.S1x16384x4096 .f32) (w : Vec Ideal Cert.Reference10Ideal.S1x4096x18560 .f32) (b : Vec Ideal Cert.Reference10Ideal.S128 .f32) :
    Cert.Reference10Ideal.Read.val_main_v9 (F := Ideal) h w b = steps h w b := funext fun i => by
  rw [Cert.Reference10Ideal.Read.val_main_v9_apply, Cert.Reference10Ideal.Read.val_main_call0_v4_apply, Cert.Reference10Ideal.Read.val_main_call0_v6_apply,
    Cert.Reference10Ideal.Read.val_main_call0_v11_apply, Cert.Reference10Ideal.Read.val_main_call0_v10_apply, Cert.Reference10Ideal.Read.val_main_call0_v9_apply,
    Cert.Reference10Ideal.Read.val_main_call0_v8_apply, Cert.Reference10Ideal.Read.val_main_call0_v7_apply, Cert.Reference10Ideal.Read.val_main_call0_v3_apply,
    Cert.Reference10Ideal.Read.val_main_call0_v1_apply, Cert.Reference10Ideal.Read.val_main_call0_v0_apply, Cert.Reference10Ideal.Read.val_main_call0_v2_apply,
    Cert.Reference10Ideal.Read.val_main_call0_v5_apply, Cert.Reference10Ideal.Read.val_main_call0_cst_apply, reference_sum]
  exact reference_softplus _

/-- **The kernel computes what the reference computes**, over the extended reals. -/
theorem algebraic : letI := Cert.Kernel10Ideal.Gen.facts; letI := Cert.Reference10Ideal.Gen.facts; Cert.algebraic_Kernel10Ideal_Reference10Ideal := by
  letI := Cert.Kernel10Ideal.Gen.facts; letI := Cert.Reference10Ideal.Gen.facts
  intro m g m' g' _ hargs
  refine ⟨fun c => steps (m ((c.tc : Thread nD τ).loc main_arg0)) (m ((c.tc : Thread nD τ).loc main_arg1)) (m ((c.tc : Thread nD τ).loc main_arg2)), ?_, ?_⟩
  · refine (θ_run Cert.Kernel10Ideal.defs _ _).mono (fun r h c => ?_) (Cert.Kernel10Ideal.Value.run_blocks (F := Ideal) m g)
    obtain ⟨h4, h⟩ := h c
    exact ⟨h4.trans (kernel_value m c), h⟩
  · refine (θ_run Cert.Reference10Ideal.defs _ _).mono (fun r h c => ?_) (Cert.Reference10Ideal.Value.run (F := Ideal) m' g')
    obtain ⟨h4, h⟩ := h c
    obtain ⟨a0, a1, a2⟩ := hargs c
    refine ⟨h4.trans ((Cert.Reference10Ideal.Read.val_main_v9_eq _ _ _).trans ((reference_value _ _ _).trans ?_)), h⟩
    rw [a0, a1, a2]

end Cert.StepSizes
end
-- ==== Proof.Dense.Memory.lean ====
/-
  The projection of the memory to keys or to values.
-/
module
public import proofs.«01_k».proof.Defs
public import proofs.«01_k».proof.Proof.Gen.Kernel11Ideal.Value
public import proofs.«01_k».proof.Proof.Gen.Reference11Ideal.Read
public import proofs.«01_k».proof.Proof.Dense.Common
public import Idealize.ShloMosaic.Lib.StableHlo.Run
@[expose] public section
set_option maxRecDepth 16384
noncomputable section
namespace Cert.Memory
open Idealize.ShloMosaic Idealize.ShloMosaic.TcCoe Idealize.SL.Sem Cert.Kernel11Ideal Cert.Kernel11Ideal.Gen Cert.Dense Cert.Fox

/-- The memory's rows times the first layer's weights. -/
def memory (h : (⟨3, ![1, 256, 4096]⟩ : Shape).Idx → EReal) (w : (⟨3, ![2, 4096, 512]⟩ : Shape).Idx → EReal) : Vec Ideal S256x512 .bf16 := fun i =>
  ∑ k : Fin 4096, h (ValueIdx.ix3 0 (i 0) k) * w (ValueIdx.ix3 0 k (i 1))

/-- The block stored, from the blocks read. -/
theorem pay_apply (h : Vec Ideal S256x4096 .bf16) (w : Vec Ideal S1x4096x512 .bf16) (r : Fin 256) (c : Fin 512) :
    k0_pay1 h w (ValueIdx.ix2 r c) = ∑ k : Fin 4096, h (ValueIdx.ix2 r k) * w (ValueIdx.ix3 0 k c) := by
  unfold k0_pay1
  refine (product_apply none _ _ r c).trans (Finset.sum_congr rfl fun k _ => ?_)
  exact congrArg₂ (· * ·) (congrFun (shapeCast_self _ _) _) (squeeze_apply ..)

/-- Each array is one block, the weights' that of the first layer. -/
theorem index0 : ∀ t : Fin cfg0.N, (cfg0.win 0).index t = ![0, 0] ∧ (cfg0.win 1).index t = ![0, 0, 0] ∧ (cfg0.win 2).index t = ![0, 0] := by
  decide +kernel

/-- An element of the block of the memory's rows. -/
theorem emb_0 (t : Fin cfg0.N) (y : S256x4096.Idx) : (win0_0.blk t).view.emb y = ValueIdx.ix2 (y 0) (y 1) := by
  have e := (index0 t).1
  refine idx2_ext ?_ ?_ <;> blk_simp [e]

/-- An element of the block of the weights. -/
theorem emb_1 (t : Fin cfg0.N) (y : S1x4096x512.Idx) : (win0_1.blk t).view.emb y = ValueIdx.ix3 0 (y 1) (y 2) := by
  have e := (index0 t).2.1
  refine idx3_ext ?_ ?_ ?_ <;> blk_simp [e]
  rfl

/-- An element of the block of the result. -/
theorem emb_2 (t : Fin cfg0.N) (y : S256x512.Idx) : (win0_2.blk t).view.emb y = ValueIdx.ix2 (y 0) (y 1) := by
  have e := (index0 t).2.2
  refine idx2_ext ?_ ?_ <;> blk_simp [e]

variable (m : (ℓ : Loc nD τ sig) → Buf (Elt Ideal) ℓ) (c : Dev nD)

/-- The memory's rows, from the argument. -/
theorem rows_eq : V m c main_v1 = truncf (F := Ideal) (s := S256x4096) (φ := .f32) .bf16 (shapeCast S256x4096 (m ((c : Thread nD τ).loc main_arg0) : Vec Ideal S1x256x4096 .f32)
    shapeCasts_S1x256x4096_S256x4096) bitsLt_bf16_f32 := by
  show StableHlo.after (List.flatten [hostOps0]) (fun b => m (c, b)) (Proc.devRef .tc main_v1) = _
  simp only [hostOps0, List.flatten_cons, List.flatten_nil, List.append_nil]
  after_results
  rfl

/-- The weights, from the argument. -/
theorem weights_eq : V m c main_v2 = truncf (F := Ideal) (s := S2x4096x512) (φ := .f32) .bf16 (m ((c : Thread nD τ).loc main_arg1)) bitsLt_bf16_f32 := by
  show StableHlo.after (List.flatten [hostOps0]) (fun b => m (c, b)) (Proc.devRef .tc main_v2) = _
  simp only [hostOps0, List.flatten_cons, List.flatten_nil, List.append_nil]
  after_results

/-- **The kernel's result.** -/
theorem kernel_value : (dats m 0 c).arrAt 2 cfg0.N = memory (m ((c : Thread nD τ).loc main_arg0)) (m ((c : Thread nD τ).loc main_arg1)) := by
  refine Pipeline.Dat.arrAt_eq_of_covers (dats m 0 c) 2 _ (by decide +kernel) fun t hf y => ?_
  blk_simp
  rw [after0_2, emb_2]
  obtain ⟨r, j, rfl⟩ : ∃ (r : Fin 256) (j : Fin 512), y = ValueIdx.ix2 r j := ⟨y 0, y 1, by exact idx2_ext rfl rfl⟩
  unfold out0_2
  rw [View.canon_cons_unit_lit _ _ _ (by decide), View.ld_unit_lit _ _ (by decide), View.ld_unit_lit _ _ (by decide)]
  refine (pay_apply ..).trans (Finset.sum_congr rfl fun k _ => congrArg₂ (· * ·) ?_ ?_)
  · exact (View.read_apply ..).trans ((congrArg (V m c main_v1) (emb_0 t _)).trans ((congrFun (rows_eq m c) _).trans (squeeze_apply ..)))
  · exact (View.read_apply ..).trans ((congrArg (V m c main_v2) (emb_1 t _)).trans (congrFun (weights_eq m c) _))

/-- **The reference's result.** -/
theorem reference_value (h : Vec Ideal Cert.Reference11Ideal.S1x256x4096 .f32) (w : Vec Ideal Cert.Reference11Ideal.S2x4096x512 .f32) :
    Cert.Reference11Ideal.Read.val_main_v4 (F := Ideal) h w = memory h w := funext fun i => by
  have h0 : (i 0).val < 256 := (i 0).isLt
  have h1 : (i 1).val < 512 := (i 1).isLt
  have e1 : ((i 0).val * 512 + (i 1).val) / 512 % 256 = (i 0).val := by omega
  have e2 : ((i 0).val * 512 + (i 1).val) % 512 = (i 1).val := by omega
  rw [Cert.Reference11Ideal.Read.val_main_v4_apply]
  show Cert.Reference11Ideal.Read.val_main_v3 (F := Ideal) h w i = _
  rw [Cert.Reference11Ideal.Read.val_main_v3_apply, Cert.Reference11Ideal.Read.val_main_v2_apply]
  refine Finset.sum_congr rfl fun k _ => ?_
  have hk := k.isLt
  rw [Cert.Reference11Ideal.Read.val_main_v1_apply, Cert.Reference11Ideal.Read.val_main_v0_apply]
  exact congrArg₂ (· * ·) (congrArg h (idx3_ext rfl e1 rfl)) (congrArg w (idx3_ext rfl
    (show (k.val * 512 + ((i 0).val * 512 + (i 1).val) % 512) / 512 % 4096 = k.val by rw [e2]; omega)
    (show (k.val * 512 + ((i 0).val * 512 + (i 1).val) % 512) % 512 = (i 1).val by rw [e2]; omega)))

/-- **The kernel computes what the reference computes**, over the extended reals. -/
theorem algebraic : letI := Cert.Kernel11Ideal.Gen.facts; letI := Cert.Reference11Ideal.Gen.facts; Cert.algebraic_Kernel11Ideal_Reference11Ideal := by
  letI := Cert.Kernel11Ideal.Gen.facts; letI := Cert.Reference11Ideal.Gen.facts
  intro m g m' g' _ hargs
  refine ⟨fun c => memory (m ((c.tc : Thread nD τ).loc main_arg0)) (m ((c.tc : Thread nD τ).loc main_arg1)), ?_, ?_⟩
  · refine (θ_run Cert.Kernel11Ideal.defs _ _).mono (fun r h c => ?_) (Cert.Kernel11Ideal.Value.run_blocks (F := Ideal) m g)
    obtain ⟨h4, h⟩ := h c
    exact ⟨h4.trans (kernel_value m c), h⟩
  · refine (θ_run Cert.Reference11Ideal.defs _ _).mono (fun r h c => ?_) (Cert.Reference11Ideal.Value.run (F := Ideal) m' g')
    obtain ⟨h4, h⟩ := h c
    obtain ⟨a0, a1⟩ := hargs c
    refine ⟨h4.trans ((Cert.Reference11Ideal.Read.val_main_v4_eq _ _).trans ((reference_value _ _).trans ?_)), h⟩
    rw [a0, a1]

end Cert.Memory
end
-- ==== Proof.Dense.Forget.lean ====
/-
  The forget gates' logarithms: the last columns of the even layer's input projection, padded to 128 lanes.
-/
module
public import proofs.«01_k».proof.Defs
public import proofs.«01_k».proof.Proof.Gen.Kernel12Ideal.Value
public import proofs.«01_k».proof.Proof.Gen.Reference12Ideal.Read
public import proofs.«01_k».proof.Proof.Dense.Softplus
public import Idealize.ShloMosaic.Lib.StableHlo.Run
public import Idealize.ShloMosaic.Lib.KernelVsHost
@[expose] public section
set_option maxRecDepth 65536
noncomputable section
namespace Cert.Forget
open Idealize.ShloMosaic Idealize.ShloMosaic.TcCoe Idealize.SL.Sem Cert.Kernel12Ideal Cert.Kernel12Ideal.Gen Cert.Dense Cert.Fox

/-- The argument of the gate of head `j`: the row's product with one of the last columns of the weights, plus the bias. -/
def score (h : (⟨3, ![1, 16384, 4096]⟩ : Shape).Idx → EReal) (w : (⟨3, ![1, 4096, 14352]⟩ : Shape).Idx → EReal) (b : (⟨1, ![16]⟩ : Shape).Idx → EReal) (t : Fin 16384) (j : Fin 16) : EReal :=
  (∑ k : Fin 4096, h (ValueIdx.ix3 0 t k) * w (ValueIdx.ix3 0 k ⟨14336 + j.val, by have := j.isLt; omega⟩)) + b (ValueIdx.ix1 j)

/-- The forget gates' logarithms in the first 16 lanes; the others hold the gate of zero. -/
def gates (h : (⟨3, ![1, 16384, 4096]⟩ : Shape).Idx → EReal) (w : (⟨3, ![1, 4096, 14352]⟩ : Shape).Idx → EReal) (b : (⟨1, ![16]⟩ : Shape).Idx → EReal) :
    Vec Ideal S16384x128 .f32 := fun i =>
  logSigmoid (if hj : (i 1).val < 16 then score h w b (i 0) ⟨(i 1).val, hj⟩ else 0)

/-- The block stored at a point, from the blocks read. -/
theorem pay_apply (h : Vec Ideal S1024x4096 .bf16) (w : Vec Ideal S4096x128 .bf16) (b : Vec Ideal S1x128 .f32) (r : Fin 1024) (c : Fin 128) :
    k0_pay1 h w b (ValueIdx.ix2 r c) = logSigmoid ((∑ k : Fin 4096, h (ValueIdx.ix2 r k) * w (ValueIdx.ix2 k c)) + b (ValueIdx.ix2 0 c)) := by
  have e : FloatOps.matmul (F := Ideal) (DotDims.plain 1024 4096 128) none (shapeCast S1024x4096 h shapeCasts_S1024x4096_S1024x4096 : FVec Ideal S1024x4096 .bf16)
      (shapeCast S4096x128 w shapeCasts_S4096x128_S4096x128 : FVec Ideal S4096x128 .bf16) (constant ⟨2, ![1024, 128]⟩ .f32 0x00000000#32) (ValueIdx.ix2 r c)
      = ∑ k : Fin 4096, h (ValueIdx.ix2 r k) * w (ValueIdx.ix2 k c) :=
    (product_apply ..).trans (Finset.sum_congr rfl fun k _ => congrArg₂ (· * ·) (congrFun (shapeCast_self _ _) _) (congrFun (shapeCast_self _ _) _))
  have eb : broadcastTo S1024x128 (shapeCast S1x128 b shapeCasts_S1x128_S1x128) broadcasts_S1x128_S1024x128 (ValueIdx.ix2 r c) = b (ValueIdx.ix2 0 c) := by
    rw [shapeCast_self]
    exact broadcastTo_apply (s := S1x128) (t := S1024x128) _ _ _ (ValueIdx.ix2 0 c) fun a => match a with
      | ⟨0, _⟩ => rfl
      | ⟨1, _⟩ => rfl
  rw [← e, ← eb, ← kernel_logSigmoid]
  rfl

/-- Which block of each array the call works on at each point. -/
theorem index0 : ∀ t : Fin cfg0.N, (cfg0.win 0).index t = ![t.val, 0] ∧ (cfg0.win 1).index t = ![0, 0]
    ∧ (cfg0.win 2).index t = ![0, 0] ∧ (cfg0.win 3).index t = ![t.val, 0] := by
  decide +kernel

/-- Row `r` of the block of point `t`. -/
def row (t : Fin cfg0.N) (r : Fin 1024) : Fin 16384 := ⟨1024 * t.val + r.val, by have h : t.val < 16 := t.isLt; have := r.isLt; omega⟩

/-- An element of a block of the rows. -/
theorem emb_0 (t : Fin cfg0.N) (y : S1024x4096.Idx) : (win0_0.blk t).view.emb y = ValueIdx.ix2 (row t (y 0)) (y 1) := by
  have e := (index0 t).1
  refine idx2_ext ?_ ?_ <;> blk_simp [e]
  show t.val * 1024 + (y 0).val = 1024 * t.val + (y 0).val
  omega

/-- An element of the block of the weights. -/
theorem emb_1 (t : Fin cfg0.N) (y : S4096x128.Idx) : (win0_1.blk t).view.emb y = ValueIdx.ix2 (y 0) (y 1) := by
  have e := (index0 t).2.1
  refine idx2_ext ?_ ?_ <;> blk_simp [e]

/-- An element of the block of the bias. -/
theorem emb_2 (t : Fin cfg0.N) (y : S1x128.Idx) : (win0_2.blk t).view.emb y = ValueIdx.ix2 0 (y 1) := by
  have e := (index0 t).2.2.1
  refine idx2_ext ?_ ?_ <;> blk_simp [e]

/-- An element of a block of the result. -/
theorem emb_3 (t : Fin cfg0.N) (y : S1024x128.Idx) : (win0_3.blk t).view.emb y = ValueIdx.ix2 (row t (y 0)) (y 1) := by
  have e := (index0 t).2.2.2
  refine idx2_ext ?_ ?_ <;> blk_simp [e]
  show t.val * 1024 + (y 0).val = 1024 * t.val + (y 0).val
  omega

/-- The padded weights at an element: zero past the weights' own columns. -/
theorem pad_weights (w : Vec Ideal S1x4096x14352 .bf16) (k : Fin 4096) (j : Fin 128) :
    pad S4096x128 ![0, 0] ![0, 112] ![0, 0] (shapeCast S4096x16 (extractStridedSlice S1x4096x16 ![0, 0, 14336] w slices_S1x4096x14352_S1x4096x16_0_0_14336) shapeCasts_S1x4096x16_S4096x16)
      (sitofp (F := Ideal) .bf16 (constantI S_ 32 0#32)) pads_S4096x16_S4096x128_000_01120 h_S_ (ValueIdx.ix2 k j)
      = if hj : j.val < 16 then w (ValueIdx.ix3 0 k ⟨14336 + j.val, by omega⟩) else 0 := by
  split
  · next hj =>
    refine (pad_apply_of_inside _ _ _ _ _ _ _ _ (ValueIdx.ix2 k ⟨j.val, hj⟩) (fun a => match a with
      | ⟨0, _⟩ => show k.val = 0 + k.val * (0 + 1) by omega
      | ⟨1, _⟩ => show j.val = 0 + j.val * (0 + 1) by omega)).trans ((squeeze_apply _ shapeCasts_S1x4096x16_S4096x16 k ⟨j.val, hj⟩).trans ?_)
    exact extractStridedSlice_apply _ _ _ _ _ (fun a => match a with
      | ⟨0, _⟩ => rfl
      | ⟨1, _⟩ => show k.val = 0 + k.val by omega
      | ⟨2, _⟩ => rfl)
  · next hj =>
    refine (pad_apply_of_not_inside _ _ _ _ _ _ _ _ (1 : Fin 2) ?_).trans (zero_fill ..)
    rintro ⟨-, -, e⟩
    exact hj (by simpa using (show (j.val - 0) / (0 + 1) < 16 from e))

/-- The padded bias at an element: zero past the bias's own entries. -/
theorem pad_bias (b : Vec Ideal S16 .f32) (j : Fin 128) :
    pad S128 ![0] ![112] ![0] b (sitofp (F := Ideal) .f32 (constantI S_ 32 0#32)) pads_S16_S128_01120 h_S_ (ValueIdx.ix1 j)
      = if hj : j.val < 16 then b (ValueIdx.ix1 ⟨j.val, hj⟩) else 0 := by
  split
  · next hj => exact pad_apply_of_inside _ _ _ _ _ _ _ _ (ValueIdx.ix1 ⟨j.val, hj⟩) (fun a => match a with
      | ⟨0, _⟩ => show j.val = 0 + j.val * (0 + 1) by omega)
  · next hj =>
    refine (pad_apply_of_not_inside _ _ _ _ _ _ _ _ (0 : Fin 1) ?_).trans (zero_fill ..)
    rintro ⟨-, -, e⟩
    exact hj (by simpa using (show (j.val - 0) / (0 + 1) < 16 from e))

variable (m : (ℓ : Loc nD τ sig) → Buf (Elt Ideal) ℓ) (c : Dev nD)

/-- The rows, from the argument. -/
theorem rows_eq : V m c main_v7 = truncf (F := Ideal) (s := S16384x4096) (φ := .f32) .bf16 (shapeCast S16384x4096 (m ((c : Thread nD τ).loc main_arg0) : Vec Ideal S1x16384x4096 .f32)
    shapeCasts_S1x16384x4096_S16384x4096) bitsLt_bf16_f32 := by
  show StableHlo.after (List.flatten [hostOps0, hostOps0_1, hostOps0_2, hostOps0_3, hostOps0_4]) (fun b => m (c, b)) (Proc.devRef .tc main_v7) = _
  simp only [hostOps0, hostOps0_1, hostOps0_2, hostOps0_3, hostOps0_4, List.flatten_cons, List.flatten_nil, List.append_nil, List.cons_append, List.nil_append]
  after_results
  rfl

/-- The weights, from the argument. -/
theorem weights_eq : V m c main_v3 = pad S4096x128 ![0, 0] ![0, 112] ![0, 0] (shapeCast S4096x16 (extractStridedSlice S1x4096x16 ![0, 0, 14336]
    (truncf (F := Ideal) (s := S1x4096x14352) (φ := .f32) .bf16 (m ((c : Thread nD τ).loc main_arg1)) bitsLt_bf16_f32) slices_S1x4096x14352_S1x4096x16_0_0_14336) shapeCasts_S1x4096x16_S4096x16)
    (sitofp (F := Ideal) .bf16 (constantI S_ 32 0#32)) pads_S4096x16_S4096x128_000_01120 h_S_ := by
  show StableHlo.after (List.flatten [hostOps0, hostOps0_1, hostOps0_2, hostOps0_3, hostOps0_4]) (fun b => m (c, b)) (Proc.devRef .tc main_v3) = _
  simp only [hostOps0, hostOps0_1, hostOps0_2, hostOps0_3, hostOps0_4, List.flatten_cons, List.flatten_nil, List.append_nil, List.cons_append, List.nil_append]
  after_results
  rfl

/-- The bias, from the argument. -/
theorem bias_eq : V m c main_v5 = shapeCast S1x128 (pad S128 ![0] ![112] ![0] (m ((c : Thread nD τ).loc main_arg2) : Vec Ideal S16 .f32)
    (sitofp (F := Ideal) .f32 (constantI S_ 32 0#32)) pads_S16_S128_01120 h_S_) shapeCasts_S128_S1x128 := by
  show StableHlo.after (List.flatten [hostOps0, hostOps0_1, hostOps0_2, hostOps0_3, hostOps0_4]) (fun b => m (c, b)) (Proc.devRef .tc main_v5) = _
  simp only [hostOps0, hostOps0_1, hostOps0_2, hostOps0_3, hostOps0_4, List.flatten_cons, List.flatten_nil, List.append_nil, List.cons_append, List.nil_append]
  after_results
  rfl

/-- **The kernel's result.** -/
theorem kernel_value : (dats m 0 c).arrAt 3 cfg0.N
    = gates (m ((c : Thread nD τ).loc main_arg0)) (m ((c : Thread nD τ).loc main_arg1)) (m ((c : Thread nD τ).loc main_arg2)) := by
  refine Pipeline.Dat.arrAt_eq_of_covers (dats m 0 c) 3 _ (by decide +kernel) fun t hf y => ?_
  blk_simp
  rw [after0_3, emb_3]
  obtain ⟨r, j, rfl⟩ : ∃ (r : Fin 1024) (j : Fin 128), y = ValueIdx.ix2 r j := ⟨y 0, y 1, by exact idx2_ext rfl rfl⟩
  unfold out0_3
  rw [View.canon_cons_unit_lit _ _ _ (by decide), View.ld_unit_lit _ _ (by decide), View.ld_unit_lit _ _ (by decide), View.ld_unit_lit _ _ (by decide)]
  have e0 (k : Fin 4096) : iblk m c 0 t (ValueIdx.ix2 r k) = (m ((c : Thread nD τ).loc main_arg0) : Vec Ideal S1x16384x4096 .f32) (ValueIdx.ix3 0 (row t r) k) :=
    (View.read_apply ..).trans ((congrArg (V m c main_v7) (emb_0 t _)).trans ((congrFun (rows_eq m c) _).trans (squeeze_apply ..)))
  have e1 (k : Fin 4096) : iblk m c 1 t (ValueIdx.ix2 k j) = if hj : j.val < 16 then (m ((c : Thread nD τ).loc main_arg1) : Vec Ideal S1x4096x14352 .f32) (ValueIdx.ix3 0 k ⟨14336 + j.val, by omega⟩) else (0 : EReal) :=
    (View.read_apply ..).trans ((congrArg (V m c main_v3) (emb_1 t _)).trans ((congrFun (weights_eq m c) _).trans (pad_weights ..)))
  have e2 : iblk m c 2 t (ValueIdx.ix2 0 j) = if hj : j.val < 16 then (m ((c : Thread nD τ).loc main_arg2) : Vec Ideal S16 .f32) (ValueIdx.ix1 ⟨j.val, hj⟩) else (0 : EReal) :=
    (View.read_apply ..).trans ((congrArg (V m c main_v5) (emb_2 t _)).trans ((congrFun (bias_eq m c) _).trans ((unsqueeze_apply ..).trans (pad_bias ..))))
  refine (pay_apply ..).trans (congrArg logSigmoid ?_)
  by_cases hj : j.val < 16
  · refine Eq.trans ?_ (dif_pos hj).symm
    exact congrArg₂ (· + ·) (Finset.sum_congr rfl fun k _ => congrArg₂ (· * ·) (e0 k) ((e1 k).trans (dif_pos hj))) (e2.trans (dif_pos hj))
  · refine Eq.trans ?_ (dif_neg hj).symm
    refine (congrArg₂ (· + ·) (Finset.sum_eq_zero fun k _ => ?_) (e2.trans (dif_neg hj))).trans (add_zero 0)
    exact mul_eq_zero_of_right (M₀ := EReal) _ ((e1 k).trans (dif_neg hj))

/-- The reference's argument of a gate at an element. -/
theorem reference_score (h : Vec Ideal Cert.Reference12Ideal.S1x16384x4096 .f32) (w : Vec Ideal Cert.Reference12Ideal.S1x4096x14352 .f32) (b : Vec Ideal Cert.Reference12Ideal.S16 .f32) (i : Cert.Reference12Ideal.S16384x16.Idx) :
    Cert.Reference12Ideal.Read.val_main_v7 (F := Ideal) h w b i = score h w b (i 0) (i 1) := by
  have h0 : (i 0).val < 16384 := (i 0).isLt
  have h1 : (i 1).val < 16 := (i 1).isLt
  have e1 : ((i 0).val * 14352 + (14336 + (i 1).val)) / 14352 % 16384 = (i 0).val := by omega
  have e2 : ((i 0).val * 14352 + (14336 + (i 1).val)) % 14352 = 14336 + (i 1).val := by omega
  rw [Cert.Reference12Ideal.Read.val_main_v7_apply, Cert.Reference12Ideal.Read.val_main_v4_apply, Cert.Reference12Ideal.Read.val_main_v2_apply, Cert.Reference12Ideal.Read.val_main_v1_apply,
    Cert.Reference12Ideal.Read.val_main_v6_apply, Cert.Reference12Ideal.Read.val_main_v5_apply]
  refine congrArg₂ (· + ·) (Finset.sum_congr rfl fun k _ => ?_) (congrArg b (funext fun a => match a with | ⟨0, _⟩ => rfl))
  have hk := k.isLt
  rw [Cert.Reference12Ideal.Read.val_main_v0_apply]
  exact congrArg₂ (· * ·) (congrArg h (idx3_ext rfl e1 rfl)) (congrArg w (idx3_ext rfl
    (show (k.val * 14352 + ((i 0).val * 14352 + (14336 + (i 1).val)) % 14352) / 14352 % 4096 = k.val by rw [e2]; omega)
    (show (k.val * 14352 + ((i 0).val * 14352 + (14336 + (i 1).val)) % 14352) % 14352 = 14336 + (i 1).val by rw [e2]; omega)))

/-- The reference's padded arguments at an element. -/
theorem reference_pad (h : Vec Ideal Cert.Reference12Ideal.S1x16384x4096 .f32) (w : Vec Ideal Cert.Reference12Ideal.S1x4096x14352 .f32) (b : Vec Ideal Cert.Reference12Ideal.S16 .f32) (t : Fin 16384) (j : Fin 128) :
    Cert.Reference12Ideal.Read.val_main_v8 (F := Ideal) h w b (ValueIdx.ix2 t j) = if hj : j.val < 16 then score h w b t ⟨j.val, hj⟩ else 0 := by
  unfold Cert.Reference12Ideal.Read.val_main_v8
  split
  · next hj => exact (pad_apply_of_inside _ _ _ _ _ _ _ _ (ValueIdx.ix2 t ⟨j.val, hj⟩ : Cert.Reference12Ideal.S16384x16.Idx) (fun a => match a with
      | ⟨0, _⟩ => show t.val = 0 + t.val * (0 + 1) by omega
      | ⟨1, _⟩ => show j.val = 0 + j.val * (0 + 1) by omega)).trans (reference_score ..)
  · next hj =>
    refine (pad_apply_of_not_inside _ _ _ _ _ _ _ _ (1 : Fin 2) ?_).trans (zero_fill ..)
    rintro ⟨-, -, e⟩
    exact hj (by simpa using (show (j.val - 0) / (0 + 1) < 16 from e))

/-- **The reference's result.** -/
theorem reference_value (h : Vec Ideal Cert.Reference12Ideal.S1x16384x4096 .f32) (w : Vec Ideal Cert.Reference12Ideal.S1x4096x14352 .f32) (b : Vec Ideal Cert.Reference12Ideal.S16 .f32) :
    Cert.Reference12Ideal.Read.val_main_v9 (F := Ideal) h w b = gates h w b := funext fun i => by
  obtain ⟨t, j, rfl⟩ : ∃ (t : Fin 16384) (j : Fin 128), i = ValueIdx.ix2 t j := ⟨i 0, i 1, by exact idx2_ext rfl rfl⟩
  rw [Cert.Reference12Ideal.Read.val_main_v9_apply, Cert.Reference12Ideal.Read.val_main_call1_v1_apply, Cert.Reference12Ideal.Read.val_main_call1_call0_v4_apply, Cert.Reference12Ideal.Read.val_main_call1_call0_v6_apply,
    Cert.Reference12Ideal.Read.val_main_call1_call0_v11_apply, Cert.Reference12Ideal.Read.val_main_call1_call0_v10_apply, Cert.Reference12Ideal.Read.val_main_call1_call0_v9_apply,
    Cert.Reference12Ideal.Read.val_main_call1_call0_v8_apply, Cert.Reference12Ideal.Read.val_main_call1_call0_v7_apply, Cert.Reference12Ideal.Read.val_main_call1_call0_v3_apply,
    Cert.Reference12Ideal.Read.val_main_call1_call0_v1_apply, Cert.Reference12Ideal.Read.val_main_call1_call0_v0_apply, Cert.Reference12Ideal.Read.val_main_call1_call0_v2_apply,
    Cert.Reference12Ideal.Read.val_main_call1_call0_v5_apply, Cert.Reference12Ideal.Read.val_main_call1_call0_cst_apply, Cert.Reference12Ideal.Read.val_main_call1_v0_apply, reference_pad]
  exact (congrArg (fun x : EReal => -x) (reference_softplus _)).trans (neg_softplus_neg _)

/-- **The kernel computes what the reference computes**, over the extended reals. -/
theorem algebraic : letI := Cert.Kernel12Ideal.Gen.facts; letI := Cert.Reference12Ideal.Gen.facts; Cert.algebraic_Kernel12Ideal_Reference12Ideal := by
  letI := Cert.Kernel12Ideal.Gen.facts; letI := Cert.Reference12Ideal.Gen.facts
  intro m g m' g' _ hargs
  refine ⟨fun c => gates (m ((c.tc : Thread nD τ).loc main_arg0)) (m ((c.tc : Thread nD τ).loc main_arg1)) (m ((c.tc : Thread nD τ).loc main_arg2)), ?_, ?_⟩
  · refine (θ_run Cert.Kernel12Ideal.defs _ _).mono (fun r h c => ?_) (Cert.Kernel12Ideal.Value.run_blocks (F := Ideal) m g)
    obtain ⟨h4, h⟩ := h c
    exact ⟨h4.trans (kernel_value m c), h⟩
  · refine (θ_run Cert.Reference12Ideal.defs _ _).mono (fun r h c => ?_) (Cert.Reference12Ideal.Value.run (F := Ideal) m' g')
    obtain ⟨h4, h⟩ := h c
    obtain ⟨a0, a1, a2⟩ := hargs c
    refine ⟨h4.trans ((Cert.Reference12Ideal.Read.val_main_v9_eq _ _ _).trans ((reference_value _ _ _).trans ?_)), h⟩
    rw [a0, a1, a2]

end Cert.Forget
end
-- ==== Proof.lean ====
/-
  The proof of `Cert.Claim`: for each call the frames of the printed program, of its idealization and of the reference,
  that the idealization is the printed program up to its named constants, and that it computes what the reference computes.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_logits
public import proofs.«01_k».proof.Proof.Gen.Pre_finite_gate
public import proofs.«01_k».proof.Proof.Gen.Pre_finite_projection
public import proofs.«01_k».proof.Proof.Gen.Pre_finite_even_projection
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Fox.Frame
public import proofs.«01_k».proof.Proof.Fox.Transfer
public import proofs.«01_k».proof.Proof.Fox.Main
public import proofs.«01_k».proof.Proof.Dense.GateUp
public import proofs.«01_k».proof.Proof.Dense.Down
public import proofs.«01_k».proof.Proof.Dense.OddIn
public import proofs.«01_k».proof.Proof.Dense.OddOut
public import proofs.«01_k».proof.Proof.Dense.EvenOut
public import proofs.«01_k».proof.Proof.Dense.LastNorm
public import proofs.«01_k».proof.Proof.Dense.EvenIn
public import proofs.«01_k».proof.Proof.Dense.Cross
public import proofs.«01_k».proof.Proof.Dense.StepSizes
public import proofs.«01_k».proof.Proof.Dense.Memory
public import proofs.«01_k».proof.Proof.Dense.Forget
public import Idealize.ShloMosaic.Adequacy
public import Idealize.ShloMosaic.Init

@[expose] public section

noncomputable section

namespace Cert.Proof

open Idealize.ShloMosaic Idealize.SL.Sem Cert.Kernel

/-- The reference's frame, at any bodies: it is host operations alone and declares no semaphore. -/
theorem reference_frame : letI := Cert.ReferenceIdeal.Gen.facts; Cert.quiescent_ReferenceIdeal := by
  letI := Cert.ReferenceIdeal.Gen.facts
  intro m g _
  exact (θ_run Cert.ReferenceIdeal.defs _ _).mono (fun r h => ⟨fun c => (h c).2, sem_eq_zero_of_no_sems (by decide) r.2⟩)
    (Cert.ReferenceIdeal.Value.run (F := Ideal) m g)

/-- The frame of the reference of the hidden layer. -/
theorem reference2_frame : letI := Cert.Reference2Ideal.Gen.facts; Cert.quiescent_Reference2Ideal := by
  letI := Cert.Reference2Ideal.Gen.facts
  exact fun m g _ => (θ_run Cert.Reference2Ideal.defs _ _).mono (fun r h => ⟨fun c => (h c).2, sem_eq_zero_of_no_sems (by decide) r.2⟩)
    (Cert.Reference2Ideal.Value.run (F := Ideal) m g)

/-- The frame of the reference of the feed-forward block's output. -/
theorem reference3_frame : letI := Cert.Reference3Ideal.Gen.facts; Cert.quiescent_Reference3Ideal := by
  letI := Cert.Reference3Ideal.Gen.facts
  exact fun m g _ => (θ_run Cert.Reference3Ideal.defs _ _).mono (fun r h => ⟨fun c => (h c).2, sem_eq_zero_of_no_sems (by decide) r.2⟩)
    (Cert.Reference3Ideal.Value.run (F := Ideal) m g)

/-- The frame of the reference of the state-space layer's input projection. -/
theorem reference4_frame : letI := Cert.Reference4Ideal.Gen.facts; Cert.quiescent_Reference4Ideal := by
  letI := Cert.Reference4Ideal.Gen.facts
  exact fun m g _ => (θ_run Cert.Reference4Ideal.defs _ _).mono (fun r h => ⟨fun c => (h c).2, sem_eq_zero_of_no_sems (by decide) r.2⟩)
    (Cert.Reference4Ideal.Value.run (F := Ideal) m g)

/-- The frame of the reference of the state-space layer's output projection. -/
theorem reference5_frame : letI := Cert.Reference5Ideal.Gen.facts; Cert.quiescent_Reference5Ideal := by
  letI := Cert.Reference5Ideal.Gen.facts
  exact fun m g _ => (θ_run Cert.Reference5Ideal.defs _ _).mono (fun r h => ⟨fun c => (h c).2, sem_eq_zero_of_no_sems (by decide) r.2⟩)
    (Cert.Reference5Ideal.Value.run (F := Ideal) m g)

/-- The frame of the reference of the even layer's output projection. -/
theorem reference6_frame : letI := Cert.Reference6Ideal.Gen.facts; Cert.quiescent_Reference6Ideal := by
  letI := Cert.Reference6Ideal.Gen.facts
  exact fun m g _ => (θ_run Cert.Reference6Ideal.defs _ _).mono (fun r h => ⟨fun c => (h c).2, sem_eq_zero_of_no_sems (by decide) r.2⟩)
    (Cert.Reference6Ideal.Value.run (F := Ideal) m g)

/-- The frame of the reference of the last normalisation. -/
theorem reference7_frame : letI := Cert.Reference7Ideal.Gen.facts; Cert.quiescent_Reference7Ideal := by
  letI := Cert.Reference7Ideal.Gen.facts
  exact fun m g _ => (θ_run Cert.Reference7Ideal.defs _ _).mono (fun r h => ⟨fun c => (h c).2, sem_eq_zero_of_no_sems (by decide) r.2⟩)
    (Cert.Reference7Ideal.Value.run (F := Ideal) m g)

/-- The frame of the reference of the even layer's input projection. -/
theorem reference8_frame : letI := Cert.Reference8Ideal.Gen.facts; Cert.quiescent_Reference8Ideal := by
  letI := Cert.Reference8Ideal.Gen.facts
  exact fun m g _ => (θ_run Cert.Reference8Ideal.defs _ _).mono (fun r h => ⟨fun c => (h c).2, sem_eq_zero_of_no_sems (by decide) r.2⟩)
    (Cert.Reference8Ideal.Value.run (F := Ideal) m g)

/-- The frame of the reference of the cross-attention. -/
theorem reference9_frame : letI := Cert.Reference9Ideal.Gen.facts; Cert.quiescent_Reference9Ideal := by
  letI := Cert.Reference9Ideal.Gen.facts
  exact fun m g _ => (θ_run Cert.Reference9Ideal.defs _ _).mono (fun r h => ⟨fun c => (h c).2.2, sem_eq_zero_of_no_sems (by decide) r.2⟩)
    (Cert.Reference9Ideal.Value.run (F := Ideal) m g)

/-- The frame of the reference of the step sizes. -/
theorem reference10_frame : letI := Cert.Reference10Ideal.Gen.facts; Cert.quiescent_Reference10Ideal := by
  letI := Cert.Reference10Ideal.Gen.facts
  exact fun m g _ => (θ_run Cert.Reference10Ideal.defs _ _).mono (fun r h => ⟨fun c => (h c).2, sem_eq_zero_of_no_sems (by decide) r.2⟩)
    (Cert.Reference10Ideal.Value.run (F := Ideal) m g)

/-- The frame of the reference of the projection of the memory. -/
theorem reference11_frame : letI := Cert.Reference11Ideal.Gen.facts; Cert.quiescent_Reference11Ideal := by
  letI := Cert.Reference11Ideal.Gen.facts
  exact fun m g _ => (θ_run Cert.Reference11Ideal.defs _ _).mono (fun r h => ⟨fun c => (h c).2, sem_eq_zero_of_no_sems (by decide) r.2⟩)
    (Cert.Reference11Ideal.Value.run (F := Ideal) m g)

/-- The frame of the reference of the forget gates. -/
theorem reference12_frame : letI := Cert.Reference12Ideal.Gen.facts; Cert.quiescent_Reference12Ideal := by
  letI := Cert.Reference12Ideal.Gen.facts
  exact fun m g _ => (θ_run Cert.Reference12Ideal.defs _ _).mono (fun r h => ⟨fun c => (h c).2, sem_eq_zero_of_no_sems (by decide) r.2⟩)
    (Cert.Reference12Ideal.Value.run (F := Ideal) m g)

/-- The three named constants are within a rounding of what is printed. -/
theorem constants_preserved : Cert.preserves_Kernel_KernelIdeal :=
  ⟨IdealRules.named_const.statement Cert.KernelIdeal.κ "log2e" .f32 0x3FB8AA3B#32 _ rfl,
   IdealRules.named_const.statement Cert.KernelIdeal.κ "fq_scale" .f32 0x3E0293EE#32 _ rfl,
   IdealRules.named_const.statement Cert.KernelIdeal.κ "mask" .f32 0xF149F2CA#32 _ rfl⟩

/-- The certificate's claim. -/
theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts,
  Cert.Kernel6Ideal.Gen.facts, Cert.Reference6Ideal.Gen.facts, Cert.Kernel7.Gen.facts, Cert.Kernel7Ideal.Gen.facts,
  Cert.Reference7Ideal.Gen.facts, Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Pre_finite_logits.Gen.facts, Cert.Pre_finite_gate.Gen.facts, Cert.Pre_finite_projection.Gen.facts, Cert.Pre_finite_even_projection.Gen.facts,
  Cert.Fox.kernel_frame, fun m g _ => Cert.KernelIdeal.Gen.fox_frame (F := Ideal) m g, fun m g _ => Cert.KernelIdeal.Gen.fox_frame (F := Ideal) m g,
  reference_frame, fun m g _ => reference_frame m g trivial,
  fun m ρ _ => Cert.Kernel2.Gen.frame m ρ, fun m ρ _ => Cert.Kernel2Ideal.Gen.frame m ρ, fun m ρ _ => Cert.Kernel2Ideal.Gen.frame m ρ, reference2_frame, fun m g _ => reference2_frame m g trivial,
  fun m ρ _ => Cert.Kernel3.Gen.frame m ρ, fun m ρ _ => Cert.Kernel3Ideal.Gen.frame m ρ, reference3_frame,
  fun m ρ _ => Cert.Kernel4.Gen.frame m ρ, fun m ρ _ => Cert.Kernel4Ideal.Gen.frame m ρ, fun m ρ _ => Cert.Kernel4Ideal.Gen.frame m ρ, reference4_frame, fun m g _ => reference4_frame m g trivial,
  fun m ρ _ => Cert.Kernel5.Gen.frame m ρ, fun m ρ _ => Cert.Kernel5Ideal.Gen.frame m ρ, reference5_frame,
  fun m ρ _ => Cert.Kernel6.Gen.frame m ρ, fun m ρ _ => Cert.Kernel6Ideal.Gen.frame m ρ, reference6_frame,
  fun m ρ _ => Cert.Kernel7.Gen.frame m ρ, fun m ρ _ => Cert.Kernel7Ideal.Gen.frame m ρ, reference7_frame,
  fun m ρ _ => Cert.Kernel8.Gen.frame m ρ, fun m ρ _ => Cert.Kernel8Ideal.Gen.frame m ρ, fun m ρ _ => Cert.Kernel8Ideal.Gen.frame m ρ, reference8_frame, fun m g _ => reference8_frame m g trivial,
  fun m ρ _ => Cert.Kernel9.Gen.frame m ρ, fun m ρ _ => Cert.Kernel9Ideal.Gen.frame m ρ, reference9_frame,
  fun m ρ _ => Cert.Kernel10.Gen.frame m ρ, fun m ρ _ => Cert.Kernel10Ideal.Gen.frame m ρ, reference10_frame,
  fun m ρ _ => Cert.Kernel11.Gen.frame m ρ, fun m ρ _ => Cert.Kernel11Ideal.Gen.frame m ρ, reference11_frame,
  fun m ρ _ => Cert.Kernel12.Gen.frame m ρ, fun m ρ _ => Cert.Kernel12Ideal.Gen.frame m ρ, reference12_frame,
  constants_preserved, Cert.Fox.algebraic,
  trivial, Cert.GateUp.algebraic,
  trivial, Cert.Down.algebraic,
  trivial, Cert.OddIn.algebraic,
  trivial, Cert.OddOut.algebraic,
  trivial, Cert.EvenOut.algebraic,
  trivial, Cert.LastNorm.algebraic,
  trivial, Cert.EvenIn.algebraic,
  trivial, Cert.Cross.algebraic,
  trivial, Cert.StepSizes.algebraic,
  trivial, Cert.Memory.algebraic,
  trivial, Cert.Forget.algebraic⟩

end Cert.Proof

end
